-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7)
      ∧ r.2.mem ((c.tc : Thread Cert.Kernel10.nD Cert.Kernel10.τ).loc Cert.Kernel10.main_arg8) = m ((c.tc : Thread Cert.Kernel10.nD Cert.Kernel10.τ).loc Cert.Kernel10.main_arg8)
      ∧ r.2.mem ((c.tc : Thread Cert.Kernel10.nD Cert.Kernel10.τ).loc Cert.Kernel10.main_arg9) = m ((c.tc : Thread Cert.Kernel10.nD Cert.Kernel10.τ).loc Cert.Kernel10.main_arg9)
      ∧ r.2.mem ((c.tc : Thread Cert.Kernel10.nD Cert.Kernel10.τ).loc Cert.Kernel10.main_arg10) = m ((c.tc : Thread Cert.Kernel10.nD Cert.Kernel10.τ).loc Cert.Kernel10.main_arg10)
      ∧ r.2.mem ((c.tc : Thread Cert.Kernel10.nD Cert.Kernel10.τ).loc Cert.Kernel10.main_arg11) = m ((c.tc : Thread Cert.Kernel10.nD Cert.Kernel10.τ).loc Cert.Kernel10.main_arg11))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
      ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
      ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9)
      ∧ r.2.mem ((c.tc : Thread Cert.Kernel10Ideal.nD Cert.Kernel10Ideal.τ).loc Cert.Kernel10Ideal.main_arg10) = m ((c.tc : Thread Cert.Kernel10Ideal.nD Cert.Kernel10Ideal.τ).loc Cert.Kernel10Ideal.main_arg10)
      ∧ r.2.mem ((c.tc : Thread Cert.Kernel10Ideal.nD Cert.Kernel10Ideal.τ).loc Cert.Kernel10Ideal.main_arg11) = m ((c.tc : Thread Cert.Kernel10Ideal.nD Cert.Kernel10Ideal.τ).loc Cert.Kernel10Ideal.main_arg11))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7)
      ∧ r.2.mem ((c.tc : Thread Cert.Reference10Ideal.nD Cert.Reference10Ideal.τ).loc Cert.Reference10Ideal.main_arg8) = m ((c.tc : Thread Cert.Reference10Ideal.nD Cert.Reference10Ideal.τ).loc Cert.Reference10Ideal.main_arg8)
      ∧ r.2.mem ((c.tc : Thread Cert.Reference10Ideal.nD Cert.Reference10Ideal.τ).loc Cert.Reference10Ideal.main_arg9) = m ((c.tc : Thread Cert.Reference10Ideal.nD Cert.Reference10Ideal.τ).loc Cert.Reference10Ideal.main_arg9)
      ∧ r.2.mem ((c.tc : Thread Cert.Reference10Ideal.nD Cert.Reference10Ideal.τ).loc Cert.Reference10Ideal.main_arg10) = m ((c.tc : Thread Cert.Reference10Ideal.nD Cert.Reference10Ideal.τ).loc Cert.Reference10Ideal.main_arg10)
      ∧ r.2.mem ((c.tc : Thread Cert.Reference10Ideal.nD Cert.Reference10Ideal.τ).loc Cert.Reference10Ideal.main_arg11) = m ((c.tc : Thread Cert.Reference10Ideal.nD Cert.Reference10Ideal.τ).loc Cert.Reference10Ideal.main_arg11))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7)
      ∧ r.2.mem ((c.tc : Thread Cert.Kernel11.nD Cert.Kernel11.τ).loc Cert.Kernel11.main_arg8) = m ((c.tc : Thread Cert.Kernel11.nD Cert.Kernel11.τ).loc Cert.Kernel11.main_arg8))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
      ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7)
      ∧ r.2.mem ((c.tc : Thread Cert.Reference11Ideal.nD Cert.Reference11Ideal.τ).loc Cert.Reference11Ideal.main_arg8) = m ((c.tc : Thread Cert.Reference11Ideal.nD Cert.Reference11Ideal.τ).loc Cert.Reference11Ideal.main_arg8))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v286) = v0 c
          ∧ r.2.mem ((c.tc : Thread Cert.ReferenceIdeal.nD Cert.ReferenceIdeal.τ).loc Cert.ReferenceIdeal.main_v197) = v1 c
          ∧ r.2.mem ((c.tc : Thread Cert.ReferenceIdeal.nD Cert.ReferenceIdeal.τ).loc Cert.ReferenceIdeal.main_v291) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v5_0)) (v1 : (c : Dev Cert.Kernel2Ideal.nD) → Buf (Elt Ideal) ((c.tc : Thread Cert.Kernel2Ideal.nD Cert.Kernel2Ideal.τ).loc Cert.Kernel2Ideal.main_v5_3)) (v2 : (c : Dev Cert.Kernel2Ideal.nD) → Buf (Elt Ideal) ((c.tc : Thread Cert.Kernel2Ideal.nD Cert.Kernel2Ideal.τ).loc Cert.Kernel2Ideal.main_v6_0)) (v3 : (c : Dev Cert.Kernel2Ideal.nD) → Buf (Elt Ideal) ((c.tc : Thread Cert.Kernel2Ideal.nD Cert.Kernel2Ideal.τ).loc Cert.Kernel2Ideal.main_v6_1)) (v4 : (c : Dev Cert.Kernel2Ideal.nD) → Buf (Elt Ideal) ((c.tc : Thread Cert.Kernel2Ideal.nD Cert.Kernel2Ideal.τ).loc Cert.Kernel2Ideal.main_v6_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5_0) = v0 c
          ∧ r.2.mem ((c.tc : Thread Cert.Kernel2Ideal.nD Cert.Kernel2Ideal.τ).loc Cert.Kernel2Ideal.main_v5_3) = v1 c
          ∧ r.2.mem ((c.tc : Thread Cert.Kernel2Ideal.nD Cert.Kernel2Ideal.τ).loc Cert.Kernel2Ideal.main_v6_0) = v2 c
          ∧ r.2.mem ((c.tc : Thread Cert.Kernel2Ideal.nD Cert.Kernel2Ideal.τ).loc Cert.Kernel2Ideal.main_v6_1) = v3 c
          ∧ r.2.mem ((c.tc : Thread Cert.Kernel2Ideal.nD Cert.Kernel2Ideal.τ).loc Cert.Kernel2Ideal.main_v6_2) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v23) = v0 c
          ∧ r.2.mem ((c.tc : Thread Cert.Reference2Ideal.nD Cert.Reference2Ideal.τ).loc Cert.Reference2Ideal.main_v24) = v1 c
          ∧ r.2.mem ((c.tc : Thread Cert.Reference2Ideal.nD Cert.Reference2Ideal.τ).loc Cert.Reference2Ideal.main_v25) = v2 c
          ∧ r.2.mem ((c.tc : Thread Cert.Reference2Ideal.nD Cert.Reference2Ideal.τ).loc Cert.Reference2Ideal.main_v26) = v3 c
          ∧ r.2.mem ((c.tc : Thread Cert.Reference2Ideal.nD Cert.Reference2Ideal.τ).loc Cert.Reference2Ideal.main_v27) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v3_0)) (v1 : (c : Dev Cert.Kernel5Ideal.nD) → Buf (Elt Ideal) ((c.tc : Thread Cert.Kernel5Ideal.nD Cert.Kernel5Ideal.τ).loc Cert.Kernel5Ideal.main_v3_1)) (v2 : (c : Dev Cert.Kernel5Ideal.nD) → Buf (Elt Ideal) ((c.tc : Thread Cert.Kernel5Ideal.nD Cert.Kernel5Ideal.τ).loc Cert.Kernel5Ideal.main_v3_2)) (v3 : (c : Dev Cert.Kernel5Ideal.nD) → Buf (Elt Ideal) ((c.tc : Thread Cert.Kernel5Ideal.nD Cert.Kernel5Ideal.τ).loc Cert.Kernel5Ideal.main_v3_3)) (v4 : (c : Dev Cert.Kernel5Ideal.nD) → Buf (Elt Ideal) ((c.tc : Thread Cert.Kernel5Ideal.nD Cert.Kernel5Ideal.τ).loc Cert.Kernel5Ideal.main_v3_4)) (v5 : (c : Dev Cert.Kernel5Ideal.nD) → Buf (Elt Ideal) ((c.tc : Thread Cert.Kernel5Ideal.nD Cert.Kernel5Ideal.τ).loc Cert.Kernel5Ideal.main_v3_5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3_0) = v0 c
          ∧ r.2.mem ((c.tc : Thread Cert.Kernel5Ideal.nD Cert.Kernel5Ideal.τ).loc Cert.Kernel5Ideal.main_v3_1) = v1 c
          ∧ r.2.mem ((c.tc : Thread Cert.Kernel5Ideal.nD Cert.Kernel5Ideal.τ).loc Cert.Kernel5Ideal.main_v3_2) = v2 c
          ∧ r.2.mem ((c.tc : Thread Cert.Kernel5Ideal.nD Cert.Kernel5Ideal.τ).loc Cert.Kernel5Ideal.main_v3_3) = v3 c
          ∧ r.2.mem ((c.tc : Thread Cert.Kernel5Ideal.nD Cert.Kernel5Ideal.τ).loc Cert.Kernel5Ideal.main_v3_4) = v4 c
          ∧ r.2.mem ((c.tc : Thread Cert.Kernel5Ideal.nD Cert.Kernel5Ideal.τ).loc Cert.Kernel5Ideal.main_v3_5) = v5 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v75) = v0 c
          ∧ r.2.mem ((c.tc : Thread Cert.Reference5Ideal.nD Cert.Reference5Ideal.τ).loc Cert.Reference5Ideal.main_v141) = v1 c
          ∧ r.2.mem ((c.tc : Thread Cert.Reference5Ideal.nD Cert.Reference5Ideal.τ).loc Cert.Reference5Ideal.main_v142) = v2 c
          ∧ r.2.mem ((c.tc : Thread Cert.Reference5Ideal.nD Cert.Reference5Ideal.τ).loc Cert.Reference5Ideal.main_v143) = v3 c
          ∧ r.2.mem ((c.tc : Thread Cert.Reference5Ideal.nD Cert.Reference5Ideal.τ).loc Cert.Reference5Ideal.main_v144) = v4 c
          ∧ r.2.mem ((c.tc : Thread Cert.Reference5Ideal.nD Cert.Reference5Ideal.τ).loc Cert.Reference5Ideal.main_v147) = v5 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v19_0)) (v1 : (c : Dev Cert.Kernel6Ideal.nD) → Buf (Elt Ideal) ((c.tc : Thread Cert.Kernel6Ideal.nD Cert.Kernel6Ideal.τ).loc Cert.Kernel6Ideal.main_v19_1)) (v2 : (c : Dev Cert.Kernel6Ideal.nD) → Buf (Elt Ideal) ((c.tc : Thread Cert.Kernel6Ideal.nD Cert.Kernel6Ideal.τ).loc Cert.Kernel6Ideal.main_v19_2)) (v3 : (c : Dev Cert.Kernel6Ideal.nD) → Buf (Elt Ideal) ((c.tc : Thread Cert.Kernel6Ideal.nD Cert.Kernel6Ideal.τ).loc Cert.Kernel6Ideal.main_v19_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v19_0) = v0 c
          ∧ r.2.mem ((c.tc : Thread Cert.Kernel6Ideal.nD Cert.Kernel6Ideal.τ).loc Cert.Kernel6Ideal.main_v19_1) = v1 c
          ∧ r.2.mem ((c.tc : Thread Cert.Kernel6Ideal.nD Cert.Kernel6Ideal.τ).loc Cert.Kernel6Ideal.main_v19_2) = v2 c
          ∧ r.2.mem ((c.tc : Thread Cert.Kernel6Ideal.nD Cert.Kernel6Ideal.τ).loc Cert.Kernel6Ideal.main_v19_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v58) = v0 c
          ∧ r.2.mem ((c.tc : Thread Cert.Reference6Ideal.nD Cert.Reference6Ideal.τ).loc Cert.Reference6Ideal.main_v82) = v1 c
          ∧ r.2.mem ((c.tc : Thread Cert.Reference6Ideal.nD Cert.Reference6Ideal.τ).loc Cert.Reference6Ideal.main_v83) = v2 c
          ∧ r.2.mem ((c.tc : Thread Cert.Reference6Ideal.nD Cert.Reference6Ideal.τ).loc Cert.Reference6Ideal.main_v86) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)) →
    ∃ (v0 : (c : Dev Cert.Kernel9Ideal.nD) → Buf (Elt Ideal) ((c.tc : Thread Cert.Kernel9Ideal.nD Cert.Kernel9Ideal.τ).loc Cert.Kernel9Ideal.main_v3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v40) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)
      ∧ m' ((c.tc : Thread Cert.Reference10Ideal.nD Cert.Reference10Ideal.τ).loc Cert.Reference10Ideal.main_arg8) = m ((c.tc : Thread Cert.Kernel10Ideal.nD Cert.Kernel10Ideal.τ).loc Cert.Kernel10Ideal.main_arg8)
      ∧ m' ((c.tc : Thread Cert.Reference10Ideal.nD Cert.Reference10Ideal.τ).loc Cert.Reference10Ideal.main_arg9) = m ((c.tc : Thread Cert.Kernel10Ideal.nD Cert.Kernel10Ideal.τ).loc Cert.Kernel10Ideal.main_arg9)
      ∧ m' ((c.tc : Thread Cert.Reference10Ideal.nD Cert.Reference10Ideal.τ).loc Cert.Reference10Ideal.main_arg10) = m ((c.tc : Thread Cert.Kernel10Ideal.nD Cert.Kernel10Ideal.τ).loc Cert.Kernel10Ideal.main_arg10)
      ∧ m' ((c.tc : Thread Cert.Reference10Ideal.nD Cert.Reference10Ideal.τ).loc Cert.Reference10Ideal.main_arg11) = m ((c.tc : Thread Cert.Kernel10Ideal.nD Cert.Kernel10Ideal.τ).loc Cert.Kernel10Ideal.main_arg11)) →
    ∃ (v0 : (c : Dev Cert.Kernel10Ideal.nD) → Buf (Elt Ideal) ((c.tc : Thread Cert.Kernel10Ideal.nD Cert.Kernel10Ideal.τ).loc Cert.Kernel10Ideal.main_v38_0)) (v1 : (c : Dev Cert.Kernel10Ideal.nD) → Buf (Elt Ideal) ((c.tc : Thread Cert.Kernel10Ideal.nD Cert.Kernel10Ideal.τ).loc Cert.Kernel10Ideal.main_v38_1)) (v2 : (c : Dev Cert.Kernel10Ideal.nD) → Buf (Elt Ideal) ((c.tc : Thread Cert.Kernel10Ideal.nD Cert.Kernel10Ideal.τ).loc Cert.Kernel10Ideal.main_v38_2)) (v3 : (c : Dev Cert.Kernel10Ideal.nD) → Buf (Elt Ideal) ((c.tc : Thread Cert.Kernel10Ideal.nD Cert.Kernel10Ideal.τ).loc Cert.Kernel10Ideal.main_v38_3)) (v4 : (c : Dev Cert.Kernel10Ideal.nD) → Buf (Elt Ideal) ((c.tc : Thread Cert.Kernel10Ideal.nD Cert.Kernel10Ideal.τ).loc Cert.Kernel10Ideal.main_v38_4)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v38_0) = v0 c
          ∧ r.2.mem ((c.tc : Thread Cert.Kernel10Ideal.nD Cert.Kernel10Ideal.τ).loc Cert.Kernel10Ideal.main_v38_1) = v1 c
          ∧ r.2.mem ((c.tc : Thread Cert.Kernel10Ideal.nD Cert.Kernel10Ideal.τ).loc Cert.Kernel10Ideal.main_v38_2) = v2 c
          ∧ r.2.mem ((c.tc : Thread Cert.Kernel10Ideal.nD Cert.Kernel10Ideal.τ).loc Cert.Kernel10Ideal.main_v38_3) = v3 c
          ∧ r.2.mem ((c.tc : Thread Cert.Kernel10Ideal.nD Cert.Kernel10Ideal.τ).loc Cert.Kernel10Ideal.main_v38_4) = v4 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
          ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
          ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9)
          ∧ r.2.mem ((c.tc : Thread Cert.Kernel10Ideal.nD Cert.Kernel10Ideal.τ).loc Cert.Kernel10Ideal.main_arg10) = m ((c.tc : Thread Cert.Kernel10Ideal.nD Cert.Kernel10Ideal.τ).loc Cert.Kernel10Ideal.main_arg10)
          ∧ r.2.mem ((c.tc : Thread Cert.Kernel10Ideal.nD Cert.Kernel10Ideal.τ).loc Cert.Kernel10Ideal.main_arg11) = m ((c.tc : Thread Cert.Kernel10Ideal.nD Cert.Kernel10Ideal.τ).loc Cert.Kernel10Ideal.main_arg11))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v40) = v0 c
          ∧ r.2.mem ((c.tc : Thread Cert.Reference10Ideal.nD Cert.Reference10Ideal.τ).loc Cert.Reference10Ideal.main_v126) = v1 c
          ∧ r.2.mem ((c.tc : Thread Cert.Reference10Ideal.nD Cert.Reference10Ideal.τ).loc Cert.Reference10Ideal.main_v127) = v2 c
          ∧ r.2.mem ((c.tc : Thread Cert.Reference10Ideal.nD Cert.Reference10Ideal.τ).loc Cert.Reference10Ideal.main_v128) = v3 c
          ∧ r.2.mem ((c.tc : Thread Cert.Reference10Ideal.nD Cert.Reference10Ideal.τ).loc Cert.Reference10Ideal.main_v129) = v4 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7)
          ∧ r.2.mem ((c.tc : Thread Cert.Reference10Ideal.nD Cert.Reference10Ideal.τ).loc Cert.Reference10Ideal.main_arg8) = m' ((c.tc : Thread Cert.Reference10Ideal.nD Cert.Reference10Ideal.τ).loc Cert.Reference10Ideal.main_arg8)
          ∧ r.2.mem ((c.tc : Thread Cert.Reference10Ideal.nD Cert.Reference10Ideal.τ).loc Cert.Reference10Ideal.main_arg9) = m' ((c.tc : Thread Cert.Reference10Ideal.nD Cert.Reference10Ideal.τ).loc Cert.Reference10Ideal.main_arg9)
          ∧ r.2.mem ((c.tc : Thread Cert.Reference10Ideal.nD Cert.Reference10Ideal.τ).loc Cert.Reference10Ideal.main_arg10) = m' ((c.tc : Thread Cert.Reference10Ideal.nD Cert.Reference10Ideal.τ).loc Cert.Reference10Ideal.main_arg10)
          ∧ r.2.mem ((c.tc : Thread Cert.Reference10Ideal.nD Cert.Reference10Ideal.τ).loc Cert.Reference10Ideal.main_arg11) = m' ((c.tc : Thread Cert.Reference10Ideal.nD Cert.Reference10Ideal.τ).loc Cert.Reference10Ideal.main_arg11))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)
      ∧ m' ((c.tc : Thread Cert.Reference11Ideal.nD Cert.Reference11Ideal.τ).loc Cert.Reference11Ideal.main_arg7) = m ((c.tc : Thread Cert.Kernel11Ideal.nD Cert.Kernel11Ideal.τ).loc Cert.Kernel11Ideal.main_arg7)
      ∧ m' ((c.tc : Thread Cert.Reference11Ideal.nD Cert.Reference11Ideal.τ).loc Cert.Reference11Ideal.main_arg8) = m ((c.tc : Thread Cert.Kernel11Ideal.nD Cert.Kernel11Ideal.τ).loc Cert.Kernel11Ideal.main_arg8)) →
    ∃ (v0 : (c : Dev Cert.Kernel11Ideal.nD) → Buf (Elt Ideal) ((c.tc : Thread Cert.Kernel11Ideal.nD Cert.Kernel11Ideal.τ).loc Cert.Kernel11Ideal.main_v36_0)) (v1 : (c : Dev Cert.Kernel11Ideal.nD) → Buf (Elt Ideal) ((c.tc : Thread Cert.Kernel11Ideal.nD Cert.Kernel11Ideal.τ).loc Cert.Kernel11Ideal.main_v36_1)) (v2 : (c : Dev Cert.Kernel11Ideal.nD) → Buf (Elt Ideal) ((c.tc : Thread Cert.Kernel11Ideal.nD Cert.Kernel11Ideal.τ).loc Cert.Kernel11Ideal.main_v36_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v36_0) = v0 c
          ∧ r.2.mem ((c.tc : Thread Cert.Kernel11Ideal.nD Cert.Kernel11Ideal.τ).loc Cert.Kernel11Ideal.main_v36_1) = v1 c
          ∧ r.2.mem ((c.tc : Thread Cert.Kernel11Ideal.nD Cert.Kernel11Ideal.τ).loc Cert.Kernel11Ideal.main_v36_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
          ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
          ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v40) = v0 c
          ∧ r.2.mem ((c.tc : Thread Cert.Reference11Ideal.nD Cert.Reference11Ideal.τ).loc Cert.Reference11Ideal.main_v92) = v1 c
          ∧ r.2.mem ((c.tc : Thread Cert.Reference11Ideal.nD Cert.Reference11Ideal.τ).loc Cert.Reference11Ideal.main_v93) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6)
          ∧ r.2.mem ((c.tc : Thread Cert.Reference11Ideal.nD Cert.Reference11Ideal.τ).loc Cert.Reference11Ideal.main_arg7) = m' ((c.tc : Thread Cert.Reference11Ideal.nD Cert.Reference11Ideal.τ).loc Cert.Reference11Ideal.main_arg7)
          ∧ r.2.mem ((c.tc : Thread Cert.Reference11Ideal.nD Cert.Reference11Ideal.τ).loc Cert.Reference11Ideal.main_arg8) = m' ((c.tc : Thread Cert.Reference11Ideal.nD Cert.Reference11Ideal.τ).loc Cert.Reference11Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Pre_finite.lean ====
abbrev S16384x1024 : Shape := ⟨2, ![16384, 1024]⟩
abbrev S1x1024 : Shape := ⟨2, ![1, 1024]⟩
abbrev S4x256x256 : Shape := ⟨3, ![4, 256, 256]⟩
abbrev S_ : Shape := ⟨0, ![]⟩

class Facts : Prop where
  bcast_S_S16384x1024 : S_.BroadcastsInDim S16384x1024 (![] : Fin 0 → Fin S16384x1024.rank)
  bcast_S_S1x1024 : S_.BroadcastsInDim S1x1024 (![] : Fin 0 → Fin S1x1024.rank)
  bcast_S_S4x256x256 : S_.BroadcastsInDim S4x256x256 (![] : Fin 0 → Fin S4x256x256.rank)

variable [Facts]

def fn_part1 {F : FTy → Type} [FloatOps F] (main_arg6 : FVec F S1x1024 .f32) (main_arg7 : FVec F S1x1024 .f32) (main_v2 : IVec S16384x1024 1) (main_v5 : IVec S16384x1024 1) (main_v8 : IVec S16384x1024 1) (main_v11 : IVec S1x1024 1) (main_v14 : IVec S4x256x256 1) (main_v17 : IVec S1x1024 1) : IVec S16384x1024 1 × IVec S16384x1024 1 × IVec S16384x1024 1 × IVec S1x1024 1 × IVec S4x256x256 1 × IVec S1x1024 1 × IVec S1x1024 1 × IVec S1x1024 1 :=
  let main_v18 : FVec F S1x1024 .f32 := Host.absf main_arg6
  let main_cst_5 : FVec F S_ .f32 := constant S_ .f32 0x7F800000#32
  let main_v19 : FVec F S1x1024 .f32 := broadcastInDim S1x1024 ![] bcast_S_S1x1024 main_cst_5
  let main_v20 : IVec S1x1024 1 := cmpf .olt main_v18 main_v19
  let main_v21 : FVec F S1x1024 .f32 := Host.absf main_arg7
  let main_cst_6 : FVec F S_ .f32 := constant S_ .f32 0x7F800000#32
  let main_v22 : FVec F S1x1024 .f32 := broadcastInDim S1x1024 ![] bcast_S_S1x1024 main_cst_6
  let main_v23 : IVec S1x1024 1 := cmpf .olt main_v21 main_v22
  (main_v2, main_v5, main_v8, main_v11, main_v14, main_v17, main_v20, main_v23)

def fn {F : FTy → Type} [FloatOps F] (main_arg0 : FVec F S16384x1024 .f32) (main_arg1 : FVec F S16384x1024 .f32) (main_arg2 : FVec F S16384x1024 .bf16) (main_arg3 : FVec F S1x1024 .f32) (main_arg4 : FVec F S4x256x256 .f32) (main_arg5 : FVec F S1x1024 .f32) (main_arg6 : FVec F S1x1024 .f32) (main_arg7 : FVec F S1x1024 .f32) : IVec S16384x1024 1 × IVec S16384x1024 1 × IVec S16384x1024 1 × IVec S1x1024 1 × IVec S4x256x256 1 × IVec S1x1024 1 × IVec S1x1024 1 × IVec S1x1024 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S16384x1024 .f32 := Host.absf main_arg1
  let main_cst_0 : FVec F S_ .f32 := constant S_ .f32 0x7F800000#32
  let main_v4 : FVec F S16384x1024 .f32 := broadcastInDim S16384x1024 ![] bcast_S_S16384x1024 main_cst_0
  let main_v5 : IVec S16384x1024 1 := cmpf .olt main_v3 main_v4
  let main_v6 : FVec F S16384x1024 .bf16 := Host.absf main_arg2
  let main_cst_1 : FVec F S_ .bf16 := constant S_ .bf16 0x7F80#16
  let main_v7 : FVec F S16384x1024 .bf16 := broadcastInDim S16384x1024 ![] bcast_S_S16384x1024 main_cst_1
  let main_v8 : IVec S16384x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S4x256x256 .f32 := Host.absf main_arg4
  let main_cst_3 : FVec F S_ .f32 := constant S_ .f32 0x7F800000#32
  let main_v13 : FVec F S4x256x256 .f32 := broadcastInDim S4x256x256 ![] bcast_S_S4x256x256 main_cst_3
  let main_v14 : IVec S4x256x256 1 := cmpf .olt main_v12 main_v13
  let main_v15 : FVec F S1x1024 .f32 := Host.absf main_arg5
  let main_cst_4 : FVec F S_ .f32 := constant S_ .f32 0x7F800000#32
  let main_v16 : FVec F S1x1024 .f32 := broadcastInDim S1x1024 ![] bcast_S_S1x1024 main_cst_4
  let main_v17 : IVec S1x1024 1 := cmpf .olt main_v15 main_v16
  fn_part1 (F := F) main_arg6 main_arg7 main_v2 main_v5 main_v8 main_v11 main_v14 main_v17
-- ==== Pre_finite2.lean ====
abbrev S16384x1024 : Shape := ⟨2, ![16384, 1024]⟩
abbrev S1024x2816 : Shape := ⟨2, ![1024, 2816]⟩
abbrev S2816x1024 : Shape := ⟨2, ![2816, 1024]⟩
abbrev S_ : Shape := ⟨0, ![]⟩

class Facts : Prop where
  bcast_S_S16384x1024 : S_.BroadcastsInDim S16384x1024 (![] : Fin 0 → Fin S16384x1024.rank)
  bcast_S_S1024x2816 : S_.BroadcastsInDim S1024x2816 (![] : Fin 0 → Fin S1024x2816.rank)
  bcast_S_S2816x1024 : S_.BroadcastsInDim S2816x1024 (![] : Fin 0 → Fin S2816x1024.rank)

variable [Facts]

def fn {F : FTy → Type} [FloatOps F] (main_arg0 : FVec F S16384x1024 .bf16) (main_arg1 : FVec F S16384x1024 .bf16) (main_arg2 : FVec F S1024x2816 .f32) (main_arg3 : FVec F S1024x2816 .f32) (main_arg4 : FVec F S2816x1024 .f32) : IVec S16384x1024 1 × IVec S16384x1024 1 × IVec S1024x2816 1 × IVec S1024x2816 1 × IVec S2816x1024 1 :=
  let main_v0 : FVec F S16384x1024 .bf16 := Host.absf main_arg0
  let main_cst : FVec F S_ .bf16 := constant S_ .bf16 0x7F80#16
  let main_v1 : FVec F S16384x1024 .bf16 := broadcastInDim S16384x1024 ![] bcast_S_S16384x1024 main_cst
  let main_v2 : IVec S16384x1024 1 := cmpf .olt main_v0 main_v1
  let main_v3 : FVec F S16384x1024 .bf16 := Host.absf main_arg1
  let main_cst_0 : FVec F S_ .bf16 := constant S_ .bf16 0x7F80#16
  let main_v4 : FVec F S16384x1024 .bf16 := broadcastInDim S16384x1024 ![] bcast_S_S16384x1024 main_cst_0
  let main_v5 : IVec S16384x1024 1 := cmpf .olt main_v3 main_v4
  let main_v6 : FVec F S1024x2816 .f32 := Host.absf main_arg2
  let main_cst_1 : FVec F S_ .f32 := constant S_ .f32 0x7F800000#32
  let main_v7 : FVec F S1024x2816 .f32 := broadcastInDim S1024x2816 ![] bcast_S_S1024x2816 main_cst_1
  let main_v8 : IVec S1024x2816 1 := cmpf .olt main_v6 main_v7
  let main_v9 : FVec F S1024x2816 .f32 := Host.absf main_arg3
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_v12 : FVec F S2816x1024 .f32 := Host.absf main_arg4
  let main_cst_3 : FVec F S_ .f32 := constant S_ .f32 0x7F800000#32
  let main_v13 : FVec F S2816x1024 .f32 := broadcastInDim S2816x1024 ![] bcast_S_S2816x1024 main_cst_3
  let main_v14 : IVec S2816x1024 1 := cmpf .olt main_v12 main_v13
  (main_v2, main_v5, main_v8, main_v11, main_v14)
-- ==== Kernel.lean ====
abbrev S16384x1024 : Shape := ⟨2, ![16384, 1024]⟩
abbrev S1x1024 : Shape := ⟨2, ![1, 1024]⟩
abbrev S4x256x256 : Shape := ⟨3, ![4, 256, 256]⟩
abbrev S8x1024 : Shape := ⟨2, ![8, 1024]⟩
abbrev S512x1024 : Shape := ⟨2, ![512, 1024]⟩
abbrev S16x1024 : Shape := ⟨2, ![16, 1024]⟩
abbrev S512 : Shape := ⟨1, ![512]⟩
abbrev S512x1 : Shape := ⟨2, ![512, 1]⟩
abbrev S16 : Shape := ⟨1, ![16]⟩
abbrev S16x1 : Shape := ⟨2, ![16, 1]⟩
abbrev S528x1024 : Shape := ⟨2, ![528, 1024]⟩
abbrev S528x256 : Shape := ⟨2, ![528, 256]⟩
abbrev S512x256 : Shape := ⟨2, ![512, 256]⟩
abbrev S1x256x256 : Shape := ⟨3, ![1, 256, 256]⟩
abbrev S256x256 : Shape := ⟨2, ![256, 256]⟩
abbrev S1024 : Shape := ⟨1, ![1024]⟩

abbrev nBuf : Space → Nat
  | .hbm => 12
  | .vmem => 18
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .bf16⟩
  | .hbm, ⟨3, _⟩ => ⟨S1x1024, .f32⟩
  | .hbm, ⟨4, _⟩ => ⟨S4x256x256, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S4x256x256, .bf16⟩
  | .hbm, ⟨9, _⟩ => ⟨S16384x1024, .f32⟩
  | .hbm, ⟨10, _⟩ => ⟨S4x256x256, .f32⟩
  | .hbm, ⟨11, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S16x1024, .f32⟩
  | .local _ .vmem, ⟨3, _⟩ => ⟨S16x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S4x256x256, .bf16⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | .local _ .vmem, ⟨15, _⟩ => ⟨S4x256x256, .f32⟩
  | .local _ .vmem, ⟨16, _⟩ => ⟨S8x1024, .f32⟩
  | .local _ .vmem, ⟨17, _⟩ => ⟨S16x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg11_0 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem11_0 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S4x256x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceIdeal.lean ====
abbrev S16384x1024 : Shape := ⟨2, ![16384, 1024]⟩
abbrev S1x1024 : Shape := ⟨2, ![1, 1024]⟩
abbrev S4x256x256 : Shape := ⟨3, ![4, 256, 256]⟩
abbrev S1x16384x1024 : Shape := ⟨3, ![1, 16384, 1024]⟩
abbrev S1024 : Shape := ⟨1, ![1024]⟩
abbrev S_ : Shape := ⟨0, ![]⟩
abbrev S1x16384 : Shape := ⟨2, ![1, 16384]⟩
abbrev S1x16384x1 : Shape := ⟨3, ![1, 16384, 1]⟩
abbrev S1x1x1024 : Shape := ⟨3, ![1, 1, 1024]⟩
abbrev S1x16384x4x256 : Shape := ⟨4, ![1, 16384, 4, 256]⟩
abbrev S16384 : Shape := ⟨1, ![16384]⟩
abbrev S1x16384x1x256 : Shape := ⟨4, ![1, 16384, 1, 256]⟩
abbrev S1x16384x256 : Shape := ⟨3, ![1, 16384, 256]⟩
abbrev S1x2x256 : Shape := ⟨3, ![1, 2, 256]⟩
abbrev S1x16382x256 : Shape := ⟨3, ![1, 16382, 256]⟩
abbrev S1x4x256 : Shape := ⟨3, ![1, 4, 256]⟩
abbrev S1x16380x256 : Shape := ⟨3, ![1, 16380, 256]⟩
abbrev S1x8x256 : Shape := ⟨3, ![1, 8, 256]⟩
abbrev S1x16376x256 : Shape := ⟨3, ![1, 16376, 256]⟩
abbrev S1x16x256 : Shape := ⟨3, ![1, 16, 256]⟩
abbrev S1x16368x256 : Shape := ⟨3, ![1, 16368, 256]⟩
abbrev S4x256x1x16384 : Shape := ⟨4, ![4, 256, 1, 16384]⟩
abbrev S4x1x16384x256 : Shape := ⟨4, ![4, 1, 16384, 256]⟩
abbrev S4x1024 : Shape := ⟨2, ![4, 1024]⟩
abbrev S8x1024 : Shape := ⟨2, ![8, 1024]⟩

abbrev nBuf : Space → Nat
  | .hbm => 362
  | .vmem => 0
  | .smem => 0
  | _ => 0

abbrev hbmTy0_0 (i : Nat) : BufTy := match i % 128 with
  | 0 => ⟨S16384x1024, .f32⟩
  | 1 => ⟨S16384x1024, .f32⟩
  | 2 => ⟨S16384x1024, .bf16⟩
  | 3 => ⟨S1x1024, .f32⟩
  | 4 => ⟨S4x256x256, .f32⟩
  | 5 => ⟨S1x1024, .f32⟩
  | 6 => ⟨S1x1024, .f32⟩
  | 7 => ⟨S1x1024, .f32⟩
  | 8 => ⟨S1x16384x1024, .f32⟩
  | 9 => ⟨S1024, .f32⟩
  | 10 => ⟨S1024, .f32⟩
  | 11 => ⟨S1024, .f32⟩
  | 12 => ⟨S1024, .f32⟩
  | 13 => ⟨S1x16384x1024, .f32⟩
  | 14 => ⟨S_, .f32⟩
  | 15 => ⟨S1x16384, .f32⟩
  | 16 => ⟨S1x16384x1, .f32⟩
  | 17 => ⟨S_, .f32⟩
  | 18 => ⟨S1x16384x1, .f32⟩
  | 19 => ⟨S1x16384x1, .f32⟩
  | 20 => ⟨S_, .f32⟩
  | 21 => ⟨S1x16384x1, .f32⟩
  | 22 => ⟨S1x16384x1, .f32⟩
  | 23 => ⟨S1x16384x1, .f32⟩
  | 24 => ⟨S1x16384x1, .f32⟩
  | 25 => ⟨S_, .f32⟩
  | 26 => ⟨S1x16384x1, .f32⟩
  | 27 => ⟨S1x16384x1, .f32⟩
  | 28 => ⟨S1x16384x1024, .f32⟩
  | 29 => ⟨S1x16384x1024, .f32⟩
  | 30 => ⟨S1x1x1024, .f32⟩
  | 31 => ⟨S1x16384x1024, .f32⟩
  | 32 => ⟨S1x16384x1024, .f32⟩
  | 33 => ⟨S1x16384x4x256, .f32⟩
  | 34 => ⟨S_, .f32⟩
  | 35 => ⟨S_, .f32⟩
  | 36 => ⟨S1x16384x4x256, .f32⟩
  | 37 => ⟨S16384, .i32⟩
  | 38 => ⟨S1x16384x1x256, .f32⟩
  | 39 => ⟨S1x16384x256, .f32⟩
  | 40 => ⟨S_, .f32⟩
  | 41 => ⟨S1x2x256, .f32⟩
  | 42 => ⟨S1x16382x256, .f32⟩
  | 43 => ⟨S1x16384x256, .f32⟩
  | 44 => ⟨S_, .f32⟩
  | 45 => ⟨S1x2x256, .f32⟩
  | 46 => ⟨S_, .i32⟩
  | 47 => ⟨S16384, .i32⟩
  | 48 => ⟨S16384, .i32⟩
  | 49 => ⟨S_, .i32⟩
  | 50 => ⟨S16384, .i32⟩
  | 51 => ⟨S16384, .i32⟩
  | 52 => ⟨S16384, .f32⟩
  | 53 => ⟨S1x16384x1, .f32⟩
  | 54 => ⟨S1x16384x256, .f32⟩
  | 55 => ⟨S1x16384x256, .f32⟩
  | 56 => ⟨S1x16384x256, .f32⟩
  | 57 => ⟨S1x16384x1x256, .f32⟩
  | 58 => ⟨S1x16384x256, .f32⟩
  | 59 => ⟨S1x16384x256, .f32⟩
  | 60 => ⟨S1x16384x1x256, .f32⟩
  | 61 => ⟨S1x16384x256, .f32⟩
  | 62 => ⟨S_, .f32⟩
  | 63 => ⟨S1x4x256, .f32⟩
  | 64 => ⟨S1x16380x256, .f32⟩
  | 65 => ⟨S1x16384x256, .f32⟩
  | 66 => ⟨S_, .f32⟩
  | 67 => ⟨S1x4x256, .f32⟩
  | 68 => ⟨S_, .i32⟩
  | 69 => ⟨S16384, .i32⟩
  | 70 => ⟨S16384, .i32⟩
  | 71 => ⟨S_, .i32⟩
  | 72 => ⟨S16384, .i32⟩
  | 73 => ⟨S16384, .i32⟩
  | 74 => ⟨S16384, .f32⟩
  | 75 => ⟨S1x16384x1, .f32⟩
  | 76 => ⟨S1x16384x256, .f32⟩
  | 77 => ⟨S1x16384x256, .f32⟩
  | 78 => ⟨S1x16384x256, .f32⟩
  | 79 => ⟨S1x16384x1x256, .f32⟩
  | 80 => ⟨S1x16384x256, .f32⟩
  | 81 => ⟨S1x16384x256, .f32⟩
  | 82 => ⟨S1x16384x1x256, .f32⟩
  | 83 => ⟨S1x16384x256, .f32⟩
  | 84 => ⟨S_, .f32⟩
  | 85 => ⟨S1x8x256, .f32⟩
  | 86 => ⟨S1x16376x256, .f32⟩
  | 87 => ⟨S1x16384x256, .f32⟩
  | 88 => ⟨S_, .f32⟩
  | 89 => ⟨S1x8x256, .f32⟩
  | 90 => ⟨S_, .i32⟩
  | 91 => ⟨S16384, .i32⟩
  | 92 => ⟨S16384, .i32⟩
  | 93 => ⟨S_, .i32⟩
  | 94 => ⟨S16384, .i32⟩
  | 95 => ⟨S16384, .i32⟩
  | 96 => ⟨S16384, .f32⟩
  | 97 => ⟨S1x16384x1, .f32⟩
  | 98 => ⟨S1x16384x256, .f32⟩
  | 99 => ⟨S1x16384x256, .f32⟩
  | 100 => ⟨S1x16384x256, .f32⟩
  | 101 => ⟨S1x16384x1x256, .f32⟩
  | 102 => ⟨S1x16384x256, .f32⟩
  | 103 => ⟨S1x16384x256, .f32⟩
  | 104 => ⟨S1x16384x1x256, .f32⟩
  | 105 => ⟨S1x16384x256, .f32⟩
  | 106 => ⟨S_, .f32⟩
  | 107 => ⟨S1x16x256, .f32⟩
  | 108 => ⟨S1x16368x256, .f32⟩
  | 109 => ⟨S1x16384x256, .f32⟩
  | 110 => ⟨S_, .f32⟩
  | 111 => ⟨S1x16x256, .f32⟩
  | 112 => ⟨S_, .i32⟩
  | 113 => ⟨S16384, .i32⟩
  | 114 => ⟨S16384, .i32⟩
  | 115 => ⟨S_, .i32⟩
  | 116 => ⟨S16384, .i32⟩
  | 117 => ⟨S16384, .i32⟩
  | 118 => ⟨S16384, .f32⟩
  | 119 => ⟨S1x16384x1, .f32⟩
  | 120 => ⟨S1x16384x256, .f32⟩
  | 121 => ⟨S1x16384x256, .f32⟩
  | 122 => ⟨S1x16384x256, .f32⟩
  | 123 => ⟨S1x16384x1x256, .f32⟩
  | 124 => ⟨S1x16384x256, .f32⟩
  | 125 => ⟨S1x16384x256, .f32⟩
  | 126 => ⟨S1x16384x1x256, .f32⟩
  | 127 => ⟨S1x16384x1x256, .f32⟩
  | _ => ⟨S16384x1024, .f32⟩

abbrev hbmTy0_1 (i : Nat) : BufTy := match i % 128 with
  | 0 => ⟨S1x16384x1x256, .f32⟩
  | 1 => ⟨S1x16384x1x256, .f32⟩
  | 2 => ⟨S1x16384x4x256, .f32⟩
  | 3 => ⟨S4x256x1x16384, .f32⟩
  | 4 => ⟨S1x16384x4x256, .f32⟩
  | 5 => ⟨S1x16384x1024, .f32⟩
  | 6 => ⟨S1x1x1024, .f32⟩
  | 7 => ⟨S1x16384x1024, .f32⟩
  | 8 => ⟨S1x16384x1024, .f32⟩
  | 9 => ⟨S1x16384x1024, .f32⟩
  | 10 => ⟨S_, .f32⟩
  | 11 => ⟨S1x16384, .f32⟩
  | 12 => ⟨S1x16384x1, .f32⟩
  | 13 => ⟨S_, .f32⟩
  | 14 => ⟨S1x16384x1, .f32⟩
  | 15 => ⟨S1x16384x1, .f32⟩
  | 16 => ⟨S_, .f32⟩
  | 17 => ⟨S1x16384x1, .f32⟩
  | 18 => ⟨S1x16384x1, .f32⟩
  | 19 => ⟨S1x16384x1, .f32⟩
  | 20 => ⟨S1x16384x1, .f32⟩
  | 21 => ⟨S_, .f32⟩
  | 22 => ⟨S1x16384x1, .f32⟩
  | 23 => ⟨S1x16384x1, .f32⟩
  | 24 => ⟨S1x16384x1024, .f32⟩
  | 25 => ⟨S1x16384x1024, .f32⟩
  | 26 => ⟨S1x1x1024, .f32⟩
  | 27 => ⟨S1x16384x1024, .f32⟩
  | 28 => ⟨S1x16384x1024, .f32⟩
  | 29 => ⟨S1x16384x1024, .f32⟩
  | 30 => ⟨S1x16384x1024, .f32⟩
  | 31 => ⟨S_, .f32⟩
  | 32 => ⟨S1x16384, .f32⟩
  | 33 => ⟨S1x16384x1, .f32⟩
  | 34 => ⟨S_, .f32⟩
  | 35 => ⟨S1x16384x1, .f32⟩
  | 36 => ⟨S1x16384x1, .f32⟩
  | 37 => ⟨S_, .f32⟩
  | 38 => ⟨S1x16384x1, .f32⟩
  | 39 => ⟨S1x16384x1, .f32⟩
  | 40 => ⟨S1x16384x1, .f32⟩
  | 41 => ⟨S1x16384x1, .f32⟩
  | 42 => ⟨S_, .f32⟩
  | 43 => ⟨S1x16384x1, .f32⟩
  | 44 => ⟨S1x16384x1, .f32⟩
  | 45 => ⟨S1x16384x1024, .f32⟩
  | 46 => ⟨S1x16384x1024, .f32⟩
  | 47 => ⟨S1x1x1024, .f32⟩
  | 48 => ⟨S1x16384x1024, .f32⟩
  | 49 => ⟨S1x16384x1024, .f32⟩
  | 50 => ⟨S1x16384x1024, .f32⟩
  | 51 => ⟨S16384x1024, .f32⟩
  | 52 => ⟨S1x16384x1024, .f32⟩
  | 53 => ⟨S1x16384x1024, .f32⟩
  | 54 => ⟨S_, .f32⟩
  | 55 => ⟨S1x1024, .f32⟩
  | 56 => ⟨S1x1x1024, .f32⟩
  | 57 => ⟨S1x16384x1024, .f32⟩
  | 58 => ⟨S1x16384x1024, .f32⟩
  | 59 => ⟨S_, .f32⟩
  | 60 => ⟨S1024, .f32⟩
  | 61 => ⟨S1x16384x1024, .f32⟩
  | 62 => ⟨S_, .f32⟩
  | 63 => ⟨S1x16384, .f32⟩
  | 64 => ⟨S1x16384x1, .f32⟩
  | 65 => ⟨S1x16384x1024, .f32⟩
  | 66 => ⟨S1x16384x1024, .f32⟩
  | 67 => ⟨S1x16384x1024, .f32⟩
  | 68 => ⟨S1x16384x1, .f32⟩
  | 69 => ⟨S_, .f32⟩
  | 70 => ⟨S1x16384x1, .f32⟩
  | 71 => ⟨S1x16384x1, .f32⟩
  | 72 => ⟨S_, .f32⟩
  | 73 => ⟨S16384, .f32⟩
  | 74 => ⟨S1x16384, .f32⟩
  | 75 => ⟨S1x16384x1024, .f32⟩
  | 76 => ⟨S1x16384x1024, .f32⟩
  | 77 => ⟨S1x16384x1024, .f32⟩
  | 78 => ⟨S1x16384x1024, .f32⟩
  | 79 => ⟨S1x16384x1024, .f32⟩
  | 80 => ⟨S1x16384x1024, .f32⟩
  | 81 => ⟨S_, .f32⟩
  | 82 => ⟨S1x1024, .f32⟩
  | 83 => ⟨S1x1x1024, .f32⟩
  | 84 => ⟨S1x16384x1024, .f32⟩
  | 85 => ⟨S1x16384x1024, .f32⟩
  | 86 => ⟨S_, .f32⟩
  | 87 => ⟨S1024, .f32⟩
  | 88 => ⟨S1x16384x1024, .f32⟩
  | 89 => ⟨S_, .f32⟩
  | 90 => ⟨S1x16384, .f32⟩
  | 91 => ⟨S1x16384x1, .f32⟩
  | 92 => ⟨S1x16384x1024, .f32⟩
  | 93 => ⟨S1x16384x1024, .f32⟩
  | 94 => ⟨S1x16384x1, .f32⟩
  | 95 => ⟨S_, .f32⟩
  | 96 => ⟨S1x16384x1, .f32⟩
  | 97 => ⟨S1x16384x1, .f32⟩
  | 98 => ⟨S_, .f32⟩
  | 99 => ⟨S16384, .f32⟩
  | 100 => ⟨S1x16384, .f32⟩
  | 101 => ⟨S1x16384x1024, .f32⟩
  | 102 => ⟨S1x16384x1024, .f32⟩
  | 103 => ⟨S1x16384x1024, .f32⟩
  | 104 => ⟨S1x16384x1024, .f32⟩
  | 105 => ⟨S1x16384x1024, .f32⟩
  | 106 => ⟨S1x16384x1024, .f32⟩
  | 107 => ⟨S_, .f32⟩
  | 108 => ⟨S1x1024, .f32⟩
  | 109 => ⟨S1x1x1024, .f32⟩
  | 110 => ⟨S1x16384x1024, .f32⟩
  | 111 => ⟨S1x16384x1024, .f32⟩
  | 112 => ⟨S_, .f32⟩
  | 113 => ⟨S1024, .f32⟩
  | 114 => ⟨S1x16384x4x256, .f32⟩
  | 115 => ⟨S4x256x1x16384, .f32⟩
  | 116 => ⟨S4x1x16384x256, .f32⟩
  | 117 => ⟨S1x16384x4x256, .f32⟩
  | 118 => ⟨S4x256x256, .f32⟩
  | 119 => ⟨S4x256x256, .f32⟩
  | 120 => ⟨S1x16384x1x256, .f32⟩
  | 121 => ⟨S1x16384x256, .f32⟩
  | 122 => ⟨S1x16384x1x256, .f32⟩
  | 123 => ⟨S1x16384x256, .f32⟩
  | 124 => ⟨S1x16384x1x256, .f32⟩
  | 125 => ⟨S1x16384x256, .f32⟩
  | 126 => ⟨S1x16384x1x256, .f32⟩
  | 127 => ⟨S1x16384x256, .f32⟩
  | _ => ⟨S16384x1024, .f32⟩

abbrev hbmTy0_2 (i : Nat) : BufTy := match i % 128 with
  | 0 => ⟨S1x16384x256, .f32⟩
  | 1 => ⟨S1x16384x1x256, .f32⟩
  | 2 => ⟨S_, .f32⟩
  | 3 => ⟨S1x16384x4x256, .f32⟩
  | 4 => ⟨S1x16384x256, .f32⟩
  | 5 => ⟨S1x16384x256, .f32⟩
  | 6 => ⟨S1x16384x256, .f32⟩
  | 7 => ⟨S1x16x256, .f32⟩
  | 8 => ⟨S1x16368x256, .f32⟩
  | 9 => ⟨S_, .f32⟩
  | 10 => ⟨S1x16384x256, .f32⟩
  | 11 => ⟨S1x16384x256, .f32⟩
  | 12 => ⟨S1x16384x1x256, .f32⟩
  | 13 => ⟨S_, .f32⟩
  | 14 => ⟨S1x16384x4x256, .f32⟩
  | 15 => ⟨S1x16384x256, .f32⟩
  | 16 => ⟨S1x16384x1x256, .f32⟩
  | 17 => ⟨S_, .f32⟩
  | 18 => ⟨S1x16384x4x256, .f32⟩
  | 19 => ⟨S1x16384x4x256, .f32⟩
  | 20 => ⟨S1x16384x256, .f32⟩
  | 21 => ⟨S1x16384x256, .f32⟩
  | 22 => ⟨S1x16384x256, .f32⟩
  | 23 => ⟨S1x8x256, .f32⟩
  | 24 => ⟨S1x16376x256, .f32⟩
  | 25 => ⟨S_, .f32⟩
  | 26 => ⟨S1x16384x256, .f32⟩
  | 27 => ⟨S1x16384x256, .f32⟩
  | 28 => ⟨S1x16384x1x256, .f32⟩
  | 29 => ⟨S_, .f32⟩
  | 30 => ⟨S1x16384x4x256, .f32⟩
  | 31 => ⟨S1x16384x4x256, .f32⟩
  | 32 => ⟨S1x16384x256, .f32⟩
  | 33 => ⟨S1x16384x1x256, .f32⟩
  | 34 => ⟨S_, .f32⟩
  | 35 => ⟨S1x16384x4x256, .f32⟩
  | 36 => ⟨S1x16384x4x256, .f32⟩
  | 37 => ⟨S1x16384x256, .f32⟩
  | 38 => ⟨S1x16384x256, .f32⟩
  | 39 => ⟨S1x16384x256, .f32⟩
  | 40 => ⟨S1x4x256, .f32⟩
  | 41 => ⟨S1x16380x256, .f32⟩
  | 42 => ⟨S_, .f32⟩
  | 43 => ⟨S1x16384x256, .f32⟩
  | 44 => ⟨S1x16384x256, .f32⟩
  | 45 => ⟨S1x16384x1x256, .f32⟩
  | 46 => ⟨S_, .f32⟩
  | 47 => ⟨S1x16384x4x256, .f32⟩
  | 48 => ⟨S1x16384x4x256, .f32⟩
  | 49 => ⟨S1x16384x256, .f32⟩
  | 50 => ⟨S1x16384x1x256, .f32⟩
  | 51 => ⟨S_, .f32⟩
  | 52 => ⟨S1x16384x4x256, .f32⟩
  | 53 => ⟨S1x16384x4x256, .f32⟩
  | 54 => ⟨S1x16384x256, .f32⟩
  | 55 => ⟨S1x16384x256, .f32⟩
  | 56 => ⟨S1x16384x256, .f32⟩
  | 57 => ⟨S1x2x256, .f32⟩
  | 58 => ⟨S1x16382x256, .f32⟩
  | 59 => ⟨S_, .f32⟩
  | 60 => ⟨S1x16384x256, .f32⟩
  | 61 => ⟨S1x16384x256, .f32⟩
  | 62 => ⟨S1x16384x1x256, .f32⟩
  | 63 => ⟨S_, .f32⟩
  | 64 => ⟨S1x16384x4x256, .f32⟩
  | 65 => ⟨S1x16384x4x256, .f32⟩
  | 66 => ⟨S_, .f32⟩
  | 67 => ⟨S_, .f32⟩
  | 68 => ⟨S1x16384x4x256, .f32⟩
  | 69 => ⟨S1x16384x4x256, .f32⟩
  | 70 => ⟨S1x16384x1024, .f32⟩
  | 71 => ⟨S1x16384x1024, .f32⟩
  | 72 => ⟨S_, .f32⟩
  | 73 => ⟨S1x1024, .f32⟩
  | 74 => ⟨S1x1x1024, .f32⟩
  | 75 => ⟨S1x16384x1024, .f32⟩
  | 76 => ⟨S1x16384x1024, .f32⟩
  | 77 => ⟨S_, .f32⟩
  | 78 => ⟨S1024, .f32⟩
  | 79 => ⟨S1x16384x1024, .f32⟩
  | 80 => ⟨S_, .f32⟩
  | 81 => ⟨S1x16384, .f32⟩
  | 82 => ⟨S1x16384x1, .f32⟩
  | 83 => ⟨S1x16384x1024, .f32⟩
  | 84 => ⟨S1x16384x1024, .f32⟩
  | 85 => ⟨S1x16384x1024, .f32⟩
  | 86 => ⟨S1x16384x1, .f32⟩
  | 87 => ⟨S_, .f32⟩
  | 88 => ⟨S1x16384x1, .f32⟩
  | 89 => ⟨S1x16384x1, .f32⟩
  | 90 => ⟨S_, .f32⟩
  | 91 => ⟨S16384, .f32⟩
  | 92 => ⟨S1x16384, .f32⟩
  | 93 => ⟨S1x16384x1024, .f32⟩
  | 94 => ⟨S1x16384x1024, .f32⟩
  | 95 => ⟨S1x16384x1024, .f32⟩
  | 96 => ⟨S1x16384x1024, .f32⟩
  | 97 => ⟨S1x16384x1024, .f32⟩
  | 98 => ⟨S_, .f32⟩
  | 99 => ⟨S4x1024, .f32⟩
  | 100 => ⟨S16384x1024, .f32⟩
  | 101 => ⟨S1x1024, .f32⟩
  | 102 => ⟨S1x1024, .f32⟩
  | 103 => ⟨S1x1024, .f32⟩
  | 104 => ⟨S1x1024, .f32⟩
  | 105 => ⟨S8x1024, .f32⟩
  | _ => ⟨S16384x1024, .f32⟩

abbrev hbmTy (i : Nat) : BufTy := match i / 128 with
  | 0 => hbmTy0_0 i
  | 1 => hbmTy0_1 i
  | 2 => hbmTy0_2 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call0_call0_cst : Ref sig .tc := ⟨.hbm, 34, rfl⟩
abbrev main_call0_call0_v0 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_c : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_6 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_7 : Ref sig .tc := ⟨.hbm, 66, rfl⟩
abbrev main_v47 : Ref sig .tc := ⟨.hbm, 67, rfl⟩
abbrev main_c_8 : Ref sig .tc := ⟨.hbm, 68, rfl⟩
abbrev main_v48 : Ref sig .tc := ⟨.hbm, 69, rfl⟩
abbrev main_v49 : Ref sig .tc := ⟨.hbm, 70, rfl⟩
abbrev main_c_9 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_10 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_11 : Ref sig .tc := ⟨.hbm, 88, rfl⟩
abbrev main_v65 : Ref sig .tc := ⟨.hbm, 89, rfl⟩
abbrev main_c_12 : Ref sig .tc := ⟨.hbm, 90, rfl⟩
abbrev main_v66 : Ref sig .tc := ⟨.hbm, 91, rfl⟩
abbrev main_v67 : Ref sig .tc := ⟨.hbm, 92, rfl⟩
abbrev main_c_13 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_cst_14 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_cst_15 : Ref sig .tc := ⟨.hbm, 110, rfl⟩
abbrev main_v83 : Ref sig .tc := ⟨.hbm, 111, rfl⟩
abbrev main_c_16 : Ref sig .tc := ⟨.hbm, 112, rfl⟩
abbrev main_v84 : Ref sig .tc := ⟨.hbm, 113, rfl⟩
abbrev main_v85 : Ref sig .tc := ⟨.hbm, 114, rfl⟩
abbrev main_c_17 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_cst_18 : Ref sig .tc := ⟨.hbm, 138, rfl⟩
abbrev main_v108 : Ref sig .tc := ⟨.hbm, 139, rfl⟩
abbrev main_v109 : Ref sig .tc := ⟨.hbm, 140, rfl⟩
abbrev main_cst_19 : Ref sig .tc := ⟨.hbm, 141, rfl⟩
abbrev main_v110 : Ref sig .tc := ⟨.hbm, 142, rfl⟩
abbrev main_v111 : Ref sig .tc := ⟨.hbm, 143, rfl⟩
abbrev main_cst_20 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_cst_21 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_cst_22 : Ref sig .tc := ⟨.hbm, 159, rfl⟩
abbrev main_v125 : Ref sig .tc := ⟨.hbm, 160, rfl⟩
abbrev main_v126 : Ref sig .tc := ⟨.hbm, 161, rfl⟩
abbrev main_cst_23 : Ref sig .tc := ⟨.hbm, 162, rfl⟩
abbrev main_v127 : Ref sig .tc := ⟨.hbm, 163, rfl⟩
abbrev main_v128 : Ref sig .tc := ⟨.hbm, 164, rfl⟩
abbrev main_cst_24 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_cst_25 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_cst_26 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_cst_27 : Ref sig .tc := ⟨.hbm, 187, rfl⟩
abbrev main_v148 : Ref sig .tc := ⟨.hbm, 188, rfl⟩
abbrev main_v149 : Ref sig .tc := ⟨.hbm, 189, rfl⟩
abbrev main_cst_28 : Ref sig .tc := ⟨.hbm, 190, rfl⟩
abbrev main_v150 : Ref sig .tc := ⟨.hbm, 191, rfl⟩
abbrev main_v151 : Ref sig .tc := ⟨.hbm, 192, rfl⟩
abbrev main_v152 : Ref sig .tc := ⟨.hbm, 193, rfl⟩
abbrev main_v153 : Ref sig .tc := ⟨.hbm, 194, rfl⟩
abbrev main_v154 : Ref sig .tc := ⟨.hbm, 195, rfl⟩
abbrev main_v155 : Ref sig .tc := ⟨.hbm, 196, rfl⟩
abbrev main_cst_29 : Ref sig .tc := ⟨.hbm, 197, rfl⟩
abbrev main_v156 : Ref sig .tc := ⟨.hbm, 198, rfl⟩
abbrev main_v157 : Ref sig .tc := ⟨.hbm, 199, rfl⟩
abbrev main_cst_30 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_v163 : Ref sig .tc := ⟨.hbm, 206, rfl⟩
abbrev main_v164 : Ref sig .tc := ⟨.hbm, 207, rfl⟩
abbrev main_v165 : Ref sig .tc := ⟨.hbm, 208, rfl⟩
abbrev main_cst_31 : Ref sig .tc := ⟨.hbm, 209, rfl⟩
abbrev main_v166 : Ref sig .tc := ⟨.hbm, 210, rfl⟩
abbrev main_v167 : Ref sig .tc := ⟨.hbm, 211, rfl⟩
abbrev main_v168 : Ref sig .tc := ⟨.hbm, 212, rfl⟩
abbrev main_v169 : Ref sig .tc := ⟨.hbm, 213, rfl⟩
abbrev main_cst_32 : Ref sig .tc := ⟨.hbm, 214, rfl⟩
abbrev main_v170 : Ref sig .tc := ⟨.hbm, 215, rfl⟩
abbrev main_v171 : Ref sig .tc := ⟨.hbm, 216, rfl⟩
abbrev main_cst_33 : Ref sig .tc := ⟨.hbm, 217, rfl⟩
abbrev main_v172 : Ref sig .tc := ⟨.hbm, 218, rfl⟩
abbrev main_v173 : Ref sig .tc := ⟨.hbm, 219, rfl⟩
abbrev main_v174 : Ref sig .tc := ⟨.hbm, 220, rfl⟩
abbrev main_v175 : Ref sig .tc := ⟨.hbm, 221, rfl⟩
abbrev main_v176 : Ref sig .tc := ⟨.hbm, 222, rfl⟩
abbrev main_cst_34 : Ref sig .tc := ⟨.hbm, 223, rfl⟩
abbrev main_v177 : Ref sig .tc := ⟨.hbm, 224, rfl⟩
abbrev main_v178 : Ref sig .tc := ⟨.hbm, 225, rfl⟩
abbrev main_cst_35 : Ref sig .tc := ⟨.hbm, 226, rfl⟩
abbrev main_v179 : Ref sig .tc := ⟨.hbm, 227, rfl⟩
abbrev main_v180 : Ref sig .tc := ⟨.hbm, 228, rfl⟩
abbrev main_v181 : Ref sig .tc := ⟨.hbm, 229, rfl⟩
abbrev main_v182 : Ref sig .tc := ⟨.hbm, 230, rfl⟩
abbrev main_v183 : Ref sig .tc := ⟨.hbm, 231, rfl⟩
abbrev main_v184 : Ref sig .tc := ⟨.hbm, 232, rfl⟩
abbrev main_v185 : Ref sig .tc := ⟨.hbm, 233, rfl⟩
abbrev main_v186 : Ref sig .tc := ⟨.hbm, 234, rfl⟩
abbrev main_cst_36 : Ref sig .tc := ⟨.hbm, 235, rfl⟩
abbrev main_v187 : Ref sig .tc := ⟨.hbm, 236, rfl⟩
abbrev main_v188 : Ref sig .tc := ⟨.hbm, 237, rfl⟩
abbrev main_v189 : Ref sig .tc := ⟨.hbm, 238, rfl⟩
abbrev main_v190 : Ref sig .tc := ⟨.hbm, 239, rfl⟩
abbrev main_cst_37 : Ref sig .tc := ⟨.hbm, 240, rfl⟩
abbrev main_v191 : Ref sig .tc := ⟨.hbm, 241, rfl⟩
abbrev main_v192 : Ref sig .tc := ⟨.hbm, 242, rfl⟩
abbrev main_v193 : Ref sig .tc := ⟨.hbm, 243, rfl⟩
abbrev main_v194 : Ref sig .tc := ⟨.hbm, 244, rfl⟩
abbrev main_v195 : Ref sig .tc := ⟨.hbm, 245, rfl⟩
abbrev main_v196 : Ref sig .tc := ⟨.hbm, 246, rfl⟩
abbrev main_v197 : Ref sig .tc := ⟨.hbm, 247, rfl⟩
abbrev main_v198 : Ref sig .tc := ⟨.hbm, 248, rfl⟩
abbrev main_v199 : Ref sig .tc := ⟨.hbm, 249, rfl⟩
abbrev main_v200 : Ref sig .tc := ⟨.hbm, 250, rfl⟩
abbrev main_v201 : Ref sig .tc := ⟨.hbm, 251, rfl⟩
abbrev main_v202 : Ref sig .tc := ⟨.hbm, 252, rfl⟩
abbrev main_v203 : Ref sig .tc := ⟨.hbm, 253, rfl⟩
abbrev main_v204 : Ref sig .tc := ⟨.hbm, 254, rfl⟩
abbrev main_v205 : Ref sig .tc := ⟨.hbm, 255, rfl⟩
abbrev main_v206 : Ref sig .tc := ⟨.hbm, 256, rfl⟩
abbrev main_v207 : Ref sig .tc := ⟨.hbm, 257, rfl⟩
abbrev main_cst_38 : Ref sig .tc := ⟨.hbm, 258, rfl⟩
abbrev main_v208 : Ref sig .tc := ⟨.hbm, 259, rfl⟩
abbrev main_v209 : Ref sig .tc := ⟨.hbm, 260, rfl⟩
abbrev main_v210 : Ref sig .tc := ⟨.hbm, 261, rfl⟩
abbrev main_v211 : Ref sig .tc := ⟨.hbm, 262, rfl⟩
abbrev main_v212 : Ref sig .tc := ⟨.hbm, 263, rfl⟩
abbrev main_v213 : Ref sig .tc := ⟨.hbm, 264, rfl⟩
abbrev main_cst_39 : Ref sig .tc := ⟨.hbm, 265, rfl⟩
abbrev main_v214 : Ref sig .tc := ⟨.hbm, 266, rfl⟩
abbrev main_v215 : Ref sig .tc := ⟨.hbm, 267, rfl⟩
abbrev main_v216 : Ref sig .tc := ⟨.hbm, 268, rfl⟩
abbrev main_cst_40 : Ref sig .tc := ⟨.hbm, 269, rfl⟩
abbrev main_v217 : Ref sig .tc := ⟨.hbm, 270, rfl⟩
abbrev main_v218 : Ref sig .tc := ⟨.hbm, 271, rfl⟩
abbrev main_v219 : Ref sig .tc := ⟨.hbm, 272, rfl⟩
abbrev main_cst_41 : Ref sig .tc := ⟨.hbm, 273, rfl⟩
abbrev main_v220 : Ref sig .tc := ⟨.hbm, 274, rfl⟩
abbrev main_v221 : Ref sig .tc := ⟨.hbm, 275, rfl⟩
abbrev main_v222 : Ref sig .tc := ⟨.hbm, 276, rfl⟩
abbrev main_v223 : Ref sig .tc := ⟨.hbm, 277, rfl⟩
abbrev main_v224 : Ref sig .tc := ⟨.hbm, 278, rfl⟩
abbrev main_v225 : Ref sig .tc := ⟨.hbm, 279, rfl⟩
abbrev main_v226 : Ref sig .tc := ⟨.hbm, 280, rfl⟩
abbrev main_cst_42 : Ref sig .tc := ⟨.hbm, 281, rfl⟩
abbrev main_v227 : Ref sig .tc := ⟨.hbm, 282, rfl⟩
abbrev main_v228 : Ref sig .tc := ⟨.hbm, 283, rfl⟩
abbrev main_v229 : Ref sig .tc := ⟨.hbm, 284, rfl⟩
abbrev main_cst_43 : Ref sig .tc := ⟨.hbm, 285, rfl⟩
abbrev main_v230 : Ref sig .tc := ⟨.hbm, 286, rfl⟩
abbrev main_v231 : Ref sig .tc := ⟨.hbm, 287, rfl⟩
abbrev main_v232 : Ref sig .tc := ⟨.hbm, 288, rfl⟩
abbrev main_v233 : Ref sig .tc := ⟨.hbm, 289, rfl⟩
abbrev main_cst_44 : Ref sig .tc := ⟨.hbm, 290, rfl⟩
abbrev main_v234 : Ref sig .tc := ⟨.hbm, 291, rfl⟩
abbrev main_v235 : Ref sig .tc := ⟨.hbm, 292, rfl⟩
abbrev main_v236 : Ref sig .tc := ⟨.hbm, 293, rfl⟩
abbrev main_v237 : Ref sig .tc := ⟨.hbm, 294, rfl⟩
abbrev main_v238 : Ref sig .tc := ⟨.hbm, 295, rfl⟩
abbrev main_v239 : Ref sig .tc := ⟨.hbm, 296, rfl⟩
abbrev main_v240 : Ref sig .tc := ⟨.hbm, 297, rfl⟩
abbrev main_cst_45 : Ref sig .tc := ⟨.hbm, 298, rfl⟩
abbrev main_v241 : Ref sig .tc := ⟨.hbm, 299, rfl⟩
abbrev main_v242 : Ref sig .tc := ⟨.hbm, 300, rfl⟩
abbrev main_v243 : Ref sig .tc := ⟨.hbm, 301, rfl⟩
abbrev main_cst_46 : Ref sig .tc := ⟨.hbm, 302, rfl⟩
abbrev main_v244 : Ref sig .tc := ⟨.hbm, 303, rfl⟩
abbrev main_v245 : Ref sig .tc := ⟨.hbm, 304, rfl⟩
abbrev main_v246 : Ref sig .tc := ⟨.hbm, 305, rfl⟩
abbrev main_v247 : Ref sig .tc := ⟨.hbm, 306, rfl⟩
abbrev main_cst_47 : Ref sig .tc := ⟨.hbm, 307, rfl⟩
abbrev main_v248 : Ref sig .tc := ⟨.hbm, 308, rfl⟩
abbrev main_v249 : Ref sig .tc := ⟨.hbm, 309, rfl⟩
abbrev main_v250 : Ref sig .tc := ⟨.hbm, 310, rfl⟩
abbrev main_v251 : Ref sig .tc := ⟨.hbm, 311, rfl⟩
abbrev main_v252 : Ref sig .tc := ⟨.hbm, 312, rfl⟩
abbrev main_v253 : Ref sig .tc := ⟨.hbm, 313, rfl⟩
abbrev main_v254 : Ref sig .tc := ⟨.hbm, 314, rfl⟩
abbrev main_cst_48 : Ref sig .tc := ⟨.hbm, 315, rfl⟩
abbrev main_v255 : Ref sig .tc := ⟨.hbm, 316, rfl⟩
abbrev main_v256 : Ref sig .tc := ⟨.hbm, 317, rfl⟩
abbrev main_v257 : Ref sig .tc := ⟨.hbm, 318, rfl⟩
abbrev main_cst_49 : Ref sig .tc := ⟨.hbm, 319, rfl⟩
abbrev main_v258 : Ref sig .tc := ⟨.hbm, 320, rfl⟩
abbrev main_v259 : Ref sig .tc := ⟨.hbm, 321, rfl⟩
abbrev main_call1_call0_cst : Ref sig .tc := ⟨.hbm, 322, rfl⟩
abbrev main_call1_call0_v0 : Ref sig .tc := ⟨.hbm, 323, rfl⟩
abbrev main_v260 : Ref sig .tc := ⟨.hbm, 324, rfl⟩
abbrev main_v261 : Ref sig .tc := ⟨.hbm, 325, rfl⟩
abbrev main_v262 : Ref sig .tc := ⟨.hbm, 326, rfl⟩
abbrev main_v263 : Ref sig .tc := ⟨.hbm, 327, rfl⟩
abbrev main_cst_50 : Ref sig .tc := ⟨.hbm, 328, rfl⟩
abbrev main_v264 : Ref sig .tc := ⟨.hbm, 329, rfl⟩
abbrev main_v265 : Ref sig .tc := ⟨.hbm, 330, rfl⟩
abbrev main_v266 : Ref sig .tc := ⟨.hbm, 331, rfl⟩
abbrev main_v267 : Ref sig .tc := ⟨.hbm, 332, rfl⟩
abbrev main_cst_51 : Ref sig .tc := ⟨.hbm, 333, rfl⟩
abbrev main_v268 : Ref sig .tc := ⟨.hbm, 334, rfl⟩
abbrev main_v269 : Ref sig .tc := ⟨.hbm, 335, rfl⟩
abbrev main_cst_52 : Ref sig .tc := ⟨.hbm, 336, rfl⟩
abbrev main_v270 : Ref sig .tc := ⟨.hbm, 337, rfl⟩
abbrev main_v271 : Ref sig .tc := ⟨.hbm, 338, rfl⟩
abbrev main_v272 : Ref sig .tc := ⟨.hbm, 339, rfl⟩
abbrev main_v273 : Ref sig .tc := ⟨.hbm, 340, rfl⟩
abbrev main_v274 : Ref sig .tc := ⟨.hbm, 341, rfl⟩
abbrev main_v275 : Ref sig .tc := ⟨.hbm, 342, rfl⟩
abbrev main_cst_53 : Ref sig .tc := ⟨.hbm, 343, rfl⟩
abbrev main_v276 : Ref sig .tc := ⟨.hbm, 344, rfl⟩
abbrev main_v277 : Ref sig .tc := ⟨.hbm, 345, rfl⟩
abbrev main_cst_54 : Ref sig .tc := ⟨.hbm, 346, rfl⟩
abbrev main_v278 : Ref sig .tc := ⟨.hbm, 347, rfl⟩
abbrev main_v279 : Ref sig .tc := ⟨.hbm, 348, rfl⟩
abbrev main_v280 : Ref sig .tc := ⟨.hbm, 349, rfl⟩
abbrev main_v281 : Ref sig .tc := ⟨.hbm, 350, rfl⟩
abbrev main_v282 : Ref sig .tc := ⟨.hbm, 351, rfl⟩
abbrev main_v283 : Ref sig .tc := ⟨.hbm, 352, rfl⟩
abbrev main_v284 : Ref sig .tc := ⟨.hbm, 353, rfl⟩
abbrev main_cst_55 : Ref sig .tc := ⟨.hbm, 354, rfl⟩
abbrev main_v285 : Ref sig .tc := ⟨.hbm, 355, rfl⟩
abbrev main_v286 : Ref sig .tc := ⟨.hbm, 356, rfl⟩
abbrev main_v287 : Ref sig .tc := ⟨.hbm, 357, rfl⟩
abbrev main_v288 : Ref sig .tc := ⟨.hbm, 358, rfl⟩
abbrev main_v289 : Ref sig .tc := ⟨.hbm, 359, rfl⟩
abbrev main_v290 : Ref sig .tc := ⟨.hbm, 360, rfl⟩
abbrev main_v291 : Ref sig .tc := ⟨.hbm, 361, rfl⟩

abbrev nD : Nat := 1
abbrev τ : Topo := Topo.v7x

variable {F : FTy → Type} [FloatOps F]
-- ==== Kernel2.lean ====
abbrev S16384x1024 : Shape := ⟨2, ![16384, 1024]⟩
abbrev S1024x2816 : Shape := ⟨2, ![1024, 2816]⟩
abbrev S2816x1024 : Shape := ⟨2, ![2816, 1024]⟩
abbrev S16384x2816 : Shape := ⟨2, ![16384, 2816]⟩
abbrev S512x1024 : Shape := ⟨2, ![512, 1024]⟩
abbrev S512x2816 : Shape := ⟨2, ![512, 2816]⟩
abbrev S768x1024 : Shape := ⟨2, ![768, 1024]⟩
abbrev S512x768 : Shape := ⟨2, ![512, 768]⟩
abbrev S512x512 : Shape := ⟨2, ![512, 512]⟩
abbrev S512x1536 : Shape := ⟨2, ![512, 1536]⟩
abbrev S1536x1024 : Shape := ⟨2, ![1536, 1024]⟩
abbrev S512x1280 : Shape := ⟨2, ![512, 1280]⟩
abbrev S1280x1024 : Shape := ⟨2, ![1280, 1024]⟩

abbrev nBuf : Space → Nat
  | .hbm => 17
  | .vmem => 28
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2816x1024, .f32⟩
  | .hbm, ⟨6, _⟩ => ⟨S2816x1024, .bf16⟩
  | .hbm, ⟨7, _⟩ => ⟨S2816x1024, .f32⟩
  | .hbm, ⟨8, _⟩ => ⟨S2816x1024, .bf16⟩
  | .hbm, ⟨9, _⟩ => ⟨S2816x1024, .bf16⟩
  | .hbm, ⟨10, _⟩ => ⟨S16384x1024, .bf16⟩
  | .hbm, ⟨11, _⟩ => ⟨S16384x2816, .bf16⟩
  | .hbm, ⟨12, _⟩ => ⟨S16384x2816, .bf16⟩
  | .hbm, ⟨13, _⟩ => ⟨S16384x2816, .bf16⟩
  | .hbm, ⟨14, _⟩ => ⟨S16384x1024, .bf16⟩
  | .hbm, ⟨15, _⟩ => ⟨S16384x2816, .bf16⟩
  | .hbm, ⟨16, _⟩ => ⟨S16384x2816, .bf16⟩
  | .local _ .vmem, ⟨0, _⟩ => ⟨S512x1024, .bf16⟩
  | .local _ .vmem, ⟨1, _⟩ => ⟨S512x1024, .bf16⟩
  | .local _ .vmem, ⟨2, _⟩ => ⟨S2816x1024, .bf16⟩
  | .local _ .vmem, ⟨3, _⟩ => ⟨S2816x1024, .bf16⟩
  | .local _ .vmem, ⟨4, _⟩ => ⟨S2816x1024, .bf16⟩
  | .local _ .vmem, ⟨5, _⟩ => ⟨S512x1024, .bf16⟩
  | .local _ .vmem, ⟨6, _⟩ => ⟨S512x1024, .bf16⟩
  | .local _ .vmem, ⟨7, _⟩ => ⟨S512x2816, .bf16⟩
  | .local _ .vmem, ⟨8, _⟩ => ⟨S512x2816, .bf16⟩
  | .local _ .vmem, ⟨9, _⟩ => ⟨S512x2816, .bf16⟩
  | .local _ .vmem, ⟨10, _⟩ => ⟨S512x2816, .bf16⟩
  | .local _ .vmem, ⟨11, _⟩ => ⟨S512x2816, .bf16⟩
  | .local _ .vmem, ⟨12, _⟩ => ⟨S512x2816, .bf16⟩
  | .local _ .vmem, ⟨13, _⟩ => ⟨S512x1024, .bf16⟩
  | .local _ .vmem, ⟨14, _⟩ => ⟨S512x1024, .bf16⟩
  | .local _ .vmem, ⟨15, _⟩ => ⟨S512x2816, .bf16⟩
  | .local _ .vmem, ⟨16, _⟩ => ⟨S512x2816, .bf16⟩
  | .local _ .vmem, ⟨17, _⟩ => ⟨S512x2816, .bf16⟩
  | .local _ .vmem, ⟨18, _⟩ => ⟨S512x2816, .bf16⟩
  | .local _ .vmem, ⟨19, _⟩ => ⟨S2816x1024, .bf16⟩
  | .local _ .vmem, ⟨20, _⟩ => ⟨S2816x1024, .bf16⟩
  | .local _ .vmem, ⟨21, _⟩ => ⟨S2816x1024, .bf16⟩
  | .local _ .vmem, ⟨22, _⟩ => ⟨S512x1024, .bf16⟩
  | .local _ .vmem, ⟨23, _⟩ => ⟨S512x1024, .bf16⟩
  | .local _ .vmem, ⟨24, _⟩ => ⟨S512x2816, .bf16⟩
  | .local _ .vmem, ⟨25, _⟩ => ⟨S512x2816, .bf16⟩
  | .local _ .vmem, ⟨26, _⟩ => ⟨S512x2816, .bf16⟩
  | .local _ .vmem, ⟨27, _⟩ => ⟨S512x2816, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem8_1 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc1_transform_1 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc1_transform_2 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc1_transform_7 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc1_transform_8 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x2816 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x2816 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S2816x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S2816x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S2816x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S512x1024 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S512x2816 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S512x2816 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]
-- ==== Reference2Ideal.lean ====
abbrev S16384x1024 : Shape := ⟨2, ![16384, 1024]⟩
abbrev S1024x2816 : Shape := ⟨2, ![1024, 2816]⟩
abbrev S2816x1024 : Shape := ⟨2, ![2816, 1024]⟩
abbrev S16384x2816 : Shape := ⟨2, ![16384, 2816]⟩
abbrev S_ : Shape := ⟨0, ![]⟩

abbrev nBuf : Space → Nat
  | .hbm => 63
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S16384x1024, .f32⟩
  | .hbm, ⟨6, _⟩ => ⟨S16384x1024, .f32⟩
  | .hbm, ⟨7, _⟩ => ⟨S16384x2816, .f32⟩
  | .hbm, ⟨8, _⟩ => ⟨S16384x2816, .f32⟩
  | .hbm, ⟨9, _⟩ => ⟨S16384x2816, .f32⟩
  | .hbm, ⟨10, _⟩ => ⟨S_, .f32⟩
  | .hbm, ⟨11, _⟩ => ⟨S16384x2816, .f32⟩
  | .hbm, ⟨12, _⟩ => ⟨S16384x2816, .f32⟩
  | .hbm, ⟨13, _⟩ => ⟨S_, .f32⟩
  | .hbm, ⟨14, _⟩ => ⟨S16384x2816, .f32⟩
  | .hbm, ⟨15, _⟩ => ⟨S16384x2816, .f32⟩
  | .hbm, ⟨16, _⟩ => ⟨S_, .f32⟩
  | .hbm, ⟨17, _⟩ => ⟨S16384x2816, .f32⟩
  | .hbm, ⟨18, _⟩ => ⟨S16384x2816, .f32⟩
  | .hbm, ⟨19, _⟩ => ⟨S16384x2816, .f32⟩
  | .hbm, ⟨20, _⟩ => ⟨S16384x2816, .f32⟩
  | .hbm, ⟨21, _⟩ => ⟨S16384x2816, .f32⟩
  | .hbm, ⟨22, _⟩ => ⟨S16384x2816, .f32⟩
  | .hbm, ⟨23, _⟩ => ⟨S16384x1024, .f32⟩
  | .hbm, ⟨24, _⟩ => ⟨S16384x2816, .f32⟩
  | .hbm, ⟨25, _⟩ => ⟨S16384x2816, .f32⟩
  | .hbm, ⟨26, _⟩ => ⟨S16384x2816, .f32⟩
  | .hbm, ⟨27, _⟩ => ⟨S16384x2816, .f32⟩
  | .hbm, ⟨28, _⟩ => ⟨S_, .f32⟩
  | .hbm, ⟨29, _⟩ => ⟨S16384x2816, .f32⟩
  | .hbm, ⟨30, _⟩ => ⟨S16384x2816, .f32⟩
  | .hbm, ⟨31, _⟩ => ⟨S_, .f32⟩
  | .hbm, ⟨32, _⟩ => ⟨S16384x2816, .f32⟩
  | .hbm, ⟨33, _⟩ => ⟨S16384x2816, .f32⟩
  | .hbm, ⟨34, _⟩ => ⟨S_, .f32⟩
  | .hbm, ⟨35, _⟩ => ⟨S16384x2816, .f32⟩
  | .hbm, ⟨36, _⟩ => ⟨S16384x2816, .f32⟩
  | .hbm, ⟨37, _⟩ => ⟨S16384x2816, .f32⟩
  | .hbm, ⟨38, _⟩ => ⟨S16384x2816, .f32⟩
  | .hbm, ⟨39, _⟩ => ⟨S16384x2816, .f32⟩
  | .hbm, ⟨40, _⟩ => ⟨S1024x2816, .f32⟩
  | .hbm, ⟨41, _⟩ => ⟨S16384x2816, .f32⟩
  | .hbm, ⟨42, _⟩ => ⟨S16384x2816, .f32⟩
  | .hbm, ⟨43, _⟩ => ⟨S16384x2816, .f32⟩
  | .hbm, ⟨44, _⟩ => ⟨S16384x2816, .f32⟩
  | .hbm, ⟨45, _⟩ => ⟨S16384x2816, .f32⟩
  | .hbm, ⟨46, _⟩ => ⟨S16384x2816, .f32⟩
  | .hbm, ⟨47, _⟩ => ⟨S16384x2816, .f32⟩
  | .hbm, ⟨48, _⟩ => ⟨S16384x2816, .f32⟩
  | .hbm, ⟨49, _⟩ => ⟨S16384x2816, .f32⟩
  | .hbm, ⟨50, _⟩ => ⟨S16384x2816, .f32⟩
  | .hbm, ⟨51, _⟩ => ⟨S16384x1024, .f32⟩
  | .hbm, ⟨52, _⟩ => ⟨S16384x2816, .f32⟩
  | .hbm, ⟨53, _⟩ => ⟨S16384x2816, .f32⟩
  | .hbm, ⟨54, _⟩ => ⟨S16384x2816, .f32⟩
  | .hbm, ⟨55, _⟩ => ⟨S16384x2816, .f32⟩
  | .hbm, ⟨56, _⟩ => ⟨S16384x1024, .f32⟩
  | .hbm, ⟨57, _⟩ => ⟨S16384x1024, .f32⟩
  | .hbm, ⟨58, _⟩ => ⟨S16384x1024, .bf16⟩
  | .hbm, ⟨59, _⟩ => ⟨S16384x2816, .bf16⟩
  | .hbm, ⟨60, _⟩ => ⟨S16384x1024, .bf16⟩
  | .hbm, ⟨61, _⟩ => ⟨S16384x2816, .bf16⟩
  | .hbm, ⟨62, _⟩ => ⟨S16384x2816, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v3_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v3_1 : Ref sig .tc := ⟨.hbm, 19, rfl⟩
abbrev main_v3_0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_call1_v0 : Ref sig .tc := ⟨.hbm, 26, rfl⟩
abbrev main_call1_v1 : Ref sig .tc := ⟨.hbm, 27, rfl⟩
abbrev main_call1_cst : Ref sig .tc := ⟨.hbm, 28, rfl⟩
abbrev main_call1_v2 : Ref sig .tc := ⟨.hbm, 29, rfl⟩
abbrev main_call1_v3 : Ref sig .tc := ⟨.hbm, 30, rfl⟩
abbrev main_call1_cst_0 : Ref sig .tc := ⟨.hbm, 31, rfl⟩
abbrev main_call1_v4 : Ref sig .tc := ⟨.hbm, 32, rfl⟩
abbrev main_v9_2 : Ref sig .tc := ⟨.hbm, 33, rfl⟩
abbrev main_call1_cst_1 : Ref sig .tc := ⟨.hbm, 34, rfl⟩
abbrev main_call1_v6 : Ref sig .tc := ⟨.hbm, 35, rfl⟩
abbrev main_call1_v7 : Ref sig .tc := ⟨.hbm, 36, rfl⟩
abbrev main_v9_1 : Ref sig .tc := ⟨.hbm, 37, rfl⟩
abbrev main_v9_0 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_call2_v0 : Ref sig .tc := ⟨.hbm, 44, rfl⟩
abbrev main_call2_v1 : Ref sig .tc := ⟨.hbm, 45, rfl⟩
abbrev main_call2_v2 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_call3_v0 : Ref sig .tc := ⟨.hbm, 52, rfl⟩
abbrev main_call3_v1 : Ref sig .tc := ⟨.hbm, 53, rfl⟩
abbrev main_call3_v2 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩

abbrev nD : Nat := 1
abbrev τ : Topo := Topo.v7x

variable {F : FTy → Type} [FloatOps F]
-- ==== Kernel3.lean ====
abbrev S16384x2816 : Shape := ⟨2, ![16384, 2816]⟩
abbrev S16384x1024 : Shape := ⟨2, ![16384, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S16384x2816 : Shape := ⟨2, ![16384, 2816]⟩
abbrev S16384x1024 : Shape := ⟨2, ![16384, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .bf16⟩
  | .hbm, ⟨2, _⟩ => ⟨S_, .f32⟩
  | .hbm, ⟨3, _⟩ => ⟨S2816x1024, .f32⟩
  | .hbm, ⟨4, _⟩ => ⟨S16384x2816, .f32⟩
  | .hbm, ⟨5, _⟩ => ⟨S16384x1024, .f32⟩
  | .hbm, ⟨6, _⟩ => ⟨S16384x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S16384x1024 : Shape := ⟨2, ![16384, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference4Ideal.lean ====
abbrev S16384x1024 : Shape := ⟨2, ![16384, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S_, .f32⟩
  | .hbm, ⟨3, _⟩ => ⟨S1024x1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S16384x1024 : Shape := ⟨2, ![16384, 1024]⟩
abbrev S65536x256 : Shape := ⟨2, ![65536, 256]⟩
abbrev S1x1024 : Shape := ⟨2, ![1, 1024]⟩
abbrev S1024x1024 : Shape := ⟨2, ![1024, 1024]⟩
abbrev S256x1024 : Shape := ⟨2, ![256, 1024]⟩
abbrev S1024x256 : Shape := ⟨2, ![1024, 256]⟩
abbrev S8x1024 : Shape := ⟨2, ![8, 1024]⟩
abbrev S512x1024 : Shape := ⟨2, ![512, 1024]⟩
abbrev S512x256 : Shape := ⟨2, ![512, 256]⟩
abbrev S256x256 : Shape := ⟨2, ![256, 256]⟩
abbrev S256 : Shape := ⟨1, ![256]⟩
abbrev S256x1 : Shape := ⟨2, ![256, 1]⟩
abbrev S1024 : Shape := ⟨1, ![1024]⟩

abbrev nBuf : Space → Nat
  | .hbm => 17
  | .vmem => 23
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .bf16⟩
  | .hbm, ⟨3, _⟩ => ⟨S65536x256, .f32⟩
  | .hbm, ⟨4, _⟩ => ⟨S1x1024, .f32⟩
  | .hbm, ⟨5, _⟩ => ⟨S1x1024, .f32⟩
  | .hbm, ⟨6, _⟩ => ⟨S1024x1024, .f32⟩
  | .hbm, ⟨7, _⟩ => ⟨S256x1024, .f32⟩
  | .hbm, ⟨8, _⟩ => ⟨S1024x1024, .bf16⟩
  | .hbm, ⟨9, _⟩ => ⟨S1024x256, .f32⟩
  | .hbm, ⟨10, _⟩ => ⟨S1024x256, .bf16⟩
  | .hbm, ⟨11, _⟩ => ⟨S16384x1024, .f32⟩
  | .hbm, ⟨12, _⟩ => ⟨S16384x1024, .bf16⟩
  | .hbm, ⟨13, _⟩ => ⟨S16384x1024, .bf16⟩
  | .hbm, ⟨14, _⟩ => ⟨S16384x1024, .bf16⟩
  | .hbm, ⟨15, _⟩ => ⟨S16384x1024, .bf16⟩
  | .hbm, ⟨16, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S512x256, .f32⟩
  | .local _ .vmem, ⟨7, _⟩ => ⟨S512x256, .f32⟩
  | .local _ .vmem, ⟨8, _⟩ => ⟨S1x1024, .f32⟩
  | .local _ .vmem, ⟨9, _⟩ => ⟨S1x1024, .f32⟩
  | .local _ .vmem, ⟨10, _⟩ => ⟨S1024x1024, .bf16⟩
  | .local _ .vmem, ⟨11, _⟩ => ⟨S1024x256, .bf16⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S8x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev main_v3_4 : Ref sig .tc := ⟨.hbm, 15, rfl⟩
abbrev main_v3_5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c32_i32 : BitVec 32 := 32#32
  let v0 : BitVec 32 := Scalar.addi arg0 c32_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_9 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_10 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_11 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_12 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference5Ideal.lean ====
abbrev S16384x1024 : Shape := ⟨2, ![16384, 1024]⟩
abbrev S65536x256 : Shape := ⟨2, ![65536, 256]⟩
abbrev S1x1024 : Shape := ⟨2, ![1, 1024]⟩
abbrev S1024x1024 : Shape := ⟨2, ![1024, 1024]⟩
abbrev S256x1024 : Shape := ⟨2, ![256, 1024]⟩
abbrev S16384x256 : Shape := ⟨2, ![16384, 256]⟩
abbrev S1024 : Shape := ⟨1, ![1024]⟩
abbrev S_ : Shape := ⟨0, ![]⟩
abbrev S16384 : Shape := ⟨1, ![16384]⟩
abbrev S16384x1 : Shape := ⟨2, ![16384, 1]⟩
abbrev S6x1024 : Shape := ⟨2, ![6, 1024]⟩
abbrev S8x1024 : Shape := ⟨2, ![8, 1024]⟩

abbrev nBuf : Space → Nat
  | .hbm => 187
  | .vmem => 0
  | .smem => 0
  | _ => 0

abbrev hbmTy0_0 (i : Nat) : BufTy := match i % 128 with
  | 0 => ⟨S16384x1024, .f32⟩
  | 1 => ⟨S16384x1024, .f32⟩
  | 2 => ⟨S16384x1024, .bf16⟩
  | 3 => ⟨S65536x256, .f32⟩
  | 4 => ⟨S1x1024, .f32⟩
  | 5 => ⟨S1x1024, .f32⟩
  | 6 => ⟨S1024x1024, .f32⟩
  | 7 => ⟨S256x1024, .f32⟩
  | 8 => ⟨S16384x1024, .f32⟩
  | 9 => ⟨S16384x256, .f32⟩
  | 10 => ⟨S1024, .f32⟩
  | 11 => ⟨S1024, .f32⟩
  | 12 => ⟨S16384x1024, .f32⟩
  | 13 => ⟨S_, .f32⟩
  | 14 => ⟨S16384, .f32⟩
  | 15 => ⟨S16384x1, .f32⟩
  | 16 => ⟨S_, .f32⟩
  | 17 => ⟨S16384x1, .f32⟩
  | 18 => ⟨S16384x1, .f32⟩
  | 19 => ⟨S_, .f32⟩
  | 20 => ⟨S16384x1, .f32⟩
  | 21 => ⟨S16384x1, .f32⟩
  | 22 => ⟨S16384x1, .f32⟩
  | 23 => ⟨S16384x1, .f32⟩
  | 24 => ⟨S_, .f32⟩
  | 25 => ⟨S16384x1, .f32⟩
  | 26 => ⟨S16384x1, .f32⟩
  | 27 => ⟨S16384x1024, .f32⟩
  | 28 => ⟨S16384x1024, .f32⟩
  | 29 => ⟨S1x1024, .f32⟩
  | 30 => ⟨S16384x1024, .f32⟩
  | 31 => ⟨S16384x1024, .f32⟩
  | 32 => ⟨S16384x1024, .f32⟩
  | 33 => ⟨S16384x1024, .f32⟩
  | 34 => ⟨S_, .f32⟩
  | 35 => ⟨S16384, .f32⟩
  | 36 => ⟨S16384x1, .f32⟩
  | 37 => ⟨S_, .f32⟩
  | 38 => ⟨S16384x1, .f32⟩
  | 39 => ⟨S16384x1, .f32⟩
  | 40 => ⟨S_, .f32⟩
  | 41 => ⟨S16384x1, .f32⟩
  | 42 => ⟨S16384x1, .f32⟩
  | 43 => ⟨S16384x1, .f32⟩
  | 44 => ⟨S16384x1, .f32⟩
  | 45 => ⟨S_, .f32⟩
  | 46 => ⟨S16384x1, .f32⟩
  | 47 => ⟨S16384x1, .f32⟩
  | 48 => ⟨S16384x1024, .f32⟩
  | 49 => ⟨S16384x1024, .f32⟩
  | 50 => ⟨S1x1024, .f32⟩
  | 51 => ⟨S16384x1024, .f32⟩
  | 52 => ⟨S16384x1024, .f32⟩
  | 53 => ⟨S16384x1024, .f32⟩
  | 54 => ⟨S16384x1024, .f32⟩
  | 55 => ⟨S16384x1024, .f32⟩
  | 56 => ⟨S_, .f32⟩
  | 57 => ⟨S16384x1024, .f32⟩
  | 58 => ⟨S16384x1024, .f32⟩
  | 59 => ⟨S_, .f32⟩
  | 60 => ⟨S16384x1024, .f32⟩
  | 61 => ⟨S16384x1024, .f32⟩
  | 62 => ⟨S_, .f32⟩
  | 63 => ⟨S16384x1024, .f32⟩
  | 64 => ⟨S16384x1024, .f32⟩
  | 65 => ⟨S16384x1024, .f32⟩
  | 66 => ⟨S16384x1024, .f32⟩
  | 67 => ⟨S16384x1024, .f32⟩
  | 68 => ⟨S16384x1024, .f32⟩
  | 69 => ⟨S16384x1024, .f32⟩
  | 70 => ⟨S16384x1024, .f32⟩
  | 71 => ⟨S16384x1024, .f32⟩
  | 72 => ⟨S16384x1024, .f32⟩
  | 73 => ⟨S16384x1024, .f32⟩
  | 74 => ⟨S16384x1024, .f32⟩
  | 75 => ⟨S_, .f32⟩
  | 76 => ⟨S1024, .f32⟩
  | 77 => ⟨S1x1024, .f32⟩
  | 78 => ⟨S16384x1024, .f32⟩
  | 79 => ⟨S16384x1024, .f32⟩
  | 80 => ⟨S_, .f32⟩
  | 81 => ⟨S1024, .f32⟩
  | 82 => ⟨S16384x1024, .f32⟩
  | 83 => ⟨S_, .f32⟩
  | 84 => ⟨S16384, .f32⟩
  | 85 => ⟨S16384x1, .f32⟩
  | 86 => ⟨S16384x1024, .f32⟩
  | 87 => ⟨S16384x1024, .f32⟩
  | 88 => ⟨S16384x1024, .f32⟩
  | 89 => ⟨S16384x1, .f32⟩
  | 90 => ⟨S_, .f32⟩
  | 91 => ⟨S16384x1, .f32⟩
  | 92 => ⟨S16384x1, .f32⟩
  | 93 => ⟨S_, .f32⟩
  | 94 => ⟨S16384, .f32⟩
  | 95 => ⟨S16384x1024, .f32⟩
  | 96 => ⟨S16384x1024, .f32⟩
  | 97 => ⟨S16384x1024, .f32⟩
  | 98 => ⟨S16384x1024, .f32⟩
  | 99 => ⟨S16384x1024, .f32⟩
  | 100 => ⟨S16384x1024, .f32⟩
  | 101 => ⟨S_, .f32⟩
  | 102 => ⟨S1024, .f32⟩
  | 103 => ⟨S1x1024, .f32⟩
  | 104 => ⟨S16384x1024, .f32⟩
  | 105 => ⟨S16384x1024, .f32⟩
  | 106 => ⟨S_, .f32⟩
  | 107 => ⟨S1024, .f32⟩
  | 108 => ⟨S16384x1024, .f32⟩
  | 109 => ⟨S_, .f32⟩
  | 110 => ⟨S16384, .f32⟩
  | 111 => ⟨S16384x1, .f32⟩
  | 112 => ⟨S16384x1024, .f32⟩
  | 113 => ⟨S16384x1024, .f32⟩
  | 114 => ⟨S16384x1, .f32⟩
  | 115 => ⟨S_, .f32⟩
  | 116 => ⟨S16384x1, .f32⟩
  | 117 => ⟨S16384x1, .f32⟩
  | 118 => ⟨S_, .f32⟩
  | 119 => ⟨S16384, .f32⟩
  | 120 => ⟨S16384x1024, .f32⟩
  | 121 => ⟨S16384x1024, .f32⟩
  | 122 => ⟨S16384x1024, .f32⟩
  | 123 => ⟨S16384x1024, .f32⟩
  | 124 => ⟨S16384x1024, .f32⟩
  | 125 => ⟨S1024, .f32⟩
  | 126 => ⟨S16384x1024, .f32⟩
  | 127 => ⟨S_, .f32⟩
  | _ => ⟨S16384x1024, .f32⟩

abbrev hbmTy0_1 (i : Nat) : BufTy := match i % 128 with
  | 0 => ⟨S16384, .f32⟩
  | 1 => ⟨S16384x1, .f32⟩
  | 2 => ⟨S_, .f32⟩
  | 3 => ⟨S16384x1, .f32⟩
  | 4 => ⟨S16384x1, .f32⟩
  | 5 => ⟨S_, .f32⟩
  | 6 => ⟨S16384x1, .f32⟩
  | 7 => ⟨S16384x1, .f32⟩
  | 8 => ⟨S16384x1, .f32⟩
  | 9 => ⟨S16384x1024, .f32⟩
  | 10 => ⟨S16384x1024, .f32⟩
  | 11 => ⟨S1x1024, .f32⟩
  | 12 => ⟨S16384x1024, .f32⟩
  | 13 => ⟨S16384x1024, .f32⟩
  | 14 => ⟨S16384x1024, .f32⟩
  | 15 => ⟨S1024, .f32⟩
  | 16 => ⟨S16384x1024, .f32⟩
  | 17 => ⟨S_, .f32⟩
  | 18 => ⟨S16384, .f32⟩
  | 19 => ⟨S16384x1, .f32⟩
  | 20 => ⟨S_, .f32⟩
  | 21 => ⟨S16384x1, .f32⟩
  | 22 => ⟨S16384x1, .f32⟩
  | 23 => ⟨S_, .f32⟩
  | 24 => ⟨S16384x1, .f32⟩
  | 25 => ⟨S16384x1, .f32⟩
  | 26 => ⟨S16384x1, .f32⟩
  | 27 => ⟨S16384x1024, .f32⟩
  | 28 => ⟨S16384x1024, .f32⟩
  | 29 => ⟨S1x1024, .f32⟩
  | 30 => ⟨S16384x1024, .f32⟩
  | 31 => ⟨S16384x1024, .f32⟩
  | 32 => ⟨S16384x1024, .f32⟩
  | 33 => ⟨S16384x1024, .f32⟩
  | 34 => ⟨S16384x1024, .f32⟩
  | 35 => ⟨S16384x1024, .f32⟩
  | 36 => ⟨S_, .f32⟩
  | 37 => ⟨S16384x1024, .f32⟩
  | 38 => ⟨S16384x1024, .f32⟩
  | 39 => ⟨S_, .f32⟩
  | 40 => ⟨S16384x1024, .f32⟩
  | 41 => ⟨S16384x1024, .f32⟩
  | 42 => ⟨S_, .f32⟩
  | 43 => ⟨S16384x1024, .f32⟩
  | 44 => ⟨S16384x1024, .f32⟩
  | 45 => ⟨S16384x1024, .f32⟩
  | 46 => ⟨S16384x1024, .f32⟩
  | 47 => ⟨S16384x1024, .f32⟩
  | 48 => ⟨S16384x1024, .f32⟩
  | 49 => ⟨S16384x1024, .f32⟩
  | 50 => ⟨S_, .f32⟩
  | 51 => ⟨S6x1024, .f32⟩
  | 52 => ⟨S16384x1024, .bf16⟩
  | 53 => ⟨S16384x1024, .bf16⟩
  | 54 => ⟨S16384x1024, .bf16⟩
  | 55 => ⟨S16384x1024, .bf16⟩
  | 56 => ⟨S1x1024, .f32⟩
  | 57 => ⟨S1x1024, .f32⟩
  | 58 => ⟨S8x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_cst_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_6 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_7 : Ref sig .tc := ⟨.hbm, 56, rfl⟩
abbrev main_v40 : Ref sig .tc := ⟨.hbm, 57, rfl⟩
abbrev main_v41 : Ref sig .tc := ⟨.hbm, 58, rfl⟩
abbrev main_cst_8 : Ref sig .tc := ⟨.hbm, 59, rfl⟩
abbrev main_v42 : Ref sig .tc := ⟨.hbm, 60, rfl⟩
abbrev main_v43 : Ref sig .tc := ⟨.hbm, 61, rfl⟩
abbrev main_cst_9 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_10 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_11 : Ref sig .tc := ⟨.hbm, 80, rfl⟩
abbrev main_v60 : Ref sig .tc := ⟨.hbm, 81, rfl⟩
abbrev main_v61 : Ref sig .tc := ⟨.hbm, 82, rfl⟩
abbrev main_cst_12 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_cst_13 : Ref sig .tc := ⟨.hbm, 90, rfl⟩
abbrev main_v68 : Ref sig .tc := ⟨.hbm, 91, rfl⟩
abbrev main_v69 : Ref sig .tc := ⟨.hbm, 92, rfl⟩
abbrev main_cst_14 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_cst_15 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_cst_16 : Ref sig .tc := ⟨.hbm, 106, rfl⟩
abbrev main_v81 : Ref sig .tc := ⟨.hbm, 107, rfl⟩
abbrev main_v82 : Ref sig .tc := ⟨.hbm, 108, rfl⟩
abbrev main_cst_17 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_cst_18 : Ref sig .tc := ⟨.hbm, 115, rfl⟩
abbrev main_v88 : Ref sig .tc := ⟨.hbm, 116, rfl⟩
abbrev main_v89 : Ref sig .tc := ⟨.hbm, 117, rfl⟩
abbrev main_cst_19 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_cst_20 : Ref sig .tc := ⟨.hbm, 127, rfl⟩
abbrev main_v98 : Ref sig .tc := ⟨.hbm, 128, rfl⟩
abbrev main_v99 : Ref sig .tc := ⟨.hbm, 129, rfl⟩
abbrev main_cst_21 : Ref sig .tc := ⟨.hbm, 130, rfl⟩
abbrev main_v100 : Ref sig .tc := ⟨.hbm, 131, rfl⟩
abbrev main_v101 : Ref sig .tc := ⟨.hbm, 132, rfl⟩
abbrev main_cst_22 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_cst_23 : Ref sig .tc := ⟨.hbm, 145, rfl⟩
abbrev main_v113 : Ref sig .tc := ⟨.hbm, 146, rfl⟩
abbrev main_v114 : Ref sig .tc := ⟨.hbm, 147, rfl⟩
abbrev main_cst_24 : Ref sig .tc := ⟨.hbm, 148, rfl⟩
abbrev main_v115 : Ref sig .tc := ⟨.hbm, 149, rfl⟩
abbrev main_v116 : Ref sig .tc := ⟨.hbm, 150, rfl⟩
abbrev main_cst_25 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_cst_26 : Ref sig .tc := ⟨.hbm, 164, rfl⟩
abbrev main_v129 : Ref sig .tc := ⟨.hbm, 165, rfl⟩
abbrev main_v130 : Ref sig .tc := ⟨.hbm, 166, rfl⟩
abbrev main_cst_27 : Ref sig .tc := ⟨.hbm, 167, rfl⟩
abbrev main_v131 : Ref sig .tc := ⟨.hbm, 168, rfl⟩
abbrev main_v132 : Ref sig .tc := ⟨.hbm, 169, rfl⟩
abbrev main_cst_28 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_cst_29 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩

abbrev nD : Nat := 1
abbrev τ : Topo := Topo.v7x

variable {F : FTy → Type} [FloatOps F]
-- ==== Kernel6.lean ====
abbrev S16384x1024 : Shape := ⟨2, ![16384, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S8x1024 : Shape := ⟨2, ![8, 1024]⟩
abbrev S512x1024 : Shape := ⟨2, ![512, 1024]⟩
abbrev S512 : Shape := ⟨1, ![512]⟩
abbrev S512x1 : Shape := ⟨2, ![512, 1]⟩

abbrev nBuf : Space → Nat
  | .hbm => 33
  | .vmem => 18
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16384x1024, .f32⟩
  | .hbm, ⟨3, _⟩ => ⟨S16384x1024, .bf16⟩
  | .hbm, ⟨4, _⟩ => ⟨S1024x1024, .f32⟩
  | .hbm, ⟨5, _⟩ => ⟨S1x1024, .f32⟩
  | .hbm, ⟨6, _⟩ => ⟨S1x1024, .f32⟩
  | .hbm, ⟨7, _⟩ => ⟨S16384x1024, .f32⟩
  | .hbm, ⟨8, _⟩ => ⟨S16384x1024, .f32⟩
  | .hbm, ⟨9, _⟩ => ⟨S1024, .f32⟩
  | .hbm, ⟨10, _⟩ => ⟨S16384x1024, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1, .f32⟩
  | .hbm, ⟨21, _⟩ => ⟨S16384x1024, .f32⟩
  | .hbm, ⟨22, _⟩ => ⟨S16384x1024, .f32⟩
  | .hbm, ⟨23, _⟩ => ⟨S1x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .bf16⟩
  | .hbm, ⟨28, _⟩ => ⟨S1024x1024, .bf16⟩
  | .hbm, ⟨29, _⟩ => ⟨S16384x1024, .f32⟩
  | .hbm, ⟨30, _⟩ => ⟨S16384x1024, .bf16⟩
  | .hbm, ⟨31, _⟩ => ⟨S16384x1024, .bf16⟩
  | .hbm, ⟨32, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S8x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19_0 : Ref sig .tc := ⟨.hbm, 29, rfl⟩
abbrev main_v19_1 : Ref sig .tc := ⟨.hbm, 30, rfl⟩
abbrev main_v19_2 : Ref sig .tc := ⟨.hbm, 31, rfl⟩
abbrev main_v19_3 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_8 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_9 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference6Ideal.lean ====
abbrev S16384x1024 : Shape := ⟨2, ![16384, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S6x1024 : Shape := ⟨2, ![6, 1024]⟩
abbrev S8x1024 : Shape := ⟨2, ![8, 1024]⟩

abbrev nBuf : Space → Nat
  | .hbm => 113
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16384x1024, .f32⟩
  | .hbm, ⟨3, _⟩ => ⟨S16384x1024, .bf16⟩
  | .hbm, ⟨4, _⟩ => ⟨S1024x1024, .f32⟩
  | .hbm, ⟨5, _⟩ => ⟨S1x1024, .f32⟩
  | .hbm, ⟨6, _⟩ => ⟨S1x1024, .f32⟩
  | .hbm, ⟨7, _⟩ => ⟨S16384x1024, .f32⟩
  | .hbm, ⟨8, _⟩ => ⟨S16384x1024, .f32⟩
  | .hbm, ⟨9, _⟩ => ⟨S1024, .f32⟩
  | .hbm, ⟨10, _⟩ => ⟨S1024, .f32⟩
  | .hbm, ⟨11, _⟩ => ⟨S16384x1024, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1, .f32⟩
  | .hbm, ⟨22, _⟩ => ⟨S16384x1, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S16384x1024, .f32⟩
  | .hbm, ⟨27, _⟩ => ⟨S16384x1024, .f32⟩
  | .hbm, ⟨28, _⟩ => ⟨S1x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S16384, .f32⟩
  | .hbm, ⟨35, _⟩ => ⟨S16384x1, .f32⟩
  | .hbm, ⟨36, _⟩ => ⟨S_, .f32⟩
  | .hbm, ⟨37, _⟩ => ⟨S16384x1, .f32⟩
  | .hbm, ⟨38, _⟩ => ⟨S16384x1, .f32⟩
  | .hbm, ⟨39, _⟩ => ⟨S_, .f32⟩
  | .hbm, ⟨40, _⟩ => ⟨S16384x1, .f32⟩
  | .hbm, ⟨41, _⟩ => ⟨S16384x1, .f32⟩
  | .hbm, ⟨42, _⟩ => ⟨S16384x1, .f32⟩
  | .hbm, ⟨43, _⟩ => ⟨S16384x1, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S16384x1024, .f32⟩
  | .hbm, ⟨48, _⟩ => ⟨S16384x1024, .f32⟩
  | .hbm, ⟨49, _⟩ => ⟨S1x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S16384x1024, .f32⟩
  | .hbm, ⟨58, _⟩ => ⟨S16384x1024, .f32⟩
  | .hbm, ⟨59, _⟩ => ⟨S_, .f32⟩
  | .hbm, ⟨60, _⟩ => ⟨S1024, .f32⟩
  | .hbm, ⟨61, _⟩ => ⟨S16384x1024, .f32⟩
  | .hbm, ⟨62, _⟩ => ⟨S_, .f32⟩
  | .hbm, ⟨63, _⟩ => ⟨S16384, .f32⟩
  | .hbm, ⟨64, _⟩ => ⟨S16384x1, .f32⟩
  | .hbm, ⟨65, _⟩ => ⟨S16384x1024, .f32⟩
  | .hbm, ⟨66, _⟩ => ⟨S16384x1024, .f32⟩
  | .hbm, ⟨67, _⟩ => ⟨S16384x1024, .f32⟩
  | .hbm, ⟨68, _⟩ => ⟨S16384x1, .f32⟩
  | .hbm, ⟨69, _⟩ => ⟨S_, .f32⟩
  | .hbm, ⟨70, _⟩ => ⟨S16384x1, .f32⟩
  | .hbm, ⟨71, _⟩ => ⟨S16384x1, .f32⟩
  | .hbm, ⟨72, _⟩ => ⟨S_, .f32⟩
  | .hbm, ⟨73, _⟩ => ⟨S16384, .f32⟩
  | .hbm, ⟨74, _⟩ => ⟨S16384x1024, .f32⟩
  | .hbm, ⟨75, _⟩ => ⟨S16384x1024, .f32⟩
  | .hbm, ⟨76, _⟩ => ⟨S16384x1024, .f32⟩
  | .hbm, ⟨77, _⟩ => ⟨S16384x1024, .f32⟩
  | .hbm, ⟨78, _⟩ => ⟨S16384x1024, .f32⟩
  | .hbm, ⟨79, _⟩ => ⟨S16384x1024, .f32⟩
  | .hbm, ⟨80, _⟩ => ⟨S16384x1024, .f32⟩
  | .hbm, ⟨81, _⟩ => ⟨S_, .f32⟩
  | .hbm, ⟨82, _⟩ => ⟨S1024, .f32⟩
  | .hbm, ⟨83, _⟩ => ⟨S1x1024, .f32⟩
  | .hbm, ⟨84, _⟩ => ⟨S16384x1024, .f32⟩
  | .hbm, ⟨85, _⟩ => ⟨S16384x1024, .f32⟩
  | .hbm, ⟨86, _⟩ => ⟨S_, .f32⟩
  | .hbm, ⟨87, _⟩ => ⟨S1024, .f32⟩
  | .hbm, ⟨88, _⟩ => ⟨S16384x1024, .f32⟩
  | .hbm, ⟨89, _⟩ => ⟨S_, .f32⟩
  | .hbm, ⟨90, _⟩ => ⟨S16384, .f32⟩
  | .hbm, ⟨91, _⟩ => ⟨S16384x1, .f32⟩
  | .hbm, ⟨92, _⟩ => ⟨S16384x1024, .f32⟩
  | .hbm, ⟨93, _⟩ => ⟨S16384x1024, .f32⟩
  | .hbm, ⟨94, _⟩ => ⟨S16384x1, .f32⟩
  | .hbm, ⟨95, _⟩ => ⟨S_, .f32⟩
  | .hbm, ⟨96, _⟩ => ⟨S16384x1, .f32⟩
  | .hbm, ⟨97, _⟩ => ⟨S16384x1, .f32⟩
  | .hbm, ⟨98, _⟩ => ⟨S_, .f32⟩
  | .hbm, ⟨99, _⟩ => ⟨S16384, .f32⟩
  | .hbm, ⟨100, _⟩ => ⟨S16384x1024, .f32⟩
  | .hbm, ⟨101, _⟩ => ⟨S16384x1024, .f32⟩
  | .hbm, ⟨102, _⟩ => ⟨S16384x1024, .f32⟩
  | .hbm, ⟨103, _⟩ => ⟨S16384x1024, .f32⟩
  | .hbm, ⟨104, _⟩ => ⟨S16384x1024, .f32⟩
  | .hbm, ⟨105, _⟩ => ⟨S16384x1024, .f32⟩
  | .hbm, ⟨106, _⟩ => ⟨S_, .f32⟩
  | .hbm, ⟨107, _⟩ => ⟨S6x1024, .f32⟩
  | .hbm, ⟨108, _⟩ => ⟨S16384x1024, .bf16⟩
  | .hbm, ⟨109, _⟩ => ⟨S16384x1024, .bf16⟩
  | .hbm, ⟨110, _⟩ => ⟨S1x1024, .f32⟩
  | .hbm, ⟨111, _⟩ => ⟨S1x1024, .f32⟩
  | .hbm, ⟨112, _⟩ => ⟨S8x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_8 : Ref sig .tc := ⟨.hbm, 59, rfl⟩
abbrev main_v43 : Ref sig .tc := ⟨.hbm, 60, rfl⟩
abbrev main_v44 : Ref sig .tc := ⟨.hbm, 61, rfl⟩
abbrev main_cst_9 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_10 : Ref sig .tc := ⟨.hbm, 69, rfl⟩
abbrev main_v51 : Ref sig .tc := ⟨.hbm, 70, rfl⟩
abbrev main_v52 : Ref sig .tc := ⟨.hbm, 71, rfl⟩
abbrev main_cst_11 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_12 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_13 : Ref sig .tc := ⟨.hbm, 86, rfl⟩
abbrev main_v65 : Ref sig .tc := ⟨.hbm, 87, rfl⟩
abbrev main_v66 : Ref sig .tc := ⟨.hbm, 88, rfl⟩
abbrev main_cst_14 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_cst_15 : Ref sig .tc := ⟨.hbm, 95, rfl⟩
abbrev main_v72 : Ref sig .tc := ⟨.hbm, 96, rfl⟩
abbrev main_v73 : Ref sig .tc := ⟨.hbm, 97, rfl⟩
abbrev main_cst_16 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_cst_17 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩

abbrev nD : Nat := 1
abbrev τ : Topo := Topo.v7x

variable {F : FTy → Type} [FloatOps F]
-- ==== Kernel7.lean ====
abbrev S16384x1024 : Shape := ⟨2, ![16384, 1024]⟩
abbrev S65536x256 : Shape := ⟨2, ![65536, 256]⟩
abbrev S1024x256 : Shape := ⟨2, ![1024, 256]⟩
abbrev S2048x1024 : Shape := ⟨2, ![2048, 1024]⟩
abbrev S2048x256 : Shape := ⟨2, ![2048, 256]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S65536x256, .f32⟩
  | .hbm, ⟨2, _⟩ => ⟨S1024x256, .bf16⟩
  | .local _ .vmem, ⟨0, _⟩ => ⟨S2048x1024, .bf16⟩
  | .local _ .vmem, ⟨1, _⟩ => ⟨S2048x1024, .bf16⟩
  | .local _ .vmem, ⟨2, _⟩ => ⟨S2048x256, .f32⟩
  | .local _ .vmem, ⟨3, _⟩ => ⟨S2048x256, .f32⟩
  | .local _ .vmem, ⟨4, _⟩ => ⟨S1024x256, .bf16⟩
  | .local _ .vmem, ⟨5, _⟩ => ⟨S1024x256, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v12 : BitVec 1 := Scalar.cmpi .eq arg1 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference7Ideal.lean ====
abbrev S16384x1024 : Shape := ⟨2, ![16384, 1024]⟩
abbrev S65536x256 : Shape := ⟨2, ![65536, 256]⟩
abbrev S_ : Shape := ⟨0, ![]⟩
abbrev S256x1024 : Shape := ⟨2, ![256, 1024]⟩
abbrev S16384x256 : Shape := ⟨2, ![16384, 256]⟩
abbrev S1024x256 : Shape := ⟨2, ![1024, 256]⟩

abbrev nBuf : Space → Nat
  | .hbm => 11
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S65536x256, .f32⟩
  | .hbm, ⟨2, _⟩ => ⟨S_, .f32⟩
  | .hbm, ⟨3, _⟩ => ⟨S256x1024, .f32⟩
  | .hbm, ⟨4, _⟩ => ⟨S16384x256, .f32⟩
  | .hbm, ⟨5, _⟩ => ⟨S16384x1024, .f32⟩
  | .hbm, ⟨6, _⟩ => ⟨S16384x1024, .f32⟩
  | .hbm, ⟨7, _⟩ => ⟨S1024x256, .f32⟩
  | .hbm, ⟨8, _⟩ => ⟨S256x1024, .f32⟩
  | .hbm, ⟨9, _⟩ => ⟨S1024x256, .f32⟩
  | .hbm, ⟨10, _⟩ => ⟨S1024x256, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel8.lean ====
abbrev S16384x1024 : Shape := ⟨2, ![16384, 1024]⟩
abbrev S16384x512 : Shape := ⟨2, ![16384, 512]⟩
abbrev S1024x512 : Shape := ⟨2, ![1024, 512]⟩
abbrev S2048x1024 : Shape := ⟨2, ![2048, 1024]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x512, .bf16⟩
  | .hbm, ⟨2, _⟩ => ⟨S1024x512, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference8Ideal.lean ====
abbrev S16384x1024 : Shape := ⟨2, ![16384, 1024]⟩
abbrev S16384x512 : Shape := ⟨2, ![16384, 512]⟩
abbrev S_ : Shape := ⟨0, ![]⟩
abbrev S1024x512 : Shape := ⟨2, ![1024, 512]⟩
abbrev S512x1024 : Shape := ⟨2, ![512, 1024]⟩

abbrev nBuf : Space → Nat
  | .hbm => 10
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x512, .bf16⟩
  | .hbm, ⟨2, _⟩ => ⟨S_, .f32⟩
  | .hbm, ⟨3, _⟩ => ⟨S1024x512, .f32⟩
  | .hbm, ⟨4, _⟩ => ⟨S16384x1024, .f32⟩
  | .hbm, ⟨5, _⟩ => ⟨S16384x512, .f32⟩
  | .hbm, ⟨6, _⟩ => ⟨S16384x512, .f32⟩
  | .hbm, ⟨7, _⟩ => ⟨S512x1024, .f32⟩
  | .hbm, ⟨8, _⟩ => ⟨S1024x512, .f32⟩
  | .hbm, ⟨9, _⟩ => ⟨S1024x512, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel9.lean ====
abbrev S16384x1024 : Shape := ⟨2, ![16384, 1024]⟩
abbrev S65536x256 : Shape := ⟨2, ![65536, 256]⟩
abbrev S1x1024 : Shape := ⟨2, ![1, 1024]⟩
abbrev S1024x1024 : Shape := ⟨2, ![1024, 1024]⟩
abbrev S256x1024 : Shape := ⟨2, ![256, 1024]⟩
abbrev S1024x256 : Shape := ⟨2, ![1024, 256]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩

abbrev nBuf : Space → Nat
  | .hbm => 11
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S65536x256, .f32⟩
  | .hbm, ⟨3, _⟩ => ⟨S1x1024, .f32⟩
  | .hbm, ⟨4, _⟩ => ⟨S1x1024, .f32⟩
  | .hbm, ⟨5, _⟩ => ⟨S1024x1024, .f32⟩
  | .hbm, ⟨6, _⟩ => ⟨S256x1024, .f32⟩
  | .hbm, ⟨7, _⟩ => ⟨S1024x1024, .bf16⟩
  | .hbm, ⟨8, _⟩ => ⟨S1024x256, .f32⟩
  | .hbm, ⟨9, _⟩ => ⟨S1024x256, .bf16⟩
  | .hbm, ⟨10, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x256, .f32⟩
  | .local _ .vmem, ⟨5, _⟩ => ⟨S512x256, .f32⟩
  | .local _ .vmem, ⟨6, _⟩ => ⟨S1x1024, .f32⟩
  | .local _ .vmem, ⟨7, _⟩ => ⟨S1x1024, .f32⟩
  | .local _ .vmem, ⟨8, _⟩ => ⟨S1024x1024, .bf16⟩
  | .local _ .vmem, ⟨9, _⟩ => ⟨S1024x256, .bf16⟩
  | .local _ .vmem, ⟨10, _⟩ => ⟨S512x1024, .f32⟩
  | .local _ .vmem, ⟨11, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference9Ideal.lean ====
abbrev S16384x1024 : Shape := ⟨2, ![16384, 1024]⟩
abbrev S65536x256 : Shape := ⟨2, ![65536, 256]⟩
abbrev S1x1024 : Shape := ⟨2, ![1, 1024]⟩
abbrev S1024x1024 : Shape := ⟨2, ![1024, 1024]⟩
abbrev S256x1024 : Shape := ⟨2, ![256, 1024]⟩
abbrev S16384x256 : Shape := ⟨2, ![16384, 256]⟩
abbrev S1024 : Shape := ⟨1, ![1024]⟩
abbrev S_ : Shape := ⟨0, ![]⟩
abbrev S16384 : Shape := ⟨1, ![16384]⟩
abbrev S16384x1 : Shape := ⟨2, ![16384, 1]⟩

abbrev nBuf : Space → Nat
  | .hbm => 56
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S65536x256, .f32⟩
  | .hbm, ⟨3, _⟩ => ⟨S1x1024, .f32⟩
  | .hbm, ⟨4, _⟩ => ⟨S1x1024, .f32⟩
  | .hbm, ⟨5, _⟩ => ⟨S1024x1024, .f32⟩
  | .hbm, ⟨6, _⟩ => ⟨S256x1024, .f32⟩
  | .hbm, ⟨7, _⟩ => ⟨S16384x1024, .f32⟩
  | .hbm, ⟨8, _⟩ => ⟨S16384x256, .f32⟩
  | .hbm, ⟨9, _⟩ => ⟨S1024, .f32⟩
  | .hbm, ⟨10, _⟩ => ⟨S1024, .f32⟩
  | .hbm, ⟨11, _⟩ => ⟨S16384x1024, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1, .f32⟩
  | .hbm, ⟨22, _⟩ => ⟨S16384x1024, .f32⟩
  | .hbm, ⟨23, _⟩ => ⟨S16384x1024, .f32⟩
  | .hbm, ⟨24, _⟩ => ⟨S1x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S16384, .f32⟩
  | .hbm, ⟨31, _⟩ => ⟨S16384x1, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S_, .f32⟩
  | .hbm, ⟨36, _⟩ => ⟨S16384x1, .f32⟩
  | .hbm, ⟨37, _⟩ => ⟨S16384x1, .f32⟩
  | .hbm, ⟨38, _⟩ => ⟨S16384x1, .f32⟩
  | .hbm, ⟨39, _⟩ => ⟨S16384x1024, .f32⟩
  | .hbm, ⟨40, _⟩ => ⟨S16384x1024, .f32⟩
  | .hbm, ⟨41, _⟩ => ⟨S1x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S_, .f32⟩
  | .hbm, ⟨48, _⟩ => ⟨S16384x1024, .f32⟩
  | .hbm, ⟨49, _⟩ => ⟨S16384x1024, .f32⟩
  | .hbm, ⟨50, _⟩ => ⟨S_, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩

abbrev nD : Nat := 1
abbrev τ : Topo := Topo.v7x

variable {F : FTy → Type} [FloatOps F]
-- ==== Kernel10.lean ====
abbrev S16384x1024 : Shape := ⟨2, ![16384, 1024]⟩
abbrev S65536x256 : Shape := ⟨2, ![65536, 256]⟩
abbrev S1x1024 : Shape := ⟨2, ![1, 1024]⟩
abbrev S1024x1024 : Shape := ⟨2, ![1024, 1024]⟩
abbrev S256x1024 : Shape := ⟨2, ![256, 1024]⟩
abbrev S1024x256 : Shape := ⟨2, ![1024, 256]⟩
abbrev S2 : Shape := ⟨1, ![2]⟩
abbrev S32 : Shape := ⟨1, ![32]⟩
abbrev S_ : Shape := ⟨0, ![]⟩
abbrev S16384 : Shape := ⟨1, ![16384]⟩
abbrev S16384x1 : Shape := ⟨2, ![16384, 1]⟩
abbrev S1x32 : Shape := ⟨2, ![1, 32]⟩
abbrev S4x32 : Shape := ⟨2, ![4, 32]⟩
abbrev S128 : Shape := ⟨1, ![128]⟩
abbrev S1x128 : Shape := ⟨2, ![1, 128]⟩
abbrev S16384x128 : Shape := ⟨2, ![16384, 128]⟩
abbrev S2x32 : Shape := ⟨2, ![2, 32]⟩
abbrev S64 : Shape := ⟨1, ![64]⟩
abbrev S1x64 : Shape := ⟨2, ![1, 64]⟩
abbrev S2x64 : Shape := ⟨2, ![2, 64]⟩
abbrev S1024x512 : Shape := ⟨2, ![1024, 512]⟩
abbrev S16384x512 : Shape := ⟨2, ![16384, 512]⟩
abbrev S512x1024 : Shape := ⟨2, ![512, 1024]⟩
abbrev S512x256 : Shape := ⟨2, ![512, 256]⟩
abbrev S512x128 : Shape := ⟨2, ![512, 128]⟩
abbrev S512x512 : Shape := ⟨2, ![512, 512]⟩
abbrev S512 : Shape := ⟨1, ![512]⟩
abbrev S512x1 : Shape := ⟨2, ![512, 1]⟩

abbrev nBuf : Space → Nat
  | .hbm => 62
  | .vmem => 28
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S65536x256, .f32⟩
  | .hbm, ⟨3, _⟩ => ⟨S1x1024, .f32⟩
  | .hbm, ⟨4, _⟩ => ⟨S1x1024, .f32⟩
  | .hbm, ⟨5, _⟩ => ⟨S1024x1024, .f32⟩
  | .hbm, ⟨6, _⟩ => ⟨S256x1024, .f32⟩
  | .hbm, ⟨7, _⟩ => ⟨S1x1024, .f32⟩
  | .hbm, ⟨8, _⟩ => ⟨S1024x1024, .f32⟩
  | .hbm, ⟨9, _⟩ => ⟨S1x1024, .f32⟩
  | .hbm, ⟨10, _⟩ => ⟨S1024x256, .f32⟩
  | .hbm, ⟨11, _⟩ => ⟨S1024x256, .f32⟩
  | .hbm, ⟨12, _⟩ => ⟨S2, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S_, .f32⟩
  | .hbm, ⟨27, _⟩ => ⟨S32, .f32⟩
  | .hbm, ⟨28, _⟩ => ⟨S32, .f32⟩
  | .hbm, ⟨29, _⟩ => ⟨S16384, .f32⟩
  | .hbm, ⟨30, _⟩ => ⟨S_, .f32⟩
  | .hbm, ⟨31, _⟩ => ⟨S16384, .f32⟩
  | .hbm, ⟨32, _⟩ => ⟨S16384, .f32⟩
  | .hbm, ⟨33, _⟩ => ⟨S16384x1, .f32⟩
  | .hbm, ⟨34, _⟩ => ⟨S1x32, .f32⟩
  | .hbm, ⟨35, _⟩ => ⟨S4x32, .f32⟩
  | .hbm, ⟨36, _⟩ => ⟨S128, .f32⟩
  | .hbm, ⟨37, _⟩ => ⟨S1x128, .f32⟩
  | .hbm, ⟨38, _⟩ => ⟨S16384x128, .f32⟩
  | .hbm, ⟨39, _⟩ => ⟨S16384x128, .f32⟩
  | .hbm, ⟨40, _⟩ => ⟨S16384x128, .f32⟩
  | .hbm, ⟨41, _⟩ => ⟨S2x32, .f32⟩
  | .hbm, ⟨42, _⟩ => ⟨S64, .f32⟩
  | .hbm, ⟨43, _⟩ => ⟨S1x64, .f32⟩
  | .hbm, ⟨44, _⟩ => ⟨S2x64, .f32⟩
  | .hbm, ⟨45, _⟩ => ⟨S128, .f32⟩
  | .hbm, ⟨46, _⟩ => ⟨S16384x128, .f32⟩
  | .hbm, ⟨47, _⟩ => ⟨S16384x128, .f32⟩
  | .hbm, ⟨48, _⟩ => ⟨S1x128, .f32⟩
  | .hbm, ⟨49, _⟩ => ⟨S16384x128, .f32⟩
  | .hbm, ⟨50, _⟩ => ⟨S16384x128, .f32⟩
  | .hbm, ⟨51, _⟩ => ⟨S1024x1024, .bf16⟩
  | .hbm, ⟨52, _⟩ => ⟨S1024x512, .f32⟩
  | .hbm, ⟨53, _⟩ => ⟨S1024x512, .bf16⟩
  | .hbm, ⟨54, _⟩ => ⟨S1024x1024, .bf16⟩
  | .hbm, ⟨55, _⟩ => ⟨S1024x256, .f32⟩
  | .hbm, ⟨56, _⟩ => ⟨S1024x256, .bf16⟩
  | .hbm, ⟨57, _⟩ => ⟨S16384x1024, .f32⟩
  | .hbm, ⟨58, _⟩ => ⟨S16384x1024, .bf16⟩
  | .hbm, ⟨59, _⟩ => ⟨S16384x1024, .bf16⟩
  | .hbm, ⟨60, _⟩ => ⟨S16384x1024, .bf16⟩
  | .hbm, ⟨61, _⟩ => ⟨S16384x512, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x256, .f32⟩
  | .local _ .vmem, ⟨5, _⟩ => ⟨S512x256, .f32⟩
  | .local _ .vmem, ⟨6, _⟩ => ⟨S1x1024, .f32⟩
  | .local _ .vmem, ⟨7, _⟩ => ⟨S1x1024, .f32⟩
  | .local _ .vmem, ⟨8, _⟩ => ⟨S1024x1024, .bf16⟩
  | .local _ .vmem, ⟨9, _⟩ => ⟨S1024x256, .bf16⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S1x1024, .f32⟩
  | .local _ .vmem, ⟨15, _⟩ => ⟨S1024x1024, .bf16⟩
  | .local _ .vmem, ⟨16, _⟩ => ⟨S1x1024, .f32⟩
  | .local _ .vmem, ⟨17, _⟩ => ⟨S1024x512, .bf16⟩
  | .local _ .vmem, ⟨18, _⟩ => ⟨S512x1024, .f32⟩
  | .local _ .vmem, ⟨19, _⟩ => ⟨S512x1024, .f32⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S512x512, .bf16⟩
  | .local _ .vmem, ⟨27, _⟩ => ⟨S512x512, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_cst_1 : Ref sig .tc := ⟨.hbm, 17, rfl⟩
abbrev main_v3 : Ref sig .tc := ⟨.hbm, 18, rfl⟩
abbrev main_v4 : Ref sig .tc := ⟨.hbm, 19, rfl⟩
abbrev main_cst_2 : Ref sig .tc := ⟨.hbm, 20, rfl⟩
abbrev main_v5 : Ref sig .tc := ⟨.hbm, 21, rfl⟩
abbrev main_v6 : Ref sig .tc := ⟨.hbm, 22, rfl⟩
abbrev main_cst_3 : Ref sig .tc := ⟨.hbm, 23, rfl⟩
abbrev main_v7 : Ref sig .tc := ⟨.hbm, 24, rfl⟩
abbrev main_v8 : Ref sig .tc := ⟨.hbm, 25, rfl⟩
abbrev main_cst_4 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst_5 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38_0 : Ref sig .tc := ⟨.hbm, 57, rfl⟩
abbrev main_v38_1 : Ref sig .tc := ⟨.hbm, 58, rfl⟩
abbrev main_v38_2 : Ref sig .tc := ⟨.hbm, 59, rfl⟩
abbrev main_v38_3 : Ref sig .tc := ⟨.hbm, 60, rfl⟩
abbrev main_v38_4 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c32_i32 : BitVec 32 := 32#32
  let v0 : BitVec 32 := Scalar.addi arg0 c32_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_8 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_14 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_15 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_16 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_17 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Reference10Ideal.lean ====
abbrev S16384x1024 : Shape := ⟨2, ![16384, 1024]⟩
abbrev S65536x256 : Shape := ⟨2, ![65536, 256]⟩
abbrev S1x1024 : Shape := ⟨2, ![1, 1024]⟩
abbrev S1024x1024 : Shape := ⟨2, ![1024, 1024]⟩
abbrev S256x1024 : Shape := ⟨2, ![256, 1024]⟩
abbrev S1024x256 : Shape := ⟨2, ![1024, 256]⟩
abbrev S16384x256 : Shape := ⟨2, ![16384, 256]⟩
abbrev S1024 : Shape := ⟨1, ![1024]⟩
abbrev S_ : Shape := ⟨0, ![]⟩
abbrev S16384 : Shape := ⟨1, ![16384]⟩
abbrev S16384x1 : Shape := ⟨2, ![16384, 1]⟩
abbrev S32 : Shape := ⟨1, ![32]⟩
abbrev S1x32 : Shape := ⟨2, ![1, 32]⟩
abbrev S16384x32 : Shape := ⟨2, ![16384, 32]⟩
abbrev S16384x16x64 : Shape := ⟨3, ![16384, 16, 64]⟩
abbrev S16384x16x32 : Shape := ⟨3, ![16384, 16, 32]⟩
abbrev S16384x1x32 : Shape := ⟨3, ![16384, 1, 32]⟩
abbrev S16384x4x64 : Shape := ⟨3, ![16384, 4, 64]⟩
abbrev S16384x4x32 : Shape := ⟨3, ![16384, 4, 32]⟩
abbrev S16384x512 : Shape := ⟨2, ![16384, 512]⟩

abbrev nBuf : Space → Nat
  | .hbm => 161
  | .vmem => 0
  | .smem => 0
  | _ => 0

abbrev hbmTy0_0 (i : Nat) : BufTy := match i % 128 with
  | 0 => ⟨S16384x1024, .f32⟩
  | 1 => ⟨S16384x1024, .bf16⟩
  | 2 => ⟨S65536x256, .f32⟩
  | 3 => ⟨S1x1024, .f32⟩
  | 4 => ⟨S1x1024, .f32⟩
  | 5 => ⟨S1024x1024, .f32⟩
  | 6 => ⟨S256x1024, .f32⟩
  | 7 => ⟨S1x1024, .f32⟩
  | 8 => ⟨S1024x1024, .f32⟩
  | 9 => ⟨S1x1024, .f32⟩
  | 10 => ⟨S1024x256, .f32⟩
  | 11 => ⟨S1024x256, .f32⟩
  | 12 => ⟨S16384x1024, .f32⟩
  | 13 => ⟨S16384x256, .f32⟩
  | 14 => ⟨S1024, .f32⟩
  | 15 => ⟨S1024, .f32⟩
  | 16 => ⟨S16384x1024, .f32⟩
  | 17 => ⟨S_, .f32⟩
  | 18 => ⟨S16384, .f32⟩
  | 19 => ⟨S16384x1, .f32⟩
  | 20 => ⟨S_, .f32⟩
  | 21 => ⟨S16384x1, .f32⟩
  | 22 => ⟨S16384x1, .f32⟩
  | 23 => ⟨S_, .f32⟩
  | 24 => ⟨S16384x1, .f32⟩
  | 25 => ⟨S16384x1, .f32⟩
  | 26 => ⟨S16384x1, .f32⟩
  | 27 => ⟨S16384x1024, .f32⟩
  | 28 => ⟨S16384x1024, .f32⟩
  | 29 => ⟨S1x1024, .f32⟩
  | 30 => ⟨S16384x1024, .f32⟩
  | 31 => ⟨S16384x1024, .f32⟩
  | 32 => ⟨S16384x1024, .f32⟩
  | 33 => ⟨S16384x1024, .f32⟩
  | 34 => ⟨S_, .f32⟩
  | 35 => ⟨S16384, .f32⟩
  | 36 => ⟨S16384x1, .f32⟩
  | 37 => ⟨S_, .f32⟩
  | 38 => ⟨S16384x1, .f32⟩
  | 39 => ⟨S16384x1, .f32⟩
  | 40 => ⟨S_, .f32⟩
  | 41 => ⟨S16384x1, .f32⟩
  | 42 => ⟨S16384x1, .f32⟩
  | 43 => ⟨S16384x1, .f32⟩
  | 44 => ⟨S16384x1024, .f32⟩
  | 45 => ⟨S16384x1024, .f32⟩
  | 46 => ⟨S1x1024, .f32⟩
  | 47 => ⟨S16384x1024, .f32⟩
  | 48 => ⟨S16384x1024, .f32⟩
  | 49 => ⟨S16384x1024, .f32⟩
  | 50 => ⟨S16384x1024, .f32⟩
  | 51 => ⟨S16384x1024, .f32⟩
  | 52 => ⟨S_, .f32⟩
  | 53 => ⟨S16384x1024, .f32⟩
  | 54 => ⟨S16384x1024, .f32⟩
  | 55 => ⟨S_, .f32⟩
  | 56 => ⟨S16384x1024, .f32⟩
  | 57 => ⟨S16384x1024, .f32⟩
  | 58 => ⟨S16384x1024, .f32⟩
  | 59 => ⟨S16384x1024, .f32⟩
  | 60 => ⟨S16384x1024, .f32⟩
  | 61 => ⟨S32, .f32⟩
  | 62 => ⟨S_, .f32⟩
  | 63 => ⟨S32, .f32⟩
  | 64 => ⟨S32, .f32⟩
  | 65 => ⟨S_, .f32⟩
  | 66 => ⟨S32, .f32⟩
  | 67 => ⟨S32, .f32⟩
  | 68 => ⟨S_, .f32⟩
  | 69 => ⟨S32, .f32⟩
  | 70 => ⟨S32, .f32⟩
  | 71 => ⟨S_, .f32⟩
  | 72 => ⟨S32, .f32⟩
  | 73 => ⟨S32, .f32⟩
  | 74 => ⟨S_, .f32⟩
  | 75 => ⟨S32, .f32⟩
  | 76 => ⟨S32, .f32⟩
  | 77 => ⟨S16384, .f32⟩
  | 78 => ⟨S16384x1, .f32⟩
  | 79 => ⟨S1x32, .f32⟩
  | 80 => ⟨S16384x32, .f32⟩
  | 81 => ⟨S16384x32, .f32⟩
  | 82 => ⟨S16384x32, .f32⟩
  | 83 => ⟨S16384x32, .f32⟩
  | 84 => ⟨S16384x32, .f32⟩
  | 85 => ⟨S1024, .f32⟩
  | 86 => ⟨S16384x1024, .f32⟩
  | 87 => ⟨S_, .f32⟩
  | 88 => ⟨S16384, .f32⟩
  | 89 => ⟨S16384x1, .f32⟩
  | 90 => ⟨S_, .f32⟩
  | 91 => ⟨S16384x1, .f32⟩
  | 92 => ⟨S16384x1, .f32⟩
  | 93 => ⟨S_, .f32⟩
  | 94 => ⟨S16384x1, .f32⟩
  | 95 => ⟨S16384x1, .f32⟩
  | 96 => ⟨S16384x1, .f32⟩
  | 97 => ⟨S16384x1024, .f32⟩
  | 98 => ⟨S16384x1024, .f32⟩
  | 99 => ⟨S1x1024, .f32⟩
  | 100 => ⟨S16384x1024, .f32⟩
  | 101 => ⟨S16384x1024, .f32⟩
  | 102 => ⟨S1024, .f32⟩
  | 103 => ⟨S16384x1024, .f32⟩
  | 104 => ⟨S_, .f32⟩
  | 105 => ⟨S16384, .f32⟩
  | 106 => ⟨S16384x1, .f32⟩
  | 107 => ⟨S_, .f32⟩
  | 108 => ⟨S16384x1, .f32⟩
  | 109 => ⟨S16384x1, .f32⟩
  | 110 => ⟨S_, .f32⟩
  | 111 => ⟨S16384x1, .f32⟩
  | 112 => ⟨S16384x1, .f32⟩
  | 113 => ⟨S16384x1, .f32⟩
  | 114 => ⟨S16384x1024, .f32⟩
  | 115 => ⟨S16384x1024, .f32⟩
  | 116 => ⟨S1x1024, .f32⟩
  | 117 => ⟨S16384x1024, .f32⟩
  | 118 => ⟨S16384x1024, .f32⟩
  | 119 => ⟨S16384x1024, .f32⟩
  | 120 => ⟨S16384x16x64, .f32⟩
  | 121 => ⟨S16384x16x32, .f32⟩
  | 122 => ⟨S16384x16x32, .f32⟩
  | 123 => ⟨S16384x1x32, .f32⟩
  | 124 => ⟨S16384x1x32, .f32⟩
  | 125 => ⟨S16384x16x32, .f32⟩
  | 126 => ⟨S16384x16x32, .f32⟩
  | 127 => ⟨S16384x16x32, .f32⟩
  | _ => ⟨S16384x1024, .f32⟩

abbrev hbmTy0_1 (i : Nat) : BufTy := match i % 128 with
  | 0 => ⟨S16384x16x32, .f32⟩
  | 1 => ⟨S16384x16x32, .f32⟩
  | 2 => ⟨S16384x16x32, .f32⟩
  | 3 => ⟨S16384x16x32, .f32⟩
  | 4 => ⟨S16384x16x32, .f32⟩
  | 5 => ⟨S16384x16x32, .f32⟩
  | 6 => ⟨S16384x16x32, .f32⟩
  | 7 => ⟨S16384x16x64, .f32⟩
  | 8 => ⟨S16384x1024, .f32⟩
  | 9 => ⟨S16384x256, .f32⟩
  | 10 => ⟨S16384x4x64, .f32⟩
  | 11 => ⟨S16384x4x32, .f32⟩
  | 12 => ⟨S16384x4x32, .f32⟩
  | 13 => ⟨S16384x1x32, .f32⟩
  | 14 => ⟨S16384x1x32, .f32⟩
  | 15 => ⟨S16384x4x32, .f32⟩
  | 16 => ⟨S16384x4x32, .f32⟩
  | 17 => ⟨S16384x4x32, .f32⟩
  | 18 => ⟨S16384x4x32, .f32⟩
  | 19 => ⟨S16384x4x32, .f32⟩
  | 20 => ⟨S16384x4x32, .f32⟩
  | 21 => ⟨S16384x4x32, .f32⟩
  | 22 => ⟨S16384x4x32, .f32⟩
  | 23 => ⟨S16384x4x32, .f32⟩
  | 24 => ⟨S16384x4x32, .f32⟩
  | 25 => ⟨S16384x4x64, .f32⟩
  | 26 => ⟨S16384x256, .f32⟩
  | 27 => ⟨S16384x256, .f32⟩
  | 28 => ⟨S16384x512, .f32⟩
  | 29 => ⟨S16384x1024, .bf16⟩
  | 30 => ⟨S16384x1024, .bf16⟩
  | 31 => ⟨S16384x1024, .bf16⟩
  | 32 => ⟨S16384x512, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_cst_3 : Ref sig .tc := ⟨.hbm, 37, rfl⟩
abbrev main_v21 : Ref sig .tc := ⟨.hbm, 38, rfl⟩
abbrev main_v22 : Ref sig .tc := ⟨.hbm, 39, rfl⟩
abbrev main_cst_4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_5 : Ref sig .tc := ⟨.hbm, 52, rfl⟩
abbrev main_v34 : Ref sig .tc := ⟨.hbm, 53, rfl⟩
abbrev main_v35 : Ref sig .tc := ⟨.hbm, 54, rfl⟩
abbrev main_cst_6 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_7 : Ref sig .tc := ⟨.hbm, 62, rfl⟩
abbrev main_v42 : Ref sig .tc := ⟨.hbm, 63, rfl⟩
abbrev main_v43 : Ref sig .tc := ⟨.hbm, 64, rfl⟩
abbrev main_cst_8 : Ref sig .tc := ⟨.hbm, 65, rfl⟩
abbrev main_v44 : Ref sig .tc := ⟨.hbm, 66, rfl⟩
abbrev main_v45 : Ref sig .tc := ⟨.hbm, 67, rfl⟩
abbrev main_cst_9 : Ref sig .tc := ⟨.hbm, 68, rfl⟩
abbrev main_v46 : Ref sig .tc := ⟨.hbm, 69, rfl⟩
abbrev main_v47 : Ref sig .tc := ⟨.hbm, 70, rfl⟩
abbrev main_cst_10 : Ref sig .tc := ⟨.hbm, 71, rfl⟩
abbrev main_v48 : Ref sig .tc := ⟨.hbm, 72, rfl⟩
abbrev main_v49 : Ref sig .tc := ⟨.hbm, 73, rfl⟩
abbrev main_cst_11 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_12 : Ref sig .tc := ⟨.hbm, 87, rfl⟩
abbrev main_v62 : Ref sig .tc := ⟨.hbm, 88, rfl⟩
abbrev main_v63 : Ref sig .tc := ⟨.hbm, 89, rfl⟩
abbrev main_cst_13 : Ref sig .tc := ⟨.hbm, 90, rfl⟩
abbrev main_v64 : Ref sig .tc := ⟨.hbm, 91, rfl⟩
abbrev main_v65 : Ref sig .tc := ⟨.hbm, 92, rfl⟩
abbrev main_cst_14 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_15 : Ref sig .tc := ⟨.hbm, 104, rfl⟩
abbrev main_v76 : Ref sig .tc := ⟨.hbm, 105, rfl⟩
abbrev main_v77 : Ref sig .tc := ⟨.hbm, 106, rfl⟩
abbrev main_cst_16 : Ref sig .tc := ⟨.hbm, 107, rfl⟩
abbrev main_v78 : Ref sig .tc := ⟨.hbm, 108, rfl⟩
abbrev main_v79 : Ref sig .tc := ⟨.hbm, 109, rfl⟩
abbrev main_cst_17 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩

abbrev nD : Nat := 1
abbrev τ : Topo := Topo.v7x

variable {F : FTy → Type} [FloatOps F]
-- ==== Kernel11.lean ====
abbrev S16384x1024 : Shape := ⟨2, ![16384, 1024]⟩
abbrev S65536x256 : Shape := ⟨2, ![65536, 256]⟩
abbrev S1x1024 : Shape := ⟨2, ![1, 1024]⟩
abbrev S1024x1024 : Shape := ⟨2, ![1024, 1024]⟩
abbrev S256x1024 : Shape := ⟨2, ![256, 1024]⟩
abbrev S2 : Shape := ⟨1, ![2]⟩
abbrev S32 : Shape := ⟨1, ![32]⟩
abbrev S_ : Shape := ⟨0, ![]⟩
abbrev S16384 : Shape := ⟨1, ![16384]⟩
abbrev S16384x1 : Shape := ⟨2, ![16384, 1]⟩
abbrev S1x32 : Shape := ⟨2, ![1, 32]⟩
abbrev S4x32 : Shape := ⟨2, ![4, 32]⟩
abbrev S128 : Shape := ⟨1, ![128]⟩
abbrev S1x128 : Shape := ⟨2, ![1, 128]⟩
abbrev S16384x128 : Shape := ⟨2, ![16384, 128]⟩
abbrev S2x32 : Shape := ⟨2, ![2, 32]⟩
abbrev S64 : Shape := ⟨1, ![64]⟩
abbrev S1x64 : Shape := ⟨2, ![1, 64]⟩
abbrev S2x64 : Shape := ⟨2, ![2, 64]⟩
abbrev S1024x256 : Shape := ⟨2, ![1024, 256]⟩
abbrev S512x1024 : Shape := ⟨2, ![512, 1024]⟩
abbrev S512x256 : Shape := ⟨2, ![512, 256]⟩
abbrev S512x128 : Shape := ⟨2, ![512, 128]⟩
abbrev S512 : Shape := ⟨1, ![512]⟩
abbrev S512x1 : Shape := ⟨2, ![512, 1]⟩

abbrev nBuf : Space → Nat
  | .hbm => 55
  | .vmem => 22
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S65536x256, .f32⟩
  | .hbm, ⟨3, _⟩ => ⟨S1x1024, .f32⟩
  | .hbm, ⟨4, _⟩ => ⟨S1x1024, .f32⟩
  | .hbm, ⟨5, _⟩ => ⟨S1024x1024, .f32⟩
  | .hbm, ⟨6, _⟩ => ⟨S256x1024, .f32⟩
  | .hbm, ⟨7, _⟩ => ⟨S1x1024, .f32⟩
  | .hbm, ⟨8, _⟩ => ⟨S1024x1024, .f32⟩
  | .hbm, ⟨9, _⟩ => ⟨S2, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S16384, .f32⟩
  | .hbm, ⟨27, _⟩ => ⟨S_, .f32⟩
  | .hbm, ⟨28, _⟩ => ⟨S16384, .f32⟩
  | .hbm, ⟨29, _⟩ => ⟨S16384, .f32⟩
  | .hbm, ⟨30, _⟩ => ⟨S16384x1, .f32⟩
  | .hbm, ⟨31, _⟩ => ⟨S1x32, .f32⟩
  | .hbm, ⟨32, _⟩ => ⟨S4x32, .f32⟩
  | .hbm, ⟨33, _⟩ => ⟨S128, .f32⟩
  | .hbm, ⟨34, _⟩ => ⟨S1x128, .f32⟩
  | .hbm, ⟨35, _⟩ => ⟨S16384x128, .f32⟩
  | .hbm, ⟨36, _⟩ => ⟨S16384x128, .f32⟩
  | .hbm, ⟨37, _⟩ => ⟨S16384x128, .f32⟩
  | .hbm, ⟨38, _⟩ => ⟨S2x32, .f32⟩
  | .hbm, ⟨39, _⟩ => ⟨S64, .f32⟩
  | .hbm, ⟨40, _⟩ => ⟨S1x64, .f32⟩
  | .hbm, ⟨41, _⟩ => ⟨S2x64, .f32⟩
  | .hbm, ⟨42, _⟩ => ⟨S128, .f32⟩
  | .hbm, ⟨43, _⟩ => ⟨S16384x128, .f32⟩
  | .hbm, ⟨44, _⟩ => ⟨S16384x128, .f32⟩
  | .hbm, ⟨45, _⟩ => ⟨S1x128, .f32⟩
  | .hbm, ⟨46, _⟩ => ⟨S16384x128, .f32⟩
  | .hbm, ⟨47, _⟩ => ⟨S16384x128, .f32⟩
  | .hbm, ⟨48, _⟩ => ⟨S1024x1024, .bf16⟩
  | .hbm, ⟨49, _⟩ => ⟨S1024x256, .f32⟩
  | .hbm, ⟨50, _⟩ => ⟨S1024x256, .bf16⟩
  | .hbm, ⟨51, _⟩ => ⟨S1024x1024, .bf16⟩
  | .hbm, ⟨52, _⟩ => ⟨S16384x1024, .f32⟩
  | .hbm, ⟨53, _⟩ => ⟨S16384x1024, .bf16⟩
  | .hbm, ⟨54, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x256, .f32⟩
  | .local _ .vmem, ⟨5, _⟩ => ⟨S512x256, .f32⟩
  | .local _ .vmem, ⟨6, _⟩ => ⟨S1x1024, .f32⟩
  | .local _ .vmem, ⟨7, _⟩ => ⟨S1x1024, .f32⟩
  | .local _ .vmem, ⟨8, _⟩ => ⟨S1024x1024, .bf16⟩
  | .local _ .vmem, ⟨9, _⟩ => ⟨S1024x256, .bf16⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S1x1024, .f32⟩
  | .local _ .vmem, ⟨15, _⟩ => ⟨S1024x1024, .bf16⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_cst_1 : Ref sig .tc := ⟨.hbm, 14, rfl⟩
abbrev main_v3 : Ref sig .tc := ⟨.hbm, 15, rfl⟩
abbrev main_v4 : Ref sig .tc := ⟨.hbm, 16, rfl⟩
abbrev main_cst_2 : Ref sig .tc := ⟨.hbm, 17, rfl⟩
abbrev main_v5 : Ref sig .tc := ⟨.hbm, 18, rfl⟩
abbrev main_v6 : Ref sig .tc := ⟨.hbm, 19, rfl⟩
abbrev main_cst_3 : Ref sig .tc := ⟨.hbm, 20, rfl⟩
abbrev main_v7 : Ref sig .tc := ⟨.hbm, 21, rfl⟩
abbrev main_v8 : Ref sig .tc := ⟨.hbm, 22, rfl⟩
abbrev main_cst_4 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_5 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36_0 : Ref sig .tc := ⟨.hbm, 52, rfl⟩
abbrev main_v36_1 : Ref sig .tc := ⟨.hbm, 53, rfl⟩
abbrev main_v36_2 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c64_i32 : BitVec 32 := 64#32
  let v0 : BitVec 32 := Scalar.addi arg0 c64_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_8 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_12 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_13 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference11Ideal.lean ====
abbrev S16384x1024 : Shape := ⟨2, ![16384, 1024]⟩
abbrev S65536x256 : Shape := ⟨2, ![65536, 256]⟩
abbrev S1x1024 : Shape := ⟨2, ![1, 1024]⟩
abbrev S1024x1024 : Shape := ⟨2, ![1024, 1024]⟩
abbrev S256x1024 : Shape := ⟨2, ![256, 1024]⟩
abbrev S16384x256 : Shape := ⟨2, ![16384, 256]⟩
abbrev S1024 : Shape := ⟨1, ![1024]⟩
abbrev S_ : Shape := ⟨0, ![]⟩
abbrev S16384 : Shape := ⟨1, ![16384]⟩
abbrev S16384x1 : Shape := ⟨2, ![16384, 1]⟩
abbrev S16384x16x64 : Shape := ⟨3, ![16384, 16, 64]⟩
abbrev S32 : Shape := ⟨1, ![32]⟩
abbrev S1x32 : Shape := ⟨2, ![1, 32]⟩
abbrev S16384x32 : Shape := ⟨2, ![16384, 32]⟩
abbrev S16384x16x32 : Shape := ⟨3, ![16384, 16, 32]⟩
abbrev S16384x1x32 : Shape := ⟨3, ![16384, 1, 32]⟩

abbrev nBuf : Space → Nat
  | .hbm => 119
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S65536x256, .f32⟩
  | .hbm, ⟨3, _⟩ => ⟨S1x1024, .f32⟩
  | .hbm, ⟨4, _⟩ => ⟨S1x1024, .f32⟩
  | .hbm, ⟨5, _⟩ => ⟨S1024x1024, .f32⟩
  | .hbm, ⟨6, _⟩ => ⟨S256x1024, .f32⟩
  | .hbm, ⟨7, _⟩ => ⟨S1x1024, .f32⟩
  | .hbm, ⟨8, _⟩ => ⟨S1024x1024, .f32⟩
  | .hbm, ⟨9, _⟩ => ⟨S16384x1024, .f32⟩
  | .hbm, ⟨10, _⟩ => ⟨S16384x256, .f32⟩
  | .hbm, ⟨11, _⟩ => ⟨S1024, .f32⟩
  | .hbm, ⟨12, _⟩ => ⟨S1024, .f32⟩
  | .hbm, ⟨13, _⟩ => ⟨S16384x1024, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1, .f32⟩
  | .hbm, ⟨24, _⟩ => ⟨S16384x1024, .f32⟩
  | .hbm, ⟨25, _⟩ => ⟨S16384x1024, .f32⟩
  | .hbm, ⟨26, _⟩ => ⟨S1x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S_, .f32⟩
  | .hbm, ⟨32, _⟩ => ⟨S16384, .f32⟩
  | .hbm, ⟨33, _⟩ => ⟨S16384x1, .f32⟩
  | .hbm, ⟨34, _⟩ => ⟨S_, .f32⟩
  | .hbm, ⟨35, _⟩ => ⟨S16384x1, .f32⟩
  | .hbm, ⟨36, _⟩ => ⟨S16384x1, .f32⟩
  | .hbm, ⟨37, _⟩ => ⟨S_, .f32⟩
  | .hbm, ⟨38, _⟩ => ⟨S16384x1, .f32⟩
  | .hbm, ⟨39, _⟩ => ⟨S16384x1, .f32⟩
  | .hbm, ⟨40, _⟩ => ⟨S16384x1, .f32⟩
  | .hbm, ⟨41, _⟩ => ⟨S16384x1024, .f32⟩
  | .hbm, ⟨42, _⟩ => ⟨S16384x1024, .f32⟩
  | .hbm, ⟨43, _⟩ => ⟨S1x1024, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S_, .f32⟩
  | .hbm, ⟨50, _⟩ => ⟨S16384x1024, .f32⟩
  | .hbm, ⟨51, _⟩ => ⟨S16384x1024, .f32⟩
  | .hbm, ⟨52, _⟩ => ⟨S_, .f32⟩
  | .hbm, ⟨53, _⟩ => ⟨S16384x1024, .f32⟩
  | .hbm, ⟨54, _⟩ => ⟨S16384x1024, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S1024, .f32⟩
  | .hbm, ⟨59, _⟩ => ⟨S16384x1024, .f32⟩
  | .hbm, ⟨60, _⟩ => ⟨S_, .f32⟩
  | .hbm, ⟨61, _⟩ => ⟨S16384, .f32⟩
  | .hbm, ⟨62, _⟩ => ⟨S16384x1, .f32⟩
  | .hbm, ⟨63, _⟩ => ⟨S_, .f32⟩
  | .hbm, ⟨64, _⟩ => ⟨S16384x1, .f32⟩
  | .hbm, ⟨65, _⟩ => ⟨S16384x1, .f32⟩
  | .hbm, ⟨66, _⟩ => ⟨S_, .f32⟩
  | .hbm, ⟨67, _⟩ => ⟨S16384x1, .f32⟩
  | .hbm, ⟨68, _⟩ => ⟨S16384x1, .f32⟩
  | .hbm, ⟨69, _⟩ => ⟨S16384x1, .f32⟩
  | .hbm, ⟨70, _⟩ => ⟨S16384x1024, .f32⟩
  | .hbm, ⟨71, _⟩ => ⟨S16384x1024, .f32⟩
  | .hbm, ⟨72, _⟩ => ⟨S1x1024, .f32⟩
  | .hbm, ⟨73, _⟩ => ⟨S16384x1024, .f32⟩
  | .hbm, ⟨74, _⟩ => ⟨S16384x1024, .f32⟩
  | .hbm, ⟨75, _⟩ => ⟨S16384x1024, .f32⟩
  | .hbm, ⟨76, _⟩ => ⟨S16384x16x64, .f32⟩
  | .hbm, ⟨77, _⟩ => ⟨S32, .f32⟩
  | .hbm, ⟨78, _⟩ => ⟨S_, .f32⟩
  | .hbm, ⟨79, _⟩ => ⟨S32, .f32⟩
  | .hbm, ⟨80, _⟩ => ⟨S32, .f32⟩
  | .hbm, ⟨81, _⟩ => ⟨S_, .f32⟩
  | .hbm, ⟨82, _⟩ => ⟨S32, .f32⟩
  | .hbm, ⟨83, _⟩ => ⟨S32, .f32⟩
  | .hbm, ⟨84, _⟩ => ⟨S_, .f32⟩
  | .hbm, ⟨85, _⟩ => ⟨S32, .f32⟩
  | .hbm, ⟨86, _⟩ => ⟨S32, .f32⟩
  | .hbm, ⟨87, _⟩ => ⟨S_, .f32⟩
  | .hbm, ⟨88, _⟩ => ⟨S32, .f32⟩
  | .hbm, ⟨89, _⟩ => ⟨S32, .f32⟩
  | .hbm, ⟨90, _⟩ => ⟨S_, .f32⟩
  | .hbm, ⟨91, _⟩ => ⟨S32, .f32⟩
  | .hbm, ⟨92, _⟩ => ⟨S32, .f32⟩
  | .hbm, ⟨93, _⟩ => ⟨S16384, .f32⟩
  | .hbm, ⟨94, _⟩ => ⟨S16384x1, .f32⟩
  | .hbm, ⟨95, _⟩ => ⟨S1x32, .f32⟩
  | .hbm, ⟨96, _⟩ => ⟨S16384x32, .f32⟩
  | .hbm, ⟨97, _⟩ => ⟨S16384x32, .f32⟩
  | .hbm, ⟨98, _⟩ => ⟨S16384x32, .f32⟩
  | .hbm, ⟨99, _⟩ => ⟨S16384x32, .f32⟩
  | .hbm, ⟨100, _⟩ => ⟨S16384x32, .f32⟩
  | .hbm, ⟨101, _⟩ => ⟨S16384x16x32, .f32⟩
  | .hbm, ⟨102, _⟩ => ⟨S16384x16x32, .f32⟩
  | .hbm, ⟨103, _⟩ => ⟨S16384x1x32, .f32⟩
  | .hbm, ⟨104, _⟩ => ⟨S16384x1x32, .f32⟩
  | .hbm, ⟨105, _⟩ => ⟨S16384x16x32, .f32⟩
  | .hbm, ⟨106, _⟩ => ⟨S16384x16x32, .f32⟩
  | .hbm, ⟨107, _⟩ => ⟨S16384x16x32, .f32⟩
  | .hbm, ⟨108, _⟩ => ⟨S16384x16x32, .f32⟩
  | .hbm, ⟨109, _⟩ => ⟨S16384x16x32, .f32⟩
  | .hbm, ⟨110, _⟩ => ⟨S16384x16x32, .f32⟩
  | .hbm, ⟨111, _⟩ => ⟨S16384x16x32, .f32⟩
  | .hbm, ⟨112, _⟩ => ⟨S16384x16x32, .f32⟩
  | .hbm, ⟨113, _⟩ => ⟨S16384x16x32, .f32⟩
  | .hbm, ⟨114, _⟩ => ⟨S16384x16x32, .f32⟩
  | .hbm, ⟨115, _⟩ => ⟨S16384x16x64, .f32⟩
  | .hbm, ⟨116, _⟩ => ⟨S16384x1024, .f32⟩
  | .hbm, ⟨117, _⟩ => ⟨S16384x1024, .bf16⟩
  | .hbm, ⟨118, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_5 : Ref sig .tc := ⟨.hbm, 49, rfl⟩
abbrev main_v34 : Ref sig .tc := ⟨.hbm, 50, rfl⟩
abbrev main_v35 : Ref sig .tc := ⟨.hbm, 51, rfl⟩
abbrev main_cst_6 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_7 : Ref sig .tc := ⟨.hbm, 60, rfl⟩
abbrev main_v43 : Ref sig .tc := ⟨.hbm, 61, rfl⟩
abbrev main_v44 : Ref sig .tc := ⟨.hbm, 62, rfl⟩
abbrev main_cst_8 : Ref sig .tc := ⟨.hbm, 63, rfl⟩
abbrev main_v45 : Ref sig .tc := ⟨.hbm, 64, rfl⟩
abbrev main_v46 : Ref sig .tc := ⟨.hbm, 65, rfl⟩
abbrev main_cst_9 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_10 : Ref sig .tc := ⟨.hbm, 78, rfl⟩
abbrev main_v58 : Ref sig .tc := ⟨.hbm, 79, rfl⟩
abbrev main_v59 : Ref sig .tc := ⟨.hbm, 80, rfl⟩
abbrev main_cst_11 : Ref sig .tc := ⟨.hbm, 81, rfl⟩
abbrev main_v60 : Ref sig .tc := ⟨.hbm, 82, rfl⟩
abbrev main_v61 : Ref sig .tc := ⟨.hbm, 83, rfl⟩
abbrev main_cst_12 : Ref sig .tc := ⟨.hbm, 84, rfl⟩
abbrev main_v62 : Ref sig .tc := ⟨.hbm, 85, rfl⟩
abbrev main_v63 : Ref sig .tc := ⟨.hbm, 86, rfl⟩
abbrev main_cst_13 : Ref sig .tc := ⟨.hbm, 87, rfl⟩
abbrev main_v64 : Ref sig .tc := ⟨.hbm, 88, rfl⟩
abbrev main_v65 : Ref sig .tc := ⟨.hbm, 89, rfl⟩
abbrev main_cst_14 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩

abbrev nD : Nat := 1
abbrev τ : Topo := Topo.v7x

variable {F : FTy → Type} [FloatOps F]
-- ==== Proof.Lift.lean ====
module

public import Idealize.ShloMosaic.Lib.Pointwise
public import Idealize.ShloMosaic.Lib.IdealHost

@[expose] public section

noncomputable section

/-! Arrays of finite values: an array over the extended reals each of whose elements is a real number,
    written as a function of its coordinates as natural numbers. -/

namespace Cert.Lift

open Idealize.ShloMosaic

/-- The one-axis array holding `f` of the coordinate. -/
def L1 {a : ℕ} (f : ℕ → ℝ) : (⟨1, ![a]⟩ : Shape).Idx → EReal := fun i => ((f (i 0).val : ℝ) : EReal)

/-- The two-axis array holding `f` of the coordinates. -/
def L2 {a b : ℕ} (f : ℕ → ℕ → ℝ) : (⟨2, ![a, b]⟩ : Shape).Idx → EReal :=
  fun i => ((f (i 0).val (i 1).val : ℝ) : EReal)

/-- The three-axis array holding `f` of the coordinates. -/
def L3 {a b c : ℕ} (f : ℕ → ℕ → ℕ → ℝ) : (⟨3, ![a, b, c]⟩ : Shape).Idx → EReal :=
  fun i => ((f (i 0).val (i 1).val (i 2).val : ℝ) : EReal)

/-- The four-axis array holding `f` of the coordinates. -/
def L4 {a b c d : ℕ} (f : ℕ → ℕ → ℕ → ℕ → ℝ) : (⟨4, ![a, b, c, d]⟩ : Shape).Idx → EReal :=
  fun i => ((f (i 0).val (i 1).val (i 2).val (i 3).val : ℝ) : EReal)

theorem L1_apply {a : ℕ} (f : ℕ → ℝ) (i : Fin a) : L1 f (ix1 i) = ((f i.val : ℝ) : EReal) := rfl
theorem L2_apply {a b : ℕ} (f : ℕ → ℕ → ℝ) (i : Fin a) (j : Fin b) :
    L2 f (ix2 i j) = ((f i.val j.val : ℝ) : EReal) := rfl
theorem L3_apply {a b c : ℕ} (f : ℕ → ℕ → ℕ → ℝ) (i : Fin a) (j : Fin b) (k : Fin c) :
    L3 f (ix3 i j k) = ((f i.val j.val k.val : ℝ) : EReal) := rfl
theorem L4_apply {a b c d : ℕ} (f : ℕ → ℕ → ℕ → ℕ → ℝ) (i : Fin a) (j : Fin b) (k : Fin c) (l : Fin d) :
    L4 f (ix4 i j k l) = ((f i.val j.val k.val l.val : ℝ) : EReal) := rfl

/-- A two-axis array whose every element is a real number is an `L2`. -/
theorem exists_L2 {a b : ℕ} (v : (⟨2, ![a, b]⟩ : Shape).Idx → EReal) (h : ∀ i, ∃ r : ℝ, v i = (r : EReal)) :
    ∃ f, v = L2 f := by
  refine ⟨fun p q => if h : p < a ∧ q < b then (v (ix2 ⟨p, h.1⟩ ⟨q, h.2⟩)).toReal else 0, ?_⟩
  funext i
  obtain ⟨p, q, rfl⟩ : ∃ (p : Fin a) (q : Fin b), i = ix2 p q := ⟨i 0, i 1, eq_ix2 i⟩
  obtain ⟨r, hr⟩ := h (ix2 p q)
  rw [L2_apply, dif_pos ⟨p.isLt, q.isLt⟩]
  show v (ix2 p q) = ((v (ix2 p q)).toReal : EReal)
  rw [hr]; rfl

/-- A three-axis array whose every element is a real number is an `L3`. -/
theorem exists_L3 {a b c : ℕ} (v : (⟨3, ![a, b, c]⟩ : Shape).Idx → EReal) (h : ∀ i, ∃ r : ℝ, v i = (r : EReal)) :
    ∃ f, v = L3 f := by
  refine ⟨fun p q s => if h : p < a ∧ q < b ∧ s < c then (v (ix3 ⟨p, h.1⟩ ⟨q, h.2.1⟩ ⟨s, h.2.2⟩)).toReal else 0, ?_⟩
  funext i
  obtain ⟨p, q, s, rfl⟩ : ∃ (p : Fin a) (q : Fin b) (s : Fin c), i = ix3 p q s := ⟨i 0, i 1, i 2, eq_ix3 i⟩
  obtain ⟨r, hr⟩ := h (ix3 p q s)
  rw [L3_apply, dif_pos ⟨p.isLt, q.isLt, s.isLt⟩]
  show v (ix3 p q s) = ((v (ix3 p q s)).toReal : EReal)
  rw [hr]; rfl

/-- A finite sum of real numbers, taken in the extended reals. -/
theorem coe_sum {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The same over the indices below `n`, the terms read at the index as a natural number. -/
theorem coe_sum_fin (n : ℕ) (f : ℕ → ℝ) : (∑ i : Fin n, (f i.val : EReal)) = ((∑ i ∈ Finset.range n, f i : ℝ) : EReal) := by
  rw [coe_sum, Finset.sum_range]

/-- The quotient of two real numbers, the divisor not zero. -/
theorem div_real (x y : ℝ) (h : y ≠ 0) : Ideal.div (x : EReal) (y : EReal) = ((x / y : ℝ) : EReal) := by
  rw [Ideal.div_coe h, ← EReal.coe_mul, mul_one_div]

/-- The reciprocal square root of a positive real number. -/
theorem rsqrt_real (x : ℝ) (h : 0 < x) : Ideal.rsqrt (x : EReal) = (((Real.sqrt x)⁻¹ : ℝ) : EReal) := by
  rw [Ideal.rsqrt_coe, if_neg (not_lt.2 h.le), if_neg h.ne']

/-- The literal 1024. -/
theorem lit_1024 : Ideal.ofBits .f32 0x44800000#32 = ((1024 : ℝ) : EReal) := by
  simp [Ideal.ofBits, Ideal.ieee, -EReal.coe_mul]; norm_num

/-- The literal −1/2. -/
theorem lit_neg_half : Ideal.ofBits .f32 0xBF000000#32 = ((-(1 / 2) : ℝ) : EReal) := by
  simp [Ideal.ofBits, Ideal.ieee, -EReal.coe_mul]; norm_num

/-- The value of the constant that the root mean square adds under the root: the single-precision number next to 1e-6. -/
def eps : ℝ := 8796093 / 8796093022208

/-- The literal next to 1e-6. -/
theorem lit_eps : Ideal.ofBits .f32 0x358637BD#32 = ((eps : ℝ) : EReal) := by
  simp [Ideal.ofBits, Ideal.ieee, eps, -EReal.coe_mul]; norm_num

theorem eps_pos : 0 < eps := by unfold eps; norm_num

/-- The literal 1. -/
theorem lit_one : Ideal.ofBits .f32 0x3F800000#32 = ((1 : ℝ) : EReal) := by
  simp [Ideal.ofBits, Ideal.ieee, -EReal.coe_mul]; norm_num

/-- The literal 0. -/
theorem lit_zero : Ideal.ofBits .f32 0x00000000#32 = ((0 : ℝ) : EReal) := by
  simp [Ideal.ofBits, Ideal.ieee, -EReal.coe_mul]

/-- A real number divided by 1024. -/
theorem div_1024 (x : ℝ) : Ideal.div (x : EReal) ((1024 : ℝ) : EReal) = ((x / 1024 : ℝ) : EReal) :=
  div_real x 1024 (by norm_num)

/-- A mean of squares is not negative, so adding the small constant makes it positive. -/
theorem msq_pos (f : Fin 1024 → ℝ) : 0 < (∑ k : Fin 1024, f k * f k) / 1024 + eps :=
  add_pos_of_nonneg_of_pos (div_nonneg (Finset.sum_nonneg fun k _ => mul_self_nonneg _) (by norm_num)) eps_pos

/-- The reciprocal square root of a mean of squares plus the small constant. -/
theorem rsqrt_msq (f : Fin 1024 → ℝ) :
    Ideal.rsqrt (((∑ k : Fin 1024, f k * f k) / 1024 + eps : ℝ) : EReal)
      = (((Real.sqrt ((∑ k : Fin 1024, f k * f k) / 1024 + eps))⁻¹ : ℝ) : EReal) :=
  rsqrt_real _ (msq_pos f)

end Cert.Lift

end
-- ==== Proof.Lift2.lean ====
module

public import proofs.«01_k».proof.Proof.Lift

@[expose] public section

noncomputable section

/-! Two-axis arrays of extended reals written as functions of their coordinates, and sums taken block by block. -/

namespace Cert.Lift

open Idealize.ShloMosaic

/-- The two-axis array holding `f` of the coordinates, infinities allowed. -/
def E2 {a b : ℕ} (f : ℕ → ℕ → EReal) : (⟨2, ![a, b]⟩ : Shape).Idx → EReal :=
  fun i => f (i 0).val (i 1).val

/-- `E2` at an index. -/
theorem E2_apply {a b : ℕ} (f : ℕ → ℕ → EReal) (i : Fin a) (j : Fin b) : E2 f (ix2 i j) = f i.val j.val := rfl

/-- Every two-axis array of extended reals is an `E2`. -/
theorem exists_E2 {a b : ℕ} (v : (⟨2, ![a, b]⟩ : Shape).Idx → EReal) : ∃ f, v = E2 f := by
  refine ⟨fun p q => if h : p < a ∧ q < b then v (ix2 ⟨p, h.1⟩ ⟨q, h.2⟩) else 0, ?_⟩
  funext i
  obtain ⟨p, q, rfl⟩ : ∃ (p : Fin a) (q : Fin b), i = ix2 p q := ⟨i 0, i 1, eq_ix2 i⟩
  rw [E2_apply, dif_pos ⟨p.isLt, q.isLt⟩]

/-- The sum over `k` blocks of `n` consecutive numbers is the sum over all of them. -/
theorem sum_blocks {M : Type*} [AddCommMonoid M] (n k : ℕ) (f : ℕ → M) :
    ∑ s ∈ Finset.range k, ∑ l ∈ Finset.range n, f (n * s + l) = ∑ i ∈ Finset.range (n * k), f i := by
  induction k with
  | zero => simp
  | succ k ih => rw [Finset.sum_range_succ, ih, Nat.mul_succ, Finset.sum_range_add]

end Cert.Lift

end
-- ==== Proof.XtyEmb.lean ====
module

public import proofs.«01_k».proof.Proof.Lift2
public import proofs.«01_k».proof.Proof.Gen.Kernel7Ideal.Value
public import Idealize.ShloMosaic.Lib.Pipeline.ValueKit
public import Idealize.ShloMosaic.Lib.Pipeline.ReadBack

@[expose] public section

set_option maxRecDepth 16384

noncomputable section

/-! The weight gradient's kernel for the embeddings' projection: the product of one matrix's transpose with another, accumulated
    over eight blocks of rows. -/

namespace Cert.Kernel7Ideal.Emb

open Idealize.ShloMosaic Idealize.ShloMosaic.TcCoe Cert.Lift Cert.Kernel7Ideal Cert.Kernel7Ideal.Gen
open Idealize.ShloMosaic.Pipeline (Dat)

/-- The accumulator starts from zeros. -/
theorem pay1_eq : k0_pay1 (F := Ideal) = E2 fun _ _ => 0 := by
  funext j
  idx_vars j
  pointwise [k0_pay1]
  rfl

/-- One point adds the product of its two blocks, the first transposed. -/
theorem pay2_eq (A X Y : ℕ → ℕ → EReal) : k0_pay2 (F := Ideal) (E2 A) (E2 X) (E2 Y)
    = E2 fun i j => A i j + ∑ l ∈ Finset.range 2048, X l i * Y l j := by
  funext j
  idx_vars j
  pointwise [k0_pay2]
  simp only [E2_apply, Finset.sum_range]

/-- The last point writes the accumulator out. -/
theorem pay3_eq (A : ℕ → ℕ → EReal) : k0_pay3 (F := Ideal) (E2 A) = E2 A := by
  funext j
  idx_vars j
  pointwise [k0_pay3]

variable (m : (ℓ : Loc nD τ sig) → Buf (Elt Ideal) ℓ) (c : Dev nD)

/-- The two arguments in memory. -/
structure Holds (X Y : ℕ → ℕ → EReal) : Prop where
  X : m ((c : Thread nD τ).loc main_arg0) = (E2 X : FVec Ideal S16384x1024 .bf16)
  Y : m ((c : Thread nD τ).loc main_arg1) = (E2 Y : FVec Ideal S65536x256 .f32)

/-- What the accumulator holds after blocks `0` to `k`. -/
def acc (X Y : ℕ → ℕ → EReal) (k i j : ℕ) : EReal :=
  ∑ s ∈ Finset.range (k + 1), ∑ l ∈ Finset.range 2048, X (2048 * s + l) i * Y (16384 + (2048 * s + l)) j

/-- The blocks each point reads. -/
theorem idx0 : ∀ t : Fin cfg0.N, win0_0.index t 0 = t.val % 8 ∧ win0_0.index t 1 = 0 ∧
    win0_1.index t 0 = 8 + t.val % 8 ∧ win0_1.index t 1 = 0 :=
  (by decide +kernel : ∀ t : Fin grid0.N, _)

/-- The first operand's block. -/
theorem blkX {X Y : ℕ → ℕ → EReal} (H : Holds m c X Y) (t : Fin cfg0.N) :
    iblk m c 0 t = (E2 fun l i => X (2048 * (t.val % 8) + l) i : FVec Ideal S2048x1024 .bf16) := by
  obtain ⟨e0, e1, -⟩ := idx0 t
  funext y
  show V m c main_arg0 (((cfg0.win 0).blk t).view.emb y) = _
  rw [(V_main_arg0 m c).trans H.X]
  show X (((cfg0.win 0).blk t).view.emb y 0).val (((cfg0.win 0).blk t).view.emb y 1).val = _
  blk_simp
  rw [e0, e1, Nat.mul_comm _ 2048, Nat.zero_mul, Nat.zero_add]
  rfl

/-- The second operand's block. -/
theorem blkY {X Y : ℕ → ℕ → EReal} (H : Holds m c X Y) (t : Fin cfg0.N) :
    iblk m c 1 t = (E2 fun l j => Y (16384 + (2048 * (t.val % 8) + l)) j : FVec Ideal S2048x256 .f32) := by
  obtain ⟨-, -, e0, e1⟩ := idx0 t
  funext y
  show V m c main_arg1 (((cfg0.win 1).blk t).view.emb y) = _
  rw [(V_main_arg1 m c).trans H.Y]
  show Y (((cfg0.win 1).blk t).view.emb y 0).val (((cfg0.win 1).blk t).view.emb y 1).val = _
  blk_simp
  rw [e0, e1, Nat.zero_mul, Nat.zero_add]
  rw [show (8 + t.val % 8) * 2048 + (y 0).val = 16384 + (2048 * (t.val % 8) + (y 0).val) by omega]
  rfl

/-- The first point leaves its own product in the accumulator. -/
theorem caseA {X Y : ℕ → ℕ → EReal} (H : Holds m c X Y) (t : Fin cfg0.N) (h0 : t.val % 8 = 0) :
    (outsAt0 m c t.val t.isLt).2 = E2 (acc X Y (t.val % 8)) := by
  rw [outsAt0_A m c t h0 (by omega)]
  dsimp only
  frame_out
  try simp (disch := first | rfl | decide) only [↓View.readCov_skip, ↓View.readCov_fill, pay1_eq]
  simp only [blkX m c H, blkY m c H, pay2_eq]
  rw [h0]
  exact congrArg E2 (by funext i j; unfold acc; simp)

/-- A later point adds its product. -/
theorem caseB {X Y : ℕ → ℕ → EReal} (H : Holds m c X Y) (t : Fin cfg0.N) (h0 : ¬ t.val % 8 = 0)
    (ha : (outsAt0 m c (t.val - 1) (Nat.lt_of_le_of_lt (Nat.sub_le _ _) t.isLt)).2 = E2 (acc X Y (t.val % 8 - 1))) :
    (outsAt0 m c t.val t.isLt).2 = E2 (acc X Y (t.val % 8)) ∧
    (t.val % 8 = 7 → (outsAt0 m c t.val t.isLt).1 = E2 (acc X Y (t.val % 8))) := by
  have step : (fun i j => acc X Y (t.val % 8 - 1) i j + ∑ l ∈ Finset.range 2048,
      X (2048 * (t.val % 8) + l) i * Y (16384 + (2048 * (t.val % 8) + l)) j) = acc X Y (t.val % 8) := by
    funext i j
    unfold acc
    rw [show t.val % 8 - 1 + 1 = t.val % 8 by omega]
    exact (Finset.sum_range_succ _ _).symm
  by_cases h1 : t.val % 8 = 7
  · rw [outsAt0_C m c t h0 h1]
    dsimp only
    refine ⟨?_, fun _ => ?_⟩
    all_goals frame_out
    all_goals try simp (disch := first | rfl | decide) only [↓View.readCov_skip, ↓View.readCov_fill]
    all_goals try simp only [read_unread_whole]
    all_goals simp only [ha, blkX m c H, blkY m c H, pay2_eq, pay3_eq, step]
  · rw [outsAt0_B m c t h0 h1]
    dsimp only
    refine ⟨?_, fun h => absurd h h1⟩
    frame_out
    try simp only [read_unread_whole]
    simp only [ha, blkX m c H, blkY m c H, pay2_eq, step]

/-- What the accumulator holds after every point. -/
theorem accs {X Y : ℕ → ℕ → EReal} (H : Holds m c X Y) (n : ℕ) : ∀ hn : n < cfg0.N,
    (outsAt0 m c n hn).2 = E2 (acc X Y (n % 8)) := by
  induction n with
  | zero => intro hn; exact caseA m c H ⟨0, hn⟩ rfl
  | succ n ih =>
    intro hn
    by_cases h0 : (n + 1) % 8 = 0
    · exact caseA m c H ⟨n + 1, hn⟩ h0
    · refine (caseB m c H ⟨n + 1, hn⟩ h0 ?_).1
      have := ih (Nat.lt_of_succ_lt hn)
      show (outsAt0 m c n _).2 = E2 (acc X Y ((n + 1) % 8 - 1))
      rw [this, show (n + 1) % 8 - 1 = n % 8 by omega]

/-- What the last point writes out. -/
theorem outs {X Y : ℕ → ℕ → EReal} (H : Holds m c X Y) (n : ℕ) (hn : n < cfg0.N) (h : n % 8 = 7) :
    (outsAt0 m c n hn).1 = E2 (acc X Y 7) := by
  have := (caseB m c H ⟨n, hn⟩ (by show ¬ n % 8 = 0; omega) (by
    show (outsAt0 m c (n - 1) _).2 = E2 (acc X Y (n % 8 - 1))
    rw [accs m c H (n - 1), show (n - 1) % 8 = n % 8 - 1 by omega])).2 h
  rw [this]
  show E2 (acc X Y (n % 8)) = _
  rw [h]

/-- The result: the product of the first argument's transpose with the second's rows 16384 to 32767. -/
theorem final {X Y : ℕ → ℕ → EReal} (H : Holds m c X Y) :
    Value.G2 m c = (E2 fun i j => ∑ k ∈ Finset.range 16384, X k i * Y (16384 + k) j : FVec Ideal S1024x256 .bf16) := by
  funext y
  have h0 : (y 0).val < 1024 := (y 0).isLt
  have h1 : (y 1).val < 256 := (y 1).isLt
  have hp : Value.pt2Of y = 7 := by
    show 8 * (1 * ((y 0).val / 1024 - 0) + 1 * ((y 1).val / 256 - 0)) + 7 = _
    omega
  have hN : Value.pt2Of y < cfg0.N := by rw [hp, show cfg0.N = 8 from N_0]; omega
  unfold Value.G2
  rw [dif_pos hN, ← Value.outsAt0_sweep m c _ hN, outs m c H _ hN (by rw [hp])]
  show acc X Y 7 ((y 0).val % 1024) ((y 1).val % 256) = ∑ k ∈ Finset.range 16384, X k (y 0).val * Y (16384 + k) (y 1).val
  rw [Nat.mod_eq_of_lt h0, Nat.mod_eq_of_lt h1]
  exact sum_blocks 2048 8 fun k => X k (y 0).val * Y (16384 + k) (y 1).val

end Cert.Kernel7Ideal.Emb

end
-- ==== Proof.XtyEmbEq.lean ====
module

public import proofs.«01_k».proof.Proof.XtyEmb
public import proofs.«01_k».proof.Proof.Gen.Reference7Ideal.Run
public import proofs.«01_k».proof.Proof.Gen.Reference7Ideal.Read
public import proofs.«01_k».proof.Defs

@[expose] public section

set_option maxRecDepth 16384

noncomputable section

/-! The weight gradient of the embeddings' projection: its reference, and the reference's equality with what the kernel leaves. -/

namespace Cert.Proof.Emb

open Idealize.ShloMosaic Idealize.SL.Sem Idealize.ShloMosaic.TcCoe Cert.Lift
open Cert.Reference7Ideal Cert.Reference7Ideal.Read
open Cert.Kernel7Ideal.Emb (Holds)

attribute [local instance] Cert.Kernel7Ideal.Gen.facts Cert.Reference7Ideal.Gen.facts

/-- The reference's result: the product of the first argument's transpose with the second's rows 16384 to 32767. -/
theorem value (X Y : ℕ → ℕ → EReal) : val_main_v7 (F := Ideal) (E2 X) (E2 Y)
    = (E2 fun i j => ∑ k ∈ Finset.range 16384, X k i * Y (16384 + k) j : FVec Ideal S1024x256 .bf16) := by
  unfold val_main_v7 val_main_v6 val_main_v5 val_main_v4 val_main_v3 val_main_v1
  funext j
  idx_vars j
  pointwise []
  simp only [E2_apply, Finset.sum_range]

/-- The reference runs and keeps its arguments; it has no semaphores. -/
theorem frame_reference : Cert.quiescent_Reference7Ideal := fun m g _ =>
  (θ_run Cert.Reference7Ideal.defs _ _).mono (fun r h => ⟨fun c => (h c).2, sem_eq_zero_of_no_sems (by decide) r.2⟩)
    (Cert.Reference7Ideal.Value.run (F := Ideal) m g)

/-- The kernel's result is the reference's, whatever the arguments. -/
theorem algebraic : Cert.algebraic_Kernel7Ideal_Reference7Ideal := by
  intro m g m' g' hpre hargs
  refine ⟨fun c => Cert.Kernel7Ideal.Value.G2 m c, Cert.Kernel7Ideal.Value.run m g, ?_⟩
  refine (θ_run Cert.Reference7Ideal.defs _ _).mono (fun r h c => ?_) (Cert.Reference7Ideal.Value.run (F := Ideal) m' g')
  obtain ⟨X, hX⟩ := exists_E2 (a := 16384) (b := 1024) (m ((c : Thread Cert.Kernel7Ideal.nD Cert.Kernel7Ideal.τ).loc Cert.Kernel7Ideal.main_arg0))
  obtain ⟨Y, hY⟩ := exists_E2 (a := 65536) (b := 256) (m ((c : Thread Cert.Kernel7Ideal.nD Cert.Kernel7Ideal.τ).loc Cert.Kernel7Ideal.main_arg1))
  have H : Holds m c X Y := ⟨hX, hY⟩
  obtain ⟨a0, a1⟩ := hargs c
  obtain ⟨r0, rest⟩ := h c
  have b0 := a0.trans H.X
  have b1 := a1.trans H.Y
  refine ⟨r0.trans ((val_main_v7_eq _ _).trans (Eq.trans ?_ ((value X Y).trans (Cert.Kernel7Ideal.Emb.final m c H).symm))), rest⟩
  exact congrArg₂ (val_main_v7 (F := Ideal)) b0 b1

end Cert.Proof.Emb

end
-- ==== Proof.XtyKv.lean ====
module

public import proofs.«01_k».proof.Proof.Lift2
public import proofs.«01_k».proof.Proof.Gen.Kernel8Ideal.Value
public import Idealize.ShloMosaic.Lib.Pipeline.ValueKit
public import Idealize.ShloMosaic.Lib.Pipeline.ReadBack

@[expose] public section

set_option maxRecDepth 16384

noncomputable section

/-! The weight gradient's kernel for the keys' and the values' weights: the product of one matrix's transpose with another, accumulated
    over eight blocks of rows. -/

namespace Cert.Kernel8Ideal.Kv

open Idealize.ShloMosaic Idealize.ShloMosaic.TcCoe Cert.Lift Cert.Kernel8Ideal Cert.Kernel8Ideal.Gen
open Idealize.ShloMosaic.Pipeline (Dat)

/-- The accumulator starts from zeros. -/
theorem pay1_eq : k0_pay1 (F := Ideal) = E2 fun _ _ => 0 := by
  funext j
  idx_vars j
  pointwise [k0_pay1]
  rfl

/-- One point adds the product of its two blocks, the first transposed. -/
theorem pay2_eq (A X Y : ℕ → ℕ → EReal) : k0_pay2 (F := Ideal) (E2 A) (E2 X) (E2 Y)
    = E2 fun i j => A i j + ∑ l ∈ Finset.range 2048, X l i * Y l j := by
  funext j
  idx_vars j
  pointwise [k0_pay2]
  simp only [E2_apply, Finset.sum_range]

/-- The last point writes the accumulator out. -/
theorem pay3_eq (A : ℕ → ℕ → EReal) : k0_pay3 (F := Ideal) (E2 A) = E2 A := by
  funext j
  idx_vars j
  pointwise [k0_pay3]

variable (m : (ℓ : Loc nD τ sig) → Buf (Elt Ideal) ℓ) (c : Dev nD)

/-- The two arguments in memory. -/
structure Holds (X Y : ℕ → ℕ → EReal) : Prop where
  X : m ((c : Thread nD τ).loc main_arg0) = (E2 X : FVec Ideal S16384x1024 .bf16)
  Y : m ((c : Thread nD τ).loc main_arg1) = (E2 Y : FVec Ideal S16384x512 .bf16)

/-- What the accumulator holds after blocks `0` to `k`. -/
def acc (X Y : ℕ → ℕ → EReal) (k i j : ℕ) : EReal :=
  ∑ s ∈ Finset.range (k + 1), ∑ l ∈ Finset.range 2048, X (2048 * s + l) i * Y (2048 * s + l) j

/-- The blocks each point reads. -/
theorem idx0 : ∀ t : Fin cfg0.N, win0_0.index t 0 = t.val % 8 ∧ win0_0.index t 1 = 0 ∧
    win0_1.index t 0 = t.val % 8 ∧ win0_1.index t 1 = 0 :=
  (by decide +kernel : ∀ t : Fin grid0.N, _)

/-- The first operand's block. -/
theorem blkX {X Y : ℕ → ℕ → EReal} (H : Holds m c X Y) (t : Fin cfg0.N) :
    iblk m c 0 t = (E2 fun l i => X (2048 * (t.val % 8) + l) i : FVec Ideal S2048x1024 .bf16) := by
  obtain ⟨e0, e1, -⟩ := idx0 t
  funext y
  show V m c main_arg0 (((cfg0.win 0).blk t).view.emb y) = _
  rw [(V_main_arg0 m c).trans H.X]
  show X (((cfg0.win 0).blk t).view.emb y 0).val (((cfg0.win 0).blk t).view.emb y 1).val = _
  blk_simp
  rw [e0, e1, Nat.mul_comm _ 2048, Nat.zero_mul, Nat.zero_add]
  rfl

/-- The second operand's block. -/
theorem blkY {X Y : ℕ → ℕ → EReal} (H : Holds m c X Y) (t : Fin cfg0.N) :
    iblk m c 1 t = (E2 fun l j => Y (2048 * (t.val % 8) + l) j : FVec Ideal S2048x512 .bf16) := by
  obtain ⟨-, -, e0, e1⟩ := idx0 t
  funext y
  show V m c main_arg1 (((cfg0.win 1).blk t).view.emb y) = _
  rw [(V_main_arg1 m c).trans H.Y]
  show Y (((cfg0.win 1).blk t).view.emb y 0).val (((cfg0.win 1).blk t).view.emb y 1).val = _
  blk_simp
  rw [e0, e1, Nat.mul_comm _ 2048, Nat.zero_mul, Nat.zero_add]
  rfl

/-- The first point leaves its own product in the accumulator. -/
theorem caseA {X Y : ℕ → ℕ → EReal} (H : Holds m c X Y) (t : Fin cfg0.N) (h0 : t.val % 8 = 0) :
    (outsAt0 m c t.val t.isLt).2 = E2 (acc X Y (t.val % 8)) := by
  rw [outsAt0_A m c t h0 (by omega)]
  dsimp only
  frame_out
  try simp (disch := first | rfl | decide) only [↓View.readCov_skip, ↓View.readCov_fill, pay1_eq]
  simp only [blkX m c H, blkY m c H, pay2_eq]
  rw [h0]
  exact congrArg E2 (by funext i j; unfold acc; simp)

/-- A later point adds its product. -/
theorem caseB {X Y : ℕ → ℕ → EReal} (H : Holds m c X Y) (t : Fin cfg0.N) (h0 : ¬ t.val % 8 = 0)
    (ha : (outsAt0 m c (t.val - 1) (Nat.lt_of_le_of_lt (Nat.sub_le _ _) t.isLt)).2 = E2 (acc X Y (t.val % 8 - 1))) :
    (outsAt0 m c t.val t.isLt).2 = E2 (acc X Y (t.val % 8)) ∧
    (t.val % 8 = 7 → (outsAt0 m c t.val t.isLt).1 = E2 (acc X Y (t.val % 8))) := by
  have step : (fun i j => acc X Y (t.val % 8 - 1) i j + ∑ l ∈ Finset.range 2048,
      X (2048 * (t.val % 8) + l) i * Y (2048 * (t.val % 8) + l) j) = acc X Y (t.val % 8) := by
    funext i j
    unfold acc
    rw [show t.val % 8 - 1 + 1 = t.val % 8 by omega]
    exact (Finset.sum_range_succ _ _).symm
  by_cases h1 : t.val % 8 = 7
  · rw [outsAt0_C m c t h0 h1]
    dsimp only
    refine ⟨?_, fun _ => ?_⟩
    all_goals frame_out
    all_goals try simp (disch := first | rfl | decide) only [↓View.readCov_skip, ↓View.readCov_fill]
    all_goals try simp only [read_unread_whole]
    all_goals simp only [ha, blkX m c H, blkY m c H, pay2_eq, pay3_eq, step]
  · rw [outsAt0_B m c t h0 h1]
    dsimp only
    refine ⟨?_, fun h => absurd h h1⟩
    frame_out
    try simp only [read_unread_whole]
    simp only [ha, blkX m c H, blkY m c H, pay2_eq, step]

/-- What the accumulator holds after every point. -/
theorem accs {X Y : ℕ → ℕ → EReal} (H : Holds m c X Y) (n : ℕ) : ∀ hn : n < cfg0.N,
    (outsAt0 m c n hn).2 = E2 (acc X Y (n % 8)) := by
  induction n with
  | zero => intro hn; exact caseA m c H ⟨0, hn⟩ rfl
  | succ n ih =>
    intro hn
    by_cases h0 : (n + 1) % 8 = 0
    · exact caseA m c H ⟨n + 1, hn⟩ h0
    · refine (caseB m c H ⟨n + 1, hn⟩ h0 ?_).1
      have := ih (Nat.lt_of_succ_lt hn)
      show (outsAt0 m c n _).2 = E2 (acc X Y ((n + 1) % 8 - 1))
      rw [this, show (n + 1) % 8 - 1 = n % 8 by omega]

/-- What the last point writes out. -/
theorem outs {X Y : ℕ → ℕ → EReal} (H : Holds m c X Y) (n : ℕ) (hn : n < cfg0.N) (h : n % 8 = 7) :
    (outsAt0 m c n hn).1 = E2 (acc X Y 7) := by
  have := (caseB m c H ⟨n, hn⟩ (by show ¬ n % 8 = 0; omega) (by
    show (outsAt0 m c (n - 1) _).2 = E2 (acc X Y (n % 8 - 1))
    rw [accs m c H (n - 1), show (n - 1) % 8 = n % 8 - 1 by omega])).2 h
  rw [this]
  show E2 (acc X Y (n % 8)) = _
  rw [h]

/-- The result: the product of the first argument's transpose with the second. -/
theorem final {X Y : ℕ → ℕ → EReal} (H : Holds m c X Y) :
    Value.G2 m c = (E2 fun i j => ∑ k ∈ Finset.range 16384, X k i * Y k j : FVec Ideal S1024x512 .bf16) := by
  funext y
  have h0 : (y 0).val < 1024 := (y 0).isLt
  have h1 : (y 1).val < 512 := (y 1).isLt
  have hp : Value.pt2Of y = 7 := by
    show 8 * (1 * ((y 0).val / 1024 - 0) + 1 * ((y 1).val / 512 - 0)) + 7 = _
    omega
  have hN : Value.pt2Of y < cfg0.N := by rw [hp, show cfg0.N = 8 from N_0]; omega
  unfold Value.G2
  rw [dif_pos hN, ← Value.outsAt0_sweep m c _ hN, outs m c H _ hN (by rw [hp])]
  show acc X Y 7 ((y 0).val % 1024) ((y 1).val % 512) = ∑ k ∈ Finset.range 16384, X k (y 0).val * Y k (y 1).val
  rw [Nat.mod_eq_of_lt h0, Nat.mod_eq_of_lt h1]
  exact sum_blocks 2048 8 fun k => X k (y 0).val * Y k (y 1).val

end Cert.Kernel8Ideal.Kv

end
-- ==== Proof.XtyKvEq.lean ====
module

public import proofs.«01_k».proof.Proof.XtyKv
public import proofs.«01_k».proof.Proof.Gen.Reference8Ideal.Run
public import proofs.«01_k».proof.Proof.Gen.Reference8Ideal.Read
public import proofs.«01_k».proof.Defs

@[expose] public section

set_option maxRecDepth 16384

noncomputable section

/-! The weight gradient of the keys' and values' weight: its reference, and the reference's equality with what the kernel leaves. -/

namespace Cert.Proof.Kv

open Idealize.ShloMosaic Idealize.SL.Sem Idealize.ShloMosaic.TcCoe Cert.Lift
open Cert.Reference8Ideal Cert.Reference8Ideal.Read
open Cert.Kernel8Ideal.Kv (Holds)

attribute [local instance] Cert.Kernel8Ideal.Gen.facts Cert.Reference8Ideal.Gen.facts

/-- The reference's result: the product of the first argument's transpose with the second. -/
theorem value (X Y : ℕ → ℕ → EReal) : val_main_v6 (F := Ideal) (E2 X) (E2 Y)
    = (E2 fun i j => ∑ k ∈ Finset.range 16384, X k i * Y k j : FVec Ideal S1024x512 .bf16) := by
  unfold val_main_v6 val_main_v5 val_main_v4 val_main_v3 val_main_v1
  funext j
  idx_vars j
  pointwise []
  simp only [E2_apply, Finset.sum_range]
  exact Finset.sum_congr rfl fun k _ => mul_comm _ _

/-- The reference runs and keeps its arguments; it has no semaphores. -/
theorem frame_reference : Cert.quiescent_Reference8Ideal := fun m g _ =>
  (θ_run Cert.Reference8Ideal.defs _ _).mono (fun r h => ⟨fun c => (h c).2, sem_eq_zero_of_no_sems (by decide) r.2⟩)
    (Cert.Reference8Ideal.Value.run (F := Ideal) m g)

/-- The kernel's result is the reference's, whatever the arguments. -/
theorem algebraic : Cert.algebraic_Kernel8Ideal_Reference8Ideal := by
  intro m g m' g' hpre hargs
  refine ⟨fun c => Cert.Kernel8Ideal.Value.G2 m c, Cert.Kernel8Ideal.Value.run m g, ?_⟩
  refine (θ_run Cert.Reference8Ideal.defs _ _).mono (fun r h c => ?_) (Cert.Reference8Ideal.Value.run (F := Ideal) m' g')
  obtain ⟨X, hX⟩ := exists_E2 (a := 16384) (b := 1024) (m ((c : Thread Cert.Kernel8Ideal.nD Cert.Kernel8Ideal.τ).loc Cert.Kernel8Ideal.main_arg0))
  obtain ⟨Y, hY⟩ := exists_E2 (a := 16384) (b := 512) (m ((c : Thread Cert.Kernel8Ideal.nD Cert.Kernel8Ideal.τ).loc Cert.Kernel8Ideal.main_arg1))
  have H : Holds m c X Y := ⟨hX, hY⟩
  obtain ⟨a0, a1⟩ := hargs c
  obtain ⟨r0, rest⟩ := h c
  have b0 := a0.trans H.X
  have b1 := a1.trans H.Y
  refine ⟨r0.trans ((val_main_v6_eq _ _).trans (Eq.trans ?_ ((value X Y).trans (Cert.Kernel8Ideal.Kv.final m c H).symm))), rest⟩
  exact congrArg₂ (val_main_v6 (F := Ideal)) b0 b1

end Cert.Proof.Kv

end
-- ==== Proof.Ext.lean ====
module

public import proofs.«01_k».proof.Proof.Lift2

@[expose] public section

noncomputable section

/-! The root mean square's normalisation and its backward pass over the extended reals: infinities included, the two
    ways of writing the backward pass agree. -/

namespace Cert.Ext

open Idealize.ShloMosaic Cert.Lift

/-- Two two-axis arrays that agree at every index are equal. -/
theorem E2_congr {a b : ℕ} {f g : ℕ → ℕ → EReal} (h : ∀ i, i < a → ∀ j, j < b → f i j = g i j) :
    (E2 f : (⟨2, ![a, b]⟩ : Shape).Idx → EReal) = E2 g := by
  funext i
  exact h _ (i 0).isLt _ (i 1).isLt

/-- The mean of a row's squares plus the small constant. -/
def msq (x : ℕ → ℕ → EReal) (p : ℕ) : EReal := Ideal.div (∑ k : Fin 1024, x p k * x p k) ((1024 : ℝ) : EReal) + ((eps : ℝ) : EReal)
/-- The reciprocal root mean square of a row. -/
def rms (x : ℕ → ℕ → EReal) (p : ℕ) : EReal := Ideal.rsqrt (msq x p)
/-- The normalisation's backward pass. -/
def rmsBack (x : ℕ → ℕ → EReal) (r : ℕ → EReal) (gy : ℕ → ℕ → EReal) (p c : ℕ) : EReal :=
  r p * gy p c - x p c * (r p * r p * r p * Ideal.div (∑ k : Fin 1024, gy p k * x p k) ((1024 : ℝ) : EReal))

/-- A square is not negative. -/
theorem mul_self_nonneg' (x : EReal) : 0 ≤ x * x := by
  induction x with
  | bot => simp
  | coe r => rw [← EReal.coe_mul]; exact_mod_cast mul_self_nonneg r
  | top => simp

/-- Division by 1024 is multiplication by a real number. -/
theorem div_1024_mul (x : EReal) : Ideal.div x ((1024 : ℝ) : EReal) = x * ((1 / 1024 : ℝ) : EReal) :=
  Ideal.div_coe (by norm_num) x

/-- A mean of squares plus the small constant is a positive real number or plus infinity. -/
theorem msq_cases (x : ℕ → ℕ → EReal) (p : ℕ) : msq x p = ⊤ ∨ ∃ v : ℝ, 0 < v ∧ msq x p = (v : EReal) := by
  have h : 0 ≤ ∑ k : Fin 1024, x p k * x p k := Finset.sum_nonneg fun k _ => mul_self_nonneg' _
  unfold msq
  rw [div_1024_mul]
  generalize (∑ k : Fin 1024, x p k * x p k) = s at h
  induction s with
  | bot => simp at h
  | coe s =>
    refine .inr ⟨s * (1 / 1024) + eps, ?_, by rw [← EReal.coe_mul, ← EReal.coe_add]⟩
    have hs : 0 ≤ s := by exact_mod_cast h
    have := eps_pos
    positivity
  | top =>
    left
    rw [EReal.top_mul_coe_of_pos (by norm_num)]
    exact EReal.top_add_coe _

/-- The reciprocal root mean square is a real number, and divided by the mean of squares it is its own cube. -/
theorem rms_real (x : ℕ → ℕ → EReal) (p : ℕ) : ∃ r : ℝ, rms x p = (r : EReal) ∧ Ideal.div (rms x p) (msq x p) = ((r * r * r : ℝ) : EReal) := by
  unfold rms
  rcases msq_cases x p with h | ⟨v, hv, h⟩
  · refine ⟨0, ?_, ?_⟩
    · rw [h]; rfl
    · rw [h, show Ideal.rsqrt ⊤ = 0 from rfl, Ideal.zero_div (by simp)]
      simp
  · rw [h, rsqrt_real v hv]
    refine ⟨_, rfl, ?_⟩
    rw [div_real _ _ hv.ne']
    refine congrArg (fun x : ℝ => (x : EReal)) ?_
    rw [mul_assoc, ← mul_inv, Real.mul_self_sqrt hv.le, div_eq_mul_inv]

/-- The reciprocal root mean square divided by the mean of squares is its cube. -/
theorem rms_cube (x : ℕ → ℕ → EReal) (p : ℕ) : Ideal.div (rms x p) (msq x p) = rms x p * rms x p * rms x p := by
  obtain ⟨r, e, h⟩ := rms_real x p
  rw [h, e, ← EReal.coe_mul, ← EReal.coe_mul]

/-- An extended real times a real number, taken twice. -/
theorem twice (a : EReal) (k : ℝ) : a * (k : EReal) + a * (k : EReal) = a * ((k + k : ℝ) : EReal) := by
  induction a with
  | coe a => rw [← EReal.coe_mul, ← EReal.coe_mul, ← EReal.coe_add, mul_add]
  | top =>
    rcases lt_trichotomy k 0 with h | h | h
    · rw [EReal.top_mul_coe_of_neg h, EReal.top_mul_coe_of_neg (add_neg h h)]; rfl
    · subst h; simp
    · rw [EReal.top_mul_coe_of_pos h, EReal.top_mul_coe_of_pos (add_pos h h)]; rfl
  | bot =>
    rcases lt_trichotomy k 0 with h | h | h
    · rw [EReal.bot_mul_coe_of_neg h, EReal.bot_mul_coe_of_neg (add_neg h h)]; rfl
    · subst h; simp
    · rw [EReal.bot_mul_coe_of_pos h, EReal.bot_mul_coe_of_pos (add_pos h h)]; rfl

/-- The backward pass of a normalisation, as the reference writes it, is the one with the cube of the root. -/
theorem back_of (x y gy : ℕ → ℕ → EReal) (p c : ℕ) :
    gy p c * rms y p + x p c * Ideal.div ((∑ k : Fin 1024, x p k * gy p k) * (((-(1 / 2) : ℝ) : EReal) * (rms y p * rms y p * rms y p))) ((1024 : ℝ) : EReal) +
      Ideal.div ((∑ k : Fin 1024, x p k * gy p k) * (((-(1 / 2) : ℝ) : EReal) * (rms y p * rms y p * rms y p))) ((1024 : ℝ) : EReal) * x p c = rmsBack x (rms y) gy p c := by
  have e : (∑ k : Fin 1024, x p k * gy p k) = ∑ k : Fin 1024, gy p k * x p k := Finset.sum_congr rfl fun k _ => mul_comm _ _
  obtain ⟨r, h, -⟩ := rms_real y p
  unfold rmsBack
  rw [e, h, div_1024_mul, div_1024_mul]
  generalize (∑ k : Fin 1024, gy p k * x p k) = S
  simp only [← EReal.coe_mul]
  have e1 : x p c * (S * ((-(1 / 2) * (r * r * r) : ℝ) : EReal) * ((1 / 1024 : ℝ) : EReal)) = x p c * S * ((-(1 / 2) * (r * r * r) * (1 / 1024) : ℝ) : EReal) := by
    rw [mul_assoc S, ← EReal.coe_mul, ← mul_assoc (x p c)]
  have e2 : x p c * (((r * r * r : ℝ) : EReal) * (S * ((1 / 1024 : ℝ) : EReal))) = x p c * S * ((r * r * r * (1 / 1024) : ℝ) : EReal) := by
    rw [EReal.coe_mul _ (1 / 1024 : ℝ), mul_left_comm _ S, mul_assoc (x p c)]
  rw [mul_comm _ (x p c), e1, e2, add_assoc, twice, mul_comm, sub_eq_add_neg, ← mul_neg, ← EReal.coe_neg]
  have e3 : -(1 / 2) * (r * r * r) * (1 / 1024) + -(1 / 2) * (r * r * r) * (1 / 1024) = -(r * r * r * (1 / 1024)) := by ring
  rw [e3]

end Cert.Ext

end
-- ==== Proof.PleTile.lean ====
module

public import proofs.«01_k».proof.Proof.Ext
public import proofs.«01_k».proof.Proof.Gen.Kernel5Ideal.Skeleton

@[expose] public section

set_option maxRecDepth 16384

noncomputable section

/-! The per-layer-embedding block's gradient, over the extended reals: what each named value of the kernel's body is in terms of the
    values it is computed from. The body works on two halves of a tile's rows, in the same way. -/

namespace Cert.Kernel5Ideal.Ple

open Idealize.ShloMosaic Cert.Lift Cert.Kernel5Ideal Cert.Kernel5Ideal.Gen
open Cert.Ext

/-- What every row is computed with, over the extended reals: the two gains, the gate's weights and the projection's. -/
structure Weights where
  (go gl W Q : ℕ → ℕ → EReal)

/-- What the block reads by row, over the extended reals: the gradient of its output, its input, the feed-forward block's output
    and the embeddings. -/
structure Args where
  (D H F P : ℕ → ℕ → EReal)

namespace Args

variable (T : Args) (K : Weights)

/-- The input with the normalised feed-forward output added. -/
def h2 (p c : ℕ) : EReal := T.H p c + T.F p c * rms T.F p * K.go 0 c
/-- The gate's input rows. -/
def u (p c : ℕ) : EReal := T.h2 K p c * rms (T.h2 K) p * K.gl 0 c
/-- The gate. -/
def gate (p c : ℕ) : EReal := Ideal.logistic (∑ k : Fin 1024, T.u K p k * K.W k c)
/-- The projected embeddings. -/
def pp (p c : ℕ) : EReal := ∑ k : Fin 256, T.P p k * K.Q k c
/-- The gradient of the projected embeddings. -/
def dpp (p c : ℕ) : EReal := T.D p c * T.gate K p c
/-- The gradient of the gate's argument, but for its last factor. -/
def dzc (p c : ℕ) : EReal := T.D p c * T.pp K p c * T.gate K p c
/-- The gradient of the gate's argument. -/
def dz (p c : ℕ) : EReal := T.dzc K p c * (1 - T.gate K p c)
/-- The gradient of the gate's input rows. -/
def du (p c : ℕ) : EReal := ∑ k : Fin 1024, T.dz K p k * K.W c k
/-- The gradient of `h2` through the gate. -/
def dn (p c : ℕ) : EReal := rmsBack (T.h2 K) (rms (T.h2 K)) (fun p c => T.du K p c * K.gl 0 c) p c
/-- The gradient of `h2`. -/
def dh2 (p c : ℕ) : EReal := T.D p c + T.dn K p c
/-- The gradient of the feed-forward block's output. -/
def df (p c : ℕ) : EReal := rmsBack T.F (rms T.F) (fun p c => T.dh2 K p c * K.go 0 c) p c
/-- A row's part of the gate's gain's gradient. -/
def tgl (p c : ℕ) : EReal := T.du K p c * (T.h2 K p c * rms (T.h2 K) p)
/-- A row's part of the feed-forward output's gain's gradient. -/
def tgo (p c : ℕ) : EReal := T.dh2 K p c * (T.F p c * rms T.F p)
/-- The two gains' gradients from the first `n` rows, and six rows of zeros. -/
def gacc (n j c : ℕ) : EReal :=
  match j with
  | 0 => ∑ p ∈ Finset.range n, T.tgl K p c
  | 1 => ∑ p ∈ Finset.range n, T.tgo K p c
  | _ => 0
/-- The rows from row `s` on. -/
def shift (s : ℕ) : Args where
  D p c := T.D (s + p) c
  H p c := T.H (s + p) c
  F p c := T.F (s + p) c
  P p c := T.P (s + p) c

end Args

variable (T : Args) (K : Weights)

/-- The matrix unit's accumulator starts at zero. -/
abbrev cst0 : FVec Ideal S256x1024 .f32 := constant S256x1024 .f32 0x00000000#32

/-- The feed-forward output, widened. -/
theorem pay5_eq : k0_pay5 (F := Ideal) (E2 T.F)
    = (E2 T.F) := by
  funext j
  idx_vars j
  pointwise [k0_pay5]

/-- Its reciprocal root mean square. -/
theorem pay6_eq : k0_pay6 (F := Ideal) (E2 T.F)
    = (E2 fun p _ => rms T.F p) := by
  unfold k0_pay6
  rw [pay5_eq]
  funext j
  idx_vars j
  pointwise []
  simp only [E2_apply, lit_one, lit_zero, lit_1024, lit_eps, zero_add, EReal.coe_zero, EReal.coe_one]
  rfl

/-- The block's middle value. -/
theorem pay7_eq : k0_pay7 (F := Ideal) (E2 K.go) (E2 T.F) (E2 T.H)
    = (E2 (T.h2 K)) := by
  unfold k0_pay7
  rw [pay5_eq, pay6_eq]
  funext j
  idx_vars j
  pointwise []
  simp only [E2_apply, lit_one, lit_zero, lit_1024, lit_eps, zero_add, EReal.coe_zero, EReal.coe_one]
  rfl

/-- Its reciprocal root mean square. -/
theorem pay8_eq : k0_pay8 (F := Ideal) (E2 K.go) (E2 T.F) (E2 T.H)
    = (E2 fun p _ => rms (T.h2 K) p) := by
  unfold k0_pay8
  rw [pay7_eq]
  funext j
  idx_vars j
  pointwise []
  simp only [E2_apply, lit_one, lit_zero, lit_1024, lit_eps, zero_add, EReal.coe_zero, EReal.coe_one]
  rfl

/-- The gate's input rows. -/
theorem pay9_eq : k0_pay9 (F := Ideal) (E2 K.go) (E2 K.gl) (E2 T.F) (E2 T.H)
    = (E2 (T.u K)) := by
  unfold k0_pay9
  rw [pay7_eq, pay8_eq]
  funext j
  idx_vars j
  pointwise []
  simp only [E2_apply, lit_one, lit_zero, lit_1024, lit_eps, zero_add, EReal.coe_zero, EReal.coe_one]
  rfl

/-- The gate's weights. -/
theorem pay10_eq : k0_pay10 (F := Ideal) (E2 K.W)
    = (E2 K.W) := by
  funext j
  idx_vars j
  pointwise [k0_pay10]

/-- The gate. -/
theorem pay11_eq : k0_pay11 (F := Ideal) (E2 (T.u K)) (E2 K.W) cst0
    = (E2 (T.gate K)) := by
  funext j
  idx_vars j
  pointwise [k0_pay11]
  simp only [E2_apply, lit_one, lit_zero, lit_1024, lit_eps, zero_add, EReal.coe_zero, EReal.coe_one]
  rfl

/-- The projected embeddings' gradient. -/
theorem pay12_eq : k0_pay12 (F := Ideal) (E2 (T.u K)) (E2 K.W) cst0 (E2 T.D)
    = (E2 (T.dpp K)) := by
  unfold k0_pay12
  rw [pay11_eq]
  funext j
  idx_vars j
  pointwise []
  simp only [E2_apply, lit_one, lit_zero, lit_1024, lit_eps, zero_add, EReal.coe_zero, EReal.coe_one]
  rfl

/-- The gradient of the gate's argument. -/
theorem pay13_eq : k0_pay13 (F := Ideal) (E2 T.P) (E2 (T.u K)) (E2 K.W) cst0 (E2 fun c k => K.Q k c) (E2 T.D)
    = (E2 (T.dz K)) := by
  unfold k0_pay13
  rw [pay11_eq]
  funext j
  idx_vars j
  pointwise []
  simp only [E2_apply, lit_one, lit_zero, lit_1024, lit_eps, zero_add, EReal.coe_zero, EReal.coe_one]
  rfl

/-- The gradient of the gate's input rows. -/
theorem pay14_eq : k0_pay14 (F := Ideal) (E2 T.P) (E2 (T.u K)) (E2 K.W) cst0 (E2 fun c k => K.Q k c) (E2 T.D) (E2 K.W)
    = (E2 (T.du K)) := by
  unfold k0_pay14
  rw [pay13_eq]
  funext j
  idx_vars j
  pointwise []
  simp only [E2_apply, lit_one, lit_zero, lit_1024, lit_eps, zero_add, EReal.coe_zero, EReal.coe_one]
  rfl

/-- The middle value's gradient through the gate. -/
theorem pay15_eq : k0_pay15 (F := Ideal) (E2 K.gl) (E2 T.P) (E2 (T.h2 K)) (E2 fun p _ => rms (T.h2 K) p) (E2 (T.u K)) (E2 K.W) cst0 (E2 fun c k => K.Q k c) (E2 T.D) (E2 K.W)
    = (E2 (T.dn K)) := by
  unfold k0_pay15
  rw [pay14_eq]
  funext j
  idx_vars j
  pointwise []
  simp only [E2_apply, lit_one, lit_zero, lit_1024, lit_eps, zero_add, EReal.coe_zero, EReal.coe_one]
  rfl

/-- Each row's part of the gate's gain's gradient. -/
theorem pay16_eq : k0_pay16 (F := Ideal) (E2 T.P) (E2 (T.h2 K)) (E2 fun p _ => rms (T.h2 K) p) (E2 (T.u K)) (E2 K.W) cst0 (E2 fun c k => K.Q k c) (E2 T.D) (E2 K.W)
    = (E2 (T.tgl K)) := by
  unfold k0_pay16
  rw [pay14_eq]
  funext j
  idx_vars j
  pointwise []
  simp only [E2_apply, lit_one, lit_zero, lit_1024, lit_eps, zero_add, EReal.coe_zero, EReal.coe_one]
  rfl

/-- The middle value's gradient. -/
theorem pay17_eq : k0_pay17 (F := Ideal) (E2 T.D) (E2 (T.dn K))
    = (E2 (T.dh2 K)) := by
  funext j
  idx_vars j
  pointwise [k0_pay17]
  simp only [E2_apply, lit_one, lit_zero, lit_1024, lit_eps, zero_add, EReal.coe_zero, EReal.coe_one]
  rfl

/-- The feed-forward output's gradient. -/
theorem pay18_eq : k0_pay18 (F := Ideal) (E2 K.go) (E2 T.F) (E2 fun p _ => rms T.F p) (E2 T.D) (E2 (T.dn K))
    = (E2 (T.df K)) := by
  unfold k0_pay18
  rw [pay17_eq]
  funext j
  idx_vars j
  pointwise []
  simp only [E2_apply, lit_one, lit_zero, lit_1024, lit_eps, zero_add, EReal.coe_zero, EReal.coe_one]
  rfl

/-- The gate's gain's gradient, added to. -/
theorem pay19_eq (r : ℕ → EReal) : k0_pay19 (F := Ideal) (E2 (T.tgl K)) (E2 fun _ c => r c)
    = (E2 fun _ c => r c + T.gacc K 256 0 c) := by
  funext j
  idx_vars j
  pointwise [k0_pay19]
  simp only [E2_apply, lit_one, lit_zero, lit_1024, lit_eps, zero_add, EReal.coe_zero, EReal.coe_one]
  simp only [Args.gacc, Finset.sum_range]

/-- The feed-forward output's gain's gradient, added to. -/
theorem pay20_eq (r : ℕ → EReal) : k0_pay20 (F := Ideal) (E2 T.F) (E2 fun p _ => rms T.F p) (E2 T.D) (E2 (T.dn K)) (E2 fun _ c => r c)
    = (E2 fun _ c => r c + T.gacc K 256 1 c) := by
  unfold k0_pay20
  rw [pay17_eq]
  funext j
  idx_vars j
  pointwise []
  simp only [E2_apply, lit_one, lit_zero, lit_1024, lit_eps, zero_add, EReal.coe_zero, EReal.coe_one]
  simp only [Args.gacc, Finset.sum_range]
  rfl

/-- The feed-forward output, widened. -/
theorem pay21_eq : k0_pay21 (F := Ideal) (E2 T.F)
    = (E2 T.F) := by
  funext j
  idx_vars j
  pointwise [k0_pay21]

/-- Its reciprocal root mean square. -/
theorem pay22_eq : k0_pay22 (F := Ideal) (E2 T.F)
    = (E2 fun p _ => rms T.F p) := by
  funext j
  idx_vars j
  pointwise [k0_pay22]
  simp only [E2_apply, lit_one, lit_zero, lit_1024, lit_eps, zero_add, EReal.coe_zero, EReal.coe_one]
  rfl

/-- The block's middle value. -/
theorem pay23_eq : k0_pay23 (F := Ideal) (E2 K.go) (E2 T.F) (E2 T.H)
    = (E2 (T.h2 K)) := by
  unfold k0_pay23
  rw [pay22_eq]
  funext j
  idx_vars j
  pointwise []
  simp only [E2_apply, lit_one, lit_zero, lit_1024, lit_eps, zero_add, EReal.coe_zero, EReal.coe_one]
  rfl

/-- Its reciprocal root mean square. -/
theorem pay24_eq : k0_pay24 (F := Ideal) (E2 K.go) (E2 T.F) (E2 T.H)
    = (E2 fun p _ => rms (T.h2 K) p) := by
  unfold k0_pay24
  rw [pay23_eq]
  funext j
  idx_vars j
  pointwise []
  simp only [E2_apply, lit_one, lit_zero, lit_1024, lit_eps, zero_add, EReal.coe_zero, EReal.coe_one]
  rfl

/-- The gate's input rows. -/
theorem pay25_eq : k0_pay25 (F := Ideal) (E2 K.go) (E2 K.gl) (E2 T.F) (E2 T.H)
    = (E2 (T.u K)) := by
  unfold k0_pay25
  rw [pay23_eq, pay24_eq]
  funext j
  idx_vars j
  pointwise []
  simp only [E2_apply, lit_one, lit_zero, lit_1024, lit_eps, zero_add, EReal.coe_zero, EReal.coe_one]
  rfl

/-- The gate. -/
theorem pay26_eq : k0_pay26 (F := Ideal) (E2 K.go) (E2 K.gl) (E2 T.F) (E2 T.H) (E2 K.W)
    = (E2 (T.gate K)) := by
  unfold k0_pay26
  rw [pay25_eq]
  funext j
  idx_vars j
  pointwise []
  simp only [E2_apply, lit_one, lit_zero, lit_1024, lit_eps, zero_add, EReal.coe_zero, EReal.coe_one]
  rfl

/-- The projected embeddings' gradient. -/
theorem pay27_eq : k0_pay27 (F := Ideal) (E2 K.go) (E2 K.gl) (E2 T.F) (E2 T.H) (E2 K.W) (E2 T.D)
    = (E2 (T.dpp K)) := by
  unfold k0_pay27
  rw [pay26_eq]
  funext j
  idx_vars j
  pointwise []
  simp only [E2_apply, lit_one, lit_zero, lit_1024, lit_eps, zero_add, EReal.coe_zero, EReal.coe_one]
  rfl

/-- The gradient of the gate's argument, but for its last factor. -/
theorem pay28_eq : k0_pay28 (F := Ideal) (E2 K.go) (E2 K.gl) (E2 T.F) (E2 T.H) (E2 T.P) (E2 K.W) (E2 fun c k => K.Q k c) (E2 T.D)
    = (E2 (T.dzc K)) := by
  unfold k0_pay28
  rw [pay26_eq]
  funext j
  idx_vars j
  pointwise []
  simp only [E2_apply, lit_one, lit_zero, lit_1024, lit_eps, zero_add, EReal.coe_zero, EReal.coe_one]
  rfl

/-- The gradient of the gate's argument. -/
theorem pay29_eq : k0_pay29 (F := Ideal) (E2 (T.gate K)) (E2 (T.dzc K))
    = (E2 (T.dz K)) := by
  funext j
  idx_vars j
  pointwise [k0_pay29]
  simp only [E2_apply, lit_one, lit_zero, lit_1024, lit_eps, zero_add, EReal.coe_zero, EReal.coe_one]
  rfl

/-- The gradient of the gate's input rows. -/
theorem pay30_eq : k0_pay30 (F := Ideal) (E2 (T.gate K)) (E2 (T.dzc K)) (E2 K.W)
    = (E2 (T.du K)) := by
  unfold k0_pay30
  rw [pay29_eq]
  funext j
  idx_vars j
  pointwise []
  simp only [E2_apply, lit_one, lit_zero, lit_1024, lit_eps, zero_add, EReal.coe_zero, EReal.coe_one]
  rfl

/-- The gate's gain's gradient. -/
theorem pay31_eq : k0_pay31 (F := Ideal) (E2 (T.h2 K)) (E2 fun p _ => rms (T.h2 K) p) (E2 (T.gate K)) (E2 (T.dzc K)) (E2 K.W)
    = (E2 fun _ c => T.gacc K 256 0 c) := by
  unfold k0_pay31
  rw [pay30_eq]
  funext j
  idx_vars j
  pointwise []
  simp only [E2_apply, lit_one, lit_zero, lit_1024, lit_eps, zero_add, EReal.coe_zero, EReal.coe_one]
  simp only [Args.gacc, Finset.sum_range]
  rfl

/-- The middle value's gradient. -/
theorem pay32_eq : k0_pay32 (F := Ideal) (E2 K.gl) (E2 (T.h2 K)) (E2 fun p _ => rms (T.h2 K) p) (E2 (T.gate K)) (E2 T.D) (E2 (T.dzc K)) (E2 K.W)
    = (E2 (T.dh2 K)) := by
  unfold k0_pay32
  rw [pay30_eq]
  funext j
  idx_vars j
  pointwise []
  simp only [E2_apply, lit_one, lit_zero, lit_1024, lit_eps, zero_add, EReal.coe_zero, EReal.coe_one]
  rfl

/-- The feed-forward output's gradient. -/
theorem pay33_eq : k0_pay33 (F := Ideal) (E2 K.go) (E2 K.gl) (E2 T.F) (E2 fun p _ => rms T.F p) (E2 (T.h2 K)) (E2 fun p _ => rms (T.h2 K) p) (E2 (T.gate K)) (E2 T.D) (E2 (T.dzc K)) (E2 K.W)
    = (E2 (T.df K)) := by
  unfold k0_pay33
  rw [pay32_eq]
  funext j
  idx_vars j
  pointwise []
  simp only [E2_apply, lit_one, lit_zero, lit_1024, lit_eps, zero_add, EReal.coe_zero, EReal.coe_one]
  rfl

/-- The feed-forward output's gradient, as stored. -/
theorem pay1_eq : k0_pay1 (F := Ideal) (E2 (T.df K))
    = (E2 (T.df K)) := by
  funext j
  idx_vars j
  pointwise [k0_pay1]

/-- The gate's gain's gradient, added to. -/
theorem pay2_eq (r : ℕ → EReal) : k0_pay2 (F := Ideal) (E2 fun _ c => T.gacc K 256 0 c) (E2 fun _ c => r c)
    = (E2 fun _ c => r c + T.gacc K 256 0 c) := by
  funext j
  idx_vars j
  pointwise [k0_pay2]
  simp only [E2_apply, lit_one, lit_zero, lit_1024, lit_eps, zero_add, EReal.coe_zero, EReal.coe_one]

/-- The feed-forward output's gain's gradient, added to. -/
theorem pay3_eq (r : ℕ → EReal) : k0_pay3 (F := Ideal) (E2 T.F) (E2 fun p _ => rms T.F p) (E2 (T.dh2 K)) (E2 fun _ c => r c)
    = (E2 fun _ c => r c + T.gacc K 256 1 c) := by
  funext j
  idx_vars j
  pointwise [k0_pay3]
  simp only [E2_apply, lit_one, lit_zero, lit_1024, lit_eps, zero_add, EReal.coe_zero, EReal.coe_one]
  simp only [Args.gacc, Finset.sum_range]
  rfl

/-- The accumulated rows start at zero. -/
theorem pay4_eq : k0_pay4 (F := Ideal) = E2 fun _ _ => 0 := by
  funext j
  idx_vars j
  pointwise [k0_pay4]
  rfl

end Cert.Kernel5Ideal.Ple

end
-- ==== Proof.PleFwd.lean ====
module

public import proofs.«01_k».proof.Proof.PleTile
public import proofs.«01_k».proof.Proof.Gen.Kernel9Ideal.Value
public import Idealize.ShloMosaic.Lib.Pipeline.ValueKit
public import Idealize.ShloMosaic.Lib.Pipeline.ReadBack

@[expose] public section

set_option maxRecDepth 16384

noncomputable section

/-! The per-layer-embedding block's forward call, over the extended reals: what one grid point computes, and the whole result. -/

namespace Cert.Kernel9Ideal.PleFwd

open Idealize.ShloMosaic Idealize.ShloMosaic.TcCoe Cert.Lift Cert.Ext Cert.Kernel9Ideal Cert.Kernel9Ideal.Gen
open Idealize.ShloMosaic.Pipeline (Dat)
open Cert.Kernel5Ideal.Ple (Args Weights)

variable (T : Args) (K : Weights)

/-- The block's output: its middle value with the gated embeddings added. -/
def h3 (p c : ℕ) : EReal := T.h2 K p c + T.pp K p c * T.gate K p c

/-- The middle value. -/
theorem pay2_eq : k0_pay2 (F := Ideal) (E2 T.H) (E2 T.F) (E2 K.go) = E2 (T.h2 K) := by
  funext j
  idx_vars j
  pointwise [k0_pay2]
  simp only [E2_apply, lit_one, lit_zero, lit_1024, lit_eps, zero_add, EReal.coe_zero, EReal.coe_one]
  rfl

/-- The gate. -/
theorem pay3_eq : k0_pay3 (F := Ideal) (E2 T.H) (E2 T.F) (E2 K.go) (E2 K.gl) (E2 K.W) = E2 (T.gate K) := by
  unfold k0_pay3
  rw [pay2_eq]
  funext j
  idx_vars j
  pointwise []
  simp only [E2_apply, lit_one, lit_zero, lit_1024, lit_eps, zero_add, EReal.coe_zero, EReal.coe_one]
  rfl

/-- The embeddings' rows, as they are. -/
theorem pay4_eq : k0_pay4 (F := Ideal) (E2 T.P) = E2 T.P := by
  funext j
  idx_vars j
  pointwise [k0_pay4]

/-- The block's output. -/
theorem pay1_eq : k0_pay1 (F := Ideal) (E2 (T.h2 K)) (E2 (T.gate K)) (E2 T.P) (E2 fun a b => K.Q b a) = E2 (h3 T K) := by
  funext j
  idx_vars j
  pointwise [k0_pay1]
  simp only [E2_apply, lit_one, lit_zero, lit_1024, lit_eps, zero_add, EReal.coe_zero, EReal.coe_one]
  rfl

variable (m : (ℓ : Loc nD τ sig) → Buf (Elt Ideal) ℓ) (c : Dev nD)

/-- The arguments in memory are the arrays `T` and `K`; the embeddings are the first quarter of `PA`. -/
structure Holds (PA : ℕ → ℕ → EReal) : Prop where
  hH : m ((c : Thread nD τ).loc main_arg0) = (E2 T.H : FVec Ideal S16384x1024 .f32)
  hF : m ((c : Thread nD τ).loc main_arg1) = (E2 T.F : FVec Ideal S16384x1024 .bf16)
  hP : m ((c : Thread nD τ).loc main_arg2) = (E2 PA : FVec Ideal S65536x256 .f32)
  hgo : m ((c : Thread nD τ).loc main_arg3) = (E2 K.go : FVec Ideal S1x1024 .f32)
  hgl : m ((c : Thread nD τ).loc main_arg4) = (E2 K.gl : FVec Ideal S1x1024 .f32)
  hW : m ((c : Thread nD τ).loc main_arg5) = (E2 K.W : FVec Ideal S1024x1024 .f32)
  hQ : m ((c : Thread nD τ).loc main_arg6) = (E2 K.Q : FVec Ideal S256x1024 .f32)
  part : T.P = PA

/-- The blocks of rows, and the blocks that stay. -/
theorem idxs : ∀ t : Fin cfg0.N, (win0_0.index t 0 = t.val ∧ win0_0.index t 1 = 0 ∧ win0_1.index t 0 = t.val ∧ win0_1.index t 1 = 0 ∧
    win0_2.index t 0 = t.val ∧ win0_2.index t 1 = 0) ∧ (win0_3.index t 0 = 0 ∧ win0_3.index t 1 = 0 ∧ win0_4.index t 0 = 0 ∧ win0_4.index t 1 = 0 ∧
    win0_5.index t 0 = 0 ∧ win0_5.index t 1 = 0 ∧ win0_6.index t 0 = 0 ∧ win0_6.index t 1 = 0) ∧
    win0_7.index t 0 = t.val ∧ win0_7.index t 1 = 0 :=
  (by decide +kernel : ∀ t : Fin grid0.N, _)

variable {T K} {PA : ℕ → ℕ → EReal}

/-- The gate's weights, cast before the call. -/
theorem V_W (H : Holds T K m c PA) : V m c main_v0 = (E2 K.W : FVec Ideal S1024x1024 .bf16) := by
  have e : V m c main_v0 = truncf (F := Ideal) .bf16 (m ((c : Thread nD τ).loc main_arg5)) bitsLt_bf16_f32 := by
    rfl
  rw [e, H.hW]
  rfl

/-- The projection's weights, transposed and cast before the call. -/
theorem V_Q (H : Holds T K m c PA) : V m c main_v2 = (E2 fun a b => K.Q b a : FVec Ideal S1024x256 .bf16) := by
  have e : V m c main_v2 = truncf (F := Ideal) .bf16 (transpose S1024x256 [1, 0] (m ((c : Thread nD τ).loc main_arg6)) transposes_S256x1024_S1024x256_1_0) bitsLt_bf16_f32 := by
    rfl
  rw [e, H.hQ]
  funext j
  idx_vars j
  pointwise []
  rfl

/-- The input's rows. -/
theorem blk0 (H : Holds T K m c PA) (t : Fin cfg0.N) : iblk m c 0 t = (E2 ((T.shift (512 * t.val)).H) : FVec Ideal S512x1024 .f32) := by
  obtain ⟨⟨e0, e0', e1, e1', e2, e2'⟩, ⟨e3, e3', e4, e4', e5, e5', e6, e6'⟩, -, -⟩ := idxs t
  funext y
  show V m c main_arg0 (((cfg0.win 0).blk t).view.emb y) = _
  rw [(V_main_arg0 m c).trans H.hH]
  show T.H (((cfg0.win 0).blk t).view.emb y 0).val (((cfg0.win 0).blk t).view.emb y 1).val = T.H (512 * t.val + (y 0).val) (y 1).val
  blk_simp
  rw [e0, e0', Nat.zero_mul, Nat.zero_add, Nat.mul_comm]

/-- The feed-forward output's rows. -/
theorem blk1 (H : Holds T K m c PA) (t : Fin cfg0.N) : iblk m c 1 t = (E2 ((T.shift (512 * t.val)).F) : FVec Ideal S512x1024 .bf16) := by
  obtain ⟨⟨e0, e0', e1, e1', e2, e2'⟩, ⟨e3, e3', e4, e4', e5, e5', e6, e6'⟩, -, -⟩ := idxs t
  funext y
  show V m c main_arg1 (((cfg0.win 1).blk t).view.emb y) = _
  rw [(V_main_arg1 m c).trans H.hF]
  show T.F (((cfg0.win 1).blk t).view.emb y 0).val (((cfg0.win 1).blk t).view.emb y 1).val = T.F (512 * t.val + (y 0).val) (y 1).val
  blk_simp
  rw [e1, e1', Nat.zero_mul, Nat.zero_add, Nat.mul_comm]

/-- The embeddings' rows. -/
theorem blk2 (H : Holds T K m c PA) (t : Fin cfg0.N) : iblk m c 2 t = (E2 ((T.shift (512 * t.val)).P) : FVec Ideal S512x256 .f32) := by
  obtain ⟨⟨e0, e0', e1, e1', e2, e2'⟩, ⟨e3, e3', e4, e4', e5, e5', e6, e6'⟩, -, -⟩ := idxs t
  funext y
  show V m c main_arg2 (((cfg0.win 2).blk t).view.emb y) = _
  rw [(V_main_arg2 m c).trans H.hP]
  show PA (((cfg0.win 2).blk t).view.emb y 0).val (((cfg0.win 2).blk t).view.emb y 1).val = T.P (512 * t.val + (y 0).val) (y 1).val
  blk_simp
  rw [H.part, e2, e2', Nat.zero_mul, Nat.zero_add, Nat.mul_comm]

/-- The feed-forward output's gain. -/
theorem blk3 (H : Holds T K m c PA) (t : Fin cfg0.N) : iblk m c 3 t = (E2 (K.go) : FVec Ideal S1x1024 .f32) := by
  obtain ⟨⟨e0, e0', e1, e1', e2, e2'⟩, ⟨e3, e3', e4, e4', e5, e5', e6, e6'⟩, -, -⟩ := idxs t
  funext y
  show V m c main_arg3 (((cfg0.win 3).blk t).view.emb y) = _
  rw [(V_main_arg3 m c).trans H.hgo]
  show K.go (((cfg0.win 3).blk t).view.emb y 0).val (((cfg0.win 3).blk t).view.emb y 1).val = K.go (y 0).val (y 1).val
  blk_simp
  have hy : (y 0).val < 1 := (y 0).isLt
  simp only [e3, e3', Nat.zero_mul, Nat.zero_add, show (y 0).val = 0 by omega]

/-- The gate's gain. -/
theorem blk4 (H : Holds T K m c PA) (t : Fin cfg0.N) : iblk m c 4 t = (E2 (K.gl) : FVec Ideal S1x1024 .f32) := by
  obtain ⟨⟨e0, e0', e1, e1', e2, e2'⟩, ⟨e3, e3', e4, e4', e5, e5', e6, e6'⟩, -, -⟩ := idxs t
  funext y
  show V m c main_arg4 (((cfg0.win 4).blk t).view.emb y) = _
  rw [(V_main_arg4 m c).trans H.hgl]
  show K.gl (((cfg0.win 4).blk t).view.emb y 0).val (((cfg0.win 4).blk t).view.emb y 1).val = K.gl (y 0).val (y 1).val
  blk_simp
  have hy : (y 0).val < 1 := (y 0).isLt
  simp only [e4, e4', Nat.zero_mul, Nat.zero_add, show (y 0).val = 0 by omega]

/-- The gate's weights. -/
theorem blk5 (H : Holds T K m c PA) (t : Fin cfg0.N) : iblk m c 5 t = (E2 (K.W) : FVec Ideal S1024x1024 .bf16) := by
  obtain ⟨⟨e0, e0', e1, e1', e2, e2'⟩, ⟨e3, e3', e4, e4', e5, e5', e6, e6'⟩, -, -⟩ := idxs t
  funext y
  show V m c main_v0 (((cfg0.win 5).blk t).view.emb y) = _
  rw [V_W m c H]
  show K.W (((cfg0.win 5).blk t).view.emb y 0).val (((cfg0.win 5).blk t).view.emb y 1).val = K.W (y 0).val (y 1).val
  blk_simp
  simp only [e5, e5', Nat.zero_mul, Nat.zero_add]

/-- The projection's weights. -/
theorem blk6 (H : Holds T K m c PA) (t : Fin cfg0.N) : iblk m c 6 t = (E2 (fun a b => K.Q b a) : FVec Ideal S1024x256 .bf16) := by
  obtain ⟨⟨e0, e0', e1, e1', e2, e2'⟩, ⟨e3, e3', e4, e4', e5, e5', e6, e6'⟩, -, -⟩ := idxs t
  funext y
  show V m c main_v2 (((cfg0.win 6).blk t).view.emb y) = _
  rw [V_Q m c H]
  show K.Q (((cfg0.win 6).blk t).view.emb y 1).val (((cfg0.win 6).blk t).view.emb y 0).val = K.Q (y 1).val (y 0).val
  blk_simp
  simp only [e6, e6', Nat.zero_mul, Nat.zero_add]

/-- What one grid point leaves: its rows of the result. -/
theorem outs (H : Holds T K m c PA) (t : Fin cfg0.N) :
    (dats m 0 c).after 7 t = (E2 (h3 (T.shift (512 * t.val)) K) : FVec Ideal S512x1024 .f32) := by
  rw [after0_7]
  unfold out0_7
  frame_out
  simp only [blk0 m c H, blk1 m c H, blk2 m c H, blk3 m c H, blk4 m c H, blk5 m c H, blk6 m c H]
  rw [pay2_eq, pay3_eq, pay4_eq, pay1_eq]

/-- The result, all rows. -/
theorem final (H : Holds T K m c PA) : (dats m 0 c).arrAt 7 cfg0.N = (E2 (h3 T K) : FVec Ideal S16384x1024 .f32) := by
  refine (dats m 0 c).arrAt_eq_of_covers 7 _ (by decide +kernel) fun t hf y => ?_
  blk_simp
  rw [outs m c H t]
  obtain ⟨-, -, e, e'⟩ := idxs t
  show h3 T K (512 * t.val + (y 0).val) (y 1).val =
    h3 T K (((cfg0.win 7).blk t).view.emb y 0).val (((cfg0.win 7).blk t).view.emb y 1).val
  blk_simp
  rw [e, e', Nat.mul_comm 512, Nat.zero_mul, Nat.zero_add]

end Cert.Kernel9Ideal.PleFwd

end
-- ==== Proof.PleFwdEq.lean ====
module

public import proofs.«01_k».proof.Proof.PleFwd
public import proofs.«01_k».proof.Proof.Gen.Reference9Ideal.Run
public import proofs.«01_k».proof.Proof.Gen.Reference9Ideal.Read
public import proofs.«01_k».proof.Defs

@[expose] public section

set_option maxRecDepth 16384

noncomputable section

/-! The per-layer-embedding block's forward reference, and its equality with what the kernel leaves. -/

namespace Cert.Proof.PleFwd

open Idealize.ShloMosaic Idealize.SL.Sem Idealize.ShloMosaic.TcCoe Cert.Lift Cert.Ext
open Cert.Reference9Ideal Cert.Reference9Ideal.Gen Cert.Reference9Ideal.Read
open Cert.Kernel5Ideal.Ple (Args Weights)
open Cert.Kernel9Ideal.PleFwd (Holds h3)

variable (T : Args) (K : Weights)

/-- The middle value. -/
theorem v17_eq : val_main_v17 (F := Ideal) (E2 T.H) (E2 T.F) (E2 K.go) = E2 (T.h2 K) := by
  unfold val_main_v17 val_main_v16 val_main_v13 val_main_v12 val_main_v11 val_main_v10 val_main_v8 val_main_v6 val_main_v5 val_main_v4 val_main_v0
  funext j
  idx_vars j
  pointwise [val_main_v15, val_main_v14, val_main_v2, val_main_v7, val_main_v9, val_main_cst, val_main_cst_0, val_main_cst_1]
  simp only [E2_apply, lit_one, lit_zero, lit_1024, lit_eps, zero_add, EReal.coe_zero, EReal.coe_one]
  rfl

/-- The gate's input rows. -/
theorem v30_eq : val_main_v30 (F := Ideal) (E2 T.H) (E2 T.F) (E2 K.go) (E2 K.gl) = E2 (T.u K) := by
  unfold val_main_v30 val_main_v27 val_main_v26 val_main_v25 val_main_v24 val_main_v22 val_main_v20 val_main_v19 val_main_v18
  rw [v17_eq]
  funext j
  idx_vars j
  pointwise [val_main_v29, val_main_v28, val_main_v3, val_main_v21, val_main_v23, val_main_cst_2, val_main_cst_3, val_main_cst_4]
  simp only [E2_apply, lit_one, lit_zero, lit_1024, lit_eps, zero_add, EReal.coe_zero, EReal.coe_one]
  rfl

/-- The gate. -/
theorem v37_eq : val_main_v37 (F := Ideal) (E2 T.H) (E2 T.F) (E2 K.go) (E2 K.gl) (E2 K.W) = E2 (T.gate K) := by
  unfold val_main_v37 val_main_v35 val_main_v33 val_main_v32 val_main_v31
  rw [v30_eq]
  funext j
  idx_vars j
  pointwise [val_main_v34, val_main_v36, val_main_cst_5, val_main_cst_6]
  simp only [E2_apply, lit_one, EReal.coe_one]
  rfl

/-- The projected embeddings. -/
theorem v38_eq (PA : ℕ → ℕ → EReal) (hP : T.P = PA) : val_main_v38 (F := Ideal) (E2 PA) (E2 K.Q) = E2 (T.pp K) := by
  unfold val_main_v38
  funext j
  idx_vars j
  pointwise [val_main_v1]
  simp only [E2_apply, Args.pp, hP]

/-- The result. -/
theorem v40_eq (PA : ℕ → ℕ → EReal) (hP : T.P = PA) : val_main_v40 (F := Ideal) (E2 T.H) (E2 T.F) (E2 PA) (E2 K.go) (E2 K.gl) (E2 K.W) (E2 K.Q)
    = (E2 (h3 T K) : FVec Ideal S16384x1024 .f32) := by
  unfold val_main_v40 val_main_v39
  rw [v17_eq, v37_eq, v38_eq T K PA hP]
  funext j
  idx_vars j
  pointwise []
  rfl

attribute [local instance] Cert.Kernel9Ideal.Gen.facts Cert.Reference9Ideal.Gen.facts

/-- Two-axis arguments in memory are always such arrays. -/
theorem holds (m : (ℓ : Loc Cert.Kernel9Ideal.nD Cert.Kernel9Ideal.τ Cert.Kernel9Ideal.sig) → Buf (Elt Ideal) ℓ)
    (c : Dev Cert.Kernel9Ideal.nD) : ∃ (T : Args) (K : Weights) (PA : ℕ → ℕ → EReal), Holds T K m c PA := by
  obtain ⟨H, e0⟩ := exists_E2 (a := 16384) (b := 1024) (m ((c : Thread Cert.Kernel9Ideal.nD Cert.Kernel9Ideal.τ).loc Cert.Kernel9Ideal.main_arg0))
  obtain ⟨X, e1⟩ := exists_E2 (a := 16384) (b := 1024) (m ((c : Thread Cert.Kernel9Ideal.nD Cert.Kernel9Ideal.τ).loc Cert.Kernel9Ideal.main_arg1))
  obtain ⟨PA, e2⟩ := exists_E2 (a := 65536) (b := 256) (m ((c : Thread Cert.Kernel9Ideal.nD Cert.Kernel9Ideal.τ).loc Cert.Kernel9Ideal.main_arg2))
  obtain ⟨go, e3⟩ := exists_E2 (a := 1) (b := 1024) (m ((c : Thread Cert.Kernel9Ideal.nD Cert.Kernel9Ideal.τ).loc Cert.Kernel9Ideal.main_arg3))
  obtain ⟨gl, e4⟩ := exists_E2 (a := 1) (b := 1024) (m ((c : Thread Cert.Kernel9Ideal.nD Cert.Kernel9Ideal.τ).loc Cert.Kernel9Ideal.main_arg4))
  obtain ⟨W, e5⟩ := exists_E2 (a := 1024) (b := 1024) (m ((c : Thread Cert.Kernel9Ideal.nD Cert.Kernel9Ideal.τ).loc Cert.Kernel9Ideal.main_arg5))
  obtain ⟨Q, e6⟩ := exists_E2 (a := 256) (b := 1024) (m ((c : Thread Cert.Kernel9Ideal.nD Cert.Kernel9Ideal.τ).loc Cert.Kernel9Ideal.main_arg6))
  exact ⟨⟨fun _ _ => 0, H, X, PA⟩, ⟨go, gl, W, Q⟩, PA, ⟨e0, e1, e2, e3, e4, e5, e6, rfl⟩⟩

/-- The reference runs and keeps its arguments; it has no semaphores. -/
theorem frame_reference : Cert.quiescent_Reference9Ideal := fun m g _ =>
  (θ_run Cert.Reference9Ideal.defs _ _).mono (fun r h => ⟨fun c => (h c).2, sem_eq_zero_of_no_sems (by decide) r.2⟩)
    (Cert.Reference9Ideal.Value.run (F := Ideal) m g)

/-- The kernel's result is the reference's, whatever the arguments. -/
theorem algebraic : Cert.algebraic_Kernel9Ideal_Reference9Ideal := by
  intro m g m' g' hpre hargs
  refine ⟨fun c => (Cert.Kernel9Ideal.Gen.dats m 0 c).arrAt 7 Cert.Kernel9Ideal.cfg0.N, Cert.Kernel9Ideal.Value.run_blocks m g, ?_⟩
  refine (θ_run Cert.Reference9Ideal.defs _ _).mono (fun r h c => ?_) (Cert.Reference9Ideal.Value.run (F := Ideal) m' g')
  obtain ⟨T, K, PA, H⟩ := holds m c
  obtain ⟨a0, a1, a2, a3, a4, a5, a6⟩ := hargs c
  obtain ⟨r0, rest⟩ := h c
  have b0 := a0.trans H.hH
  have b1 := a1.trans H.hF
  have b2 := a2.trans H.hP
  have b3 := a3.trans H.hgo
  have b4 := a4.trans H.hgl
  have b5 := a5.trans H.hW
  have b6 := a6.trans H.hQ
  refine ⟨r0.trans ((val_main_v40_eq _ _).trans (Eq.trans ?_ ((v40_eq T K PA H.part).trans (Cert.Kernel9Ideal.PleFwd.final m c H).symm))), rest⟩
  exact congr (congr (congr (congr (congr (congr (congrArg (val_main_v40 (F := Ideal)) b0) b1) b2) b3) b4) b5) b6

end Cert.Proof.PleFwd

end
-- ==== Proof.Rope.lean ====
module

public import proofs.«01_k».proof.Proof.PleTile

@[expose] public section

set_option maxRecDepth 16384

noncomputable section

/-! The rotary position embedding over the extended reals, and the index facts about lanes it rests on. -/

namespace Cert.Rope

open Idealize.ShloMosaic Cert.Lift Cert.Ext

/-- The `d`-th frequency: one over ten thousand to the power of `2 d` over 64. -/
def freq (d : ℕ) : EReal :=
  Ideal.div 1 (Ideal.pow (Ideal.ofBits FTy.f32 1176256512#32)
    (Ideal.div (Ideal.ofBits FTy.f32 1073741824#32 * FloatOps.sitofp (F := Ideal) FTy.f32 (BitVec.ofNat 32 d)) (Ideal.ofBits FTy.f32 1115684864#32)))

/-- The angle of position `p` at frequency `d`. -/
def ang (p d : ℕ) : EReal := FloatOps.sitofp (F := Ideal) FTy.f32 (BitVec.ofNat 32 p) * freq d

/-- The lane a lane is paired with: half a head further on in the first half of a head, half a head back in the second. -/
def pair (y : ℕ → ℕ → EReal) (p c : ℕ) : EReal := if c % 64 < 32 then y p (c + 32) else y p (c - 32)

/-- Rows rotated by tables: a cosine table and a sine table which repeat every 128 lanes. -/
def turned (C S : ℕ → ℕ → EReal) (y : ℕ → ℕ → EReal) (p c : ℕ) : EReal := y p c * C p (c % 128) + pair y p c * S p (c % 128)

/-- The sine's sign: minus in the first half of a head. -/
def sgn (c : ℕ) : EReal := if c % 64 < 32 then -1 else 1

/-- The cosine table. -/
def cosT (p l : ℕ) : EReal := Ideal.cos (ang p (l % 32))

/-- The sine table, with its signs. -/
def sinT (p l : ℕ) : EReal := Ideal.sin (ang p (l % 32)) * sgn l

/-- Rows with the rotary position embedding, head by head. -/
def roped (y : ℕ → ℕ → EReal) (p c : ℕ) : EReal := turned cosT sinT y p c

/-- In the first half of a head: the lane by the cosine minus its partner by the sine. -/
theorem roped_lo (y : ℕ → ℕ → EReal) (p c : ℕ) (h : c % 64 < 32) :
    roped y p c = y p c * Ideal.cos (ang p (c % 32)) - y p (c + 32) * Ideal.sin (ang p (c % 32)) := by
  have e1 : c % 128 % 32 = c % 32 := by omega
  have e2 : c % 128 % 64 < 32 := by omega
  simp only [roped, turned, pair, cosT, sinT, sgn, e1, if_pos h, if_pos e2]
  rw [mul_neg, mul_one, mul_neg, sub_eq_add_neg]

/-- In the second half of a head: the lane by the cosine plus its partner by the sine. -/
theorem roped_hi (y : ℕ → ℕ → EReal) (p c : ℕ) (h : ¬ c % 64 < 32) :
    roped y p c = y p c * Ideal.cos (ang p (c % 32)) + y p (c - 32) * Ideal.sin (ang p (c % 32)) := by
  have e1 : c % 128 % 32 = c % 32 := by omega
  have e2 : ¬ c % 128 % 64 < 32 := by omega
  simp only [roped, turned, pair, cosT, sinT, sgn, e1, if_neg h, if_neg e2, mul_one]

/-- The rotation spelt head by head: lane `c` is lane `c % 64` of head `c / 64`. -/
theorem heads (y : ℕ → ℕ → EReal) (p c : ℕ) :
    (if h : c % 64 < 32 then
      y p c * Ideal.cos (ang p (c % 64)) - y p (c / 64 * 64 + (32 + c % 64)) * Ideal.sin (ang p (c % 64))
    else
      y p (c / 64 * 64 + (32 + (c % 64 - 32))) * Ideal.cos (ang p (c % 64 - 32)) +
        y p (c / 64 * 64 + (c % 64 - 32)) * Ideal.sin (ang p (c % 64 - 32))) = roped y p c := by
  by_cases h : c % 64 < 32
  · rw [dif_pos h, roped_lo y p c h, show c / 64 * 64 + (32 + c % 64) = c + 32 by omega, show c % 64 = c % 32 by omega]
  · rw [dif_neg h, roped_hi y p c h, show c / 64 * 64 + (32 + (c % 64 - 32)) = c by omega,
      show c / 64 * 64 + (c % 64 - 32) = c - 32 by omega, show c % 64 - 32 = c % 32 by omega]

/-- The literal -1. -/
theorem lit_neg_one : Ideal.ofBits .f32 0xBF800000#32 = (-1 : EReal) := by
  have h : Ideal.ofBits .f32 0xBF800000#32 = ((-1 : ℝ) : EReal) := by
    simp [Ideal.ofBits, Ideal.ieee, -EReal.coe_mul]; norm_num
  rw [h, EReal.coe_neg, EReal.coe_one]

/-- The literal 1. -/
theorem lit_one' : Ideal.ofBits .f32 0x3F800000#32 = (1 : EReal) := lit_one.trans EReal.coe_one

/-- Whether a lane lies in the first half of its head, as the kernel computes it. -/
theorem lane : ∀ n : Fin 1024, IntOp.cmpi CmpIPredicate.slt
    (Scalar.select
      (IntOp.andi
        (IntOp.xori
          (IntOp.cmpi CmpIPredicate.slt
            (IntOp.remsi ArithUnit.vector (BitVec.ofNat 32 n.val)
              (Scalar.select (Scalar.cmpi CmpIPredicate.eq 64#32 0#32) 1#32 64#32))
            0#32)
          (Scalar.cmpi CmpIPredicate.slt (Scalar.select (Scalar.cmpi CmpIPredicate.eq 64#32 0#32) 1#32 64#32)
            0#32))
        (IntOp.cmpi CmpIPredicate.ne
          (IntOp.remsi ArithUnit.vector (BitVec.ofNat 32 n.val)
            (Scalar.select (Scalar.cmpi CmpIPredicate.eq 64#32 0#32) 1#32 64#32))
          0#32))
      (IntOp.addi
        (IntOp.remsi ArithUnit.vector (BitVec.ofNat 32 n.val)
          (Scalar.select (Scalar.cmpi CmpIPredicate.eq 64#32 0#32) 1#32 64#32))
        (Scalar.select (Scalar.cmpi CmpIPredicate.eq 64#32 0#32) 1#32 64#32))
      (IntOp.remsi ArithUnit.vector (BitVec.ofNat 32 n.val)
        (Scalar.select (Scalar.cmpi CmpIPredicate.eq 64#32 0#32) 1#32 64#32)))
    32#32 = if n.val % 64 < 32 then 1#1 else 0#1 := by
  decide +kernel

/-- A table of 128 lanes laid side by side eight times repeats. -/
theorem copies8 (f : ℕ → EReal) (n : ℕ) (hn : n < 1024) :
    (if h : n < 128 then f n
        else
          if h : n - 128 < 128 then f (n - 128)
          else
            if h : n - 128 - 128 < 128 then f (n - 128 - 128)
            else
              if h : n - 128 - 128 - 128 < 128 then f (n - 128 - 128 - 128)
              else
                if h : n - 128 - 128 - 128 - 128 < 128 then f (n - 128 - 128 - 128 - 128)
                else
                  if h : n - 128 - 128 - 128 - 128 - 128 < 128 then f (n - 128 - 128 - 128 - 128 - 128)
                  else
                    if h : n - 128 - 128 - 128 - 128 - 128 - 128 < 128 then
                      f (n - 128 - 128 - 128 - 128 - 128 - 128)
                    else f (n - 128 - 128 - 128 - 128 - 128 - 128 - 128)) = f (n % 128) := by
  split_ifs <;> congr 1 <;> omega

/-- A table of 128 lanes laid side by side twice repeats. -/
theorem copies2 (f : ℕ → EReal) (n : ℕ) (hn : n < 256) :
    (if h : n < 128 then f n else f (n - 128)) = f (n % 128) := by
  split_ifs <;> congr 1 <;> omega

/-- Taking the partner by the lane's bit, among `W` lanes. -/
theorem partner (W : ℕ) (hW : W % 64 = 0) (y : ℕ → ℕ → EReal) (p n : ℕ) (hn : n < W) :
    (Scalar.select (if n % 64 < 32 then 1#1 else 0#1) (y p ((n + W - (W - 32)) % W)) (y p ((n + W - 32) % W)) : EReal) = pair y p n := by
  unfold pair Scalar.select
  by_cases h : n % 64 < 32
  · have e : (n + W - (W - 32)) % W = n + 32 := by
      have : n + W - (W - 32) = n + 32 := by omega
      rw [this, Nat.mod_eq_of_lt (by omega)]
    simp [h, e]
  · have e : (n + W - 32) % W = n - 32 := by
      have : n + W - 32 = (n - 32) + W := by omega
      rw [this, Nat.add_mod_right, Nat.mod_eq_of_lt (by omega)]
    simp [h, e]

end Cert.Rope

end
-- ==== Proof.PleQ.lean ====
module

public import proofs.«01_k».proof.Proof.Rope
public import proofs.«01_k».proof.Proof.PleFwd
public import proofs.«01_k».proof.Proof.Gen.Kernel11Ideal.Value
public import Idealize.ShloMosaic.Lib.Pipeline.ValueKit
public import Idealize.ShloMosaic.Lib.Pipeline.ReadBack

@[expose] public section

set_option maxRecDepth 16384

noncomputable section

/-! The per-layer-embedding block's forward call with the next layer's queries, over the extended reals: what one grid point computes, and the whole results. -/

namespace Cert.Kernel11Ideal.PleQ

open Idealize.ShloMosaic Idealize.ShloMosaic.TcCoe Cert.Lift Cert.Ext Cert.Rope Cert.Kernel11Ideal Cert.Kernel11Ideal.Gen
open Idealize.ShloMosaic.Pipeline (Dat)
open Cert.Kernel5Ideal.Ple (Args Weights)
open Cert.Kernel9Ideal.PleFwd (h3)

variable (T : Args) (K : Weights) (g w : ℕ → ℕ → EReal)

/-- The next block's input rows: the output normalised. -/
def hn (p c : ℕ) : EReal := h3 T K p c * rms (h3 T K) p * g 0 c

/-- Rows by a matrix. -/
def mm (x w : ℕ → ℕ → EReal) (p c : ℕ) : EReal := ∑ k : Fin 1024, x p k * w k c

/-- The middle value. -/
theorem pay2_eq : k0_pay2 (F := Ideal) (E2 T.H) (E2 T.F) (E2 K.go) = E2 (T.h2 K) := by
  funext j
  idx_vars j
  pointwise [k0_pay2]
  simp only [E2_apply, lit_one, lit_zero, lit_1024, lit_eps, zero_add, EReal.coe_zero, EReal.coe_one]
  rfl

/-- The gate. -/
theorem pay3_eq : k0_pay3 (F := Ideal) (E2 T.H) (E2 T.F) (E2 K.go) (E2 K.gl) (E2 K.W) = E2 (T.gate K) := by
  unfold k0_pay3
  rw [pay2_eq]
  funext j
  idx_vars j
  pointwise []
  simp only [E2_apply, lit_one, lit_zero, lit_1024, lit_eps, zero_add, EReal.coe_zero, EReal.coe_one]
  rfl

/-- The embeddings' rows, as they are. -/
theorem pay4_eq : k0_pay4 (F := Ideal) (E2 T.P) = E2 T.P := by
  funext j
  idx_vars j
  pointwise [k0_pay4]

/-- The block's output. -/
theorem pay5_eq : k0_pay5 (F := Ideal) (E2 (T.h2 K)) (E2 (T.gate K)) (E2 T.P) (E2 fun a b => K.Q b a) = E2 (h3 T K) := by
  funext j
  idx_vars j
  pointwise [k0_pay5]
  simp only [E2_apply, lit_one, lit_zero, lit_1024, lit_eps, zero_add, EReal.coe_zero, EReal.coe_one]
  rfl

/-- The next block's input rows. -/
theorem pay6_eq : k0_pay6 (F := Ideal) (E2 (T.h2 K)) (E2 (T.gate K)) (E2 T.P) (E2 fun a b => K.Q b a) (E2 g) = E2 (hn T K g) := by
  unfold k0_pay6
  rw [pay5_eq]
  funext j
  idx_vars j
  pointwise []
  simp only [E2_apply, lit_one, lit_zero, lit_1024, lit_eps, zero_add, EReal.coe_zero, EReal.coe_one]
  rfl

/-- The queries before the rotation. -/
theorem pay7_eq : k0_pay7 (F := Ideal) (E2 (T.h2 K)) (E2 (T.gate K)) (E2 T.P) (E2 fun a b => K.Q b a) (E2 g) (E2 w) = E2 (mm (hn T K g) w) := by
  unfold k0_pay7
  rw [pay6_eq]
  funext j
  idx_vars j
  pointwise []
  simp only [E2_apply, lit_one, lit_zero, lit_1024, lit_eps, zero_add, EReal.coe_zero, EReal.coe_one]
  rfl

/-- The sine table's rows, as they are. -/
theorem pay8_eq (S : ℕ → ℕ → EReal) : k0_pay8 (F := Ideal) (E2 S) = E2 S := by
  funext j
  idx_vars j
  pointwise [k0_pay8]

/-- The queries by the cosine. -/
theorem pay9_eq (C : ℕ → ℕ → EReal) : k0_pay9 (F := Ideal) (E2 (T.h2 K)) (E2 (T.gate K)) (E2 T.P) (E2 fun a b => K.Q b a) (E2 g) (E2 w) (E2 C)
    = E2 fun p c => mm (hn T K g) w p c * C p (c % 128) := by
  unfold k0_pay9
  rw [pay7_eq]
  funext j
  idx_vars j
  pointwise []
  simp only [E2_apply]
  rw [copies8 (C j0) j1 j1.isLt]

/-- The queries with the rotation. -/
theorem pay1_eq (y C S : ℕ → ℕ → EReal) : k0_pay1 (F := Ideal) (E2 y) (E2 S) (E2 fun p c => y p c * C p (c % 128))
    (Scalar.select (Scalar.cmpi .eq 64#32 0#32) 1#32 64#32) k0_pay10 k0_pay11 0#32 = E2 (turned C S y) := by
  funext j
  idx_vars j
  pointwise [k0_pay1, k0_pay10, k0_pay11]
  simp only [E2_apply]
  rw [copies8 (S j0) j1 j1.isLt, lane j1, partner 1024 (by norm_num) y j0 j1 j1.isLt]
  rfl

/-- The frequencies, as the program computes them. -/
def invT : FVec Ideal S32 .f32 := (Host.divf (broadcastInDim S32 ![] bcast_S_S32 (constant S_ .f32 0x3F800000#32)) (Host.powf (broadcastInDim S32 ![] bcast_S_S32 (constant S_ .f32 0x461C4000#32)) (Host.divf (addf (broadcastInDim S32 ![] bcast_S_S32 (constant S_ .f32 0x00000000#32)) (mulf (broadcastInDim S32 ![] bcast_S_S32 (constant S_ .f32 0x40000000#32)) (sitofp .f32 (iotaInDim S32 32 0)))) (broadcastInDim S32 ![] bcast_S_S32 (constant S_ .f32 0x42800000#32)))))
/-- The signs, as the program spells them. -/
def sgnT : FVec Ideal S2 .f32 := (fun i => FloatOps.ofBits .f32 (lit0 (S2.rowMajor i)))
/-- The angles, as the program computes them. -/
def angT : FVec Ideal S16384x128 .f32 := (mulf (broadcastInDim S16384x128 ![0, 1] bcast_S16384x1_S16384x128_0_1 (broadcastInDim S16384x1 ![0] bcast_S16384_S16384x1_0 (addf (sitofp .f32 (iotaInDim S16384 32 0)) (broadcastInDim S16384 ![] bcast_S_S16384 (constant S_ .f32 0x00000000#32))))) (broadcastInDim S16384x128 ![0, 1] bcast_S1x128_S16384x128_0_1 (broadcastInDim S1x128 ![1] bcast_S128_S1x128_1 (shapeCast S128 (broadcastInDim S4x32 ![0, 1] bcast_S1x32_S4x32_0_1 (shapeCast S1x32 invT shapeCasts_S32_S1x32)) shapeCasts_S4x32_S128))))

/-- The angles. -/
theorem angT_eq (j0 : Fin 16384) (j1 : Fin 128) : angT (ix2 j0 j1) = ang j0 (j1.val % 32) := by
  pointwise [angT, invT]
  rfl

/-- The sign's bits. -/
theorem bits : ∀ i : Fin 2, lit0 (S2.rowMajor (ix1 i)) = if i.val = 0 then 0xBF800000#32 else 0x3F800000#32 := by
  decide +kernel

/-- The signs. -/
theorem sgnT_eq (l : ℕ) (h : l % 64 / 32 < 2) : sgnT (ix1 ⟨l % 64 / 32, h⟩) = sgn l := by
  have u : sgnT (ix1 ⟨l % 64 / 32, h⟩) = Ideal.ofBits .f32 (lit0 (S2.rowMajor (ix1 ⟨l % 64 / 32, h⟩))) := rfl
  rw [u, bits]
  unfold sgn
  by_cases hl : l % 64 < 32
  · rw [if_pos hl, if_pos (by show l % 64 / 32 = 0; omega)]
    exact lit_neg_one
  · rw [if_neg hl, if_neg (by show ¬ l % 64 / 32 = 0; omega)]
    exact lit_one'

variable (m : (ℓ : Loc nD τ sig) → Buf (Elt Ideal) ℓ) (c : Dev nD)

/-- The cosine table. -/
theorem V_cos : V m c main_v27 = (E2 cosT : FVec Ideal S16384x128 .f32) := by
  have e : V m c main_v27 = (Host.cos angT) := by rfl
  rw [e]
  funext j
  idx_vars j
  pointwise []
  rw [angT_eq]
  rfl

/-- The sine table. -/
theorem V_sin : V m c main_v31 = (E2 sinT : FVec Ideal S16384x128 .f32) := by
  have e : V m c main_v31 = (mulf (Host.sin angT) (broadcastInDim S16384x128 ![0, 1] bcast_S1x128_S16384x128_0_1 (broadcastInDim S1x128 ![1] bcast_S128_S1x128_1 (shapeCast S128 (broadcastInDim S2x64 ![0, 1] bcast_S1x64_S2x64_0_1 (shapeCast S1x64 (shapeCast S64 (broadcastInDim S2x32 ![0] bcast_S2_S2x32_0 sgnT) shapeCasts_S2x32_S64) shapeCasts_S64_S1x64)) shapeCasts_S2x64_S128)))) := by rfl
  rw [e]
  funext j
  idx_vars j
  pointwise []
  rw [angT_eq, sgnT_eq]
  rfl

/-- The arguments in memory are the arrays `T`, `K`, `g` and `w`; the embeddings are the rows of `PA` from row 32768 on. -/
structure Holds (PA : ℕ → ℕ → EReal) : Prop where
  hH : m ((c : Thread nD τ).loc main_arg0) = (E2 T.H : FVec Ideal S16384x1024 .f32)
  hF : m ((c : Thread nD τ).loc main_arg1) = (E2 T.F : FVec Ideal S16384x1024 .bf16)
  hP : m ((c : Thread nD τ).loc main_arg2) = (E2 PA : FVec Ideal S65536x256 .f32)
  hgo : m ((c : Thread nD τ).loc main_arg3) = (E2 K.go : FVec Ideal S1x1024 .f32)
  hgl : m ((c : Thread nD τ).loc main_arg4) = (E2 K.gl : FVec Ideal S1x1024 .f32)
  hW : m ((c : Thread nD τ).loc main_arg5) = (E2 K.W : FVec Ideal S1024x1024 .f32)
  hQ : m ((c : Thread nD τ).loc main_arg6) = (E2 K.Q : FVec Ideal S256x1024 .f32)
  hg : m ((c : Thread nD τ).loc main_arg7) = (E2 g : FVec Ideal S1x1024 .f32)
  hw : m ((c : Thread nD τ).loc main_arg8) = (E2 w : FVec Ideal S1024x1024 .f32)
  part : T.P = fun p c => PA (32768 + p) c

/-- The blocks of rows, and the blocks that stay. -/
theorem idxs : ∀ t : Fin cfg0.N, (win0_0.index t 0 = t.val ∧ win0_0.index t 1 = 0 ∧ win0_1.index t 0 = t.val ∧ win0_1.index t 1 = 0 ∧
    win0_2.index t 0 = 64 + t.val ∧ win0_2.index t 1 = 0 ∧ win0_7.index t 0 = t.val ∧ win0_7.index t 1 = 0 ∧ win0_8.index t 0 = t.val ∧ win0_8.index t 1 = 0) ∧
    (win0_3.index t 0 = 0 ∧ win0_3.index t 1 = 0 ∧ win0_4.index t 0 = 0 ∧ win0_4.index t 1 = 0 ∧
    win0_5.index t 0 = 0 ∧ win0_5.index t 1 = 0 ∧ win0_6.index t 0 = 0 ∧ win0_6.index t 1 = 0 ∧
    win0_9.index t 0 = 0 ∧ win0_9.index t 1 = 0 ∧ win0_10.index t 0 = 0 ∧ win0_10.index t 1 = 0) ∧
    win0_11.index t 0 = t.val ∧ win0_11.index t 1 = 0 ∧ win0_12.index t 0 = t.val ∧ win0_12.index t 1 = 0 ∧
    win0_13.index t 0 = t.val ∧ win0_13.index t 1 = 0 :=
  (by decide +kernel : ∀ t : Fin grid0.N, _)

variable {T K g w} {PA : ℕ → ℕ → EReal}

/-- The gate's weights, cast before the call. -/
theorem V_W (H : Holds T K g w m c PA) : V m c main_v32 = (E2 K.W : FVec Ideal S1024x1024 .bf16) := by
  have e : V m c main_v32 = truncf (F := Ideal) .bf16 (m ((c : Thread nD τ).loc main_arg5)) bitsLt_bf16_f32 := by
    rfl
  rw [e, H.hW]
  rfl

/-- The projection's weights, transposed and cast before the call. -/
theorem V_Q (H : Holds T K g w m c PA) : V m c main_v34 = (E2 fun a b => K.Q b a : FVec Ideal S1024x256 .bf16) := by
  have e : V m c main_v34 = truncf (F := Ideal) .bf16 (transpose S1024x256 [1, 0] (m ((c : Thread nD τ).loc main_arg6)) transposes_S256x1024_S1024x256_1_0) bitsLt_bf16_f32 := by
    rfl
  rw [e, H.hQ]
  funext j
  idx_vars j
  pointwise []
  rfl

/-- The queries' weights, cast before the call. -/
theorem V_w (H : Holds T K g w m c PA) : V m c main_v35 = (E2 w : FVec Ideal S1024x1024 .bf16) := by
  have e : V m c main_v35 = truncf (F := Ideal) .bf16 (m ((c : Thread nD τ).loc main_arg8)) bitsLt_bf16_f32 := by
    rfl
  rw [e, H.hw]
  rfl

/-- The input's rows. -/
theorem blk0 (H : Holds T K g w m c PA) (t : Fin cfg0.N) : iblk m c 0 t = (E2 ((T.shift (512 * t.val)).H) : FVec Ideal S512x1024 .f32) := by
  obtain ⟨⟨e0, e0', e1, e1', e2, e2', e7, e7', e8, e8'⟩, ⟨e3, e3', e4, e4', e5, e5', e6, e6', e9, e9', e10, e10'⟩, -⟩ := idxs t
  funext y
  show V m c main_arg0 (((cfg0.win 0).blk t).view.emb y) = _
  rw [(V_main_arg0 m c).trans H.hH]
  show T.H (((cfg0.win 0).blk t).view.emb y 0).val (((cfg0.win 0).blk t).view.emb y 1).val = T.H (512 * t.val + (y 0).val) (y 1).val
  blk_simp
  rw [e0, e0', Nat.zero_mul, Nat.zero_add, Nat.mul_comm]

/-- The feed-forward output's rows. -/
theorem blk1 (H : Holds T K g w m c PA) (t : Fin cfg0.N) : iblk m c 1 t = (E2 ((T.shift (512 * t.val)).F) : FVec Ideal S512x1024 .bf16) := by
  obtain ⟨⟨e0, e0', e1, e1', e2, e2', e7, e7', e8, e8'⟩, ⟨e3, e3', e4, e4', e5, e5', e6, e6', e9, e9', e10, e10'⟩, -⟩ := idxs t
  funext y
  show V m c main_arg1 (((cfg0.win 1).blk t).view.emb y) = _
  rw [(V_main_arg1 m c).trans H.hF]
  show T.F (((cfg0.win 1).blk t).view.emb y 0).val (((cfg0.win 1).blk t).view.emb y 1).val = T.F (512 * t.val + (y 0).val) (y 1).val
  blk_simp
  rw [e1, e1', Nat.zero_mul, Nat.zero_add, Nat.mul_comm]

/-- The embeddings' rows. -/
theorem blk2 (H : Holds T K g w m c PA) (t : Fin cfg0.N) : iblk m c 2 t = (E2 ((T.shift (512 * t.val)).P) : FVec Ideal S512x256 .f32) := by
  obtain ⟨⟨e0, e0', e1, e1', e2, e2', e7, e7', e8, e8'⟩, ⟨e3, e3', e4, e4', e5, e5', e6, e6', e9, e9', e10, e10'⟩, -⟩ := idxs t
  funext y
  show V m c main_arg2 (((cfg0.win 2).blk t).view.emb y) = _
  rw [(V_main_arg2 m c).trans H.hP]
  show PA (((cfg0.win 2).blk t).view.emb y 0).val (((cfg0.win 2).blk t).view.emb y 1).val = T.P (512 * t.val + (y 0).val) (y 1).val
  blk_simp
  have ea : (64 + t.val) * 512 + (y 0).val = 32768 + (512 * t.val + (y 0).val) := by omega
  rw [H.part, e2, e2', Nat.zero_mul, Nat.zero_add, ea]

/-- The feed-forward output's gain. -/
theorem blk3 (H : Holds T K g w m c PA) (t : Fin cfg0.N) : iblk m c 3 t = (E2 (K.go) : FVec Ideal S1x1024 .f32) := by
  obtain ⟨⟨e0, e0', e1, e1', e2, e2', e7, e7', e8, e8'⟩, ⟨e3, e3', e4, e4', e5, e5', e6, e6', e9, e9', e10, e10'⟩, -⟩ := idxs t
  funext y
  show V m c main_arg3 (((cfg0.win 3).blk t).view.emb y) = _
  rw [(V_main_arg3 m c).trans H.hgo]
  show K.go (((cfg0.win 3).blk t).view.emb y 0).val (((cfg0.win 3).blk t).view.emb y 1).val = K.go (y 0).val (y 1).val
  blk_simp
  have hy : (y 0).val < 1 := (y 0).isLt
  simp only [e3, e3', Nat.zero_mul, Nat.zero_add, show (y 0).val = 0 by omega]

/-- The gate's gain. -/
theorem blk4 (H : Holds T K g w m c PA) (t : Fin cfg0.N) : iblk m c 4 t = (E2 (K.gl) : FVec Ideal S1x1024 .f32) := by
  obtain ⟨⟨e0, e0', e1, e1', e2, e2', e7, e7', e8, e8'⟩, ⟨e3, e3', e4, e4', e5, e5', e6, e6', e9, e9', e10, e10'⟩, -⟩ := idxs t
  funext y
  show V m c main_arg4 (((cfg0.win 4).blk t).view.emb y) = _
  rw [(V_main_arg4 m c).trans H.hgl]
  show K.gl (((cfg0.win 4).blk t).view.emb y 0).val (((cfg0.win 4).blk t).view.emb y 1).val = K.gl (y 0).val (y 1).val
  blk_simp
  have hy : (y 0).val < 1 := (y 0).isLt
  simp only [e4, e4', Nat.zero_mul, Nat.zero_add, show (y 0).val = 0 by omega]

/-- The gate's weights. -/
theorem blk5 (H : Holds T K g w m c PA) (t : Fin cfg0.N) : iblk m c 5 t = (E2 (K.W) : FVec Ideal S1024x1024 .bf16) := by
  obtain ⟨⟨e0, e0', e1, e1', e2, e2', e7, e7', e8, e8'⟩, ⟨e3, e3', e4, e4', e5, e5', e6, e6', e9, e9', e10, e10'⟩, -⟩ := idxs t
  funext y
  show V m c main_v32 (((cfg0.win 5).blk t).view.emb y) = _
  rw [V_W m c H]
  show K.W (((cfg0.win 5).blk t).view.emb y 0).val (((cfg0.win 5).blk t).view.emb y 1).val = K.W (y 0).val (y 1).val
  blk_simp
  simp only [e5, e5', Nat.zero_mul, Nat.zero_add]

/-- The projection's weights. -/
theorem blk6 (H : Holds T K g w m c PA) (t : Fin cfg0.N) : iblk m c 6 t = (E2 (fun a b => K.Q b a) : FVec Ideal S1024x256 .bf16) := by
  obtain ⟨⟨e0, e0', e1, e1', e2, e2', e7, e7', e8, e8'⟩, ⟨e3, e3', e4, e4', e5, e5', e6, e6', e9, e9', e10, e10'⟩, -⟩ := idxs t
  funext y
  show V m c main_v34 (((cfg0.win 6).blk t).view.emb y) = _
  rw [V_Q m c H]
  show K.Q (((cfg0.win 6).blk t).view.emb y 1).val (((cfg0.win 6).blk t).view.emb y 0).val = K.Q (y 1).val (y 0).val
  blk_simp
  simp only [e6, e6', Nat.zero_mul, Nat.zero_add]

/-- The cosine table's rows. -/
theorem blk7 (H : Holds T K g w m c PA) (t : Fin cfg0.N) : iblk m c 7 t = (E2 (fun p l => cosT (512 * t.val + p) l) : FVec Ideal S512x128 .f32) := by
  obtain ⟨⟨e0, e0', e1, e1', e2, e2', e7, e7', e8, e8'⟩, ⟨e3, e3', e4, e4', e5, e5', e6, e6', e9, e9', e10, e10'⟩, -⟩ := idxs t
  funext y
  show V m c main_v27 (((cfg0.win 7).blk t).view.emb y) = _
  rw [V_cos m c]
  show cosT (((cfg0.win 7).blk t).view.emb y 0).val (((cfg0.win 7).blk t).view.emb y 1).val = cosT (512 * t.val + (y 0).val) (y 1).val
  blk_simp
  rw [e7, e7', Nat.zero_mul, Nat.zero_add, Nat.mul_comm]

/-- The sine table's rows. -/
theorem blk8 (H : Holds T K g w m c PA) (t : Fin cfg0.N) : iblk m c 8 t = (E2 (fun p l => sinT (512 * t.val + p) l) : FVec Ideal S512x128 .f32) := by
  obtain ⟨⟨e0, e0', e1, e1', e2, e2', e7, e7', e8, e8'⟩, ⟨e3, e3', e4, e4', e5, e5', e6, e6', e9, e9', e10, e10'⟩, -⟩ := idxs t
  funext y
  show V m c main_v31 (((cfg0.win 8).blk t).view.emb y) = _
  rw [V_sin m c]
  show sinT (((cfg0.win 8).blk t).view.emb y 0).val (((cfg0.win 8).blk t).view.emb y 1).val = sinT (512 * t.val + (y 0).val) (y 1).val
  blk_simp
  rw [e8, e8', Nat.zero_mul, Nat.zero_add, Nat.mul_comm]

/-- The next block's gain. -/
theorem blk9 (H : Holds T K g w m c PA) (t : Fin cfg0.N) : iblk m c 9 t = (E2 (g) : FVec Ideal S1x1024 .f32) := by
  obtain ⟨⟨e0, e0', e1, e1', e2, e2', e7, e7', e8, e8'⟩, ⟨e3, e3', e4, e4', e5, e5', e6, e6', e9, e9', e10, e10'⟩, -⟩ := idxs t
  funext y
  show V m c main_arg7 (((cfg0.win 9).blk t).view.emb y) = _
  rw [(V_main_arg7 m c).trans H.hg]
  show g (((cfg0.win 9).blk t).view.emb y 0).val (((cfg0.win 9).blk t).view.emb y 1).val = g (y 0).val (y 1).val
  blk_simp
  have hy : (y 0).val < 1 := (y 0).isLt
  simp only [e9, e9', Nat.zero_mul, Nat.zero_add, show (y 0).val = 0 by omega]

/-- The queries' weights. -/
theorem blk10 (H : Holds T K g w m c PA) (t : Fin cfg0.N) : iblk m c 10 t = (E2 (w) : FVec Ideal S1024x1024 .bf16) := by
  obtain ⟨⟨e0, e0', e1, e1', e2, e2', e7, e7', e8, e8'⟩, ⟨e3, e3', e4, e4', e5, e5', e6, e6', e9, e9', e10, e10'⟩, -⟩ := idxs t
  funext y
  show V m c main_v35 (((cfg0.win 10).blk t).view.emb y) = _
  rw [V_w m c H]
  show w (((cfg0.win 10).blk t).view.emb y 0).val (((cfg0.win 10).blk t).view.emb y 1).val = w (y 0).val (y 1).val
  blk_simp
  simp only [e10, e10', Nat.zero_mul, Nat.zero_add]

/-- What one grid point leaves: its rows of the block's output. -/
theorem outs11 (H : Holds T K g w m c PA) (t : Fin cfg0.N) :
    (dats m 0 c).after 11 t = (E2 (h3 (T.shift (512 * t.val)) K) : FVec Ideal S512x1024 .f32) := by
  rw [after0_11]
  unfold out0_11 k0_pay12 k0_pay13 k0_pay14
  frame_out
  simp only [blk0 m c H, blk1 m c H, blk2 m c H, blk3 m c H, blk4 m c H, blk5 m c H, blk6 m c H, blk7 m c H, blk8 m c H, blk9 m c H, blk10 m c H]
  rw [pay2_eq, pay3_eq, pay4_eq, pay5_eq]

/-- All rows of the block's output. -/
theorem final11 (H : Holds T K g w m c PA) : (dats m 0 c).arrAt 11 cfg0.N = (E2 (h3 T K) : FVec Ideal S16384x1024 .f32) := by
  refine (dats m 0 c).arrAt_eq_of_covers 11 _ (by decide +kernel) fun t hf y => ?_
  blk_simp
  rw [outs11 m c H t]
  obtain ⟨-, -, e11, e11', e12, e12', e13, e13'⟩ := idxs t
  show h3 T K (512 * t.val + (y 0).val) (y 1).val =
    h3 T K (((cfg0.win 11).blk t).view.emb y 0).val (((cfg0.win 11).blk t).view.emb y 1).val
  blk_simp
  rw [e11, e11', Nat.mul_comm 512, Nat.zero_mul, Nat.zero_add]

/-- What one grid point leaves: its rows of the next block's input. -/
theorem outs12 (H : Holds T K g w m c PA) (t : Fin cfg0.N) :
    (dats m 0 c).after 12 t = (E2 (hn (T.shift (512 * t.val)) K g) : FVec Ideal S512x1024 .bf16) := by
  rw [after0_12]
  unfold out0_12 k0_pay12 k0_pay13 k0_pay14
  frame_out
  simp only [blk0 m c H, blk1 m c H, blk2 m c H, blk3 m c H, blk4 m c H, blk5 m c H, blk6 m c H, blk7 m c H, blk8 m c H, blk9 m c H, blk10 m c H]
  rw [pay2_eq, pay3_eq, pay4_eq, pay6_eq]

/-- All rows of the next block's input. -/
theorem final12 (H : Holds T K g w m c PA) : (dats m 0 c).arrAt 12 cfg0.N = (E2 (hn T K g) : FVec Ideal S16384x1024 .bf16) := by
  refine (dats m 0 c).arrAt_eq_of_covers 12 _ (by decide +kernel) fun t hf y => ?_
  blk_simp
  rw [outs12 m c H t]
  obtain ⟨-, -, e11, e11', e12, e12', e13, e13'⟩ := idxs t
  show hn T K g (512 * t.val + (y 0).val) (y 1).val =
    hn T K g (((cfg0.win 12).blk t).view.emb y 0).val (((cfg0.win 12).blk t).view.emb y 1).val
  blk_simp
  rw [e12, e12', Nat.mul_comm 512, Nat.zero_mul, Nat.zero_add]

/-- What one grid point leaves: its rows of the queries. -/
theorem outs13 (H : Holds T K g w m c PA) (t : Fin cfg0.N) :
    (dats m 0 c).after 13 t = (E2 (turned (fun p l => cosT (512 * t.val + p) l) (fun p l => sinT (512 * t.val + p) l) (mm (hn (T.shift (512 * t.val)) K g) w)) : FVec Ideal S512x1024 .bf16) := by
  rw [after0_13]
  unfold out0_13 k0_pay12 k0_pay13 k0_pay14
  frame_out
  simp only [blk0 m c H, blk1 m c H, blk2 m c H, blk3 m c H, blk4 m c H, blk5 m c H, blk6 m c H, blk7 m c H, blk8 m c H, blk9 m c H, blk10 m c H]
  rw [pay2_eq, pay3_eq, pay4_eq, pay7_eq, pay8_eq, pay9_eq, pay1_eq]

/-- All rows of the queries. -/
theorem final13 (H : Holds T K g w m c PA) : (dats m 0 c).arrAt 13 cfg0.N = (E2 (roped (mm (hn T K g) w)) : FVec Ideal S16384x1024 .bf16) := by
  refine (dats m 0 c).arrAt_eq_of_covers 13 _ (by decide +kernel) fun t hf y => ?_
  blk_simp
  rw [outs13 m c H t]
  obtain ⟨-, -, e11, e11', e12, e12', e13, e13'⟩ := idxs t
  show roped (mm (hn T K g) w) (512 * t.val + (y 0).val) (y 1).val =
    roped (mm (hn T K g) w) (((cfg0.win 13).blk t).view.emb y 0).val (((cfg0.win 13).blk t).view.emb y 1).val
  blk_simp
  rw [e13, e13', Nat.mul_comm 512, Nat.zero_mul, Nat.zero_add]

end Cert.Kernel11Ideal.PleQ

end
-- ==== Proof.PleQkv.lean ====
module

public import proofs.«01_k».proof.Proof.Rope
public import proofs.«01_k».proof.Proof.PleQ
public import proofs.«01_k».proof.Proof.Gen.Kernel10Ideal.Value
public import Idealize.ShloMosaic.Lib.Pipeline.ValueKit
public import Idealize.ShloMosaic.Lib.Pipeline.ReadBack

@[expose] public section

set_option maxRecDepth 16384

noncomputable section

/-! The per-layer-embedding block's forward call with the next layer's queries, keys and values, over the extended reals: what one grid point computes, and the whole results. -/

namespace Cert.Kernel10Ideal.PleQkv

open Idealize.ShloMosaic Idealize.ShloMosaic.TcCoe Cert.Lift Cert.Ext Cert.Rope Cert.Kernel10Ideal Cert.Kernel10Ideal.Gen
open Idealize.ShloMosaic.Pipeline (Dat)
open Cert.Kernel5Ideal.Ple (Args Weights)
open Cert.Kernel9Ideal.PleFwd (h3)
open Cert.Kernel11Ideal.PleQ (hn mm)

variable (T : Args) (K : Weights) (g w : ℕ → ℕ → EReal)

/-- The middle value. -/
theorem pay3_eq : k0_pay3 (F := Ideal) (E2 T.H) (E2 T.F) (E2 K.go) = E2 (T.h2 K) := by
  funext j
  idx_vars j
  pointwise [k0_pay3]
  simp only [E2_apply, lit_one, lit_zero, lit_1024, lit_eps, zero_add, EReal.coe_zero, EReal.coe_one]
  rfl

/-- The gate. -/
theorem pay4_eq : k0_pay4 (F := Ideal) (E2 T.H) (E2 T.F) (E2 K.go) (E2 K.gl) (E2 K.W) = E2 (T.gate K) := by
  unfold k0_pay4
  rw [pay3_eq]
  funext j
  idx_vars j
  pointwise []
  simp only [E2_apply, lit_one, lit_zero, lit_1024, lit_eps, zero_add, EReal.coe_zero, EReal.coe_one]
  rfl

/-- The embeddings' rows, as they are. -/
theorem pay5_eq : k0_pay5 (F := Ideal) (E2 T.P) = E2 T.P := by
  funext j
  idx_vars j
  pointwise [k0_pay5]

/-- The block's output. -/
theorem pay6_eq : k0_pay6 (F := Ideal) (E2 (T.h2 K)) (E2 (T.gate K)) (E2 T.P) (E2 fun a b => K.Q b a) = E2 (h3 T K) := by
  funext j
  idx_vars j
  pointwise [k0_pay6]
  simp only [E2_apply, lit_one, lit_zero, lit_1024, lit_eps, zero_add, EReal.coe_zero, EReal.coe_one]
  rfl

/-- The reciprocal root mean squares of the output's rows. -/
theorem pay7_eq : k0_pay7 (F := Ideal) (E2 (T.h2 K)) (E2 (T.gate K)) (E2 T.P) (E2 fun a b => K.Q b a) = E2 (fun p _ => rms (h3 T K) p) := by
  unfold k0_pay7
  rw [pay6_eq]
  funext j
  idx_vars j
  pointwise []
  simp only [E2_apply, lit_one, lit_zero, lit_1024, lit_eps, zero_add, EReal.coe_zero, EReal.coe_one]
  rfl

/-- The next block's input rows. -/
theorem pay8_eq : k0_pay8 (F := Ideal) (E2 (T.h2 K)) (E2 (T.gate K)) (E2 T.P) (E2 fun a b => K.Q b a) (E2 g) = E2 (hn T K g) := by
  unfold k0_pay8
  rw [pay6_eq, pay7_eq]
  funext j
  idx_vars j
  pointwise []
  simp only [E2_apply, lit_one, lit_zero, lit_1024, lit_eps, zero_add, EReal.coe_zero, EReal.coe_one]
  rfl

/-- The queries before the rotation. -/
theorem pay9_eq : k0_pay9 (F := Ideal) (E2 (T.h2 K)) (E2 (T.gate K)) (E2 T.P) (E2 fun a b => K.Q b a) (E2 g) (E2 w) = E2 (mm (hn T K g) w) := by
  unfold k0_pay9
  rw [pay8_eq]
  funext j
  idx_vars j
  pointwise []
  simp only [E2_apply, lit_one, lit_zero, lit_1024, lit_eps, zero_add, EReal.coe_zero, EReal.coe_one]
  rfl

/-- The sine table's rows, as they are. -/
theorem pay10_eq (S : ℕ → ℕ → EReal) : k0_pay10 (F := Ideal) (E2 S) = E2 S := by
  funext j
  idx_vars j
  pointwise [k0_pay10]

/-- The queries by the cosine. -/
theorem pay11_eq (C : ℕ → ℕ → EReal) : k0_pay11 (F := Ideal) (E2 (T.h2 K)) (E2 (T.gate K)) (E2 T.P) (E2 fun a b => K.Q b a) (E2 g) (E2 w) (E2 C)
    = E2 fun p c => mm (hn T K g) w p c * C p (c % 128) := by
  unfold k0_pay11
  rw [pay9_eq]
  funext j
  idx_vars j
  pointwise []
  simp only [E2_apply]
  rw [copies8 (C j0) j1 j1.isLt]

/-- The queries with the rotation. -/
theorem pay14_eq (y C S : ℕ → ℕ → EReal) : k0_pay14 (F := Ideal) (E2 y) (E2 S) (E2 fun p c => y p c * C p (c % 128))
    (Scalar.select (Scalar.cmpi .eq 64#32 0#32) 1#32 64#32) k0_pay12 k0_pay13 0#32 = E2 (turned C S y) := by
  funext j
  idx_vars j
  pointwise [k0_pay14, k0_pay12, k0_pay13]
  simp only [E2_apply]
  rw [copies8 (S j0) j1 j1.isLt, lane j1, partner 1024 (by norm_num) y j0 j1 j1.isLt]
  rfl

/-- The keys' and values' weights side by side. -/
def side (u v : ℕ → ℕ → EReal) (p c : ℕ) : EReal := if c < 256 then u p c else v p (c - 256)

/-- Rows of which the first 256 lanes are rotated. -/
def half (C S y : ℕ → ℕ → EReal) (p c : ℕ) : EReal := if c < 256 then turned C S y p c else y p c

/-- The keys' and values' input rows. -/
theorem pay15_eq : k0_pay15 (F := Ideal) (E2 (h3 T K)) (E2 (fun p _ => rms (h3 T K) p)) (E2 g) = E2 (hn T K g) := by
  funext j
  idx_vars j
  pointwise [k0_pay15]
  simp only [E2_apply]
  rfl

/-- The keys before the rotation, and the values. -/
theorem pay16_eq : k0_pay16 (F := Ideal) (E2 (h3 T K)) (E2 (fun p _ => rms (h3 T K) p)) (E2 g) (E2 w) = E2 (mm (hn T K g) w) := by
  unfold k0_pay16
  rw [pay15_eq]
  funext j
  idx_vars j
  pointwise []
  simp only [E2_apply, lit_one, lit_zero, lit_1024, lit_eps, zero_add, EReal.coe_zero, EReal.coe_one]
  rfl

/-- The keys before the rotation. -/
theorem pay17_eq : k0_pay17 (F := Ideal) (E2 (h3 T K)) (E2 (fun p _ => rms (h3 T K) p)) (E2 g) (E2 w) = E2 (mm (hn T K g) w) := by
  unfold k0_pay17
  rw [pay16_eq]
  funext j
  idx_vars j
  pointwise []
  rfl

/-- The sine table's rows, as they are. -/
theorem pay18_eq (S : ℕ → ℕ → EReal) : k0_pay18 (F := Ideal) (E2 S) = E2 S := by
  funext j
  idx_vars j
  pointwise [k0_pay18]

/-- The keys by the cosine. -/
theorem pay19_eq (C : ℕ → ℕ → EReal) : k0_pay19 (F := Ideal) (E2 (h3 T K)) (E2 (fun p _ => rms (h3 T K) p)) (E2 g) (E2 w) (E2 C)
    = E2 fun p c => mm (hn T K g) w p c * C p (c % 128) := by
  unfold k0_pay19
  rw [pay17_eq]
  funext j
  idx_vars j
  pointwise []
  simp only [E2_apply]
  rw [copies2 (C j0) j1 j1.isLt]

/-- The keys with the rotation. -/
theorem pay1_eq (y C S : ℕ → ℕ → EReal) : k0_pay1 (F := Ideal) (E2 y) (E2 S) (E2 fun p c => y p c * C p (c % 128))
    (iota .tc S512x256 32 [1] iota_S512x256_d1_w32) 64#32 (Scalar.cmpi .eq 64#32 0#32) = E2 (fun p c => half C S y p (0 + c)) := by
  funext j
  idx_vars j
  pointwise [k0_pay1]
  simp only [E2_apply]
  have h := lane ⟨j1.val, by have := j1.isLt; omega⟩
  rw [copies2 (S j0) j1 j1.isLt, h, partner 256 (by norm_num) y j0 j1 j1.isLt]
  unfold half
  rw [if_pos j1.isLt]
  rfl

/-- The values. -/
theorem pay2_eq (y C S : ℕ → ℕ → EReal) : k0_pay2 (F := Ideal) (E2 y) = E2 (fun p c => half C S y p (256 + c)) := by
  funext j
  idx_vars j
  pointwise [k0_pay2]
  simp only [E2_apply]
  unfold half
  rw [if_neg (by omega)]

/-- Two stores, each of 256 lanes, fill the tile of 512 lanes. -/
theorem halves (G : ℕ → ℕ → EReal) (p0 p1 : FVec Ideal S512x256 .bf16) (h0 : p0 = E2 fun p c => G p (0 + c))
    (h1 : p1 = E2 fun p c => G p (256 + c)) (i0) (i1) :
    View.canon ([⟨Rect.unit (s := S512x512) ![0, 256] ![512, 256] i1, p1⟩, ⟨Rect.unit (s := S512x512) ![0, 0] ![512, 256] i0, p0⟩] :
      List (View.Piece (Elt Ideal) S512x512 .bf16)) = (E2 G : FVec Ideal S512x512 .bf16) := by
  have key : ∀ (s : ℕ) (i : _) (x : (Rect.unit (s := S512x512) ![0, s] ![512, 256] i).shape.Idx),
      (show EReal from (E2 fun p c => G p (s + c) : FVec Ideal S512x256 .bf16) x) = (E2 G : FVec Ideal S512x512 .bf16) ((Rect.unit (s := S512x512) ![0, s] ![512, 256] i).emb x) := by
    intro s i x
    show G (x 0).val (s + (x 1).val) = G (0 + 1 * (x 0).val) (s + 1 * (x 1).val)
    rw [Nat.one_mul, Nat.one_mul, Nat.zero_add]
  subst h0 h1
  funext y
  refine View.canon_append_of_piecesOf (Val := Elt Ideal) (E2 G : FVec Ideal S512x512 .bf16) []
    ([⟨Rect.unit (s := S512x512) ![0, 256] ![512, 256] i1, (E2 fun p c => G p (256 + c) : FVec Ideal S512x256 .bf16)⟩,
      ⟨Rect.unit (s := S512x512) ![0, 0] ![512, 256] i0, (E2 fun p c => G p (0 + c) : FVec Ideal S512x256 .bf16)⟩] : List (View.Piece (Elt Ideal) S512x512 .bf16)) ⟨key 256 i1, key 0 i0, trivial⟩ y ?_
  have h0 : (y 0).val < 512 := (y 0).isLt
  have h1 : (y 1).val < 512 := (y 1).isLt
  have mem : ∀ (s : ℕ) (i : _), s ≤ (y 1).val → (y 1).val < s + 256 → y ∈ (Rect.unit (s := S512x512) ![0, s] ![512, 256] i).set := by
    intro s i e e'
    rw [Rect.mem_set_unit]
    intro a
    fin_cases a
    · exact ⟨Nat.zero_le _, by show (y 0).val < 0 + 512; omega⟩
    · exact ⟨e, e'⟩
  rcases (by omega : 256 ≤ (y 1).val ∨ (y 1).val < 256) with e | e
  · exact ⟨_, .head _, mem 256 i1 e (by omega)⟩
  · exact ⟨_, .tail _ (.head _), mem 0 i0 (Nat.zero_le _) (by omega)⟩

/-- The frequencies, as the program computes them. -/
def invT : FVec Ideal S32 .f32 := (Host.divf (broadcastInDim S32 ![] bcast_S_S32 (constant S_ .f32 0x3F800000#32)) (Host.powf (broadcastInDim S32 ![] bcast_S_S32 (constant S_ .f32 0x461C4000#32)) (Host.divf (addf (broadcastInDim S32 ![] bcast_S_S32 (constant S_ .f32 0x00000000#32)) (mulf (broadcastInDim S32 ![] bcast_S_S32 (constant S_ .f32 0x40000000#32)) (sitofp .f32 (iotaInDim S32 32 0)))) (broadcastInDim S32 ![] bcast_S_S32 (constant S_ .f32 0x42800000#32)))))
/-- The signs, as the program spells them. -/
def sgnT : FVec Ideal S2 .f32 := (fun i => FloatOps.ofBits .f32 (lit0 (S2.rowMajor i)))
/-- The angles, as the program computes them. -/
def angT : FVec Ideal S16384x128 .f32 := (mulf (broadcastInDim S16384x128 ![0, 1] bcast_S16384x1_S16384x128_0_1 (broadcastInDim S16384x1 ![0] bcast_S16384_S16384x1_0 (addf (sitofp .f32 (iotaInDim S16384 32 0)) (broadcastInDim S16384 ![] bcast_S_S16384 (constant S_ .f32 0x00000000#32))))) (broadcastInDim S16384x128 ![0, 1] bcast_S1x128_S16384x128_0_1 (broadcastInDim S1x128 ![1] bcast_S128_S1x128_1 (shapeCast S128 (broadcastInDim S4x32 ![0, 1] bcast_S1x32_S4x32_0_1 (shapeCast S1x32 invT shapeCasts_S32_S1x32)) shapeCasts_S4x32_S128))))

/-- The angles. -/
theorem angT_eq (j0 : Fin 16384) (j1 : Fin 128) : angT (ix2 j0 j1) = ang j0 (j1.val % 32) := by
  pointwise [angT, invT]
  rfl

/-- The sign's bits. -/
theorem bits : ∀ i : Fin 2, lit0 (S2.rowMajor (ix1 i)) = if i.val = 0 then 0xBF800000#32 else 0x3F800000#32 := by
  decide +kernel

/-- The signs. -/
theorem sgnT_eq (l : ℕ) (h : l % 64 / 32 < 2) : sgnT (ix1 ⟨l % 64 / 32, h⟩) = sgn l := by
  have u : sgnT (ix1 ⟨l % 64 / 32, h⟩) = Ideal.ofBits .f32 (lit0 (S2.rowMajor (ix1 ⟨l % 64 / 32, h⟩))) := rfl
  rw [u, bits]
  unfold sgn
  by_cases hl : l % 64 < 32
  · rw [if_pos hl, if_pos (by show l % 64 / 32 = 0; omega)]
    exact lit_neg_one
  · rw [if_neg hl, if_neg (by show ¬ l % 64 / 32 = 0; omega)]
    exact lit_one'

variable (m : (ℓ : Loc nD τ sig) → Buf (Elt Ideal) ℓ) (c : Dev nD)

/-- The cosine table. -/
theorem V_cos : V m c main_v27 = (E2 cosT : FVec Ideal S16384x128 .f32) := by
  have e : V m c main_v27 = (Host.cos angT) := by rfl
  rw [e]
  funext j
  idx_vars j
  pointwise []
  rw [angT_eq]
  rfl

/-- The sine table. -/
theorem V_sin : V m c main_v31 = (E2 sinT : FVec Ideal S16384x128 .f32) := by
  have e : V m c main_v31 = (mulf (Host.sin angT) (broadcastInDim S16384x128 ![0, 1] bcast_S1x128_S16384x128_0_1 (broadcastInDim S1x128 ![1] bcast_S128_S1x128_1 (shapeCast S128 (broadcastInDim S2x64 ![0, 1] bcast_S1x64_S2x64_0_1 (shapeCast S1x64 (shapeCast S64 (broadcastInDim S2x32 ![0] bcast_S2_S2x32_0 sgnT) shapeCasts_S2x32_S64) shapeCasts_S64_S1x64)) shapeCasts_S2x64_S128)))) := by rfl
  rw [e]
  funext j
  idx_vars j
  pointwise []
  rw [angT_eq, sgnT_eq]
  rfl

variable (gk wk wv : ℕ → ℕ → EReal)

/-- The arguments in memory are the arrays `T`, `K`, `g`, `w`, `gk`, `wk` and `wv`; the embeddings are the rows of `PA` from row 16384 on. -/
structure Holds (PA : ℕ → ℕ → EReal) : Prop where
  hH : m ((c : Thread nD τ).loc main_arg0) = (E2 T.H : FVec Ideal S16384x1024 .f32)
  hF : m ((c : Thread nD τ).loc main_arg1) = (E2 T.F : FVec Ideal S16384x1024 .bf16)
  hP : m ((c : Thread nD τ).loc main_arg2) = (E2 PA : FVec Ideal S65536x256 .f32)
  hgo : m ((c : Thread nD τ).loc main_arg3) = (E2 K.go : FVec Ideal S1x1024 .f32)
  hgl : m ((c : Thread nD τ).loc main_arg4) = (E2 K.gl : FVec Ideal S1x1024 .f32)
  hW : m ((c : Thread nD τ).loc main_arg5) = (E2 K.W : FVec Ideal S1024x1024 .f32)
  hQ : m ((c : Thread nD τ).loc main_arg6) = (E2 K.Q : FVec Ideal S256x1024 .f32)
  hg : m ((c : Thread nD τ).loc main_arg7) = (E2 g : FVec Ideal S1x1024 .f32)
  hw : m ((c : Thread nD τ).loc main_arg8) = (E2 w : FVec Ideal S1024x1024 .f32)
  hgk : m ((c : Thread nD τ).loc main_arg9) = (E2 gk : FVec Ideal S1x1024 .f32)
  hwk : m ((c : Thread nD τ).loc main_arg10) = (E2 wk : FVec Ideal S1024x256 .f32)
  hwv : m ((c : Thread nD τ).loc main_arg11) = (E2 wv : FVec Ideal S1024x256 .f32)
  part : T.P = fun p c => PA (16384 + p) c

/-- The blocks of rows, and the blocks that stay. -/
theorem idxs : ∀ t : Fin cfg0.N, (win0_0.index t 0 = t.val ∧ win0_0.index t 1 = 0 ∧ win0_1.index t 0 = t.val ∧ win0_1.index t 1 = 0 ∧
    win0_2.index t 0 = 32 + t.val ∧ win0_2.index t 1 = 0 ∧ win0_7.index t 0 = t.val ∧ win0_7.index t 1 = 0 ∧ win0_8.index t 0 = t.val ∧ win0_8.index t 1 = 0) ∧
    (win0_3.index t 0 = 0 ∧ win0_3.index t 1 = 0 ∧ win0_4.index t 0 = 0 ∧ win0_4.index t 1 = 0 ∧
    win0_5.index t 0 = 0 ∧ win0_5.index t 1 = 0 ∧ win0_6.index t 0 = 0 ∧ win0_6.index t 1 = 0 ∧
    win0_9.index t 0 = 0 ∧ win0_9.index t 1 = 0 ∧ win0_10.index t 0 = 0 ∧ win0_10.index t 1 = 0 ∧
    win0_11.index t 0 = 0 ∧ win0_11.index t 1 = 0 ∧ win0_12.index t 0 = 0 ∧ win0_12.index t 1 = 0) ∧
    win0_13.index t 0 = t.val ∧ win0_13.index t 1 = 0 ∧ win0_14.index t 0 = t.val ∧ win0_14.index t 1 = 0 ∧ win0_15.index t 0 = t.val ∧ win0_15.index t 1 = 0 ∧ win0_16.index t 0 = t.val ∧ win0_16.index t 1 = 0 ∧ win0_17.index t 0 = t.val ∧ win0_17.index t 1 = 0 :=
  (by decide +kernel : ∀ t : Fin grid0.N, _)

variable {T K g w gk wk wv} {PA : ℕ → ℕ → EReal}

/-- The gate's weights, cast before the call. -/
theorem V_W (H : Holds T K g w m c gk wk wv PA) : V m c main_v35 = (E2 K.W : FVec Ideal S1024x1024 .bf16) := by
  have e : V m c main_v35 = truncf (F := Ideal) .bf16 (m ((c : Thread nD τ).loc main_arg5)) bitsLt_bf16_f32 := by
    rfl
  rw [e, H.hW]
  rfl

/-- The projection's weights, transposed and cast before the call. -/
theorem V_Q (H : Holds T K g w m c gk wk wv PA) : V m c main_v37 = (E2 fun a b => K.Q b a : FVec Ideal S1024x256 .bf16) := by
  have e : V m c main_v37 = truncf (F := Ideal) .bf16 (transpose S1024x256 [1, 0] (m ((c : Thread nD τ).loc main_arg6)) transposes_S256x1024_S1024x256_1_0) bitsLt_bf16_f32 := by
    rfl
  rw [e, H.hQ]
  funext j
  idx_vars j
  pointwise []
  rfl

/-- The queries' weights, cast before the call. -/
theorem V_w (H : Holds T K g w m c gk wk wv PA) : V m c main_v32 = (E2 w : FVec Ideal S1024x1024 .bf16) := by
  have e : V m c main_v32 = truncf (F := Ideal) .bf16 (m ((c : Thread nD τ).loc main_arg8)) bitsLt_bf16_f32 := by
    rfl
  rw [e, H.hw]
  rfl

/-- The keys' and values' weights, side by side and cast before the call. -/
theorem V_kv (H : Holds T K g w m c gk wk wv PA) : V m c main_v34 = (E2 (side wk wv) : FVec Ideal S1024x512 .bf16) := by
  have e : V m c main_v34 = truncf (F := Ideal) .bf16 (concatenate S1024x512 1 [⟨S1024x256, m ((c : Thread nD τ).loc main_arg10)⟩, ⟨S1024x256, m ((c : Thread nD τ).loc main_arg11)⟩] concatenates_S1024x256_S1024x256_S1024x512_d1) bitsLt_bf16_f32 := by
    rfl
  rw [e, H.hwk, H.hwv]
  funext j
  idx_vars j
  pointwise []
  simp only [E2_apply]
  rfl

/-- The input's rows. -/
theorem blk0 (H : Holds T K g w m c gk wk wv PA) (t : Fin cfg0.N) : iblk m c 0 t = (E2 ((T.shift (512 * t.val)).H) : FVec Ideal S512x1024 .f32) := by
  obtain ⟨⟨e0, e0', e1, e1', e2, e2', e7, e7', e8, e8'⟩, ⟨e3, e3', e4, e4', e5, e5', e6, e6', e9, e9', e10, e10', e11, e11', e12, e12'⟩, -⟩ := idxs t
  funext y
  show V m c main_arg0 (((cfg0.win 0).blk t).view.emb y) = _
  rw [(V_main_arg0 m c).trans H.hH]
  show T.H (((cfg0.win 0).blk t).view.emb y 0).val (((cfg0.win 0).blk t).view.emb y 1).val = T.H (512 * t.val + (y 0).val) (y 1).val
  blk_simp
  rw [e0, e0', Nat.zero_mul, Nat.zero_add, Nat.mul_comm]

/-- The feed-forward output's rows. -/
theorem blk1 (H : Holds T K g w m c gk wk wv PA) (t : Fin cfg0.N) : iblk m c 1 t = (E2 ((T.shift (512 * t.val)).F) : FVec Ideal S512x1024 .bf16) := by
  obtain ⟨⟨e0, e0', e1, e1', e2, e2', e7, e7', e8, e8'⟩, ⟨e3, e3', e4, e4', e5, e5', e6, e6', e9, e9', e10, e10', e11, e11', e12, e12'⟩, -⟩ := idxs t
  funext y
  show V m c main_arg1 (((cfg0.win 1).blk t).view.emb y) = _
  rw [(V_main_arg1 m c).trans H.hF]
  show T.F (((cfg0.win 1).blk t).view.emb y 0).val (((cfg0.win 1).blk t).view.emb y 1).val = T.F (512 * t.val + (y 0).val) (y 1).val
  blk_simp
  rw [e1, e1', Nat.zero_mul, Nat.zero_add, Nat.mul_comm]

/-- The embeddings' rows. -/
theorem blk2 (H : Holds T K g w m c gk wk wv PA) (t : Fin cfg0.N) : iblk m c 2 t = (E2 ((T.shift (512 * t.val)).P) : FVec Ideal S512x256 .f32) := by
  obtain ⟨⟨e0, e0', e1, e1', e2, e2', e7, e7', e8, e8'⟩, ⟨e3, e3', e4, e4', e5, e5', e6, e6', e9, e9', e10, e10', e11, e11', e12, e12'⟩, -⟩ := idxs t
  funext y
  show V m c main_arg2 (((cfg0.win 2).blk t).view.emb y) = _
  rw [(V_main_arg2 m c).trans H.hP]
  show PA (((cfg0.win 2).blk t).view.emb y 0).val (((cfg0.win 2).blk t).view.emb y 1).val = T.P (512 * t.val + (y 0).val) (y 1).val
  blk_simp
  have ea : (32 + t.val) * 512 + (y 0).val = 16384 + (512 * t.val + (y 0).val) := by omega
  rw [H.part, e2, e2', Nat.zero_mul, Nat.zero_add, ea]

/-- The feed-forward output's gain. -/
theorem blk3 (H : Holds T K g w m c gk wk wv PA) (t : Fin cfg0.N) : iblk m c 3 t = (E2 (K.go) : FVec Ideal S1x1024 .f32) := by
  obtain ⟨⟨e0, e0', e1, e1', e2, e2', e7, e7', e8, e8'⟩, ⟨e3, e3', e4, e4', e5, e5', e6, e6', e9, e9', e10, e10', e11, e11', e12, e12'⟩, -⟩ := idxs t
  funext y
  show V m c main_arg3 (((cfg0.win 3).blk t).view.emb y) = _
  rw [(V_main_arg3 m c).trans H.hgo]
  show K.go (((cfg0.win 3).blk t).view.emb y 0).val (((cfg0.win 3).blk t).view.emb y 1).val = K.go (y 0).val (y 1).val
  blk_simp
  have hy : (y 0).val < 1 := (y 0).isLt
  simp only [e3, e3', Nat.zero_mul, Nat.zero_add, show (y 0).val = 0 by omega]

/-- The gate's gain. -/
theorem blk4 (H : Holds T K g w m c gk wk wv PA) (t : Fin cfg0.N) : iblk m c 4 t = (E2 (K.gl) : FVec Ideal S1x1024 .f32) := by
  obtain ⟨⟨e0, e0', e1, e1', e2, e2', e7, e7', e8, e8'⟩, ⟨e3, e3', e4, e4', e5, e5', e6, e6', e9, e9', e10, e10', e11, e11', e12, e12'⟩, -⟩ := idxs t
  funext y
  show V m c main_arg4 (((cfg0.win 4).blk t).view.emb y) = _
  rw [(V_main_arg4 m c).trans H.hgl]
  show K.gl (((cfg0.win 4).blk t).view.emb y 0).val (((cfg0.win 4).blk t).view.emb y 1).val = K.gl (y 0).val (y 1).val
  blk_simp
  have hy : (y 0).val < 1 := (y 0).isLt
  simp only [e4, e4', Nat.zero_mul, Nat.zero_add, show (y 0).val = 0 by omega]

/-- The gate's weights. -/
theorem blk5 (H : Holds T K g w m c gk wk wv PA) (t : Fin cfg0.N) : iblk m c 5 t = (E2 (K.W) : FVec Ideal S1024x1024 .bf16) := by
  obtain ⟨⟨e0, e0', e1, e1', e2, e2', e7, e7', e8, e8'⟩, ⟨e3, e3', e4, e4', e5, e5', e6, e6', e9, e9', e10, e10', e11, e11', e12, e12'⟩, -⟩ := idxs t
  funext y
  show V m c main_v35 (((cfg0.win 5).blk t).view.emb y) = _
  rw [V_W m c H]
  show K.W (((cfg0.win 5).blk t).view.emb y 0).val (((cfg0.win 5).blk t).view.emb y 1).val = K.W (y 0).val (y 1).val
  blk_simp
  simp only [e5, e5', Nat.zero_mul, Nat.zero_add]

/-- The projection's weights. -/
theorem blk6 (H : Holds T K g w m c gk wk wv PA) (t : Fin cfg0.N) : iblk m c 6 t = (E2 (fun a b => K.Q b a) : FVec Ideal S1024x256 .bf16) := by
  obtain ⟨⟨e0, e0', e1, e1', e2, e2', e7, e7', e8, e8'⟩, ⟨e3, e3', e4, e4', e5, e5', e6, e6', e9, e9', e10, e10', e11, e11', e12, e12'⟩, -⟩ := idxs t
  funext y
  show V m c main_v37 (((cfg0.win 6).blk t).view.emb y) = _
  rw [V_Q m c H]
  show K.Q (((cfg0.win 6).blk t).view.emb y 1).val (((cfg0.win 6).blk t).view.emb y 0).val = K.Q (y 1).val (y 0).val
  blk_simp
  simp only [e6, e6', Nat.zero_mul, Nat.zero_add]

/-- The cosine table's rows. -/
theorem blk7 (H : Holds T K g w m c gk wk wv PA) (t : Fin cfg0.N) : iblk m c 7 t = (E2 (fun p l => cosT (512 * t.val + p) l) : FVec Ideal S512x128 .f32) := by
  obtain ⟨⟨e0, e0', e1, e1', e2, e2', e7, e7', e8, e8'⟩, ⟨e3, e3', e4, e4', e5, e5', e6, e6', e9, e9', e10, e10', e11, e11', e12, e12'⟩, -⟩ := idxs t
  funext y
  show V m c main_v27 (((cfg0.win 7).blk t).view.emb y) = _
  rw [V_cos m c]
  show cosT (((cfg0.win 7).blk t).view.emb y 0).val (((cfg0.win 7).blk t).view.emb y 1).val = cosT (512 * t.val + (y 0).val) (y 1).val
  blk_simp
  rw [e7, e7', Nat.zero_mul, Nat.zero_add, Nat.mul_comm]

/-- The sine table's rows. -/
theorem blk8 (H : Holds T K g w m c gk wk wv PA) (t : Fin cfg0.N) : iblk m c 8 t = (E2 (fun p l => sinT (512 * t.val + p) l) : FVec Ideal S512x128 .f32) := by
  obtain ⟨⟨e0, e0', e1, e1', e2, e2', e7, e7', e8, e8'⟩, ⟨e3, e3', e4, e4', e5, e5', e6, e6', e9, e9', e10, e10', e11, e11', e12, e12'⟩, -⟩ := idxs t
  funext y
  show V m c main_v31 (((cfg0.win 8).blk t).view.emb y) = _
  rw [V_sin m c]
  show sinT (((cfg0.win 8).blk t).view.emb y 0).val (((cfg0.win 8).blk t).view.emb y 1).val = sinT (512 * t.val + (y 0).val) (y 1).val
  blk_simp
  rw [e8, e8', Nat.zero_mul, Nat.zero_add, Nat.mul_comm]

/-- The next block's gain. -/
theorem blk9 (H : Holds T K g w m c gk wk wv PA) (t : Fin cfg0.N) : iblk m c 9 t = (E2 (g) : FVec Ideal S1x1024 .f32) := by
  obtain ⟨⟨e0, e0', e1, e1', e2, e2', e7, e7', e8, e8'⟩, ⟨e3, e3', e4, e4', e5, e5', e6, e6', e9, e9', e10, e10', e11, e11', e12, e12'⟩, -⟩ := idxs t
  funext y
  show V m c main_arg7 (((cfg0.win 9).blk t).view.emb y) = _
  rw [(V_main_arg7 m c).trans H.hg]
  show g (((cfg0.win 9).blk t).view.emb y 0).val (((cfg0.win 9).blk t).view.emb y 1).val = g (y 0).val (y 1).val
  blk_simp
  have hy : (y 0).val < 1 := (y 0).isLt
  simp only [e9, e9', Nat.zero_mul, Nat.zero_add, show (y 0).val = 0 by omega]

/-- The queries' weights. -/
theorem blk10 (H : Holds T K g w m c gk wk wv PA) (t : Fin cfg0.N) : iblk m c 10 t = (E2 (w) : FVec Ideal S1024x1024 .bf16) := by
  obtain ⟨⟨e0, e0', e1, e1', e2, e2', e7, e7', e8, e8'⟩, ⟨e3, e3', e4, e4', e5, e5', e6, e6', e9, e9', e10, e10', e11, e11', e12, e12'⟩, -⟩ := idxs t
  funext y
  show V m c main_v32 (((cfg0.win 10).blk t).view.emb y) = _
  rw [V_w m c H]
  show w (((cfg0.win 10).blk t).view.emb y 0).val (((cfg0.win 10).blk t).view.emb y 1).val = w (y 0).val (y 1).val
  blk_simp
  simp only [e10, e10', Nat.zero_mul, Nat.zero_add]

/-- The keys' and values' gain. -/
theorem blk11 (H : Holds T K g w m c gk wk wv PA) (t : Fin cfg0.N) : iblk m c 11 t = (E2 (gk) : FVec Ideal S1x1024 .f32) := by
  obtain ⟨⟨e0, e0', e1, e1', e2, e2', e7, e7', e8, e8'⟩, ⟨e3, e3', e4, e4', e5, e5', e6, e6', e9, e9', e10, e10', e11, e11', e12, e12'⟩, -⟩ := idxs t
  funext y
  show V m c main_arg9 (((cfg0.win 11).blk t).view.emb y) = _
  rw [(V_main_arg9 m c).trans H.hgk]
  show gk (((cfg0.win 11).blk t).view.emb y 0).val (((cfg0.win 11).blk t).view.emb y 1).val = gk (y 0).val (y 1).val
  blk_simp
  have hy : (y 0).val < 1 := (y 0).isLt
  simp only [e11, e11', Nat.zero_mul, Nat.zero_add, show (y 0).val = 0 by omega]

/-- The keys' and values' weights. -/
theorem blk12 (H : Holds T K g w m c gk wk wv PA) (t : Fin cfg0.N) : iblk m c 12 t = (E2 (side wk wv) : FVec Ideal S1024x512 .bf16) := by
  obtain ⟨⟨e0, e0', e1, e1', e2, e2', e7, e7', e8, e8'⟩, ⟨e3, e3', e4, e4', e5, e5', e6, e6', e9, e9', e10, e10', e11, e11', e12, e12'⟩, -⟩ := idxs t
  funext y
  show V m c main_v34 (((cfg0.win 12).blk t).view.emb y) = _
  rw [V_kv m c H]
  show side wk wv (((cfg0.win 12).blk t).view.emb y 0).val (((cfg0.win 12).blk t).view.emb y 1).val = side wk wv (y 0).val (y 1).val
  blk_simp
  simp only [e12, e12', Nat.zero_mul, Nat.zero_add]

/-- What one grid point leaves: its rows of the block's output. -/
theorem outs13 (H : Holds T K g w m c gk wk wv PA) (t : Fin cfg0.N) :
    (dats m 0 c).after 13 t = (E2 (h3 (T.shift (512 * t.val)) K) : FVec Ideal S512x1024 .f32) := by
  rw [after0_13]
  unfold out0_13 k0_pay20 k0_pay21 k0_pay22
  frame_out
  simp only [blk0 m c H, blk1 m c H, blk2 m c H, blk3 m c H, blk4 m c H, blk5 m c H, blk6 m c H, blk7 m c H, blk8 m c H, blk9 m c H, blk10 m c H, blk11 m c H, blk12 m c H]
  rw [pay3_eq, pay4_eq, pay5_eq, pay6_eq]

/-- All rows of the block's output. -/
theorem final13 (H : Holds T K g w m c gk wk wv PA) : (dats m 0 c).arrAt 13 cfg0.N = (E2 (h3 T K) : FVec Ideal S16384x1024 .f32) := by
  refine (dats m 0 c).arrAt_eq_of_covers 13 _ (by decide +kernel) fun t hf y => ?_
  blk_simp
  rw [outs13 m c H t]
  obtain ⟨-, -, e13, e13', e14, e14', e15, e15', e16, e16', e17, e17'⟩ := idxs t
  show (h3 T K) (512 * t.val + (y 0).val) (y 1).val =
    (h3 T K) (((cfg0.win 13).blk t).view.emb y 0).val (((cfg0.win 13).blk t).view.emb y 1).val
  blk_simp
  rw [e13, e13', Nat.mul_comm 512, Nat.zero_mul, Nat.zero_add]

/-- What one grid point leaves: its rows of the next block's input. -/
theorem outs14 (H : Holds T K g w m c gk wk wv PA) (t : Fin cfg0.N) :
    (dats m 0 c).after 14 t = (E2 (hn (T.shift (512 * t.val)) K g) : FVec Ideal S512x1024 .bf16) := by
  rw [after0_14]
  unfold out0_14 k0_pay20 k0_pay21 k0_pay22
  frame_out
  simp only [blk0 m c H, blk1 m c H, blk2 m c H, blk3 m c H, blk4 m c H, blk5 m c H, blk6 m c H, blk7 m c H, blk8 m c H, blk9 m c H, blk10 m c H, blk11 m c H, blk12 m c H]
  rw [pay3_eq, pay4_eq, pay5_eq, pay8_eq]

/-- All rows of the next block's input. -/
theorem final14 (H : Holds T K g w m c gk wk wv PA) : (dats m 0 c).arrAt 14 cfg0.N = (E2 (hn T K g) : FVec Ideal S16384x1024 .bf16) := by
  refine (dats m 0 c).arrAt_eq_of_covers 14 _ (by decide +kernel) fun t hf y => ?_
  blk_simp
  rw [outs14 m c H t]
  obtain ⟨-, -, e13, e13', e14, e14', e15, e15', e16, e16', e17, e17'⟩ := idxs t
  show (hn T K g) (512 * t.val + (y 0).val) (y 1).val =
    (hn T K g) (((cfg0.win 14).blk t).view.emb y 0).val (((cfg0.win 14).blk t).view.emb y 1).val
  blk_simp
  rw [e14, e14', Nat.mul_comm 512, Nat.zero_mul, Nat.zero_add]

/-- What one grid point leaves: its rows of the queries. -/
theorem outs15 (H : Holds T K g w m c gk wk wv PA) (t : Fin cfg0.N) :
    (dats m 0 c).after 15 t = (E2 (turned (fun p l => cosT (512 * t.val + p) l) (fun p l => sinT (512 * t.val + p) l) (mm (hn (T.shift (512 * t.val)) K g) w)) : FVec Ideal S512x1024 .bf16) := by
  rw [after0_15]
  unfold out0_15 k0_pay20 k0_pay21 k0_pay22
  frame_out
  simp only [blk0 m c H, blk1 m c H, blk2 m c H, blk3 m c H, blk4 m c H, blk5 m c H, blk6 m c H, blk7 m c H, blk8 m c H, blk9 m c H, blk10 m c H, blk11 m c H, blk12 m c H]
  rw [pay3_eq, pay4_eq, pay5_eq, pay9_eq, pay10_eq, pay11_eq, pay14_eq]

/-- All rows of the queries. -/
theorem final15 (H : Holds T K g w m c gk wk wv PA) : (dats m 0 c).arrAt 15 cfg0.N = (E2 (roped (mm (hn T K g) w)) : FVec Ideal S16384x1024 .bf16) := by
  refine (dats m 0 c).arrAt_eq_of_covers 15 _ (by decide +kernel) fun t hf y => ?_
  blk_simp
  rw [outs15 m c H t]
  obtain ⟨-, -, e13, e13', e14, e14', e15, e15', e16, e16', e17, e17'⟩ := idxs t
  show (roped (mm (hn T K g) w)) (512 * t.val + (y 0).val) (y 1).val =
    (roped (mm (hn T K g) w)) (((cfg0.win 15).blk t).view.emb y 0).val (((cfg0.win 15).blk t).view.emb y 1).val
  blk_simp
  rw [e15, e15', Nat.mul_comm 512, Nat.zero_mul, Nat.zero_add]

/-- What one grid point leaves: its rows of the keys' and values' input. -/
theorem outs16 (H : Holds T K g w m c gk wk wv PA) (t : Fin cfg0.N) :
    (dats m 0 c).after 16 t = (E2 (hn (T.shift (512 * t.val)) K gk) : FVec Ideal S512x1024 .bf16) := by
  rw [after0_16]
  unfold out0_16 k0_pay23 k0_pay24 k0_pay20 k0_pay21 k0_pay22
  frame_out
  simp only [blk0 m c H, blk1 m c H, blk2 m c H, blk3 m c H, blk4 m c H, blk5 m c H, blk6 m c H, blk7 m c H, blk8 m c H, blk9 m c H, blk10 m c H, blk11 m c H, blk12 m c H]
  rw [pay3_eq, pay4_eq, pay5_eq, pay6_eq, pay7_eq, pay15_eq]

/-- All rows of the keys' and values' input. -/
theorem final16 (H : Holds T K g w m c gk wk wv PA) : (dats m 0 c).arrAt 16 cfg0.N = (E2 (hn T K gk) : FVec Ideal S16384x1024 .bf16) := by
  refine (dats m 0 c).arrAt_eq_of_covers 16 _ (by decide +kernel) fun t hf y => ?_
  blk_simp
  rw [outs16 m c H t]
  obtain ⟨-, -, e13, e13', e14, e14', e15, e15', e16, e16', e17, e17'⟩ := idxs t
  show (hn T K gk) (512 * t.val + (y 0).val) (y 1).val =
    (hn T K gk) (((cfg0.win 16).blk t).view.emb y 0).val (((cfg0.win 16).blk t).view.emb y 1).val
  blk_simp
  rw [e16, e16', Nat.mul_comm 512, Nat.zero_mul, Nat.zero_add]

/-- What one grid point leaves: its rows of the keys and the values. -/
theorem outs17 (H : Holds T K g w m c gk wk wv PA) (t : Fin cfg0.N) :
    (dats m 0 c).after 17 t = (E2 (half (fun p l => cosT (512 * t.val + p) l) (fun p l => sinT (512 * t.val + p) l) (mm (hn (T.shift (512 * t.val)) K gk) (side wk wv))) : FVec Ideal S512x512 .bf16) := by
  rw [after0_17]
  unfold out0_17 k0_pay23 k0_pay24 k0_pay20 k0_pay21 k0_pay22
  frame_out
  simp only [blk0 m c H, blk1 m c H, blk2 m c H, blk3 m c H, blk4 m c H, blk5 m c H, blk6 m c H, blk7 m c H, blk8 m c H, blk9 m c H, blk10 m c H, blk11 m c H, blk12 m c H]
  rw [pay3_eq, pay4_eq, pay5_eq, pay6_eq, pay7_eq, pay16_eq, pay17_eq, pay18_eq, pay19_eq]
  exact halves _ _ _ (pay1_eq _ _ _) (pay2_eq _ _ _) _ _

/-- All rows of the keys and the values. -/
theorem final17 (H : Holds T K g w m c gk wk wv PA) : (dats m 0 c).arrAt 17 cfg0.N = (E2 (half cosT sinT (mm (hn T K gk) (side wk wv))) : FVec Ideal S16384x512 .bf16) := by
  refine (dats m 0 c).arrAt_eq_of_covers 17 _ (by decide +kernel) fun t hf y => ?_
  blk_simp
  rw [outs17 m c H t]
  obtain ⟨-, -, e13, e13', e14, e14', e15, e15', e16, e16', e17, e17'⟩ := idxs t
  show (half cosT sinT (mm (hn T K gk) (side wk wv))) (512 * t.val + (y 0).val) (y 1).val =
    (half cosT sinT (mm (hn T K gk) (side wk wv))) (((cfg0.win 17).blk t).view.emb y 0).val (((cfg0.win 17).blk t).view.emb y 1).val
  blk_simp
  rw [e17, e17', Nat.mul_comm 512, Nat.zero_mul, Nat.zero_add]

end Cert.Kernel10Ideal.PleQkv

end
-- ==== Proof.PleQkvEq.lean ====
module

public import proofs.«01_k».proof.Proof.PleQkv
public import proofs.«01_k».proof.Proof.Gen.Reference10Ideal.Run
public import proofs.«01_k».proof.Proof.Gen.Reference10Ideal.Read
public import proofs.«01_k».proof.Defs

@[expose] public section

set_option maxRecDepth 16384

noncomputable section

/-! The per-layer-embedding block's forward reference with the next layer's queries, keys and values, and its equality with what the kernel leaves. -/

namespace Cert.Proof.PleQkv

open Idealize.ShloMosaic Idealize.SL.Sem Idealize.ShloMosaic.TcCoe Cert.Lift Cert.Ext
open Cert.Reference10Ideal Cert.Reference10Ideal.Gen Cert.Reference10Ideal.Read
open Cert.Kernel5Ideal.Ple (Args Weights)
open Cert.Kernel11Ideal.PleQ (hn mm)
open Cert.Kernel10Ideal.PleQkv (Holds side half)
open Cert.Kernel9Ideal.PleFwd (h3)
open Cert.Rope

variable (T : Args) (K : Weights) (g w : ℕ → ℕ → EReal)

/-- The middle value. -/
theorem v17_eq : val_main_v17 (F := Ideal) (E2 T.H) (E2 T.F) (E2 K.go) = E2 (T.h2 K) := by
  unfold val_main_v17 val_main_v16 val_main_v13 val_main_v12 val_main_v11 val_main_v10 val_main_v8 val_main_v6 val_main_v5 val_main_v4 val_main_v0
  funext j
  idx_vars j
  pointwise [val_main_v15, val_main_v14, val_main_v2, val_main_v7, val_main_v9, val_main_cst, val_main_cst_0, val_main_cst_1]
  simp only [E2_apply, lit_one, lit_zero, lit_1024, lit_eps, zero_add, EReal.coe_zero, EReal.coe_one]
  rfl

/-- The gate's input rows. -/
theorem v30_eq : val_main_v30 (F := Ideal) (E2 T.H) (E2 T.F) (E2 K.go) (E2 K.gl) = E2 (T.u K) := by
  unfold val_main_v30 val_main_v27 val_main_v26 val_main_v25 val_main_v24 val_main_v22 val_main_v20 val_main_v19 val_main_v18
  rw [v17_eq]
  funext j
  idx_vars j
  pointwise [val_main_v29, val_main_v28, val_main_v3, val_main_v21, val_main_v23, val_main_cst_2, val_main_cst_3, val_main_cst_4]
  simp only [E2_apply, lit_one, lit_zero, lit_1024, lit_eps, zero_add, EReal.coe_zero, EReal.coe_one]
  rfl

/-- The gate. -/
theorem v37_eq : val_main_v37 (F := Ideal) (E2 T.H) (E2 T.F) (E2 K.go) (E2 K.gl) (E2 K.W) = E2 (T.gate K) := by
  unfold val_main_v37 val_main_v35 val_main_v33 val_main_v32 val_main_v31
  rw [v30_eq]
  funext j
  idx_vars j
  pointwise [val_main_v34, val_main_v36, val_main_cst_5, val_main_cst_6]
  simp only [E2_apply, lit_one, EReal.coe_one]
  rfl

/-- The projected embeddings. -/
theorem v38_eq (PA : ℕ → ℕ → EReal) (hP : T.P = fun p c => PA (16384 + p) c) : val_main_v38 (F := Ideal) (E2 PA) (E2 K.Q) = E2 (T.pp K) := by
  unfold val_main_v38
  funext j
  idx_vars j
  pointwise [val_main_v1]
  simp only [E2_apply, Args.pp, hP]

/-- The block's output. -/
theorem v40_eq (PA : ℕ → ℕ → EReal) (hP : T.P = fun p c => PA (16384 + p) c) : val_main_v40 (F := Ideal) (E2 T.H) (E2 T.F) (E2 PA) (E2 K.go) (E2 K.gl) (E2 K.W) (E2 K.Q)
    = (E2 (h3 T K) : FVec Ideal S16384x1024 .f32) := by
  unfold val_main_v40 val_main_v39
  rw [v17_eq, v37_eq, v38_eq T K PA hP]
  funext j
  idx_vars j
  pointwise []
  rfl

/-- The next block's input. -/
theorem v73_eq (PA : ℕ → ℕ → EReal) (hP : T.P = fun p c => PA (16384 + p) c) : val_main_v73 (F := Ideal) (E2 T.H) (E2 T.F) (E2 PA) (E2 K.go) (E2 K.gl) (E2 K.W) (E2 K.Q) (E2 g)
    = (E2 (hn T K g) : FVec Ideal S16384x1024 .f32) := by
  unfold val_main_v73 val_main_v70 val_main_v69 val_main_v68 val_main_v67 val_main_v65 val_main_v63 val_main_v62 val_main_v61
  rw [v40_eq T K PA hP]
  funext j
  idx_vars j
  pointwise [val_main_v72, val_main_v71, val_main_v60, val_main_v64, val_main_v66, val_main_cst_12, val_main_cst_13, val_main_cst_14]
  simp only [E2_apply, lit_one, lit_zero, lit_1024, lit_eps, zero_add, EReal.coe_zero, EReal.coe_one]
  rfl

/-- The queries before the rotation. -/
theorem v88_eq (PA : ℕ → ℕ → EReal) (hP : T.P = fun p c => PA (16384 + p) c) : val_main_v88 (F := Ideal) (E2 T.H) (E2 T.F) (E2 PA) (E2 K.go) (E2 K.gl) (E2 K.W) (E2 K.Q) (E2 g) (E2 w)
    = (E2 (mm (hn T K g) w) : FVec Ideal S16384x1024 .f32) := by
  unfold val_main_v88
  rw [v73_eq T K g PA hP]
  funext j
  idx_vars j
  pointwise []
  simp only [E2_apply]
  rfl

/-- The reference's angles. -/
theorem v57_eq (j0 : Fin 16384) (j1 : Fin 32) : val_main_v57 (F := Ideal) (ix2 j0 j1) = ang j0 j1 := by
  pointwise [val_main_v57, val_main_v56, val_main_v55, val_main_v54, val_main_v53, val_main_v52, val_main_v51, val_main_v50, val_main_v49, val_main_v48, val_main_v47, val_main_v46, val_main_v45, val_main_v44, val_main_v43, val_main_v42, val_main_v41, val_main_cst_7, val_main_cst_8, val_main_cst_9, val_main_cst_10, val_main_cst_11]
  rfl

/-- The queries with the rotation. -/
theorem v105_eq (PA : ℕ → ℕ → EReal) (hP : T.P = fun p c => PA (16384 + p) c) : val_main_v105 (F := Ideal) (E2 T.H) (E2 T.F) (E2 PA) (E2 K.go) (E2 K.gl) (E2 K.W) (E2 K.Q) (E2 g) (E2 w)
    = (E2 (roped (mm (hn T K g) w)) : FVec Ideal S16384x1024 .f32) := by
  unfold val_main_v105 val_main_v104 val_main_v103 val_main_v102 val_main_v100 val_main_v98 val_main_v97 val_main_v95 val_main_v91 val_main_v90 val_main_v89
  rw [v88_eq T K g w PA hP]
  generalize mm (hn T K g) w = y
  funext j
  idx_vars j
  pointwise [val_main_v101, val_main_v99, val_main_v96, val_main_v94, val_main_v93, val_main_v92, val_main_v59, val_main_v58]
  simp only [v57_eq, E2_apply]
  exact heads y j0 j1

/-- The keys' and values' input. -/
theorem v87_eq (PA : ℕ → ℕ → EReal) (hP : T.P = fun p c => PA (16384 + p) c) : val_main_v87 (F := Ideal) (E2 T.H) (E2 T.F) (E2 PA) (E2 K.go) (E2 K.gl) (E2 K.W) (E2 K.Q) (E2 g)
    = (E2 (hn T K g) : FVec Ideal S16384x1024 .f32) := by
  unfold val_main_v87 val_main_v84 val_main_v83 val_main_v82 val_main_v81 val_main_v79 val_main_v77 val_main_v76 val_main_v75
  rw [v40_eq T K PA hP]
  funext j
  idx_vars j
  pointwise [val_main_v86, val_main_v85, val_main_v74, val_main_v78, val_main_v80, val_main_cst_15, val_main_cst_16, val_main_cst_17]
  simp only [E2_apply, lit_one, lit_zero, lit_1024, lit_eps, zero_add, EReal.coe_zero, EReal.coe_one]
  rfl

/-- The keys before the rotation. -/
theorem v106_eq (PA : ℕ → ℕ → EReal) (hP : T.P = fun p c => PA (16384 + p) c) : val_main_v106 (F := Ideal) (E2 T.H) (E2 T.F) (E2 PA) (E2 K.go) (E2 K.gl) (E2 K.W) (E2 K.Q) (E2 g) (E2 w)
    = (E2 (mm (hn T K g) w) : FVec Ideal S16384x256 .f32) := by
  unfold val_main_v106
  rw [v87_eq T K g PA hP]
  funext j
  idx_vars j
  pointwise []
  simp only [E2_apply]
  rfl

/-- The values. -/
theorem v124_eq (PA : ℕ → ℕ → EReal) (hP : T.P = fun p c => PA (16384 + p) c) : val_main_v124 (F := Ideal) (E2 T.H) (E2 T.F) (E2 PA) (E2 K.go) (E2 K.gl) (E2 K.W) (E2 K.Q) (E2 g) (E2 w)
    = (E2 (mm (hn T K g) w) : FVec Ideal S16384x256 .f32) := by
  unfold val_main_v124
  rw [v87_eq T K g PA hP]
  funext j
  idx_vars j
  pointwise []
  simp only [E2_apply]
  rfl

/-- The keys with the rotation. -/
theorem v123_eq (PA : ℕ → ℕ → EReal) (hP : T.P = fun p c => PA (16384 + p) c) : val_main_v123 (F := Ideal) (E2 T.H) (E2 T.F) (E2 PA) (E2 K.go) (E2 K.gl) (E2 K.W) (E2 K.Q) (E2 g) (E2 w)
    = (E2 (roped (mm (hn T K g) w)) : FVec Ideal S16384x256 .f32) := by
  unfold val_main_v123 val_main_v122 val_main_v121 val_main_v120 val_main_v118 val_main_v116 val_main_v115 val_main_v113 val_main_v109 val_main_v108 val_main_v107
  rw [v106_eq T K g w PA hP]
  generalize mm (hn T K g) w = y
  funext j
  idx_vars j
  pointwise [val_main_v119, val_main_v117, val_main_v114, val_main_v112, val_main_v111, val_main_v110, val_main_v59, val_main_v58]
  simp only [v57_eq, E2_apply]
  exact heads y j0 j1

/-- Rotated keys beside values are the product with the weights side by side, of which the first 256 lanes are rotated. -/
theorem beside (x u v : ℕ → ℕ → EReal) (p c : ℕ) :
    (if h : c < 256 then roped (mm x u) p c else mm x v p (c - 256)) = half cosT sinT (mm x (side u v)) p c := by
  have lo : ∀ n, n < 256 → mm x (side u v) p n = mm x u p n := by
    intro n h
    unfold mm side
    simp only [if_pos h]
  unfold half
  by_cases h : c < 256
  · rw [dif_pos h, if_pos h]
    unfold roped turned pair
    rw [lo c h]
    by_cases e : c % 64 < 32
    · rw [if_pos e, if_pos e, lo (c + 32) (by omega)]
    · rw [if_neg e, if_neg e, lo (c - 32) (by omega)]
  · rw [dif_neg h, if_neg h]
    unfold mm side
    simp only [if_neg h]

/-- The keys and the values. -/
theorem v125_eq (u v : ℕ → ℕ → EReal) (PA : ℕ → ℕ → EReal) (hP : T.P = fun p c => PA (16384 + p) c) : val_main_v125 (F := Ideal) (E2 T.H) (E2 T.F) (E2 PA) (E2 K.go) (E2 K.gl) (E2 K.W) (E2 K.Q) (E2 g) (E2 u) (E2 v)
    = (E2 (half cosT sinT (mm (hn T K g) (side u v))) : FVec Ideal S16384x512 .f32) := by
  unfold val_main_v125
  rw [v123_eq T K g u PA hP, v124_eq T K g v PA hP]
  funext j
  idx_vars j
  pointwise []
  simp only [E2_apply]
  exact beside (hn T K g) u v j0 j1

attribute [local instance] Cert.Kernel10Ideal.Gen.facts Cert.Reference10Ideal.Gen.facts

/-- The reference's arguments in memory are the arrays `T`, `K`, `g`, `w`, `gk`, `wk` and `wv`; the embeddings are the rows of `PA` from row 16384 on. -/
structure RefHolds (m : (ℓ : Loc nD τ sig) → Buf (Elt Ideal) ℓ) (c : Dev nD) (T : Args) (K : Weights) (g w gk wk wv PA : ℕ → ℕ → EReal) : Prop where
  b0 : m ((c.tc : Thread nD τ).loc main_arg0) = (E2 T.H : FVec Ideal S16384x1024 .f32)
  b1 : m ((c.tc : Thread nD τ).loc main_arg1) = (E2 T.F : FVec Ideal S16384x1024 .bf16)
  b2 : m ((c.tc : Thread nD τ).loc main_arg2) = (E2 PA : FVec Ideal S65536x256 .f32)
  b3 : m ((c.tc : Thread nD τ).loc main_arg3) = (E2 K.go : FVec Ideal S1x1024 .f32)
  b4 : m ((c.tc : Thread nD τ).loc main_arg4) = (E2 K.gl : FVec Ideal S1x1024 .f32)
  b5 : m ((c.tc : Thread nD τ).loc main_arg5) = (E2 K.W : FVec Ideal S1024x1024 .f32)
  b6 : m ((c.tc : Thread nD τ).loc main_arg6) = (E2 K.Q : FVec Ideal S256x1024 .f32)
  b7 : m ((c.tc : Thread nD τ).loc main_arg7) = (E2 g : FVec Ideal S1x1024 .f32)
  b8 : m ((c.tc : Thread nD τ).loc main_arg8) = (E2 w : FVec Ideal S1024x1024 .f32)
  b9 : m ((c.tc : Thread nD τ).loc main_arg9) = (E2 gk : FVec Ideal S1x1024 .f32)
  b10 : m ((c.tc : Thread nD τ).loc main_arg10) = (E2 wk : FVec Ideal S1024x256 .f32)
  b11 : m ((c.tc : Thread nD τ).loc main_arg11) = (E2 wv : FVec Ideal S1024x256 .f32)
  part : T.P = fun p c => PA (16384 + p) c

variable (m : (ℓ : Loc nD τ sig) → Buf (Elt Ideal) ℓ) (c : Dev nD) (gk wk wv PA : ℕ → ℕ → EReal)

/-- The reference's output of the block. -/
theorem res40 (H : RefHolds m c T K g w gk wk wv PA) : Value.res_main_v40 m c = (E2 (h3 T K) : FVec Ideal S16384x1024 .f32) := by
  rw [val_main_v40_eq, H.b0, H.b1, H.b2, H.b3, H.b4, H.b5, H.b6]
  exact v40_eq T K PA H.part

/-- The reference's input of the next block. -/
theorem res126 (H : RefHolds m c T K g w gk wk wv PA) : Value.res_main_v126 m c = (E2 (hn T K g) : FVec Ideal S16384x1024 .bf16) := by
  rw [val_main_v126_eq, H.b0, H.b1, H.b2, H.b3, H.b4, H.b5, H.b6, H.b7]
  unfold val_main_v126
  rw [v73_eq T K g PA H.part]
  rfl

/-- The reference's queries. -/
theorem res127 (H : RefHolds m c T K g w gk wk wv PA) : Value.res_main_v127 m c = (E2 (roped (mm (hn T K g) w)) : FVec Ideal S16384x1024 .bf16) := by
  rw [val_main_v127_eq, H.b0, H.b1, H.b2, H.b3, H.b4, H.b5, H.b6, H.b7, H.b8]
  unfold val_main_v127
  rw [v105_eq T K g w PA H.part]
  rfl

/-- The reference's input of the keys and values. -/
theorem res128 (H : RefHolds m c T K g w gk wk wv PA) : Value.res_main_v128 m c = (E2 (hn T K gk) : FVec Ideal S16384x1024 .bf16) := by
  rw [val_main_v128_eq, H.b0, H.b1, H.b2, H.b3, H.b4, H.b5, H.b6, H.b9]
  unfold val_main_v128
  rw [v87_eq T K gk PA H.part]
  rfl

/-- The reference's keys and values. -/
theorem res129 (H : RefHolds m c T K g w gk wk wv PA) : Value.res_main_v129 m c = (E2 (half cosT sinT (mm (hn T K gk) (side wk wv))) : FVec Ideal S16384x512 .bf16) := by
  rw [val_main_v129_eq, H.b0, H.b1, H.b2, H.b3, H.b4, H.b5, H.b6, H.b9, H.b10, H.b11]
  unfold val_main_v129
  rw [v125_eq T K gk wk wv PA H.part]
  rfl

/-- Two-axis arguments in memory are always such arrays. -/
theorem holds (m : (ℓ : Loc Cert.Kernel10Ideal.nD Cert.Kernel10Ideal.τ Cert.Kernel10Ideal.sig) → Buf (Elt Ideal) ℓ)
    (c : Dev Cert.Kernel10Ideal.nD) : ∃ (T : Args) (K : Weights) (g w gk wk wv PA : ℕ → ℕ → EReal), Holds T K g w m c gk wk wv PA := by
  obtain ⟨H, e0⟩ := exists_E2 (a := 16384) (b := 1024) (m ((c : Thread Cert.Kernel10Ideal.nD Cert.Kernel10Ideal.τ).loc Cert.Kernel10Ideal.main_arg0))
  obtain ⟨X, e1⟩ := exists_E2 (a := 16384) (b := 1024) (m ((c : Thread Cert.Kernel10Ideal.nD Cert.Kernel10Ideal.τ).loc Cert.Kernel10Ideal.main_arg1))
  obtain ⟨PA, e2⟩ := exists_E2 (a := 65536) (b := 256) (m ((c : Thread Cert.Kernel10Ideal.nD Cert.Kernel10Ideal.τ).loc Cert.Kernel10Ideal.main_arg2))
  obtain ⟨go, e3⟩ := exists_E2 (a := 1) (b := 1024) (m ((c : Thread Cert.Kernel10Ideal.nD Cert.Kernel10Ideal.τ).loc Cert.Kernel10Ideal.main_arg3))
  obtain ⟨gl, e4⟩ := exists_E2 (a := 1) (b := 1024) (m ((c : Thread Cert.Kernel10Ideal.nD Cert.Kernel10Ideal.τ).loc Cert.Kernel10Ideal.main_arg4))
  obtain ⟨W, e5⟩ := exists_E2 (a := 1024) (b := 1024) (m ((c : Thread Cert.Kernel10Ideal.nD Cert.Kernel10Ideal.τ).loc Cert.Kernel10Ideal.main_arg5))
  obtain ⟨Q, e6⟩ := exists_E2 (a := 256) (b := 1024) (m ((c : Thread Cert.Kernel10Ideal.nD Cert.Kernel10Ideal.τ).loc Cert.Kernel10Ideal.main_arg6))
  obtain ⟨g, e7⟩ := exists_E2 (a := 1) (b := 1024) (m ((c : Thread Cert.Kernel10Ideal.nD Cert.Kernel10Ideal.τ).loc Cert.Kernel10Ideal.main_arg7))
  obtain ⟨w, e8⟩ := exists_E2 (a := 1024) (b := 1024) (m ((c : Thread Cert.Kernel10Ideal.nD Cert.Kernel10Ideal.τ).loc Cert.Kernel10Ideal.main_arg8))
  obtain ⟨gk, e9⟩ := exists_E2 (a := 1) (b := 1024) (m ((c : Thread Cert.Kernel10Ideal.nD Cert.Kernel10Ideal.τ).loc Cert.Kernel10Ideal.main_arg9))
  obtain ⟨wk, e10⟩ := exists_E2 (a := 1024) (b := 256) (m ((c : Thread Cert.Kernel10Ideal.nD Cert.Kernel10Ideal.τ).loc Cert.Kernel10Ideal.main_arg10))
  obtain ⟨wv, e11⟩ := exists_E2 (a := 1024) (b := 256) (m ((c : Thread Cert.Kernel10Ideal.nD Cert.Kernel10Ideal.τ).loc Cert.Kernel10Ideal.main_arg11))
  exact ⟨⟨fun _ _ => 0, H, X, fun p c => PA (16384 + p) c⟩, ⟨go, gl, W, Q⟩, g, w, gk, wk, wv, PA, ⟨e0, e1, e2, e3, e4, e5, e6, e7, e8, e9, e10, e11, rfl⟩⟩

/-- The reference runs and keeps its arguments; it has no semaphores. -/
theorem frame_reference : Cert.quiescent_Reference10Ideal := fun m g _ =>
  (θ_run Cert.Reference10Ideal.defs _ _).mono (fun r h => ⟨fun c => (h c).2.2.2.2.2, sem_eq_zero_of_no_sems (by decide) r.2⟩)
    (Cert.Reference10Ideal.Value.run (F := Ideal) m g)

/-- The kernel's five results are the reference's, whatever the arguments. -/
theorem algebraic : Cert.algebraic_Kernel10Ideal_Reference10Ideal := by
  intro m g m' g' hpre hargs
  refine ⟨fun c => (Cert.Kernel10Ideal.Gen.dats m 0 c).arrAt 13 Cert.Kernel10Ideal.cfg0.N,
    fun c => (Cert.Kernel10Ideal.Gen.dats m 0 c).arrAt 14 Cert.Kernel10Ideal.cfg0.N,
    fun c => (Cert.Kernel10Ideal.Gen.dats m 0 c).arrAt 15 Cert.Kernel10Ideal.cfg0.N,
    fun c => (Cert.Kernel10Ideal.Gen.dats m 0 c).arrAt 16 Cert.Kernel10Ideal.cfg0.N,
    fun c => (Cert.Kernel10Ideal.Gen.dats m 0 c).arrAt 17 Cert.Kernel10Ideal.cfg0.N,
    Cert.Kernel10Ideal.Value.run_blocks m g, ?_⟩
  refine (θ_run Cert.Reference10Ideal.defs _ _).mono (fun r h c => ?_) (Cert.Reference10Ideal.Value.run (F := Ideal) m' g')
  obtain ⟨T, K, g, w, gk, wk, wv, PA, H⟩ := holds m c
  obtain ⟨a0, a1, a2, a3, a4, a5, a6, a7, a8, a9, a10, a11⟩ := hargs c
  obtain ⟨r0, r1, r2, r3, r4, rest⟩ := h c
  have R : RefHolds m' c T K g w gk wk wv PA := ⟨a0.trans H.hH, a1.trans H.hF, a2.trans H.hP, a3.trans H.hgo, a4.trans H.hgl, a5.trans H.hW,
    a6.trans H.hQ, a7.trans H.hg, a8.trans H.hw, a9.trans H.hgk, a10.trans H.hwk, a11.trans H.hwv, H.part⟩
  exact ⟨r0.trans ((res40 T K g w m' c gk wk wv PA R).trans (Cert.Kernel10Ideal.PleQkv.final13 m c H).symm),
    r1.trans ((res126 T K g w m' c gk wk wv PA R).trans (Cert.Kernel10Ideal.PleQkv.final14 m c H).symm),
    r2.trans ((res127 T K g w m' c gk wk wv PA R).trans (Cert.Kernel10Ideal.PleQkv.final15 m c H).symm),
    r3.trans ((res128 T K g w m' c gk wk wv PA R).trans (Cert.Kernel10Ideal.PleQkv.final16 m c H).symm),
    r4.trans ((res129 T K g w m' c gk wk wv PA R).trans (Cert.Kernel10Ideal.PleQkv.final17 m c H).symm), rest⟩

end Cert.Proof.PleQkv

end
-- ==== Proof.PleQEq.lean ====
module

public import proofs.«01_k».proof.Proof.PleQ
public import proofs.«01_k».proof.Proof.Gen.Reference11Ideal.Run
public import proofs.«01_k».proof.Proof.Gen.Reference11Ideal.Read
public import proofs.«01_k».proof.Defs

@[expose] public section

set_option maxRecDepth 16384

noncomputable section

/-! The per-layer-embedding block's forward reference with the next layer's queries, and its equality with what the kernel leaves. -/

namespace Cert.Proof.PleQ

open Idealize.ShloMosaic Idealize.SL.Sem Idealize.ShloMosaic.TcCoe Cert.Lift Cert.Ext
open Cert.Reference11Ideal Cert.Reference11Ideal.Gen Cert.Reference11Ideal.Read
open Cert.Kernel5Ideal.Ple (Args Weights)
open Cert.Kernel11Ideal.PleQ (Holds hn mm)
open Cert.Kernel9Ideal.PleFwd (h3)
open Cert.Rope

variable (T : Args) (K : Weights) (g w : ℕ → ℕ → EReal)

/-- The middle value. -/
theorem v17_eq : val_main_v17 (F := Ideal) (E2 T.H) (E2 T.F) (E2 K.go) = E2 (T.h2 K) := by
  unfold val_main_v17 val_main_v16 val_main_v13 val_main_v12 val_main_v11 val_main_v10 val_main_v8 val_main_v6 val_main_v5 val_main_v4 val_main_v0
  funext j
  idx_vars j
  pointwise [val_main_v15, val_main_v14, val_main_v2, val_main_v7, val_main_v9, val_main_cst, val_main_cst_0, val_main_cst_1]
  simp only [E2_apply, lit_one, lit_zero, lit_1024, lit_eps, zero_add, EReal.coe_zero, EReal.coe_one]
  rfl

/-- The gate's input rows. -/
theorem v30_eq : val_main_v30 (F := Ideal) (E2 T.H) (E2 T.F) (E2 K.go) (E2 K.gl) = E2 (T.u K) := by
  unfold val_main_v30 val_main_v27 val_main_v26 val_main_v25 val_main_v24 val_main_v22 val_main_v20 val_main_v19 val_main_v18
  rw [v17_eq]
  funext j
  idx_vars j
  pointwise [val_main_v29, val_main_v28, val_main_v3, val_main_v21, val_main_v23, val_main_cst_2, val_main_cst_3, val_main_cst_4]
  simp only [E2_apply, lit_one, lit_zero, lit_1024, lit_eps, zero_add, EReal.coe_zero, EReal.coe_one]
  rfl

/-- The gate. -/
theorem v37_eq : val_main_v37 (F := Ideal) (E2 T.H) (E2 T.F) (E2 K.go) (E2 K.gl) (E2 K.W) = E2 (T.gate K) := by
  unfold val_main_v37 val_main_v35 val_main_v33 val_main_v32 val_main_v31
  rw [v30_eq]
  funext j
  idx_vars j
  pointwise [val_main_v34, val_main_v36, val_main_cst_5, val_main_cst_6]
  simp only [E2_apply, lit_one, EReal.coe_one]
  rfl

/-- The projected embeddings. -/
theorem v38_eq (PA : ℕ → ℕ → EReal) (hP : T.P = fun p c => PA (32768 + p) c) : val_main_v38 (F := Ideal) (E2 PA) (E2 K.Q) = E2 (T.pp K) := by
  unfold val_main_v38
  funext j
  idx_vars j
  pointwise [val_main_v1]
  simp only [E2_apply, Args.pp, hP]

/-- The block's output. -/
theorem v40_eq (PA : ℕ → ℕ → EReal) (hP : T.P = fun p c => PA (32768 + p) c) : val_main_v40 (F := Ideal) (E2 T.H) (E2 T.F) (E2 PA) (E2 K.go) (E2 K.gl) (E2 K.W) (E2 K.Q)
    = (E2 (h3 T K) : FVec Ideal S16384x1024 .f32) := by
  unfold val_main_v40 val_main_v39
  rw [v17_eq, v37_eq, v38_eq T K PA hP]
  funext j
  idx_vars j
  pointwise []
  rfl

/-- The next block's input. -/
theorem v54_eq (PA : ℕ → ℕ → EReal) (hP : T.P = fun p c => PA (32768 + p) c) : val_main_v54 (F := Ideal) (E2 T.H) (E2 T.F) (E2 PA) (E2 K.go) (E2 K.gl) (E2 K.W) (E2 K.Q) (E2 g)
    = (E2 (hn T K g) : FVec Ideal S16384x1024 .f32) := by
  unfold val_main_v54 val_main_v51 val_main_v50 val_main_v49 val_main_v48 val_main_v46 val_main_v44 val_main_v43 val_main_v42
  rw [v40_eq T K PA hP]
  funext j
  idx_vars j
  pointwise [val_main_v53, val_main_v52, val_main_v41, val_main_v45, val_main_v47, val_main_cst_7, val_main_cst_8, val_main_cst_9]
  simp only [E2_apply, lit_one, lit_zero, lit_1024, lit_eps, zero_add, EReal.coe_zero, EReal.coe_one]
  rfl

/-- The queries before the rotation. -/
theorem v55_eq (PA : ℕ → ℕ → EReal) (hP : T.P = fun p c => PA (32768 + p) c) : val_main_v55 (F := Ideal) (E2 T.H) (E2 T.F) (E2 PA) (E2 K.go) (E2 K.gl) (E2 K.W) (E2 K.Q) (E2 g) (E2 w)
    = (E2 (mm (hn T K g) w) : FVec Ideal S16384x1024 .f32) := by
  unfold val_main_v55
  rw [v54_eq T K g PA hP]
  funext j
  idx_vars j
  pointwise []
  simp only [E2_apply]
  rfl

/-- The reference's angles. -/
theorem v73_eq (j0 : Fin 16384) (j1 : Fin 32) : val_main_v73 (F := Ideal) (ix2 j0 j1) = ang j0 j1 := by
  pointwise [val_main_v73, val_main_v72, val_main_v71, val_main_v70, val_main_v69, val_main_v68, val_main_v67, val_main_v66, val_main_v65, val_main_v64, val_main_v63, val_main_v62, val_main_v61, val_main_v60, val_main_v59, val_main_v58, val_main_v57, val_main_cst_10, val_main_cst_11, val_main_cst_12, val_main_cst_13, val_main_cst_14]
  rfl

/-- The queries with the rotation. -/
theorem v91_eq (PA : ℕ → ℕ → EReal) (hP : T.P = fun p c => PA (32768 + p) c) : val_main_v91 (F := Ideal) (E2 T.H) (E2 T.F) (E2 PA) (E2 K.go) (E2 K.gl) (E2 K.W) (E2 K.Q) (E2 g) (E2 w)
    = (E2 (roped (mm (hn T K g) w)) : FVec Ideal S16384x1024 .f32) := by
  unfold val_main_v91 val_main_v90 val_main_v89 val_main_v88 val_main_v86 val_main_v84 val_main_v83 val_main_v81 val_main_v77 val_main_v76 val_main_v56
  rw [v55_eq T K g w PA hP]
  generalize mm (hn T K g) w = y
  funext j
  idx_vars j
  pointwise [val_main_v87, val_main_v85, val_main_v82, val_main_v80, val_main_v79, val_main_v78, val_main_v75, val_main_v74]
  simp only [v73_eq, E2_apply]
  exact heads y j0 j1

attribute [local instance] Cert.Kernel11Ideal.Gen.facts Cert.Reference11Ideal.Gen.facts

/-- The reference's arguments in memory are the arrays `T`, `K`, `g` and `w`; the embeddings are the rows of `PA` from row 32768 on. -/
structure RefHolds (m : (ℓ : Loc nD τ sig) → Buf (Elt Ideal) ℓ) (c : Dev nD) (T : Args) (K : Weights) (g w PA : ℕ → ℕ → EReal) : Prop where
  b0 : m ((c.tc : Thread nD τ).loc main_arg0) = (E2 T.H : FVec Ideal S16384x1024 .f32)
  b1 : m ((c.tc : Thread nD τ).loc main_arg1) = (E2 T.F : FVec Ideal S16384x1024 .bf16)
  b2 : m ((c.tc : Thread nD τ).loc main_arg2) = (E2 PA : FVec Ideal S65536x256 .f32)
  b3 : m ((c.tc : Thread nD τ).loc main_arg3) = (E2 K.go : FVec Ideal S1x1024 .f32)
  b4 : m ((c.tc : Thread nD τ).loc main_arg4) = (E2 K.gl : FVec Ideal S1x1024 .f32)
  b5 : m ((c.tc : Thread nD τ).loc main_arg5) = (E2 K.W : FVec Ideal S1024x1024 .f32)
  b6 : m ((c.tc : Thread nD τ).loc main_arg6) = (E2 K.Q : FVec Ideal S256x1024 .f32)
  b7 : m ((c.tc : Thread nD τ).loc main_arg7) = (E2 g : FVec Ideal S1x1024 .f32)
  b8 : m ((c.tc : Thread nD τ).loc main_arg8) = (E2 w : FVec Ideal S1024x1024 .f32)
  part : T.P = fun p c => PA (32768 + p) c

variable (m : (ℓ : Loc nD τ sig) → Buf (Elt Ideal) ℓ) (c : Dev nD) (PA : ℕ → ℕ → EReal)

/-- The reference's output of the block. -/
theorem res40 (H : RefHolds m c T K g w PA) : Value.res_main_v40 m c = (E2 (h3 T K) : FVec Ideal S16384x1024 .f32) := by
  rw [val_main_v40_eq, H.b0, H.b1, H.b2, H.b3, H.b4, H.b5, H.b6]
  exact v40_eq T K PA H.part

/-- The reference's input of the next block. -/
theorem res92 (H : RefHolds m c T K g w PA) : Value.res_main_v92 m c = (E2 (hn T K g) : FVec Ideal S16384x1024 .bf16) := by
  rw [val_main_v92_eq, H.b0, H.b1, H.b2, H.b3, H.b4, H.b5, H.b6, H.b7]
  unfold val_main_v92
  rw [v54_eq T K g PA H.part]
  rfl

/-- The reference's queries. -/
theorem res93 (H : RefHolds m c T K g w PA) : Value.res_main_v93 m c = (E2 (roped (mm (hn T K g) w)) : FVec Ideal S16384x1024 .bf16) := by
  rw [val_main_v93_eq, H.b0, H.b1, H.b2, H.b3, H.b4, H.b5, H.b6, H.b7, H.b8]
  unfold val_main_v93
  rw [v91_eq T K g w PA H.part]
  rfl

/-- Two-axis arguments in memory are always such arrays. -/
theorem holds (m : (ℓ : Loc Cert.Kernel11Ideal.nD Cert.Kernel11Ideal.τ Cert.Kernel11Ideal.sig) → Buf (Elt Ideal) ℓ)
    (c : Dev Cert.Kernel11Ideal.nD) : ∃ (T : Args) (K : Weights) (g w PA : ℕ → ℕ → EReal), Holds T K g w m c PA := by
  obtain ⟨H, e0⟩ := exists_E2 (a := 16384) (b := 1024) (m ((c : Thread Cert.Kernel11Ideal.nD Cert.Kernel11Ideal.τ).loc Cert.Kernel11Ideal.main_arg0))
  obtain ⟨X, e1⟩ := exists_E2 (a := 16384) (b := 1024) (m ((c : Thread Cert.Kernel11Ideal.nD Cert.Kernel11Ideal.τ).loc Cert.Kernel11Ideal.main_arg1))
  obtain ⟨PA, e2⟩ := exists_E2 (a := 65536) (b := 256) (m ((c : Thread Cert.Kernel11Ideal.nD Cert.Kernel11Ideal.τ).loc Cert.Kernel11Ideal.main_arg2))
  obtain ⟨go, e3⟩ := exists_E2 (a := 1) (b := 1024) (m ((c : Thread Cert.Kernel11Ideal.nD Cert.Kernel11Ideal.τ).loc Cert.Kernel11Ideal.main_arg3))
  obtain ⟨gl, e4⟩ := exists_E2 (a := 1) (b := 1024) (m ((c : Thread Cert.Kernel11Ideal.nD Cert.Kernel11Ideal.τ).loc Cert.Kernel11Ideal.main_arg4))
  obtain ⟨W, e5⟩ := exists_E2 (a := 1024) (b := 1024) (m ((c : Thread Cert.Kernel11Ideal.nD Cert.Kernel11Ideal.τ).loc Cert.Kernel11Ideal.main_arg5))
  obtain ⟨Q, e6⟩ := exists_E2 (a := 256) (b := 1024) (m ((c : Thread Cert.Kernel11Ideal.nD Cert.Kernel11Ideal.τ).loc Cert.Kernel11Ideal.main_arg6))
  obtain ⟨g, e7⟩ := exists_E2 (a := 1) (b := 1024) (m ((c : Thread Cert.Kernel11Ideal.nD Cert.Kernel11Ideal.τ).loc Cert.Kernel11Ideal.main_arg7))
  obtain ⟨w, e8⟩ := exists_E2 (a := 1024) (b := 1024) (m ((c : Thread Cert.Kernel11Ideal.nD Cert.Kernel11Ideal.τ).loc Cert.Kernel11Ideal.main_arg8))
  exact ⟨⟨fun _ _ => 0, H, X, fun p c => PA (32768 + p) c⟩, ⟨go, gl, W, Q⟩, g, w, PA, ⟨e0, e1, e2, e3, e4, e5, e6, e7, e8, rfl⟩⟩

/-- The reference runs and keeps its arguments; it has no semaphores. -/
theorem frame_reference : Cert.quiescent_Reference11Ideal := fun m g _ =>
  (θ_run Cert.Reference11Ideal.defs _ _).mono (fun r h => ⟨fun c => (h c).2.2.2, sem_eq_zero_of_no_sems (by decide) r.2⟩)
    (Cert.Reference11Ideal.Value.run (F := Ideal) m g)

/-- The kernel's three results are the reference's, whatever the arguments. -/
theorem algebraic : Cert.algebraic_Kernel11Ideal_Reference11Ideal := by
  intro m g m' g' hpre hargs
  refine ⟨fun c => (Cert.Kernel11Ideal.Gen.dats m 0 c).arrAt 11 Cert.Kernel11Ideal.cfg0.N,
    fun c => (Cert.Kernel11Ideal.Gen.dats m 0 c).arrAt 12 Cert.Kernel11Ideal.cfg0.N,
    fun c => (Cert.Kernel11Ideal.Gen.dats m 0 c).arrAt 13 Cert.Kernel11Ideal.cfg0.N,
    Cert.Kernel11Ideal.Value.run_blocks m g, ?_⟩
  refine (θ_run Cert.Reference11Ideal.defs _ _).mono (fun r h c => ?_) (Cert.Reference11Ideal.Value.run (F := Ideal) m' g')
  obtain ⟨T, K, g, w, PA, H⟩ := holds m c
  obtain ⟨a0, a1, a2, a3, a4, a5, a6, a7, a8⟩ := hargs c
  obtain ⟨r0, r1, r2, rest⟩ := h c
  have R : RefHolds m' c T K g w PA := ⟨a0.trans H.hH, a1.trans H.hF, a2.trans H.hP, a3.trans H.hgo, a4.trans H.hgl, a5.trans H.hW,
    a6.trans H.hQ, a7.trans H.hg, a8.trans H.hw, H.part⟩
  exact ⟨r0.trans ((res40 T K g w m' c PA R).trans (Cert.Kernel11Ideal.PleQ.final11 m c H).symm),
    r1.trans ((res92 T K g w m' c PA R).trans (Cert.Kernel11Ideal.PleQ.final12 m c H).symm),
    r2.trans ((res93 T K g w m' c PA R).trans (Cert.Kernel11Ideal.PleQ.final13 m c H).symm), rest⟩

end Cert.Proof.PleQ

end
-- ==== Proof.PoolTile.lean ====
module

public import proofs.«01_k».proof.Proof.Lift
public import Idealize.ShloMosaic.Lib.WordArith
public import proofs.«01_k».proof.Proof.Gen.KernelIdeal.Skeleton

@[expose] public section

set_option maxRecDepth 16384

noncomputable section

/-! One tile of the pooling block's gradient, over the reals: what each named value of the kernel's body is
    when the values it is computed from are real. Rows are the tile's rows. -/

namespace Cert.KernelIdeal.Pool

open Idealize.ShloMosaic Cert.Lift Cert.KernelIdeal Cert.KernelIdeal.Gen

/-- The reciprocal root mean square of row `p`. -/
def rms (x : ℕ → ℕ → ℝ) (p : ℕ) : ℝ := (Real.sqrt ((∑ k : Fin 1024, x p k * x p k) / 1024 + eps))⁻¹

theorem pay8_eq (x : ℕ → ℕ → ℝ) : k0_pay8 (F := Ideal) (L2 x) = L2 fun p _ => rms x p := by
  funext j
  idx_vars j
  pointwise [k0_pay8]
  simp only [L2_apply, ← EReal.coe_mul, coe_sum, lit_1024, lit_eps, div_1024, ← EReal.coe_add, rsqrt_msq, rms]

theorem pay9_eq (x g : ℕ → ℕ → ℝ) :
    k0_pay9 (F := Ideal) (L2 x) (L2 g) = L2 fun p c => x p c * rms x p * g 0 c := by
  funext j
  idx_vars j
  unfold k0_pay9
  rw [pay8_eq]
  pointwise []
  simp only [L2_apply, ← EReal.coe_mul]
  rfl

/-- One doubling of a window sum: the rows plus themselves moved down by `k` of 528 around. -/
def step (k : ℕ) (f : ℕ → ℕ → ℝ) (p c : ℕ) : ℝ := f p c + f ((p + 528 - k) % 528) c

/-- The window sums of group `g` looking back, at the rows of the extended tile. -/
def back (g : ℕ) (e : ℕ → ℕ → ℝ) : ℕ → ℕ → ℝ :=
  match g with
  | 0 => step 1 e
  | 1 => step 2 (step 1 e)
  | 2 => step 4 (step 2 (step 1 e))
  | _ => step 8 (step 4 (step 2 (step 1 e)))

/-- The window sums of group `g` looking ahead, at the rows of the extended tile. -/
def ahead (g : ℕ) (e : ℕ → ℕ → ℝ) : ℕ → ℕ → ℝ :=
  match g with
  | 0 => step 527 e
  | 1 => step 526 (step 527 e)
  | 2 => step 524 (step 526 (step 527 e))
  | _ => step 520 (step 524 (step 526 (step 527 e)))

/-- The reciprocal of the number of rows in the window of `w` ending at row `512 n + p`. -/
def inv (n w p : ℕ) : ℝ := 1 / ((min (512 * n + p + 1) w : ℕ) : ℝ)

/-- The gradient of a row normalised by its root mean square, for the normalised row's gradient `gy`. -/
def rmsBack (x : ℕ → ℕ → ℝ) (r : ℕ → ℝ) (gy : ℕ → ℕ → ℝ) (p c : ℕ) : ℝ :=
  r p * gy p c - x p c * (r p * r p * r p * ((∑ k : Fin 1024, gy p k * x p k) / 1024))

/-- What one tile's body reads, over the reals: the tile's number, whether rows precede it, its rows of the four
    inputs, the sixteen rows before it, the gains, the pooling weights, and the rows carried from the tile after. -/
structure Tile where
  n : ℕ
  b : BitVec 1
  (x h d2 da gp sc go gf ca : ℕ → ℕ → ℝ)
  W : ℕ → ℕ → ℕ → ℝ

namespace Tile

variable (T : Tile)

def hn (p c : ℕ) : ℝ := T.x p c * rms T.x p * T.gp 0 c
/-- The tile with the sixteen rows before it in front. -/
def ext (p c : ℕ) : ℝ :=
  if p < 16 then (if T.b = 1#1 then T.h p c * rms T.h p * T.gp 0 c else 0) else T.hn (p - 16) c
def pooled (p c : ℕ) : ℝ := back (c / 256) T.ext (p + 16) c * inv T.n (2 ^ (c / 256 + 1)) p - T.hn p c
def y (p c : ℕ) : ℝ := ∑ k : Fin 256, T.pooled p (256 * (c / 256) + k) * T.W (c / 256) k (c % 256)
def m (p c : ℕ) : ℝ := T.y p c * T.sc 0 c
def h1 (p c : ℕ) : ℝ := T.x p c + T.m p c * rms T.m p * T.go 0 c
def dh1 (p c : ℕ) : ℝ := T.d2 p c + rmsBack T.h1 (rms T.h1) (fun p c => T.da p c * T.gf 0 c) p c
def dgffn (c : ℕ) : ℝ := ∑ p : Fin 512, T.da p c * (T.h1 p c * rms T.h1 p)
def dm (p c : ℕ) : ℝ := rmsBack T.m (rms T.m) (fun p c => T.dh1 p c * T.go 0 c) p c
def dgpost (c : ℕ) : ℝ := ∑ p : Fin 512, T.dh1 p c * (T.m p c * rms T.m p)
def dscale (c : ℕ) : ℝ := ∑ p : Fin 512, T.dm p c * T.y p c
def dy (p c : ℕ) : ℝ := T.dm p c * T.sc 0 c
def dpw (g a b : ℕ) : ℝ := ∑ p : Fin 512, T.pooled p (256 * g + a) * T.dy p (256 * g + b)
def dpooled (p c : ℕ) : ℝ := ∑ k : Fin 256, T.dy p (256 * (c / 256) + k) * T.W (c / 256) (c % 256) k
def dpc (p c : ℕ) : ℝ := T.dpooled p c * inv T.n (2 ^ (c / 256 + 1)) p
/-- The tile's gradient of the window sums with the sixteen rows after it behind. -/
def ext2 (p c : ℕ) : ℝ := if p < 512 then T.dpc p c else T.ca (p - 512) c
def dhn (p c : ℕ) : ℝ := ahead (c / 256) T.ext2 p c - T.dpooled p c
def dgpre (c : ℕ) : ℝ := ∑ p : Fin 512, T.dhn p c * (T.x p c * rms T.x p)
def dh0 (p c : ℕ) : ℝ := T.dh1 p c + rmsBack T.x (rms T.x) (fun p c => T.dhn p c * T.gp 0 c) p c

end Tile

variable (T : Tile)

theorem pay11_eq :
    k0_pay11 (F := Ideal) (L2 T.gp) (L2 T.hn) (L2 T.h) T.b (k0_pay10 (F := Ideal) (L2 T.h)) = L2 T.ext := by
  funext j
  idx_vars j
  pointwise [k0_pay11, k0_pay10]
  simp only [L2_apply, ← EReal.coe_mul, coe_sum, lit_1024, lit_eps, lit_zero, div_1024, ← EReal.coe_add, rsqrt_msq]
  unfold Tile.ext
  by_cases h1 : j0.val < 16
  · by_cases h2 : T.b = 1#1 <;> simp [h1, h2, Scalar.select, rms]
  · simp [h1]

theorem sitofp_min (n p w : ℕ) (hn : n < 32) (hp : p < 512) (hw : w ≤ 16) (hw' : 0 < w) :
    Ideal.div 1 (FloatOps.sitofp (F := Ideal) FTy.f32
        (IntOp.minsi (IntOp.addi (IntOp.addi (Scalar.muli (BitVec.ofNat 32 n) 512#32) (BitVec.ofNat 32 p)) 1#32)
          (BitVec.ofNat 32 w))) = ((inv n w p : ℝ) : EReal) := by
  have e : IntOp.minsi (IntOp.addi (IntOp.addi (Scalar.muli (BitVec.ofNat 32 n) 512#32) (BitVec.ofNat 32 p)) 1#32)
          (BitVec.ofNat 32 w) = BitVec.ofNat 32 (min (512 * n + p + 1) w) := by
    have e1 : IntOp.addi (IntOp.addi (Scalar.muli (BitVec.ofNat 32 n) 512#32) (BitVec.ofNat 32 p)) 1#32
        = BitVec.ofNat 32 (512 * n + p + 1) := by
      apply BitVec.eq_of_toNat_eq
      simp [IntOp.addi, Scalar.muli, IntOp.muli]
      omega
    rw [e1]
    apply BitVec.eq_of_toNat_eq
    rw [WordArith.toNat_minsi_of_lt _ _ (by simp; omega) (by simp; omega)]
    simp
    omega
  rw [e]
  have e2 : (BitVec.ofNat 32 (min (512 * n + p + 1) w)).toInt = ((min (512 * n + p + 1) w : ℕ) : ℤ) := by
    rw [BitVec.toInt_eq_toNat_of_lt (by simp; omega)]
    simp
    omega
  show Ideal.div ((1 : ℝ) : EReal) (((BitVec.ofNat 32 (min (512 * n + p + 1) w)).toInt : ℝ) : EReal) = _
  rw [e2, Int.cast_natCast, div_real _ _ (by have : 0 < min (512 * n + p + 1) w := by omega
                                             exact_mod_cast this.ne')]
  rfl

theorem pay13_eq (n : ℕ) (hn : n < 32) :
    k0_pay13 (F := Ideal) (BitVec.ofNat 32 n) = L2 fun p _ => inv n 2 p := by
  funext j
  idx_vars j
  pointwise [k0_pay13, k0_pay12]
  exact sitofp_min n _ 2 hn j0.isLt (by norm_num) (by norm_num)

theorem pay14_eq (n : ℕ) (hn : n < 32) :
    k0_pay14 (F := Ideal) (BitVec.ofNat 32 n) = L2 fun p _ => inv n 4 p := by
  funext j
  idx_vars j
  pointwise [k0_pay14, k0_pay12]
  exact sitofp_min n _ 4 hn j0.isLt (by norm_num) (by norm_num)

theorem pay15_eq (n : ℕ) (hn : n < 32) :
    k0_pay15 (F := Ideal) (BitVec.ofNat 32 n) = L2 fun p _ => inv n 8 p := by
  funext j
  idx_vars j
  pointwise [k0_pay15, k0_pay12]
  exact sitofp_min n _ 8 hn j0.isLt (by norm_num) (by norm_num)

theorem pay16_eq (n : ℕ) (hn : n < 32) :
    k0_pay16 (F := Ideal) (BitVec.ofNat 32 n) = L2 fun p _ => inv n 16 p := by
  funext j
  idx_vars j
  pointwise [k0_pay16, k0_pay12]
  exact sitofp_min n _ 16 hn j0.isLt (by norm_num) (by norm_num)

/-- Equal functions on the array's coordinates give the same array. -/
theorem L2_congr {a b : ℕ} {f g : ℕ → ℕ → ℝ} (h : ∀ p < a, ∀ c < b, f p c = g p c) :
    (L2 f : (⟨2, ![a, b]⟩ : Shape).Idx → EReal) = L2 g := by
  funext j
  obtain ⟨p, q, rfl⟩ : ∃ (p : Fin a) (q : Fin b), j = ix2 p q := ⟨j 0, j 1, eq_ix2 j⟩
  rw [L2_apply, L2_apply, h _ p.isLt _ q.isLt]

theorem rot_eq (w : BitVec 32) (k : ℕ) (hw : w = BitVec.ofNat 32 k) (hk : k < 528) (f : ℕ → ℕ → ℝ) :
    addf (F := Ideal) (φ := .f32) (L2 f : FVec Ideal S528x256 .f32)
      (dynamicRotate (s := S528x256) 0 w none (L2 f : FVec Ideal S528x256 .f32) rotates_S528x256_d0)
      = (L2 (step k f) : FVec Ideal S528x256 .f32) := by
  subst hw
  funext j
  idx_vars j
  pointwise []
  simp only [L2_apply, ← EReal.coe_add]
  have h : (BitVec.ofNat 32 k).toNat % 528 = k := by simp; omega
  rw [h]
  rfl

/-- Doubling a window sum acts on each column by itself. -/
theorem step_cols (a k : ℕ) (e : ℕ → ℕ → ℝ) :
    step k (fun p c => e p (a + c)) = fun p c => step k e p (a + c) := rfl

theorem cols0_eq (e : ℕ → ℕ → ℝ) : extractStridedSlice S528x256 ![0, 0] (L2 e : FVec Ideal S528x1024 .f32)
    slices_S528x1024_o0_0_S528x256 = (L2 fun p c => e p c : FVec Ideal S528x256 .f32) := by
  funext j
  idx_vars j
  pointwise []
  simp only [L2_apply]

theorem cols1_eq (e : ℕ → ℕ → ℝ) : extractStridedSlice S528x256 ![0, 256] (L2 e : FVec Ideal S528x1024 .f32)
    slices_S528x1024_o0_256_S528x256 = (L2 fun p c => e p (256 + c) : FVec Ideal S528x256 .f32) := by
  funext j
  idx_vars j
  pointwise []
  simp only [L2_apply]

theorem cols2_eq (e : ℕ → ℕ → ℝ) : extractStridedSlice S528x256 ![0, 512] (L2 e : FVec Ideal S528x1024 .f32)
    slices_S528x1024_o0_512_S528x256 = (L2 fun p c => e p (512 + c) : FVec Ideal S528x256 .f32) := by
  funext j
  idx_vars j
  pointwise []
  simp only [L2_apply]

theorem cols3_eq (e : ℕ → ℕ → ℝ) : extractStridedSlice S528x256 ![0, 768] (L2 e : FVec Ideal S528x1024 .f32)
    slices_S528x1024_o0_768_S528x256 = (L2 fun p c => e p (768 + c) : FVec Ideal S528x256 .f32) := by
  funext j
  idx_vars j
  pointwise []
  simp only [L2_apply]

theorem low_eq (e : ℕ → ℕ → ℝ) : extractStridedSlice S512x256 ![16, 0] (L2 e : FVec Ideal S528x256 .f32)
    slices_S528x256_o16_0_S512x256 = (L2 fun p c => e (p + 16) c : FVec Ideal S512x256 .f32) := by
  funext j
  idx_vars j
  pointwise []
  simp only [L2_apply, Nat.add_comm 16]

theorem high_eq (e : ℕ → ℕ → ℝ) : extractStridedSlice S512x256 ![0, 0] (L2 e : FVec Ideal S528x256 .f32)
    slices_S528x256_o0_0_S512x256 = (L2 e : FVec Ideal S512x256 .f32) := by
  funext j
  idx_vars j
  pointwise []
  simp only [L2_apply]

theorem pay17_eq (e : ℕ → ℕ → ℝ) : k0_pay17 (F := Ideal) (L2 e) = L2 fun p c => back 2 e (p + 16) (512 + c) := by
  unfold k0_pay17
  simp only [cols2_eq, rot_eq _ 1 rfl (by norm_num), rot_eq _ 2 rfl (by norm_num), rot_eq _ 4 rfl (by norm_num), low_eq]
  rfl

theorem pay18_eq (e : ℕ → ℕ → ℝ) : k0_pay18 (F := Ideal) (L2 e) = L2 fun p c => back 3 e (p + 16) (768 + c) := by
  unfold k0_pay18
  simp only [cols3_eq, rot_eq _ 1 rfl (by norm_num), rot_eq _ 2 rfl (by norm_num), rot_eq _ 4 rfl (by norm_num),
    rot_eq _ 8 rfl (by norm_num), low_eq]
  rfl

theorem pay19_eq : k0_pay19 (F := Ideal) (L2 T.hn) (L2 T.ext) (L2 fun p _ => inv T.n 2 p) = L2 T.pooled := by
  unfold k0_pay19
  simp only [cols0_eq, rot_eq _ 1 rfl (by norm_num), low_eq]
  funext j
  idx_vars j
  pointwise []
  simp only [L2_apply, ← EReal.coe_mul, ← EReal.coe_sub]
  have h : j1.val / 256 = 0 := by omega
  simp [Tile.pooled, h, back]

theorem pay21_eq : k0_pay21 (F := Ideal) (L2 T.hn) (L2 T.ext) (L2 fun p _ => inv T.n 4 p)
    = L2 fun p c => T.pooled p (256 + c) := by
  unfold k0_pay21
  simp only [cols1_eq, rot_eq _ 1 rfl (by norm_num), rot_eq _ 2 rfl (by norm_num), low_eq]
  funext j
  idx_vars j
  pointwise []
  simp only [L2_apply, ← EReal.coe_mul, ← EReal.coe_sub]
  have h : (256 + j1.val) / 256 = 1 := by omega
  simp [Tile.pooled, h, back]
  rfl

theorem pay23_eq : k0_pay23 (F := Ideal) (L2 T.hn) (L2 fun p _ => inv T.n 8 p) (L2 fun p c => back 2 T.ext (p + 16) (512 + c))
    = L2 fun p c => T.pooled p (512 + c) := by
  funext j
  idx_vars j
  pointwise [k0_pay23]
  simp only [L2_apply, ← EReal.coe_mul, ← EReal.coe_sub]
  have h : (512 + j1.val) / 256 = 2 := by omega
  simp [Tile.pooled, h]

theorem pay24_eq : k0_pay24 (F := Ideal) (L2 T.hn) (L2 fun p _ => inv T.n 16 p) (L2 fun p c => back 3 T.ext (p + 16) (768 + c))
    = L2 fun p c => T.pooled p (768 + c) := by
  funext j
  idx_vars j
  pointwise [k0_pay24]
  simp only [L2_apply, ← EReal.coe_mul, ← EReal.coe_sub]
  have h : (768 + j1.val) / 256 = 3 := by omega
  simp [Tile.pooled, h]

theorem pay20_eq : k0_pay20 (F := Ideal) (L2 T.hn) (L2 T.ext) (L2 fun p _ => inv T.n 2 p) (L3 fun _ a b => T.W 0 a b) = L2 T.y := by
  unfold k0_pay20
  rw [pay19_eq]
  funext j
  idx_vars j
  pointwise []
  simp only [L2_apply, L3_apply, ← EReal.coe_mul, coe_sum]
  have h : j1.val / 256 = 0 := by omega
  have h' : j1.val % 256 = j1.val := by omega
  simp [Tile.y, h, h']

theorem pay22_eq : k0_pay22 (F := Ideal) (L3 fun _ a b => T.W 1 a b) = L2 (T.W 1) := by
  funext j
  idx_vars j
  pointwise [k0_pay22]
  simp only [L2_apply, L3_apply]

theorem pay25_eq : k0_pay25 (F := Ideal) (L2 T.hn) (L2 fun p _ => inv T.n 8 p) (L2 fun p _ => inv T.n 16 p)
    (L2 fun p c => back 2 T.ext (p + 16) (512 + c)) (L2 fun p c => back 3 T.ext (p + 16) (768 + c)) (L2 T.y)
    (L2 fun p c => T.pooled p (256 + c)) (L2 (T.W 1)) (L3 fun _ a b => T.W 2 a b) (L3 fun _ a b => T.W 3 a b)
    = L2 T.y := by
  unfold k0_pay25
  rw [pay23_eq, pay24_eq]
  funext j
  idx_vars j
  pointwise []
  simp only [L2_apply, L3_apply, ← EReal.coe_mul, coe_sum]
  have hd := Nat.div_add_mod j1.val 256
  unfold Tile.y
  split_ifs with h1 h2 h3
  · rfl
  · have h : j1.val / 256 = 1 := by omega
    have h' : j1.val % 256 = j1.val - 256 := by omega
    rw [h, h']
  · have h : j1.val / 256 = 2 := by omega
    have h' : j1.val % 256 = j1.val - 256 - 256 := by omega
    rw [h, h']
  · have h : j1.val / 256 = 3 := by omega
    have h' : j1.val % 256 = j1.val - 256 - 256 - 256 := by omega
    rw [h, h']

theorem pay26_eq : k0_pay26 (F := Ideal) (L2 T.sc) (L2 T.hn) (L2 fun p _ => inv T.n 8 p) (L2 fun p _ => inv T.n 16 p)
    (L2 fun p c => back 2 T.ext (p + 16) (512 + c)) (L2 fun p c => back 3 T.ext (p + 16) (768 + c)) (L2 T.y)
    (L2 fun p c => T.pooled p (256 + c)) (L2 (T.W 1)) (L3 fun _ a b => T.W 2 a b) (L3 fun _ a b => T.W 3 a b)
    = L2 T.m := by
  unfold k0_pay26
  rw [pay25_eq]
  funext j
  idx_vars j
  pointwise []
  simp only [L2_apply, ← EReal.coe_mul]
  rfl

theorem pay27_eq : k0_pay27 (F := Ideal) (L2 T.sc) (L2 T.hn) (L2 fun p _ => inv T.n 8 p) (L2 fun p _ => inv T.n 16 p)
    (L2 fun p c => back 2 T.ext (p + 16) (512 + c)) (L2 fun p c => back 3 T.ext (p + 16) (768 + c)) (L2 T.y)
    (L2 fun p c => T.pooled p (256 + c)) (L2 (T.W 1)) (L3 fun _ a b => T.W 2 a b) (L3 fun _ a b => T.W 3 a b)
    = L2 fun p _ => rms T.m p := by
  unfold k0_pay27
  rw [pay26_eq]
  funext j
  idx_vars j
  pointwise []
  simp only [L2_apply, ← EReal.coe_mul, coe_sum, lit_1024, lit_eps, div_1024, ← EReal.coe_add, rsqrt_msq, rms]

theorem pay28_eq : k0_pay28 (F := Ideal) (L2 T.x) (L2 T.sc) (L2 T.go) (L2 T.hn) (L2 fun p _ => inv T.n 8 p) (L2 fun p _ => inv T.n 16 p)
    (L2 fun p c => back 2 T.ext (p + 16) (512 + c)) (L2 fun p c => back 3 T.ext (p + 16) (768 + c)) (L2 T.y)
    (L2 fun p c => T.pooled p (256 + c)) (L2 (T.W 1)) (L3 fun _ a b => T.W 2 a b) (L3 fun _ a b => T.W 3 a b)
    = L2 T.h1 := by
  unfold k0_pay28
  rw [pay26_eq, pay27_eq]
  funext j
  idx_vars j
  pointwise []
  simp only [L2_apply, ← EReal.coe_mul, ← EReal.coe_add]
  rfl

theorem pay29_eq : k0_pay29 (F := Ideal) (L2 T.x) (L2 T.sc) (L2 T.go) (L2 T.hn) (L2 fun p _ => inv T.n 8 p) (L2 fun p _ => inv T.n 16 p)
    (L2 fun p c => back 2 T.ext (p + 16) (512 + c)) (L2 fun p c => back 3 T.ext (p + 16) (768 + c)) (L2 T.y)
    (L2 fun p c => T.pooled p (256 + c)) (L2 (T.W 1)) (L3 fun _ a b => T.W 2 a b) (L3 fun _ a b => T.W 3 a b)
    = L2 fun p _ => rms T.h1 p := by
  unfold k0_pay29
  rw [pay28_eq]
  funext j
  idx_vars j
  pointwise []
  simp only [L2_apply, ← EReal.coe_mul, coe_sum, lit_1024, lit_eps, div_1024, ← EReal.coe_add, rsqrt_msq, rms]

theorem pay30_eq : k0_pay30 (F := Ideal) (L2 T.da) = L2 T.da := rfl

theorem pay31_eq : k0_pay31 (F := Ideal) (L2 T.h1) (L2 fun p _ => rms T.h1 p) (L2 T.da) = L2 fun _ c => T.dgffn c := by
  funext j
  idx_vars j
  pointwise [k0_pay31]
  simp only [L2_apply, ← EReal.coe_mul, coe_sum]
  rfl

theorem pay32_eq : k0_pay32 (F := Ideal) (L2 T.gf) (L2 T.h1) (L2 fun p _ => rms T.h1 p) (L2 T.da) (L2 T.d2) = L2 T.dh1 := by
  funext j
  idx_vars j
  pointwise [k0_pay32]
  simp only [L2_apply, ← EReal.coe_mul, coe_sum, lit_1024, div_1024, ← EReal.coe_sub, ← EReal.coe_add]
  rfl

theorem pay33_eq : k0_pay33 (F := Ideal) (L2 T.go) (L2 T.gf) (L2 T.m) (L2 fun p _ => rms T.m p) (L2 T.h1)
    (L2 fun p _ => rms T.h1 p) (L2 T.da) (L2 T.d2) = L2 T.dm := by
  unfold k0_pay33
  rw [pay32_eq]
  funext j
  idx_vars j
  pointwise []
  simp only [L2_apply, ← EReal.coe_mul, coe_sum, lit_1024, div_1024, ← EReal.coe_sub, ← EReal.coe_add]
  rfl

theorem pay34_eq : k0_pay34 (F := Ideal) (L2 T.gf) (L2 T.m) (L2 fun p _ => rms T.m p) (L2 T.h1)
    (L2 fun p _ => rms T.h1 p) (L2 T.da) (L2 T.d2) = L2 fun _ c => T.dgpost c := by
  unfold k0_pay34
  rw [pay32_eq]
  funext j
  idx_vars j
  pointwise []
  simp only [L2_apply, ← EReal.coe_mul, coe_sum]
  rfl

theorem pay35_eq : k0_pay35 (F := Ideal) (L2 T.go) (L2 T.gf) (L2 T.y) (L2 T.m) (L2 fun p _ => rms T.m p) (L2 T.h1)
    (L2 fun p _ => rms T.h1 p) (L2 T.da) (L2 T.d2) = L2 fun _ c => T.dscale c := by
  unfold k0_pay35
  rw [pay33_eq]
  funext j
  idx_vars j
  pointwise []
  simp only [L2_apply, ← EReal.coe_mul, coe_sum]
  rfl

theorem pay36_eq : k0_pay36 (F := Ideal) (L2 T.sc) (L2 T.go) (L2 T.gf) (L2 T.m) (L2 fun p _ => rms T.m p) (L2 T.h1)
    (L2 fun p _ => rms T.h1 p) (L2 T.da) (L2 T.d2) = L2 T.dy := by
  unfold k0_pay36
  rw [pay33_eq]
  funext j
  idx_vars j
  pointwise []
  simp only [L2_apply, ← EReal.coe_mul]
  rfl

theorem pay37_eq : k0_pay37 (F := Ideal) (L2 T.sc) (L2 T.go) (L2 T.gf) (L2 T.m) (L2 fun p _ => rms T.m p) (L2 T.h1)
    (L2 fun p _ => rms T.h1 p) (L2 T.da) (L2 T.d2) = L2 T.dy := by
  unfold k0_pay37
  rw [pay36_eq]
  funext j
  idx_vars j
  pointwise []
  simp only [L2_apply]

theorem pay40_eq : k0_pay40 (F := Ideal) (L2 T.dy) = L2 fun p c => T.dy p (256 + c) := by
  funext j
  idx_vars j
  pointwise [k0_pay40]
  simp only [L2_apply]

theorem pay43_eq : k0_pay43 (F := Ideal) (L2 T.dy) = L2 fun p c => T.dy p (512 + c) := by
  funext j
  idx_vars j
  pointwise [k0_pay43]
  simp only [L2_apply]

theorem pay46_eq : k0_pay46 (F := Ideal) (L2 T.dy) = L2 fun p c => T.dy p (768 + c) := by
  funext j
  idx_vars j
  pointwise [k0_pay46]
  simp only [L2_apply]

theorem pay38_eq (a : ℕ → ℕ → ℕ → ℝ) : k0_pay38 (F := Ideal) (L2 T.pooled) (L2 T.dy) (L3 a)
    = L3 fun z p q => a z p q + T.dpw 0 p q := by
  funext j
  idx_vars j
  pointwise [k0_pay38]
  simp only [L2_apply, L3_apply, ← EReal.coe_mul, coe_sum, ← EReal.coe_add]
  have h : j0.val = 0 := by omega
  simp [Tile.dpw, h]

theorem pay41_eq (a : ℕ → ℕ → ℕ → ℝ) : k0_pay41 (F := Ideal) (L2 fun p c => T.pooled p (256 + c)) (L2 T.dy) (L3 a)
    = L3 fun z p q => a z p q + T.dpw 1 p q := by
  unfold k0_pay41
  rw [pay40_eq]
  funext j
  idx_vars j
  pointwise []
  simp only [L2_apply, L3_apply, ← EReal.coe_mul, coe_sum, ← EReal.coe_add]
  have h : j0.val = 0 := by omega
  simp [Tile.dpw, h]

theorem pay44_eq (a : ℕ → ℕ → ℕ → ℝ) : k0_pay44 (F := Ideal) (L2 fun p c => T.pooled p (512 + c)) (L2 T.dy) (L3 a)
    = L3 fun z p q => a z p q + T.dpw 2 p q := by
  unfold k0_pay44
  rw [pay43_eq]
  funext j
  idx_vars j
  pointwise []
  simp only [L2_apply, L3_apply, ← EReal.coe_mul, coe_sum, ← EReal.coe_add]
  have h : j0.val = 0 := by omega
  simp [Tile.dpw, h]

theorem pay47_eq (a : ℕ → ℕ → ℕ → ℝ) : k0_pay47 (F := Ideal) (L2 fun p c => T.pooled p (768 + c)) (L2 T.dy) (L3 a)
    = L3 fun z p q => a z p q + T.dpw 3 p q := by
  unfold k0_pay47
  rw [pay46_eq]
  funext j
  idx_vars j
  pointwise []
  simp only [L2_apply, L3_apply, ← EReal.coe_mul, coe_sum, ← EReal.coe_add]
  have h : j0.val = 0 := by omega
  simp [Tile.dpw, h]

/-- The gradient with respect to the pooled rows, one group's columns. -/
def Tile.dpo (g p c : ℕ) : ℝ := ∑ k : Fin 256, T.dy p (256 * g + k) * T.W g c k

theorem pay39_eq : k0_pay39 (F := Ideal) (L2 T.dy) (L3 fun _ a b => T.W 0 a b) = L2 (T.dpo 0) := by
  funext j
  idx_vars j
  pointwise [k0_pay39]
  simp only [L2_apply, L3_apply, ← EReal.coe_mul, coe_sum]
  simp [Tile.dpo]

theorem pay42_eq : k0_pay42 (F := Ideal) (L2 T.dy) (L3 fun _ a b => T.W 1 a b) = L2 (T.dpo 1) := by
  unfold k0_pay42
  rw [pay40_eq]
  funext j
  idx_vars j
  pointwise []
  simp only [L2_apply, L3_apply, ← EReal.coe_mul, coe_sum]
  simp [Tile.dpo]

theorem pay45_eq : k0_pay45 (F := Ideal) (L2 fun p c => T.dy p (512 + c)) (L3 fun _ a b => T.W 2 a b) = L2 (T.dpo 2) := by
  funext j
  idx_vars j
  pointwise [k0_pay45]
  simp only [L2_apply, L3_apply, ← EReal.coe_mul, coe_sum]
  simp [Tile.dpo]

theorem pay48_eq : k0_pay48 (F := Ideal) (L2 T.dy) (L3 fun _ a b => T.W 3 a b) = L2 (T.dpo 3) := by
  unfold k0_pay48
  rw [pay46_eq]
  funext j
  idx_vars j
  pointwise []
  simp only [L2_apply, L3_apply, ← EReal.coe_mul, coe_sum]
  simp [Tile.dpo]

theorem pay49_eq : k0_pay49 (F := Ideal) (L2 T.dy) (L2 (T.dpo 0)) (L2 (T.dpo 1)) (L2 fun p c => T.dy p (512 + c))
    (L3 fun _ a b => T.W 2 a b) (L3 fun _ a b => T.W 3 a b) = L2 T.dpooled := by
  unfold k0_pay49
  rw [pay45_eq, pay48_eq]
  funext j
  idx_vars j
  pointwise []
  simp only [L2_apply]
  unfold Tile.dpooled
  split_ifs with h1 h2 h3
  · have h : j1.val / 256 = 0 := by omega
    have h' : j1.val % 256 = j1.val := by omega
    rw [h, h']; rfl
  · have h : j1.val / 256 = 1 := by omega
    have h' : j1.val % 256 = j1.val - 256 := by omega
    rw [h, h']; rfl
  · have h : j1.val / 256 = 2 := by omega
    have h' : j1.val % 256 = j1.val - 256 - 256 := by omega
    rw [h, h']; rfl
  · have h : j1.val / 256 = 3 := by omega
    have h' : j1.val % 256 = j1.val - 256 - 256 - 256 := by omega
    rw [h, h']; rfl

theorem pay50_eq : k0_pay50 (F := Ideal) (L2 fun p _ => inv T.n 2 p) (L2 fun p _ => inv T.n 4 p) (L2 fun p _ => inv T.n 8 p)
    (L2 fun p _ => inv T.n 16 p) (L2 T.dy) (L2 (T.dpo 0)) (L2 (T.dpo 1)) (L2 fun p c => T.dy p (512 + c))
    (L3 fun _ a b => T.W 2 a b) (L3 fun _ a b => T.W 3 a b) = L2 T.dpc := by
  unfold k0_pay50
  rw [pay45_eq, pay48_eq]
  funext j
  idx_vars j
  pointwise []
  simp only [L2_apply, ← EReal.coe_mul]
  unfold Tile.dpc Tile.dpooled
  split_ifs with h1 h2 h3
  · have h : j1.val / 256 = 0 := by omega
    have h' : j1.val % 256 = j1.val := by omega
    rw [h, h']; rfl
  · have h : j1.val / 256 = 1 := by omega
    have h' : j1.val % 256 = j1.val - 256 := by omega
    rw [h, h']; rfl
  · have h : j1.val / 256 = 2 := by omega
    have h' : j1.val % 256 = j1.val - 256 - 256 := by omega
    rw [h, h']; rfl
  · have h : j1.val / 256 = 3 := by omega
    have h' : j1.val % 256 = j1.val - 256 - 256 - 256 := by omega
    rw [h, h']; rfl

theorem pay51_eq : k0_pay51 (F := Ideal) (L2 fun p _ => inv T.n 2 p) (L2 fun p _ => inv T.n 4 p) (L2 fun p _ => inv T.n 8 p)
    (L2 fun p _ => inv T.n 16 p) (L2 T.dy) (L2 (T.dpo 0)) (L2 (T.dpo 1)) (L2 fun p c => T.dy p (512 + c))
    (L3 fun _ a b => T.W 2 a b) (L3 fun _ a b => T.W 3 a b) (L2 T.ca) = L2 T.ext2 := by
  unfold k0_pay51
  rw [pay50_eq]
  funext j
  idx_vars j
  pointwise []
  simp only [L2_apply]
  unfold Tile.ext2
  split_ifs <;> rfl

theorem pay52_eq : k0_pay52 (F := Ideal) (L2 fun p _ => inv T.n 2 p) (L2 fun p _ => inv T.n 4 p) (L2 fun p _ => inv T.n 8 p)
    (L2 fun p _ => inv T.n 16 p) (L2 T.dy) (L2 (T.dpo 0)) (L2 (T.dpo 1)) (L2 fun p c => T.dy p (512 + c))
    (L3 fun _ a b => T.W 2 a b) (L3 fun _ a b => T.W 3 a b) = L2 T.dpc := by
  unfold k0_pay52
  rw [pay50_eq]
  funext j
  idx_vars j
  pointwise []
  simp only [L2_apply]

theorem pay53_eq : k0_pay53 (F := Ideal) (L2 fun p _ => inv T.n 2 p) (L2 fun p _ => inv T.n 4 p) (L2 fun p _ => inv T.n 8 p)
    (L2 fun p _ => inv T.n 16 p) (L2 T.dy) (L2 (T.dpo 0)) (L2 (T.dpo 1)) (L2 fun p c => T.dy p (512 + c))
    (L3 fun _ a b => T.W 2 a b) (L3 fun _ a b => T.W 3 a b) (L2 T.ca) = L2 (ahead 0 T.ext2) := by
  unfold k0_pay53
  rw [pay51_eq]
  simp only [cols0_eq, rot_eq _ 527 rfl (by norm_num), high_eq]
  rfl

theorem pay54_eq : k0_pay54 (F := Ideal) (L2 fun p _ => inv T.n 2 p) (L2 fun p _ => inv T.n 4 p) (L2 fun p _ => inv T.n 8 p)
    (L2 fun p _ => inv T.n 16 p) (L2 T.dy) (L2 (T.dpo 0)) (L2 (T.dpo 1)) (L2 fun p c => T.dy p (512 + c))
    (L3 fun _ a b => T.W 2 a b) (L3 fun _ a b => T.W 3 a b) (L2 T.ca) = L2 fun p c => step 527 T.ext2 p (256 + c) := by
  unfold k0_pay54
  rw [pay51_eq]
  simp only [cols1_eq, rot_eq _ 527 rfl (by norm_num)]
  rfl

theorem pay55_eq : k0_pay55 (F := Ideal) (L2 T.dpooled) (L2 T.ext2) (L2 (ahead 0 T.ext2)) (L2 fun p c => step 527 T.ext2 p (256 + c))
    526#32 = L2 T.dhn := by
  have e1 : step 526 (step 527 T.ext2) = ahead 1 T.ext2 := rfl
  have e2 : step 524 (ahead 1 T.ext2) = ahead 2 T.ext2 := rfl
  have e3 : step 520 (ahead 2 T.ext2) = ahead 3 T.ext2 := rfl
  unfold k0_pay55
  dsimp only
  rw [cols2_eq, cols3_eq, rot_eq _ 526 rfl (by norm_num) fun p c => step 527 T.ext2 p (256 + c), step_cols, high_eq,
    rot_eq _ 527 rfl (by norm_num) fun p c => T.ext2 p (512 + c), step_cols,
    rot_eq _ 526 rfl (by norm_num) fun p c => step 527 T.ext2 p (512 + c), step_cols, e1,
    rot_eq _ 524 rfl (by norm_num) fun p c => ahead 1 T.ext2 p (512 + c), step_cols, e2, high_eq,
    rot_eq _ 527 rfl (by norm_num) fun p c => T.ext2 p (768 + c), step_cols,
    rot_eq _ 526 rfl (by norm_num) fun p c => step 527 T.ext2 p (768 + c), step_cols, e1,
    rot_eq _ 524 rfl (by norm_num) fun p c => ahead 1 T.ext2 p (768 + c), step_cols, e2,
    rot_eq _ 520 rfl (by norm_num) fun p c => ahead 2 T.ext2 p (768 + c), step_cols, e3, high_eq]
  funext j
  idx_vars j
  pointwise []
  simp only [L2_apply]
  unfold Tile.dhn
  split_ifs with h1 h2 h3
  · have h : j1.val / 256 = 0 := by omega
    rw [h, ← EReal.coe_sub]
  · have h : j1.val / 256 = 1 := by omega
    have h' : j1.val = 256 + (j1.val - 256) := by omega
    rw [h, ← EReal.coe_sub]
    rw [← h']
  · have h : j1.val / 256 = 2 := by omega
    have h' : j1.val = 512 + (j1.val - 256 - 256) := by omega
    rw [h, ← EReal.coe_sub]
    rw [← h']
  · have h : j1.val / 256 = 3 := by omega
    have h' : j1.val = 768 + (j1.val - 256 - 256 - 256) := by omega
    rw [h, ← EReal.coe_sub]
    rw [← h']

theorem pay56_eq : k0_pay56 (F := Ideal) (L2 T.x) (L2 fun p _ => rms T.x p) (L2 T.dpooled) (L2 T.ext2) (L2 (ahead 0 T.ext2))
    (L2 fun p c => step 527 T.ext2 p (256 + c)) 526#32 = L2 fun _ c => T.dgpre c := by
  unfold k0_pay56
  rw [pay55_eq]
  funext j
  idx_vars j
  pointwise []
  simp only [L2_apply, ← EReal.coe_mul, coe_sum]
  rfl

theorem pay57_eq : k0_pay57 (F := Ideal) (L2 T.x) (L2 T.gp) (L2 fun p _ => rms T.x p) (L2 T.dh1) (L2 T.dpooled) (L2 T.ext2)
    (L2 (ahead 0 T.ext2)) (L2 fun p c => step 527 T.ext2 p (256 + c)) 526#32 = L2 T.dh0 := by
  unfold k0_pay57
  rw [pay55_eq]
  funext j
  idx_vars j
  pointwise []
  simp only [L2_apply, ← EReal.coe_mul, coe_sum, lit_1024, div_1024, ← EReal.coe_sub, ← EReal.coe_add]
  rfl

theorem pay1_eq (f g : ℕ → ℕ → ℝ) : k0_pay1 (F := Ideal) (L2 f) (L2 g) = L2 fun p c => g p c + f p c := by
  funext j
  idx_vars j
  pointwise [k0_pay1]
  simp only [L2_apply, ← EReal.coe_add]

theorem pay2_eq (f g : ℕ → ℕ → ℝ) : k0_pay2 (F := Ideal) (L2 f) (L2 g) = L2 fun p c => g p c + f p c := by
  funext j
  idx_vars j
  pointwise [k0_pay2]
  simp only [L2_apply, ← EReal.coe_add]

theorem pay3_eq (f g : ℕ → ℕ → ℝ) : k0_pay3 (F := Ideal) (L2 f) (L2 g) = L2 fun p c => g p c + f p c := by
  funext j
  idx_vars j
  pointwise [k0_pay3]
  simp only [L2_apply, ← EReal.coe_add]

theorem pay4_eq (f g : ℕ → ℕ → ℝ) : k0_pay4 (F := Ideal) (L2 f) (L2 g) = L2 fun p c => g p c + f p c := by
  funext j
  idx_vars j
  pointwise [k0_pay4]
  simp only [L2_apply, ← EReal.coe_add]

end Cert.KernelIdeal.Pool

end
-- ==== Proof.PoolRun.lean ====
module

public import proofs.«01_k».proof.Proof.PoolTile
public import proofs.«01_k».proof.Proof.Gen.KernelIdeal.Value
public import Idealize.ShloMosaic.Lib.Pipeline.ValueKit
public import Idealize.ShloMosaic.Lib.Pipeline.ReadBack

@[expose] public section

set_option maxRecDepth 16384

noncomputable section

/-! The kernel's run over the reals: what each grid point leaves in the output windows and in the carried rows. -/

namespace Cert.KernelIdeal.Pool

open Idealize.ShloMosaic Idealize.ShloMosaic.TcCoe Cert.Lift Cert.KernelIdeal Cert.KernelIdeal.Gen
open Idealize.ShloMosaic.Pipeline (Dat)

variable (m : (ℓ : Loc nD τ sig) → Buf (Elt Ideal) ℓ) (c : Dev nD)

/-- What grid point `t` finds, over the reals: its windows' blocks are the tile's rows, and its number is the tile's. -/
structure Finds (T : Tile) (t : Fin cfg0.N) : Prop where
  x : iblk m c 0 t = (L2 T.x : FVec Ideal S512x1024 .f32)
  h : iblk m c 1 t = (L2 T.h : FVec Ideal S16x1024 .f32)
  d2 : iblk m c 2 t = (L2 T.d2 : FVec Ideal S512x1024 .f32)
  da : iblk m c 3 t = (L2 T.da : FVec Ideal S512x1024 .bf16)
  gp : iblk m c 4 t = (L2 T.gp : FVec Ideal S1x1024 .f32)
  W : iblk m c 5 t = (L3 T.W : FVec Ideal S4x256x256 .bf16)
  sc : iblk m c 6 t = (L2 T.sc : FVec Ideal S1x1024 .f32)
  go : iblk m c 7 t = (L2 T.go : FVec Ideal S1x1024 .f32)
  gf : iblk m c 8 t = (L2 T.gf : FVec Ideal S1x1024 .f32)
  n : Scalar.subi 31#32 (BitVec.ofNat 32 (grid0.coords t 0).val) = BitVec.ofNat 32 T.n
  b : Scalar.cmpi .sgt (BitVec.ofNat 32 T.n) 0#32 = T.b
  lt : T.n < 32

/-- The rows of gradients a tile adds: one for each of the four vectors, and none in the last four. -/
def Tile.gacc (T : Tile) (j k : ℕ) : ℝ :=
  match j with
  | 0 => T.dgpre k
  | 1 => T.dgpost k
  | 2 => T.dgffn k
  | 3 => T.dscale k
  | _ => 0

theorem hn_eq (T : Tile) : k0_pay9 (F := Ideal) (L2 T.x) (L2 T.gp) = L2 T.hn := pay9_eq _ _

theorem pay7_eq : k0_pay7 (F := Ideal) = L2 fun _ _ => 0 := by
  funext j
  idx_vars j
  pointwise [k0_pay7]
  rfl

theorem ldG (g : ℕ) (W : ℕ → ℕ → ℕ → ℝ) (h : ∀ a, (![g, 0, 0] : Fin 3 → ℕ) a + (![1, 256, 256] : Fin 3 → ℕ) a ≤ S4x256x256.size a) :
    View.ld (Val := Elt Ideal) (e' := .bf16) (L3 W : FVec Ideal S4x256x256 .bf16) (Rect.unit (s := S4x256x256) ![g, 0, 0] ![1, 256, 256] h)
    = (show (Rect.unit (s := S4x256x256) ![g, 0, 0] ![1, 256, 256] h).shape.Idx → EReal from L3 fun _ a b => W g a b) := by
  funext j
  idx_vars j
  have : j0 = 0 := by omega
  subst this
  pointwise []
  simp [L3_apply]

/-- Four blocks stored one per group, over whatever was stored before, are the array of the four. -/
theorem four (G : ℕ → ℕ → ℕ → ℝ) (p0 p1 p2 p3 : FVec Ideal S1x256x256 .f32) (L' : List (View.Piece (Elt Ideal) S4x256x256 .f32))
    (h0 : p0 = L3 fun _ p q => G 0 p q) (h1 : p1 = L3 fun _ p q => G 1 p q) (h2 : p2 = L3 fun _ p q => G 2 p q)
    (h3 : p3 = L3 fun _ p q => G 3 p q) (i0) (i1) (i2) (i3) :
    View.canon (([⟨Rect.unit (s := S4x256x256) ![3, 0, 0] ![1, 256, 256] i3, p3⟩, ⟨Rect.unit (s := S4x256x256) ![2, 0, 0] ![1, 256, 256] i2, p2⟩,
      ⟨Rect.unit (s := S4x256x256) ![1, 0, 0] ![1, 256, 256] i1, p1⟩, ⟨Rect.unit (s := S4x256x256) ![0, 0, 0] ![1, 256, 256] i0, p0⟩] :
      List (View.Piece (Elt Ideal) S4x256x256 .f32)) ++ L') = (L3 G : FVec Ideal S4x256x256 .f32) := by
  have key : ∀ (g : ℕ) (i : _) (x : (Rect.unit (s := S4x256x256) ![g, 0, 0] ![1, 256, 256] i).shape.Idx),
      (show EReal from (L3 fun _ p q => G g p q : FVec Ideal S1x256x256 .f32) x) = (L3 G : FVec Ideal S4x256x256 .f32) ((Rect.unit (s := S4x256x256) ![g, 0, 0] ![1, 256, 256] i).emb x) := by
    intro g i x
    have h0 : (x 0).val < 1 := (x 0).isLt
    show ((G g (x 1).val (x 2).val : ℝ) : EReal) = ((G (g + 1 * (x 0).val) (0 + 1 * (x 1).val) (0 + 1 * (x 2).val) : ℝ) : EReal)
    rw [show g + 1 * (x 0).val = g by omega, Nat.one_mul, Nat.one_mul, Nat.zero_add, Nat.zero_add]
  subst h0 h1 h2 h3
  funext y
  refine View.canon_append_of_piecesOf (Val := Elt Ideal) (L3 G : FVec Ideal S4x256x256 .f32) L' [⟨_, _⟩, ⟨_, _⟩, ⟨_, _⟩, ⟨_, _⟩]
    ⟨key 3 i3, key 2 i2, key 1 i1, key 0 i0, trivial⟩ y ?_
  have h0 : (y 0).val < 4 := (y 0).isLt
  have h1 : (y 1).val < 256 := (y 1).isLt
  have h2 : (y 2).val < 256 := (y 2).isLt
  have mem : ∀ (g : ℕ) (i : _), (y 0).val = g → y ∈ (Rect.unit (s := S4x256x256) ![g, 0, 0] ![1, 256, 256] i).set := by
    intro g i e
    rw [Rect.mem_set_unit]
    intro a
    fin_cases a
    · show g ≤ (y 0).val ∧ (y 0).val < g + 1
      omega
    · show 0 ≤ (y 1).val ∧ (y 1).val < 0 + 256
      omega
    · show 0 ≤ (y 2).val ∧ (y 2).val < 0 + 256
      omega
  rcases (by omega : (y 0).val = 3 ∨ (y 0).val = 2 ∨ (y 0).val = 1 ∨ (y 0).val = 0) with e | e | e | e
  · exact ⟨_, .head _, mem 3 i3 e⟩
  · exact ⟨_, .tail _ (.head _), mem 2 i2 e⟩
  · exact ⟨_, .tail _ (.tail _ (.head _)), mem 1 i1 e⟩
  · exact ⟨_, .tail _ (.tail _ (.tail _ (.head _))), mem 0 i0 e⟩

theorem ldF (g : ℕ) (W : ℕ → ℕ → ℕ → ℝ) (h : ∀ a, (![g, 0, 0] : Fin 3 → ℕ) a + (![1, 256, 256] : Fin 3 → ℕ) a ≤ S4x256x256.size a) :
    View.ld (Val := Elt Ideal) (e' := .f32) (L3 W : FVec Ideal S4x256x256 .f32) (Rect.unit (s := S4x256x256) ![g, 0, 0] ![1, 256, 256] h)
    = (show (Rect.unit (s := S4x256x256) ![g, 0, 0] ![1, 256, 256] h).shape.Idx → EReal from L3 fun _ a b => W g a b) := ldG g W h

theorem ldR (g : ℕ) (W : ℕ → ℕ → ℝ) (h : ∀ a, (![g, 0] : Fin 2 → ℕ) a + (![1, 1024] : Fin 2 → ℕ) a ≤ S8x1024.size a) :
    View.ld (Val := Elt Ideal) (e' := .f32) (L2 W : FVec Ideal S8x1024 .f32) (Rect.unit (s := S8x1024) ![g, 0] ![1, 1024] h)
    = (show (Rect.unit (s := S8x1024) ![g, 0] ![1, 1024] h).shape.Idx → EReal from L2 fun _ b => W g b) := by
  funext j
  idx_vars j
  have : j0 = 0 := by omega
  subst this
  pointwise []
  simp [L2_apply]

theorem pay5_eq : k0_pay5 (F := Ideal) = L2 fun _ _ => 0 := by
  funext j
  idx_vars j
  pointwise [k0_pay5]
  rfl

theorem pay6_eq : k0_pay6 (F := Ideal) = L3 fun _ _ _ => 0 := by
  funext j
  idx_vars j
  pointwise [k0_pay6]
  rfl

theorem L3_congr {a b c : ℕ} {f g : ℕ → ℕ → ℕ → ℝ} (h : ∀ p q r, f p q r = g p q r) : (L3 f : (⟨3, ![a, b, c]⟩ : Shape).Idx → EReal) = L3 g := by
  rw [show f = g from funext fun p => funext fun q => funext fun r => h p q r]

/-- The place in a stored row that holds an index of the whole. -/
def inRow (k : ℕ) (i : ∀ a, (![k, 0] : Fin 2 → ℕ) a + (![1, 1024] : Fin 2 → ℕ) a ≤ S8x1024.size a) (y : S8x1024.Idx) :
    (Rect.unit (s := S8x1024) ![k, 0] ![1, 1024] i).shape.Idx := fun a => ⟨if a = 0 then 0 else (y 1).val, by
  have h1 : (y 1).val < 1024 := (y 1).isLt
  fin_cases a
  · exact Nat.one_pos
  · exact h1⟩

theorem inRow_coords (k : ℕ) (i) (y : S8x1024.Idx) (e : (y 0).val = k) (a : Fin 2) :
    (y a).val = (Rect.unit (s := S8x1024) ![k, 0] ![1, 1024] i).off a + (Rect.unit (s := S8x1024) ![k, 0] ![1, 1024] i).stride a * (inRow k i y a).val := by
  fin_cases a
  · show (y 0).val = k + 1 * 0
    omega
  · show (y 1).val = 0 + 1 * (y 1).val
    omega

/-- A row stored over earlier stores, read at an index: the row there, the earlier stores elsewhere. -/
theorem canon_row (k : ℕ) (i) (f : ℕ → ℕ → ℝ) (L : List (View.Piece (Elt Ideal) S8x1024 .f32)) (y : S8x1024.Idx) :
    View.canon (⟨Rect.unit (s := S8x1024) ![k, 0] ![1, 1024] i, (L2 f : FVec Ideal S1x1024 .f32)⟩ :: L) y =
    if (y 0).val = k then ((f 0 (y 1).val : ℝ) : EReal) else View.canon L y := by
  split_ifs with e
  · have hy := Rect.emb_eq_of_coords _ (inRow k i y) y (inRow_coords k i y e)
    conv_lhs => rw [← hy]
    rw [View.canon_cons_emb]
    rfl
  · refine View.canon_cons_of_not_mem _ L fun hm => e ?_
    have h2 : k ≤ (y 0).val ∧ (y 0).val < k + 1 := (Rect.mem_set_unit (inb := i)).mp hm 0
    omega

/-- The same of a buffer that held something before. -/
theorem read_row {κ sp} (v : View sig κ sp S8x1024 .f32) (g) (k : ℕ) (i) (f : ℕ → ℕ → ℝ) (L : List (View.Piece (Elt Ideal) S8x1024 .f32)) (y : S8x1024.Idx) :
    v.read (Elt Ideal) (v.writes (Elt Ideal) g (⟨Rect.unit (s := S8x1024) ![k, 0] ![1, 1024] i, (L2 f : FVec Ideal S1x1024 .f32)⟩ :: L)) y =
    if (y 0).val = k then ((f 0 (y 1).val : ℝ) : EReal) else v.read (Elt Ideal) (v.writes (Elt Ideal) g L) y := by
  split_ifs with e
  · exact View.read_writes_cons_hit_of_coords v g _ _ L (inRow k i y) y (inRow_coords k i y e)
  · exact View.read_writes_cons_miss_of_axis v g _ L y 0 k 1 rfl rfl rfl (by omega)

/-- Four rows of gradients stored over the rows before, read at an index. -/
theorem row_cases (G r : ℕ → ℕ → ℝ) (f0 f1 f2 f3 : ℕ → ℝ) (y : S8x1024.Idx) (h0 : ∀ k, f0 k = G 0 k) (h1 : ∀ k, f1 k = G 1 k)
    (h2 : ∀ k, f2 k = G 2 k) (h3 : ∀ k, f3 k = G 3 k) (h4 : ∀ j k, G (j + 4) k = r (j + 4) k) :
    (if (y 0).val = 3 then ((f3 (y 1).val : ℝ) : EReal) else if (y 0).val = 2 then ((f2 (y 1).val : ℝ) : EReal)
      else if (y 0).val = 1 then ((f1 (y 1).val : ℝ) : EReal) else if (y 0).val = 0 then ((f0 (y 1).val : ℝ) : EReal)
      else (L2 r : FVec Ideal S8x1024 .f32) y) = (L2 G : FVec Ideal S8x1024 .f32) y := by
  show _ = ((G (y 0).val (y 1).val : ℝ) : EReal)
  split_ifs with e3 e2 e1 e0
  · rw [e3, h3]
  · rw [e2, h2]
  · rw [e1, h1]
  · rw [e0, h0]
  · show ((r (y 0).val (y 1).val : ℝ) : EReal) = _
    obtain ⟨j, hj⟩ : ∃ j, (y 0).val = j + 4 := ⟨(y 0).val - 4, by omega⟩
    rw [hj, h4]

theorem caseA (T : Tile) (t : Fin cfg0.N) (h0 : t.val % 32 = 0) (H : Finds m c T t) (hca : (fun _ _ => (0 : ℝ)) = T.ca) :
    (outsAt0 m c t.val t.isLt).1 = L2 T.dh0 ∧ (outsAt0 m c t.val t.isLt).2.1 = L3 T.dpw ∧
    (outsAt0 m c t.val t.isLt).2.2.1 = L2 T.gacc ∧ (outsAt0 m c t.val t.isLt).2.2.2 = L2 T.dpc := by
  replace hca : k0_pay7 (F := Ideal) = L2 T.ca := pay7_eq.trans (by rw [hca])
  rw [outsAt0_A m c t h0 h0 h0]
  refine ⟨?_, ?_, ?_, ?_⟩
  all_goals frame_out
  all_goals try simp (disch := first | rfl | decide) only [↓View.readCov_skip, ↓View.readCov_fill, pay5_eq, pay6_eq]
  all_goals simp only [H.x, H.h, H.d2, H.da, H.gp, H.W, H.sc, H.go, H.gf, H.n, H.b]
  all_goals simp only [hca, pay8_eq, hn_eq, pay11_eq, pay13_eq _ H.lt, pay14_eq _ H.lt, pay15_eq _ H.lt, pay16_eq _ H.lt, pay17_eq,
        pay18_eq, pay19_eq, ldG, pay20_eq, pay21_eq, pay22_eq, pay23_eq, pay24_eq, pay25_eq, pay26_eq, pay27_eq, pay28_eq,
        pay29_eq, pay30_eq, pay31_eq, pay32_eq, pay33_eq, pay34_eq, pay35_eq, pay36_eq, pay37_eq, pay40_eq, pay43_eq, pay46_eq,
        pay39_eq, pay42_eq, pay45_eq, pay48_eq, pay49_eq]
  all_goals try simp only [ldF, ldR, pay1_eq, pay2_eq, pay3_eq, pay4_eq, pay38_eq, pay41_eq, pay44_eq, pay47_eq, pay50_eq, pay51_eq, pay52_eq, pay53_eq, pay54_eq, pay55_eq, pay56_eq, pay57_eq]
  · exact four T.dpw _ _ _ _ [_] (L3_congr fun _ _ _ => zero_add _) (L3_congr fun _ _ _ => zero_add _)
      (L3_congr fun _ _ _ => zero_add _) (L3_congr fun _ _ _ => zero_add _) _ _ _ _
  · funext y
    rw [canon_row, canon_row, canon_row, canon_row, View.canon_cons_unit_lit _ _ _ (by decide)]
    exact row_cases T.gacc (fun _ _ => 0) _ _ _ _ y (fun _ => zero_add _) (fun _ => zero_add _) (fun _ => zero_add _) (fun _ => zero_add _) (fun _ _ => rfl)
theorem caseB (T : Tile) (t : Fin cfg0.N) (h0 : ¬ t.val % 32 = 0) (H : Finds m c T t) (a : ℕ → ℕ → ℕ → ℝ) (r : ℕ → ℕ → ℝ)
    (ha : (outsAt0 m c (t.val - 1) (Nat.lt_of_le_of_lt (Nat.sub_le _ _) t.isLt)).2.1 = (L3 a : FVec Ideal S4x256x256 .f32))
    (hr : (outsAt0 m c (t.val - 1) (Nat.lt_of_le_of_lt (Nat.sub_le _ _) t.isLt)).2.2.1 = (L2 r : FVec Ideal S8x1024 .f32))
    (hca : (outsAt0 m c (t.val - 1) (Nat.lt_of_le_of_lt (Nat.sub_le _ _) t.isLt)).2.2.2 = (L2 T.ca : FVec Ideal S16x1024 .f32)) :
    (outsAt0 m c t.val t.isLt).1 = L2 T.dh0 ∧ (outsAt0 m c t.val t.isLt).2.1 = (L3 fun g p q => a g p q + T.dpw g p q) ∧
    (outsAt0 m c t.val t.isLt).2.2.1 = (L2 fun j k => r j k + T.gacc j k) ∧ (outsAt0 m c t.val t.isLt).2.2.2 = L2 T.dpc := by
  rw [outsAt0_B m c t h0 h0 h0]
  refine ⟨?_, ?_, ?_, ?_⟩
  all_goals frame_out
  all_goals try simp only [read_unread_whole, ha, hr]
  all_goals simp only [H.x, H.h, H.d2, H.da, H.gp, H.W, H.sc, H.go, H.gf, H.n, H.b]
  all_goals simp only [hca, pay8_eq, hn_eq, pay11_eq, pay13_eq _ H.lt, pay14_eq _ H.lt, pay15_eq _ H.lt, pay16_eq _ H.lt, pay17_eq,
        pay18_eq, pay19_eq, ldG, pay20_eq, pay21_eq, pay22_eq, pay23_eq, pay24_eq, pay25_eq, pay26_eq, pay27_eq, pay28_eq,
        pay29_eq, pay30_eq, pay31_eq, pay32_eq, pay33_eq, pay34_eq, pay35_eq, pay36_eq, pay37_eq, pay40_eq, pay43_eq, pay46_eq,
        pay39_eq, pay42_eq, pay45_eq, pay48_eq, pay49_eq]
  all_goals try simp only [ldF, ldR, pay1_eq, pay2_eq, pay3_eq, pay4_eq, pay38_eq, pay41_eq, pay44_eq, pay47_eq, pay50_eq, pay51_eq, pay52_eq, pay53_eq, pay54_eq, pay55_eq, pay56_eq, pay57_eq]
  · exact four (fun g p q => a g p q + T.dpw g p q) _ _ _ _ [] rfl rfl rfl rfl _ _ _ _
  · funext y
    rw [read_row, read_row, read_row, read_row, View.writes_nil, Memref.IsWhole.read_unread]
    exact row_cases (fun j k => r j k + T.gacc j k) r _ _ _ _ y (fun _ => rfl) (fun _ => rfl) (fun _ => rfl) (fun _ => rfl) (fun _ _ => add_zero _)

end Cert.KernelIdeal.Pool

end
-- ==== Proof.PoolSpec.lean ====
module

public import proofs.«01_k».proof.Proof.PoolTile

@[expose] public section

noncomputable section

/-! What the backward pass of the pooling block computes, over the reals and all rows at once. -/

namespace Cert.KernelIdeal.Pool

/-- The arguments over the reals: the input, the two cotangents, the gains and the pooling weights. -/
structure Args where
  (X D2 DA gp sc go gf : ℕ → ℕ → ℝ)
  W : ℕ → ℕ → ℕ → ℝ

namespace Args

variable (D : Args)

/-- The normalised input. -/
def hn (p c : ℕ) : ℝ := D.X p c * rms D.X p * D.gp 0 c
/-- The number of rows in the window of `w` ending at row `p`. -/
def cnt (w p : ℕ) : ℝ := ((min (p + 1) w : ℕ) : ℝ)
/-- The sum of the window of rows ending at each row. -/
def wsum (p c : ℕ) : ℝ := ∑ k ∈ Finset.range (2 ^ (c / 256 + 1)), if k ≤ p then D.hn (p - k) c else 0
/-- The window's mean less the row itself. -/
def pooled (p c : ℕ) : ℝ := D.wsum p c / cnt (2 ^ (c / 256 + 1)) p - D.hn p c
/-- The pooled rows times their group's weights. -/
def y (p c : ℕ) : ℝ := ∑ k : Fin 256, D.pooled p (256 * (c / 256) + k) * D.W (c / 256) k (c % 256)
/-- The mixer's result. -/
def m (p c : ℕ) : ℝ := D.y p c * D.sc 0 c
/-- The residual sum after the mixer. -/
def h1 (p c : ℕ) : ℝ := D.X p c + D.m p c * rms D.m p * D.go 0 c
/-- The gradient of the residual sum. -/
def dh1 (p c : ℕ) : ℝ := D.D2 p c + rmsBack D.h1 (rms D.h1) (fun p c => D.DA p c * D.gf 0 c) p c
/-- The gradient of the gain after the residual sum. -/
def dgffn (c : ℕ) : ℝ := ∑ p : Fin 16384, D.DA p c * (D.h1 p c * rms D.h1 p)
/-- The gradient of the mixer's result. -/
def dm (p c : ℕ) : ℝ := rmsBack D.m (rms D.m) (fun p c => D.dh1 p c * D.go 0 c) p c
/-- The gradient of the gain after the mixer. -/
def dgpost (c : ℕ) : ℝ := ∑ p : Fin 16384, D.dh1 p c * (D.m p c * rms D.m p)
/-- The gradient of the mixer's scale. -/
def dscale (c : ℕ) : ℝ := ∑ p : Fin 16384, D.dm p c * D.y p c
/-- The gradient of the mixed rows. -/
def dy (p c : ℕ) : ℝ := D.dm p c * D.sc 0 c
/-- The gradient of the pooling weights. -/
def dpw (g a b : ℕ) : ℝ := ∑ p : Fin 16384, D.pooled p (256 * g + a) * D.dy p (256 * g + b)
/-- The gradient of the pooled rows. -/
def dpooled (p c : ℕ) : ℝ := ∑ k : Fin 256, D.dy p (256 * (c / 256) + k) * D.W (c / 256) (c % 256) k
/-- The gradient of the window sums. -/
def dpc (p c : ℕ) : ℝ := D.dpooled p c / cnt (2 ^ (c / 256 + 1)) p
/-- The sum of the windows that a row lies in. -/
def asum (p c : ℕ) : ℝ := ∑ k ∈ Finset.range (2 ^ (c / 256 + 1)), if p + k < 16384 then D.dpc (p + k) c else 0
/-- The gradient of the normalised input. -/
def dhn (p c : ℕ) : ℝ := D.asum p c - D.dpooled p c
/-- The gradient of the gain before the mixer. -/
def dgpre (c : ℕ) : ℝ := ∑ p : Fin 16384, D.dhn p c * (D.X p c * rms D.X p)
/-- The gradient of the input. -/
def dh0 (p c : ℕ) : ℝ := D.dh1 p c + rmsBack D.X (rms D.X) (fun p c => D.dhn p c * D.gp 0 c) p c
/-- The rows of gradients: one for each of the four vectors, and none in the last four. -/
def gacc (j k : ℕ) : ℝ :=
  match j with
  | 0 => D.dgpre k
  | 1 => D.dgpost k
  | 2 => D.dgffn k
  | 3 => D.dscale k
  | _ => 0

end Args

end Cert.KernelIdeal.Pool

end
-- ==== Proof.PoolGlob.lean ====
module

public import proofs.«01_k».proof.Proof.PoolRun
public import proofs.«01_k».proof.Proof.PoolSpec

@[expose] public section

set_option maxRecDepth 16384

noncomputable section

/-! The whole run: the tiles the grid walks from the last to the first, and the three arrays they leave. -/

namespace Cert.KernelIdeal.Pool

open Idealize.ShloMosaic Idealize.ShloMosaic.TcCoe Cert.Lift Cert.KernelIdeal Cert.KernelIdeal.Gen
open Idealize.ShloMosaic.Pipeline (Dat)

/-- The tile of grid point `n` with nothing carried: the walk is from the last rows to the first. -/
def Args.base (D : Args) (n : ℕ) : Tile where
  n := 31 - n
  b := if n < 31 then 1#1 else 0#1
  x p c := D.X ((31 - n) * 512 + p) c
  h p c := D.X (((31 - n) * 32 - 1) * 16 + p) c
  d2 p c := D.D2 ((31 - n) * 512 + p) c
  da p c := D.DA ((31 - n) * 512 + p) c
  gp := D.gp
  sc := D.sc
  go := D.go
  gf := D.gf
  ca _ _ := 0
  W := D.W

/-- The tile of grid point `n`, carrying the first rows of the point before. -/
def Args.tile (D : Args) (n : ℕ) : Tile := { D.base n with ca := if n = 0 then fun _ _ => 0 else (D.base (n - 1)).dpc }

theorem tile_dpc (D : Args) (n : ℕ) : (D.tile n).dpc = (D.base n).dpc := rfl

variable (m : (ℓ : Loc nD τ sig) → Buf (Elt Ideal) ℓ) (c : Dev nD)

/-- The arguments in memory are the real arrays `D`. -/
structure Holds (D : Args) : Prop where
  X : m ((c : Thread nD τ).loc main_arg0) = (L2 D.X : FVec Ideal S16384x1024 .f32)
  D2 : m ((c : Thread nD τ).loc main_arg1) = (L2 D.D2 : FVec Ideal S16384x1024 .f32)
  DA : m ((c : Thread nD τ).loc main_arg2) = (L2 D.DA : FVec Ideal S16384x1024 .bf16)
  gp : m ((c : Thread nD τ).loc main_arg3) = (L2 D.gp : FVec Ideal S1x1024 .f32)
  W : m ((c : Thread nD τ).loc main_arg4) = (L3 D.W : FVec Ideal S4x256x256 .f32)
  sc : m ((c : Thread nD τ).loc main_arg5) = (L2 D.sc : FVec Ideal S1x1024 .f32)
  go : m ((c : Thread nD τ).loc main_arg6) = (L2 D.go : FVec Ideal S1x1024 .f32)
  gf : m ((c : Thread nD τ).loc main_arg7) = (L2 D.gf : FVec Ideal S1x1024 .f32)

theorem idx0 : ∀ t : Fin cfg0.N, win0_0.index t 0 = 31 - t.val ∧ win0_0.index t 1 = 0 ∧
    win0_1.index t 0 = (31 - t.val) * 32 - 1 ∧ win0_1.index t 1 = 0 ∧
    win0_2.index t 0 = 31 - t.val ∧ win0_2.index t 1 = 0 ∧ win0_3.index t 0 = 31 - t.val ∧ win0_3.index t 1 = 0 ∧
    win0_9.index t 0 = 31 - t.val ∧ win0_9.index t 1 = 0 :=
  (by decide +kernel : ∀ t : Fin grid0.N, _)

theorem idxC : ∀ t : Fin cfg0.N, win0_4.index t 0 = 0 ∧ win0_4.index t 1 = 0 ∧ win0_5.index t 0 = 0 ∧ win0_5.index t 1 = 0 ∧
    win0_5.index t 2 = 0 ∧ win0_6.index t 0 = 0 ∧ win0_6.index t 1 = 0 ∧ win0_7.index t 0 = 0 ∧ win0_7.index t 1 = 0 ∧
    win0_8.index t 0 = 0 ∧ win0_8.index t 1 = 0 :=
  (by decide +kernel : ∀ t : Fin grid0.N, _)

theorem idxN : ∀ t : Fin cfg0.N, Scalar.subi 31#32 (BitVec.ofNat 32 (grid0.coords t 0).val) = BitVec.ofNat 32 (31 - t.val) ∧
    Scalar.cmpi .sgt (BitVec.ofNat 32 (31 - t.val)) 0#32 = if t.val < 31 then 1#1 else 0#1 :=
  (by decide +kernel : ∀ t : Fin grid0.N, _)

theorem V_W (D : Args) (H : Holds m c D) : V m c main_v0 = (L3 D.W : FVec Ideal S4x256x256 .bf16) := by
  have e : V m c main_v0 = truncf (F := Ideal) .bf16 (m ((c : Thread nD τ).loc main_arg4)) bitsLt_bf16_f32 := by
    rfl
  rw [e, H.W]
  rfl

theorem finds (D : Args) (H : Holds m c D) (t : Fin cfg0.N) (T : Tile) (ca) (hT : T = { D.base t.val with ca := ca }) : Finds m c T t := by
  subst hT
  obtain ⟨e0, e0', e1, e1', e2, e2', e3, e3', -⟩ := idx0 t
  obtain ⟨f4, f4', f5, f5', f5'', f6, f6', f7, f7', f8, f8'⟩ := idxC t
  have hX := (V_main_arg0 m c).trans H.X
  have hD2 := (V_main_arg1 m c).trans H.D2
  have hDA := (V_main_arg2 m c).trans H.DA
  have hgp := (V_main_arg3 m c).trans H.gp
  have hsc := (V_main_arg5 m c).trans H.sc
  have hgo := (V_main_arg6 m c).trans H.go
  have hgf := (V_main_arg7 m c).trans H.gf
  have hW := V_W m c D H
  constructor
  · funext y
    show V m c main_arg0 (((cfg0.win 0).blk t).view.emb y) = _
    rw [hX]
    show ((D.X (((cfg0.win 0).blk t).view.emb y 0).val (((cfg0.win 0).blk t).view.emb y 1).val : ℝ) : EReal) = _
    blk_simp
    rw [e0, e0', Nat.zero_mul, Nat.zero_add]
    rfl
  · funext y
    show V m c main_arg0 (((cfg0.win 1).blk t).view.emb y) = _
    rw [hX]
    show ((D.X (((cfg0.win 1).blk t).view.emb y 0).val (((cfg0.win 1).blk t).view.emb y 1).val : ℝ) : EReal) = _
    blk_simp
    rw [e1, e1', Nat.zero_mul, Nat.zero_add]
    rfl
  · funext y
    show V m c main_arg1 (((cfg0.win 2).blk t).view.emb y) = _
    rw [hD2]
    show ((D.D2 (((cfg0.win 2).blk t).view.emb y 0).val (((cfg0.win 2).blk t).view.emb y 1).val : ℝ) : EReal) = _
    blk_simp
    rw [e2, e2', Nat.zero_mul, Nat.zero_add]
    rfl
  · funext y
    show V m c main_arg2 (((cfg0.win 3).blk t).view.emb y) = _
    rw [hDA]
    show ((D.DA (((cfg0.win 3).blk t).view.emb y 0).val (((cfg0.win 3).blk t).view.emb y 1).val : ℝ) : EReal) = _
    blk_simp
    rw [e3, e3', Nat.zero_mul, Nat.zero_add]
    rfl
  · funext y
    show V m c main_arg3 (((cfg0.win 4).blk t).view.emb y) = _
    rw [hgp]
    show ((D.gp (((cfg0.win 4).blk t).view.emb y 0).val (((cfg0.win 4).blk t).view.emb y 1).val : ℝ) : EReal) = _
    blk_simp
    have hy : (y 0).val < 1 := (y 0).isLt
    show _ = ((D.gp (y 0).val (y 1).val : ℝ) : EReal)
    simp only [f4, f4', Nat.zero_mul, Nat.zero_add, show (y 0).val = 0 by omega]
  · funext y
    show V m c main_v0 (((cfg0.win 5).blk t).view.emb y) = _
    rw [hW]
    show ((D.W (((cfg0.win 5).blk t).view.emb y 0).val (((cfg0.win 5).blk t).view.emb y 1).val (((cfg0.win 5).blk t).view.emb y 2).val : ℝ) : EReal) = _
    blk_simp
    rw [f5, f5', f5'']
    simp only [Nat.zero_mul, Nat.zero_add]
    rfl
  · funext y
    show V m c main_arg5 (((cfg0.win 6).blk t).view.emb y) = _
    rw [hsc]
    show ((D.sc (((cfg0.win 6).blk t).view.emb y 0).val (((cfg0.win 6).blk t).view.emb y 1).val : ℝ) : EReal) = _
    blk_simp
    have hy : (y 0).val < 1 := (y 0).isLt
    show _ = ((D.sc (y 0).val (y 1).val : ℝ) : EReal)
    simp only [f6, f6', Nat.zero_mul, Nat.zero_add, show (y 0).val = 0 by omega]
  · funext y
    show V m c main_arg6 (((cfg0.win 7).blk t).view.emb y) = _
    rw [hgo]
    show ((D.go (((cfg0.win 7).blk t).view.emb y 0).val (((cfg0.win 7).blk t).view.emb y 1).val : ℝ) : EReal) = _
    blk_simp
    have hy : (y 0).val < 1 := (y 0).isLt
    show _ = ((D.go (y 0).val (y 1).val : ℝ) : EReal)
    simp only [f7, f7', Nat.zero_mul, Nat.zero_add, show (y 0).val = 0 by omega]
  · funext y
    show V m c main_arg7 (((cfg0.win 8).blk t).view.emb y) = _
    rw [hgf]
    show ((D.gf (((cfg0.win 8).blk t).view.emb y 0).val (((cfg0.win 8).blk t).view.emb y 1).val : ℝ) : EReal) = _
    blk_simp
    have hy : (y 0).val < 1 := (y 0).isLt
    show _ = ((D.gf (y 0).val (y 1).val : ℝ) : EReal)
    simp only [f8, f8', Nat.zero_mul, Nat.zero_add, show (y 0).val = 0 by omega]
  · exact (idxN t).1
  · exact (idxN t).2
  · show 31 - t.val < 32
    omega

/-- What grid point `n` leaves: its rows of the input's gradient, the weights' and the vectors' gradients summed so
    far, and the rows it carries on. -/
theorem outs (D : Args) (H : Holds m c D) (n : ℕ) (hn : n < cfg0.N) :
    (outsAt0 m c n hn).1 = (L2 (D.tile n).dh0 : FVec Ideal S512x1024 .f32) ∧
    (outsAt0 m c n hn).2.1 = (L3 fun g p q => ∑ k ∈ Finset.range (n + 1), (D.tile k).dpw g p q : FVec Ideal S4x256x256 .f32) ∧
    (outsAt0 m c n hn).2.2.1 = (L2 fun j q => ∑ k ∈ Finset.range (n + 1), (D.tile k).gacc j q : FVec Ideal S8x1024 .f32) ∧
    (outsAt0 m c n hn).2.2.2 = (L2 (D.tile n).dpc : FVec Ideal S16x1024 .f32) := by
  have h32 : n < 32 := hn
  induction n with
  | zero =>
    obtain ⟨h1, h2, h3, h4⟩ := caseA m c (D.tile 0) ⟨0, hn⟩ rfl (finds m c D H ⟨0, hn⟩ _ _ rfl) rfl
    refine ⟨h1, h2.trans ?_, h3.trans ?_, h4⟩ <;> simp only [Nat.zero_add, Finset.sum_range_one]
  | succ n ih =>
    obtain ⟨-, i2, i3, i4⟩ := ih (by omega) (by omega)
    have hd : ¬ (n + 1) % 32 = 0 := by omega
    obtain ⟨h1, h2, h3, h4⟩ := caseB m c (D.tile (n + 1)) ⟨n + 1, hn⟩ hd (finds m c D H ⟨n + 1, hn⟩ _ _ rfl) _ _ i2 i3 (i4.trans rfl)
    refine ⟨h1, h2.trans ?_, h3.trans ?_, h4⟩ <;> simp only [Finset.sum_range_succ _ (n + 1)]

/-- The input's gradient: each row is that of its tile. -/
theorem final9 (D : Args) (H : Holds m c D) : (dats m 0 c).arrAt 9 cfg0.N =
    (L2 fun p q => (D.tile (31 - p / 512)).dh0 (p % 512) q : FVec Ideal S16384x1024 .f32) := by
  refine (dats m 0 c).arrAt_eq_of_covers 9 _ (by decide +kernel) fun t hf y => ?_
  blk_simp
  rw [after0_9, (outs m c D H t.val t.isLt).1]
  obtain ⟨-, -, -, -, -, -, -, -, e9, e9'⟩ := idx0 t
  have hy : (y 0).val < 512 := (y 0).isLt
  have ht : t.val < 32 := t.isLt
  show (((D.tile t.val).dh0 (y 0).val (y 1).val : ℝ) : EReal) =
    (((D.tile (31 - (((cfg0.win 9).blk t).view.emb y 0).val / 512)).dh0 ((((cfg0.win 9).blk t).view.emb y 0).val % 512) (((cfg0.win 9).blk t).view.emb y 1).val : ℝ) : EReal)
  blk_simp
  rw [e9, e9', show 31 - ((31 - t.val) * 512 + (y 0).val) / 512 = t.val by omega,
    show ((31 - t.val) * 512 + (y 0).val) % 512 = (y 0).val by omega, Nat.zero_mul, Nat.zero_add]

/-- The weights' gradient: the sum over the tiles. -/
theorem final10 (D : Args) (H : Holds m c D) : (dats m 0 c).arrAt 10 cfg0.N =
    (L3 fun g p q => ∑ k ∈ Finset.range 32, (D.tile k).dpw g p q : FVec Ideal S4x256x256 .f32) := by
  refine (dats m 0 c).arrAt_eq_of_after_last 10 ⟨31, by decide⟩ (by decide +kernel) _ fun y => ?_
  exact (congrFun (after0_10 m c _) _).trans (congrFun (outs m c D H 31 (by decide)).2.1 _)

/-- The vectors' gradients: the sums over the tiles. -/
theorem final11 (D : Args) (H : Holds m c D) : (dats m 0 c).arrAt 11 cfg0.N =
    (L2 fun j q => ∑ k ∈ Finset.range 32, (D.tile k).gacc j q : FVec Ideal S8x1024 .f32) := by
  refine (dats m 0 c).arrAt_eq_of_after_last 11 ⟨31, by decide⟩ (by decide +kernel) _ fun y => ?_
  exact (congrFun (after0_11 m c _) _).trans (congrFun (outs m c D H 31 (by decide)).2.2.1 _)

end Cert.KernelIdeal.Pool

end
-- ==== Proof.Finite.lean ====
module

public import proofs.«01_k».proof.Proof.PoolGlob
public import proofs.«01_k».proof.Defs

@[expose] public section

noncomputable section

/-! The precondition read: arguments every element of which is less than infinity in absolute value are real arrays. -/

namespace Cert.Finite

open Idealize.ShloMosaic Idealize.ShloMosaic.TcCoe Cert.Lift

/-- The precondition's shape relations. -/
theorem facts : Cert.Pre_finite.Facts where
  bcast_S_S16384x1024 := by decide
  bcast_S_S1x1024 := by decide
  bcast_S_S4x256x256 := by decide

/-- An extended real whose absolute value is less than infinity is a real number. -/
theorem real_of_lt (x : EReal) (h : Ideal.cmp .olt (max x (-x)) ⊤ = 1#1) : ∃ r : ℝ, x = r := by
  unfold Ideal.cmp at h
  have h' : max x (-x) < ⊤ := by
    by_contra hn
    simp [hn] at h
  have h1 := (max_lt_iff.1 h').1
  have h2 := (max_lt_iff.1 h').2
  refine ⟨x.toReal, (EReal.coe_toReal h1.ne ?_).symm⟩
  rintro rfl
  simp at h2

theorem inf_f32 : Ideal.ofBits .f32 0x7F800000#32 = ⊤ := by simp [Ideal.ofBits, Ideal.ieee]
theorem inf_bf16 : Ideal.ofBits .bf16 0x7F80#16 = ⊤ := by simp [Ideal.ofBits, Ideal.ieee]

/-- A 32-bit array that passes the test holds real numbers. -/
theorem real_f32 {s : Shape} (h0 : Cert.Pre_finite.S_.BroadcastsInDim s (![] : Fin 0 → Fin s.rank)) (v : FVec Ideal s .f32)
    (h : cmpf .olt (Host.absf v) (broadcastInDim s ![] h0 (constant (F := Ideal) Cert.Pre_finite.S_ .f32 0x7F800000#32)) = fun _ => 1#1)
    (i : s.Idx) : ∃ r : ℝ, v i = r := by
  refine real_of_lt (v i) ?_
  rw [← inf_f32]
  exact congrFun h i

/-- A 16-bit array that passes the test holds real numbers. -/
theorem real_bf16 {s : Shape} (h0 : Cert.Pre_finite.S_.BroadcastsInDim s (![] : Fin 0 → Fin s.rank)) (v : FVec Ideal s .bf16)
    (h : cmpf .olt (Host.absf v) (broadcastInDim s ![] h0 (constant (F := Ideal) Cert.Pre_finite.S_ .bf16 0x7F80#16)) = fun _ => 1#1)
    (i : s.Idx) : ∃ r : ℝ, v i = r := by
  refine real_of_lt (v i) ?_
  rw [← inf_bf16]
  exact congrFun h i

/-- Under the precondition the arguments in memory are real arrays. -/
theorem holds [hP : Cert.Pre_finite.Facts] (m : (ℓ : Loc Cert.KernelIdeal.nD Cert.KernelIdeal.τ Cert.KernelIdeal.sig) → Buf (Elt Ideal) ℓ)
    (h : Cert.Pre_KernelIdeal_finite m) (c : Dev Cert.KernelIdeal.nD) : ∃ D : Cert.KernelIdeal.Pool.Args, Cert.KernelIdeal.Pool.Holds m c D := by
  obtain ⟨h0, h1, h2, h3, h4, h5, h6, h7⟩ := h c
  obtain ⟨X, e0⟩ := exists_L2 _ (real_f32 hP.bcast_S_S16384x1024 _ h0)
  obtain ⟨D2, e1⟩ := exists_L2 _ (real_f32 hP.bcast_S_S16384x1024 _ h1)
  obtain ⟨DA, e2⟩ := exists_L2 _ (real_bf16 hP.bcast_S_S16384x1024 _ h2)
  obtain ⟨gp, e3⟩ := exists_L2 _ (real_f32 hP.bcast_S_S1x1024 _ h3)
  obtain ⟨W, e4⟩ := exists_L3 _ (real_f32 hP.bcast_S_S4x256x256 _ h4)
  obtain ⟨sc, e5⟩ := exists_L2 _ (real_f32 hP.bcast_S_S1x1024 _ h5)
  obtain ⟨go, e6⟩ := exists_L2 _ (real_f32 hP.bcast_S_S1x1024 _ h6)
  obtain ⟨gf, e7⟩ := exists_L2 _ (real_f32 hP.bcast_S_S1x1024 _ h7)
  exact ⟨⟨X, D2, DA, gp, sc, go, gf, W⟩, ⟨e0, e1, e2, e3, e4, e5, e6, e7⟩⟩

end Cert.Finite

end
-- ==== Proof.PoolEq.lean ====
module

public import proofs.«01_k».proof.Proof.PoolGlob

@[expose] public section

noncomputable section

/-! The tiles' values are the rows of the whole: what the kernel computes tile by tile is what is asked of all rows. -/

namespace Cert.KernelIdeal.Pool

open Cert.Lift

/-- A doubling of window sums looking back: twice the window where enough rows precede. -/
theorem step_back (e f : ℕ → ℕ → ℝ) (w c : ℕ) (h : ∀ q, w ≤ q + 1 → q < 528 → f q c = ∑ k ∈ Finset.range w, e (q - k) c)
    (q : ℕ) (h1 : 2 * w ≤ q + 1) (h2 : q < 528) (hw : 0 < w) : step w f q c = ∑ k ∈ Finset.range (2 * w), e (q - k) c := by
  unfold step
  rw [show (q + 528 - w) % 528 = q - w by omega, h q (by omega) h2, h (q - w) (by omega) (by omega), two_mul, Finset.sum_range_add]
  refine congrArg _ (Finset.sum_congr rfl fun k _ => ?_)
  rw [Nat.sub_sub]

/-- A doubling of window sums looking ahead: twice the window where enough rows follow. -/
theorem step_ahead (e f : ℕ → ℕ → ℝ) (w c : ℕ) (h : ∀ q, q + w ≤ 528 → f q c = ∑ k ∈ Finset.range w, e (q + k) c)
    (q : ℕ) (h1 : q + 2 * w ≤ 528) (hw : 0 < w) : step (528 - w) f q c = ∑ k ∈ Finset.range (2 * w), e (q + k) c := by
  unfold step
  rw [show (q + 528 - (528 - w)) % 528 = q + w by omega, h q (by omega), h (q + w) (by omega), two_mul, Finset.sum_range_add]
  refine congrArg _ (Finset.sum_congr rfl fun k _ => ?_)
  rw [Nat.add_assoc]

/-- The window sums looking back are sums over the window. -/
theorem back_eq (e : ℕ → ℕ → ℝ) (g c q : ℕ) (hg : g < 4) (h1 : 16 ≤ q) (h2 : q < 528) :
    back g e q c = ∑ k ∈ Finset.range (2 ^ (g + 1)), e (q - k) c := by
  have s1 := step_back e e 1 c (fun q _ _ => by simp)
  have s2 := step_back e (step 1 e) 2 c (fun q a b => s1 q (by omega) b (by norm_num))
  have s3 := step_back e (step 2 (step 1 e)) 4 c (fun q a b => s2 q (by omega) b (by norm_num))
  have s4 := step_back e (step 4 (step 2 (step 1 e))) 8 c (fun q a b => s3 q (by omega) b (by norm_num))
  match g, hg with
  | 0, _ => exact s1 q (by omega) h2 (by norm_num)
  | 1, _ => exact s2 q (by omega) h2 (by norm_num)
  | 2, _ => exact s3 q (by omega) h2 (by norm_num)
  | 3, _ => exact s4 q (by omega) h2 (by norm_num)

/-- The window sums looking ahead are sums over the window. -/
theorem ahead_eq (e : ℕ → ℕ → ℝ) (g c q : ℕ) (hg : g < 4) (h1 : q < 512) :
    ahead g e q c = ∑ k ∈ Finset.range (2 ^ (g + 1)), e (q + k) c := by
  have s1 := step_ahead e e 1 c (fun q _ => by simp)
  have s2 := step_ahead e (step 527 e) 2 c (fun q a => s1 q (by omega) (by norm_num))
  have s3 := step_ahead e (step 526 (step 527 e)) 4 c (fun q a => s2 q (by omega) (by norm_num))
  have s4 := step_ahead e (step 524 (step 526 (step 527 e))) 8 c (fun q a => s3 q (by omega) (by norm_num))
  match g, hg with
  | 0, _ => exact s1 q (by omega) (by norm_num)
  | 1, _ => exact s2 q (by omega) (by norm_num)
  | 2, _ => exact s3 q (by omega) (by norm_num)
  | 3, _ => exact s4 q (by omega) (by norm_num)

theorem two_pow_le (g : ℕ) (hg : g < 4) : 2 ^ (g + 1) ≤ 16 := by
  match g, hg with
  | 0, _ => norm_num
  | 1, _ => norm_num
  | 2, _ => norm_num
  | 3, _ => norm_num

variable (D : Args) (n : ℕ)

/-- The reciprocal count of a tile's row is that of the whole's row. -/
theorem mul_inv_cnt (x : ℝ) (w p : ℕ) : x * inv (31 - n) w p = x / Args.cnt w ((31 - n) * 512 + p) := by
  unfold inv Args.cnt
  rw [mul_one_div, Nat.mul_comm 512]

section Rows

variable (hn : n < 32) (p c : ℕ) (hp : p < 512) (hc : c < 1024)
include hn hp hc

theorem pooled_eq : (D.tile n).pooled p c = D.pooled ((31 - n) * 512 + p) c := by
  have hg : c / 256 < 4 := by omega
  have hw := two_pow_le _ hg
  unfold Tile.pooled Args.pooled Args.wsum
  rw [back_eq _ _ _ _ hg (by omega) (by omega)]
  refine congrArg₂ (· - ·) ?_ rfl
  refine (mul_inv_cnt n _ _ _).trans ?_
  refine congrArg (· / _) (Finset.sum_congr rfl fun k hk => ?_)
  have hk : k < 2 ^ (c / 256 + 1) := Finset.mem_range.1 hk
  unfold Tile.ext
  by_cases h1 : p + 16 - k < 16
  · rw [if_pos h1]
    by_cases h2 : n < 31
    · rw [if_pos (show (D.tile n).b = 1#1 from if_pos h2), if_pos (by omega)]
      rw [show (31 - n) * 512 + p - k = ((31 - n) * 32 - 1) * 16 + (p + 16 - k) by omega]
      rfl
    · rw [if_neg (show ¬ (D.tile n).b = 1#1 from by show ¬ (if n < 31 then 1#1 else 0#1) = 1#1; rw [if_neg h2]; decide), if_neg (by omega)]
  · rw [if_neg h1, if_pos (by omega), show (31 - n) * 512 + p - k = (31 - n) * 512 + (p + 16 - k - 16) by omega]
    rfl

theorem y_eq : (D.tile n).y p c = D.y ((31 - n) * 512 + p) c := by
  unfold Tile.y Args.y
  refine Finset.sum_congr rfl fun k _ => ?_
  rw [pooled_eq D n hn p _ hp (by omega)]
  rfl

theorem m_eq : (D.tile n).m p c = D.m ((31 - n) * 512 + p) c := by
  unfold Tile.m Args.m
  rw [y_eq D n hn p c hp hc]
  rfl

omit hc in
/-- Rows that agree have the same reciprocal root mean square. -/
theorem rms_eq (x z : ℕ → ℕ → ℝ) (h : ∀ k < 1024, x p k = z ((31 - n) * 512 + p) k) : rms x p = rms z ((31 - n) * 512 + p) := by
  unfold rms
  refine congrArg (fun s : ℝ => (Real.sqrt (s / 1024 + eps))⁻¹) (Finset.sum_congr rfl fun k _ => ?_)
  rw [h k k.isLt]

/-- The same of a normalisation's backward pass. -/
theorem rmsBack_eq (x z gx gz : ℕ → ℕ → ℝ) (h : ∀ k < 1024, x p k = z ((31 - n) * 512 + p) k)
    (hg : ∀ k < 1024, gx p k = gz ((31 - n) * 512 + p) k) :
    rmsBack x (rms x) gx p c = rmsBack z (rms z) gz ((31 - n) * 512 + p) c := by
  unfold rmsBack
  rw [rms_eq n hn p hp x z h, h c hc, hg c hc]
  refine congrArg (fun s : ℝ => _ - _ * (_ * (s / 1024))) (Finset.sum_congr rfl fun k _ => ?_)
  rw [h k k.isLt, hg k k.isLt]

theorem h1_eq : (D.tile n).h1 p c = D.h1 ((31 - n) * 512 + p) c := by
  unfold Tile.h1 Args.h1
  rw [m_eq D n hn p c hp hc, rms_eq n hn p hp _ D.m fun k hk => m_eq D n hn p k hp hk]
  rfl

theorem dh1_eq : (D.tile n).dh1 p c = D.dh1 ((31 - n) * 512 + p) c := by
  unfold Tile.dh1 Args.dh1
  rw [rmsBack_eq n hn p c hp hc _ D.h1 _ (fun p c => D.DA p c * D.gf 0 c) (fun k hk => h1_eq D n hn p k hp hk) (fun _ _ => rfl)]
  rfl

theorem dm_eq : (D.tile n).dm p c = D.dm ((31 - n) * 512 + p) c := by
  unfold Tile.dm Args.dm
  rw [rmsBack_eq n hn p c hp hc _ D.m _ (fun p c => D.dh1 p c * D.go 0 c) (fun k hk => m_eq D n hn p k hp hk)
    (fun k hk => by rw [dh1_eq D n hn p k hp hk]; rfl)]

theorem dy_eq : (D.tile n).dy p c = D.dy ((31 - n) * 512 + p) c := by
  unfold Tile.dy Args.dy
  rw [dm_eq D n hn p c hp hc]
  rfl

theorem dpooled_eq : (D.tile n).dpooled p c = D.dpooled ((31 - n) * 512 + p) c := by
  unfold Tile.dpooled Args.dpooled
  refine Finset.sum_congr rfl fun k _ => ?_
  rw [dy_eq D n hn p _ hp (by omega)]
  rfl

theorem dpc_eq : (D.tile n).dpc p c = D.dpc ((31 - n) * 512 + p) c := by
  unfold Tile.dpc Args.dpc
  rw [dpooled_eq D n hn p c hp hc]
  exact mul_inv_cnt n _ _ _

theorem dhn_eq : (D.tile n).dhn p c = D.dhn ((31 - n) * 512 + p) c := by
  have hg : c / 256 < 4 := by omega
  have hw := two_pow_le _ hg
  unfold Tile.dhn Args.dhn Args.asum
  rw [ahead_eq _ _ _ _ hg hp, dpooled_eq D n hn p c hp hc]
  refine congrArg (· - _) (Finset.sum_congr rfl fun k hk => ?_)
  have hk : k < 2 ^ (c / 256 + 1) := Finset.mem_range.1 hk
  unfold Tile.ext2
  by_cases h1 : p + k < 512
  · rw [if_pos h1, if_pos (by omega), dpc_eq D n hn _ c h1 hc, Nat.add_assoc]
  · rw [if_neg h1]
    by_cases h2 : n = 0
    · rw [if_neg (by omega)]
      show (if n = 0 then (fun _ _ => (0 : ℝ)) else (D.base (n - 1)).dpc) _ _ = _
      rw [if_pos h2]
    · rw [if_pos (by omega)]
      show (if n = 0 then (fun _ _ => (0 : ℝ)) else (D.base (n - 1)).dpc) _ _ = _
      rw [if_neg h2, ← tile_dpc, dpc_eq D (n - 1) (by omega) _ c (by omega) hc]
      rw [show (31 - (n - 1)) * 512 + (p + k - 512) = (31 - n) * 512 + p + k by omega]

theorem dh0_eq : (D.tile n).dh0 p c = D.dh0 ((31 - n) * 512 + p) c := by
  unfold Tile.dh0 Args.dh0
  rw [dh1_eq D n hn p c hp hc, rmsBack_eq n hn p c hp hc _ D.X _ (fun p c => D.dhn p c * D.gp 0 c) (fun _ _ => rfl)
    (fun k hk => by rw [dhn_eq D n hn p k hp hk]; rfl)]

end Rows

/-- The sum over all rows, taken tile by tile from the last to the first. -/
theorem sum_tiles (f : ℕ → ℝ) : (∑ k ∈ Finset.range 32, ∑ p : Fin 512, f ((31 - k) * 512 + p)) = ∑ p : Fin 16384, f p := by
  have e : ∀ K : ℕ, (∑ k ∈ Finset.range K, ∑ p : Fin 512, f (k * 512 + p)) = ∑ p ∈ Finset.range (K * 512), f p := by
    intro K
    induction K with
    | zero => simp
    | succ K ih => rw [Finset.sum_range_succ, ih, Nat.succ_mul, Finset.sum_range_add, Finset.sum_range (fun x => f (K * 512 + x))]
  have r := Finset.sum_range_reflect (fun k => ∑ p : Fin 512, f (k * 512 + p)) 32
  rw [← Finset.sum_range (n := 16384) f]
  exact r.trans (e 32)

/-- The tiles' gradients of the pooling weights sum to the whole's. -/
theorem dpw_eq (g a b : ℕ) (hg : g < 4) (ha : a < 256) (hb : b < 256) :
    (∑ k ∈ Finset.range 32, (D.tile k).dpw g a b) = D.dpw g a b := by
  refine Eq.trans (Finset.sum_congr rfl fun k hk => ?_) (sum_tiles fun p => D.pooled p (256 * g + a) * D.dy p (256 * g + b))
  have hk := Finset.mem_range.1 hk
  refine Finset.sum_congr rfl fun p _ => ?_
  rw [pooled_eq D k hk p _ p.isLt (by omega), dy_eq D k hk p _ p.isLt (by omega)]

/-- The tiles' rows of gradients of the four vectors sum to the whole's. -/
theorem gacc_eq (j c : ℕ) (hc : c < 1024) : (∑ k ∈ Finset.range 32, (D.tile k).gacc j c) = D.gacc j c := by
  match j with
  | 0 =>
    refine Eq.trans (Finset.sum_congr rfl fun k hk => ?_) (sum_tiles fun p => D.dhn p c * (D.X p c * rms D.X p))
    refine (show (D.tile k).gacc _ c = (D.tile k).dgpre c from rfl).trans (Finset.sum_congr rfl fun p _ => ?_)
    rw [dhn_eq D k (Finset.mem_range.1 hk) p _ p.isLt hc]
    rfl
  | 1 =>
    refine Eq.trans (Finset.sum_congr rfl fun k hk => ?_) (sum_tiles fun p => D.dh1 p c * (D.m p c * rms D.m p))
    have hk := Finset.mem_range.1 hk
    refine (show (D.tile k).gacc _ c = (D.tile k).dgpost c from rfl).trans (Finset.sum_congr rfl fun p _ => ?_)
    rw [dh1_eq D k hk p _ p.isLt hc, m_eq D k hk p _ p.isLt hc, rms_eq k hk p p.isLt _ D.m fun i hi => m_eq D k hk p i p.isLt hi]
  | 2 =>
    refine Eq.trans (Finset.sum_congr rfl fun k hk => ?_) (sum_tiles fun p => D.DA p c * (D.h1 p c * rms D.h1 p))
    have hk := Finset.mem_range.1 hk
    refine (show (D.tile k).gacc _ c = (D.tile k).dgffn c from rfl).trans (Finset.sum_congr rfl fun p _ => ?_)
    rw [h1_eq D k hk p _ p.isLt hc, rms_eq k hk p p.isLt _ D.h1 fun i hi => h1_eq D k hk p i p.isLt hi]
    rfl
  | 3 =>
    refine Eq.trans (Finset.sum_congr rfl fun k hk => ?_) (sum_tiles fun p => D.dm p c * D.y p c)
    have hk := Finset.mem_range.1 hk
    refine (show (D.tile k).gacc _ c = (D.tile k).dscale c from rfl).trans (Finset.sum_congr rfl fun p _ => ?_)
    rw [dm_eq D k hk p _ p.isLt hc, y_eq D k hk p _ p.isLt hc]
  | _ + 4 => exact Finset.sum_const_zero

end Cert.KernelIdeal.Pool

end
-- ==== Proof.PoolRef.lean ====
module

public import proofs.«01_k».proof.Proof.PoolSpec
public import proofs.«01_k».proof.Proof.Gen.ReferenceIdeal.Read

@[expose] public section

set_option maxRecDepth 16384

noncomputable section

namespace Cert.ReferenceIdeal.Pool

open Idealize.ShloMosaic Cert.Lift Cert.ReferenceIdeal Cert.ReferenceIdeal.Gen Cert.ReferenceIdeal.Read Cert.KernelIdeal.Pool

/-- A left fold of additions of real numbers over the indices below `n`. -/
theorem foldl_real (n : ℕ) (g : ℕ → ℝ) (k : Fin n → EReal) (h : ∀ i : Fin n, k i = ((g i.val : ℝ) : EReal)) :
    (List.finRange n).foldl (fun a i => a + k i) (0 : EReal) = ((∑ i ∈ Finset.range n, g i : ℝ) : EReal) := by
  have e : (List.finRange n).foldl (fun a i => a + k i) (0 : EReal) = ((List.finRange n).map k).sum := by
    rw [List.sum_eq_foldl, List.foldl_map]
  rw [e, ← Fin.sum_univ_def, ← coe_sum_fin]
  exact Finset.sum_congr rfl fun i _ => h i

/-- A running sum along the second of four axes, over a window as long as the axis: the terms at the places the
    padded window meets. -/
theorem window_sum (lo hi : ℕ) (f : ℕ → ℕ → ℕ → ℕ → ℝ)
    (h : S1x16384x4x256.ReduceWindows ![1, 16384, 1, 1] ![1, 1, 1, 1] ![0, lo, 0, 0] ![0, hi, 0, 0] S1x16384x4x256) :
    Ideal.hostReduceWindowAdd ![1, 16384, 1, 1] ![1, 1, 1, 1] ![0, lo, 0, 0] ![0, hi, 0, 0] h (L4 f : FVec Ideal S1x16384x4x256 .f32) 0 =
    (L4 fun a p g c => ∑ n ∈ Finset.range 16384, if lo ≤ p + n ∧ p + n - lo < 16384 then f a (p + n - lo) g c else 0 :
      FVec Ideal S1x16384x4x256 .f32) := by
  have hnum : (⟨4, ![1, 16384, 1, 1]⟩ : Shape).numel = 16384 := by decide +kernel
  have sym : ∀ n : Fin (⟨4, ![1, 16384, 1, 1]⟩ : Shape).numel, ((⟨4, ![1, 16384, 1, 1]⟩ : Shape).rowMajor.symm n 0).val = 0 ∧
      ((⟨4, ![1, 16384, 1, 1]⟩ : Shape).rowMajor.symm n 1).val = n.val ∧ ((⟨4, ![1, 16384, 1, 1]⟩ : Shape).rowMajor.symm n 2).val = 0 ∧
      ((⟨4, ![1, 16384, 1, 1]⟩ : Shape).rowMajor.symm n 3).val = 0 := by
    intro n
    have e := Shape.rowMajor_val_four ((⟨4, ![1, 16384, 1, 1]⟩ : Shape).rowMajor.symm n)
    rw [Equiv.apply_symm_apply] at e
    generalize (⟨4, ![1, 16384, 1, 1]⟩ : Shape).rowMajor.symm n = i at e
    have h0 : (i 0).val < 1 := (i 0).isLt
    have h2 : (i 2).val < 1 := (i 2).isLt
    have h3 : (i 3).val < 1 := (i 3).isLt
    have e' : n.val = (((i 0).val * 16384 + (i 1).val) * 1 + (i 2).val) * 1 + (i 3).val := e
    omega
  funext j
  have h0 : (j 0).val < 1 := (j 0).isLt
  have h1 : (j 1).val < 16384 := (j 1).isLt
  have h2 : (j 2).val < 4 := (j 2).isLt
  have h3 : (j 3).val < 256 := (j 3).isLt
  unfold Ideal.hostReduceWindowAdd Host.reduceWindow
  refine (foldl_real _ (fun n => if lo ≤ (j 1).val + n ∧ (j 1).val + n - lo < 16384 then f (j 0).val ((j 1).val + n - lo) (j 2).val (j 3).val else 0)
    _ fun n => ?_).trans ?_
  · obtain ⟨s0, s1, s2, s3⟩ := sym n
    split
    · next hin =>
      have h1 : lo ≤ (j 1).val * 1 + ((⟨4, ![1, 16384, 1, 1]⟩ : Shape).rowMajor.symm n 1).val ∧
        (j 1).val * 1 + ((⟨4, ![1, 16384, 1, 1]⟩ : Shape).rowMajor.symm n 1).val - lo < 16384 := hin 1
      rw [s1, Nat.mul_one] at h1
      show ((f ((j 0).val * 1 + ((⟨4, ![1, 16384, 1, 1]⟩ : Shape).rowMajor.symm n 0).val - 0)
        ((j 1).val * 1 + ((⟨4, ![1, 16384, 1, 1]⟩ : Shape).rowMajor.symm n 1).val - lo)
        ((j 2).val * 1 + ((⟨4, ![1, 16384, 1, 1]⟩ : Shape).rowMajor.symm n 2).val - 0)
        ((j 3).val * 1 + ((⟨4, ![1, 16384, 1, 1]⟩ : Shape).rowMajor.symm n 3).val - 0) : ℝ) : EReal) = _
      rw [if_pos h1, s0, s1, s2, s3]
      simp only [Nat.mul_one, Nat.add_zero, Nat.sub_zero]
    · next hin =>
      rw [if_neg]
      · rfl
      · intro hc
        apply hin
        intro a
        fin_cases a
        · show 0 ≤ (j 0).val * 1 + ((⟨4, ![1, 16384, 1, 1]⟩ : Shape).rowMajor.symm n 0).val ∧ (j 0).val * 1 + ((⟨4, ![1, 16384, 1, 1]⟩ : Shape).rowMajor.symm n 0).val - 0 < 1
          omega
        · show lo ≤ (j 1).val * 1 + ((⟨4, ![1, 16384, 1, 1]⟩ : Shape).rowMajor.symm n 1).val ∧ (j 1).val * 1 + ((⟨4, ![1, 16384, 1, 1]⟩ : Shape).rowMajor.symm n 1).val - lo < 16384
          omega
        · show 0 ≤ (j 2).val * 1 + ((⟨4, ![1, 16384, 1, 1]⟩ : Shape).rowMajor.symm n 2).val ∧ (j 2).val * 1 + ((⟨4, ![1, 16384, 1, 1]⟩ : Shape).rowMajor.symm n 2).val - 0 < 4
          omega
        · show 0 ≤ (j 3).val * 1 + ((⟨4, ![1, 16384, 1, 1]⟩ : Shape).rowMajor.symm n 3).val ∧ (j 3).val * 1 + ((⟨4, ![1, 16384, 1, 1]⟩ : Shape).rowMajor.symm n 3).val - 0 < 256
          omega
  · rw [show (⟨S1x16384x4x256.rank, ![1, 16384, 1, 1]⟩ : Shape).numel = 16384 from hnum]
    rfl

/-- The sum of the rows up to each row. -/
theorem window_back (f : ℕ → ℝ) (p : ℕ) (hp : p < 16384) :
    (∑ n ∈ Finset.range 16384, if 16383 ≤ p + n ∧ p + n - 16383 < 16384 then f (p + n - 16383) else 0) = ∑ n ∈ Finset.range (p + 1), f n := by
  rw [← Finset.sum_filter]
  refine Finset.sum_nbij' (fun n => p + n - 16383) (fun n => n + 16383 - p) ?_ ?_ ?_ ?_ ?_ <;>
    simp only [Finset.mem_filter, Finset.mem_range] <;> intro n hn <;> first | omega | rfl | trivial

/-- The sum of the rows from each row on. -/
theorem window_ahead (f : ℕ → ℝ) (p : ℕ) (hp : p < 16384) :
    (∑ n ∈ Finset.range 16384, if 0 ≤ p + n ∧ p + n - 0 < 16384 then f (p + n - 0) else 0) = ∑ n ∈ Finset.Ico p 16384, f n := by
  rw [← Finset.sum_filter]
  refine Finset.sum_nbij' (fun n => p + n) (fun n => n - p) ?_ ?_ ?_ ?_ ?_ <;>
    simp only [Finset.mem_filter, Finset.mem_range, Finset.mem_Ico] <;> intro n hn <;> first | omega | rfl | trivial

variable (D : Args)

/-- The arguments' arrays. -/
abbrev a0 : FVec Ideal S16384x1024 .f32 := L2 D.X
abbrev a1 : FVec Ideal S16384x1024 .f32 := L2 D.D2
abbrev a2 : FVec Ideal S16384x1024 .bf16 := L2 D.DA
abbrev a3 : FVec Ideal S1x1024 .f32 := L2 D.gp
abbrev a4 : FVec Ideal S4x256x256 .f32 := L3 D.W
abbrev a5 : FVec Ideal S1x1024 .f32 := L2 D.sc
abbrev a6 : FVec Ideal S1x1024 .f32 := L2 D.go
abbrev a7 : FVec Ideal S1x1024 .f32 := L2 D.gf

theorem v0 : val_main_v0 (F := Ideal) (a0 D) = L3 fun _ p c => D.X p c := by
  funext j
  idx_vars j
  pointwise [val_main_v0, a0]
  rfl

theorem v12 : val_main_v12 (F := Ideal) (a0 D) = L3 fun _ p _ => rms D.X p := by
  funext j
  idx_vars j
  pointwise [val_main_v12, val_main_v11, val_main_v10, val_main_v9, val_main_v8, val_main_v7, val_main_v6, val_main_v5, val_main_v0,
    val_main_cst, val_main_cst_0, val_main_cst_1]
  simp only [L2_apply, ← EReal.coe_mul, coe_sum, lit_1024, lit_eps, div_1024, ← EReal.coe_add, rsqrt_msq, rms]
  rfl

theorem v17 : val_main_v17 (F := Ideal) (a0 D) = L3 fun _ p c => D.X p c * rms D.X p := by
  unfold val_main_v17 val_main_v16
  rw [v0, v12]
  funext j
  idx_vars j
  pointwise []
  rfl

theorem v21 : val_main_v21 (F := Ideal) (a0 D) (a3 D) = L4 fun _ p g c => D.hn p (256 * g + c) := by
  unfold val_main_v21 val_main_v20
  rw [v17]
  funext j
  idx_vars j
  pointwise [val_main_v19, val_main_v18, val_main_v1]
  simp only [L2_apply, L3_apply, L4_apply, ← EReal.coe_mul, Nat.mul_comm j2.val]
  rfl

theorem v22 : val_main_v22 (F := Ideal) (a0 D) (a3 D) = L4 fun _ p g c => ∑ n ∈ Finset.range (p + 1), D.hn n (256 * g + c) := by
  have e : val_main_call0_call0_v0 (F := Ideal) (Shape.Idx.first h_S_) = 0 := by
    pointwise [val_main_call0_call0_v0, val_main_call0_call0_cst]
  unfold val_main_v22 Host.reduceWindowAdd
  rw [v21, e, Ideal.hostReduceWindowAdd_def, window_sum]
  funext j
  exact congrArg (fun x : ℝ => (x : EReal)) (window_back (fun n => D.hn n (256 * (j 2).val + (j 3).val)) _ (j 1).isLt)

/-- The number of rows in a window, as the reference counts it. -/
theorem count (p w : ℕ) (hp : p < 16384) (hw : w ≤ 16) :
    FloatOps.sitofp (F := Ideal) FTy.f32 (IntOp.minsi (IntOp.addi (BitVec.ofNat 32 p) 1#32) (BitVec.ofNat 32 w)) = ((Args.cnt w p : ℝ) : EReal) := by
  have e : IntOp.minsi (IntOp.addi (BitVec.ofNat 32 p) 1#32) (BitVec.ofNat 32 w) = BitVec.ofNat 32 (min (p + 1) w) := by
    have e1 : IntOp.addi (BitVec.ofNat 32 p) 1#32 = BitVec.ofNat 32 (p + 1) := by
      apply BitVec.eq_of_toNat_eq
      simp [IntOp.addi]
    rw [e1]
    apply BitVec.eq_of_toNat_eq
    rw [WordArith.toNat_minsi_of_lt _ _ (by simp; omega) (by simp; omega)]
    simp
    omega
  rw [e]
  have e2 : (BitVec.ofNat 32 (min (p + 1) w)).toInt = ((min (p + 1) w : ℕ) : ℤ) := by
    rw [BitVec.toInt_eq_toNat_of_lt (by simp; omega)]
    simp
    omega
  show (((BitVec.ofNat 32 (min (p + 1) w)).toInt : ℝ) : EReal) = _
  rw [e2, Int.cast_natCast]
  rfl

theorem v35 : val_main_v35 (F := Ideal) = L3 fun _ p _ => Args.cnt 2 p := by
  funext j
  idx_vars j
  pointwise [val_main_v35, val_main_v34, val_main_v33, val_main_v32, val_main_v31, val_main_v30, val_main_v23, val_main_c, val_main_c_5]
  exact count _ 2 j1.isLt (by norm_num)

theorem v53 : val_main_v53 (F := Ideal) = L3 fun _ p _ => Args.cnt 4 p := by
  funext j
  idx_vars j
  pointwise [val_main_v53, val_main_v52, val_main_v51, val_main_v50, val_main_v49, val_main_v48, val_main_v23, val_main_c_8, val_main_c_9]
  exact count _ 4 j1.isLt (by norm_num)

theorem v71 : val_main_v71 (F := Ideal) = L3 fun _ p _ => Args.cnt 8 p := by
  funext j
  idx_vars j
  pointwise [val_main_v71, val_main_v70, val_main_v69, val_main_v68, val_main_v67, val_main_v66, val_main_v23, val_main_c_12, val_main_c_13]
  exact count _ 8 j1.isLt (by norm_num)

theorem v89 : val_main_v89 (F := Ideal) = L3 fun _ p _ => Args.cnt 16 p := by
  funext j
  idx_vars j
  pointwise [val_main_v89, val_main_v88, val_main_v87, val_main_v86, val_main_v85, val_main_v84, val_main_v23, val_main_c_16, val_main_c_17]
  exact count _ 16 j1.isLt (by norm_num)

theorem cnt_pos (w p : ℕ) (hw : 0 < w) : 0 < Args.cnt w p := by
  have : 0 < min (p + 1) w := by omega
  unfold Args.cnt
  exact_mod_cast this

/-- A running sum less the running sum `w` rows before is the sum of the window's rows. -/
theorem window_diff (f : ℕ → ℝ) (w p : ℕ) :
    (∑ n ∈ Finset.range (p + 1), f n) - (if p < w then 0 else ∑ n ∈ Finset.range (p - w + 1), f n) =
    ∑ k ∈ Finset.range w, if k ≤ p then f (p - k) else 0 := by
  rw [← Finset.sum_filter]
  have e : ∀ a, a ≤ p + 1 → (∑ n ∈ Finset.range (p + 1), f n) - ∑ n ∈ Finset.range a, f n = ∑ n ∈ Finset.Ico a (p + 1), f n := fun a ha =>
    (Finset.sum_Ico_eq_sub f ha).symm
  have e2 : ∀ a, (∀ k, (k < w ∧ k ≤ p) ↔ (a + k ≤ p)) → (∑ n ∈ Finset.Ico a (p + 1), f n) = ∑ k ∈ (Finset.range w).filter (fun k => k ≤ p), f (p - k) := by
    intro a h
    refine Finset.sum_nbij' (fun n => p - n) (fun k => p - k) ?_ ?_ ?_ ?_ ?_ <;>
      simp only [Finset.mem_filter, Finset.mem_range, Finset.mem_Ico, h] <;> intro n hn
    · omega
    · omega
    · omega
    · have := h n
      omega
    · rw [show p - (p - n) = n by omega]
  split_ifs with hc
  · rw [sub_zero, ← e2 0 (fun k => by omega), Finset.range_eq_Ico]
  · rw [e _ (by omega), e2 _ (fun k => by omega)]

/-- A group's pooled rows as the reference computes them: running sums differenced, divided by the count. -/
theorem pooled_of (f : ℕ → ℝ) (w p : ℕ) (hw : 0 < w) (s : EReal)
    (hs : s = (((if p < w then 0 else ∑ n ∈ Finset.range (p - w + 1), f n) : ℝ) : EReal)) :
    Ideal.div ((((∑ n ∈ Finset.range (p + 1), f n) : ℝ) : EReal) - s) ((Args.cnt w p : ℝ) : EReal) - ((f p : ℝ) : EReal) =
    (((∑ k ∈ Finset.range w, if k ≤ p then f (p - k) else 0) / Args.cnt w p - f p : ℝ) : EReal) := by
  rw [hs, ← EReal.coe_sub, window_diff, div_real _ _ (cnt_pos w p hw).ne', ← EReal.coe_sub]

theorem v41 : val_main_v41 (F := Ideal) (a0 D) (a3 D) = L3 fun _ p c => D.pooled p c := by
  unfold val_main_v41 val_main_v40 val_main_v39 val_main_v38 val_main_v37 val_main_v36 val_main_v28 val_main_v27 val_main_v25 val_main_v24
  rw [v21, v22, v35]
  funext j
  idx_vars j
  have hj := j2.isLt
  pointwise [val_main_v26, val_main_cst_3]
  refine (pooled_of (fun n => D.hn n (256 * 0 + j2.val)) 2 j1.val (by norm_num) _ ?_).trans ?_
  · split_ifs <;> rfl
  · simp only [L3_apply, Args.pooled, Args.wsum, show j2.val / 256 = 0 by omega, Nat.zero_add, Nat.mul_zero, pow_one]

theorem v59 : val_main_v59 (F := Ideal) (a0 D) (a3 D) = L3 fun _ p c => D.pooled p (256 + c) := by
  unfold val_main_v59 val_main_v58 val_main_v57 val_main_v56 val_main_v55 val_main_v54 val_main_v46 val_main_v45 val_main_v43 val_main_v42
  rw [v21, v22, v53]
  funext j
  idx_vars j
  have hj := j2.isLt
  pointwise [val_main_v44, val_main_cst_6]
  refine (pooled_of (fun n => D.hn n (256 * 1 + j2.val)) 4 j1.val (by norm_num) _ ?_).trans ?_
  · split_ifs <;> rfl
  · simp only [L3_apply, Args.pooled, Args.wsum, show (256 + j2.val) / 256 = 1 by omega, Nat.mul_one]
    rfl

theorem v77 : val_main_v77 (F := Ideal) (a0 D) (a3 D) = L3 fun _ p c => D.pooled p (512 + c) := by
  unfold val_main_v77 val_main_v76 val_main_v75 val_main_v74 val_main_v73 val_main_v72 val_main_v64 val_main_v63 val_main_v61 val_main_v60
  rw [v21, v22, v71]
  funext j
  idx_vars j
  have hj := j2.isLt
  pointwise [val_main_v62, val_main_cst_10]
  refine (pooled_of (fun n => D.hn n (256 * 2 + j2.val)) 8 j1.val (by norm_num) _ ?_).trans ?_
  · split_ifs <;> rfl
  · simp only [L3_apply, Args.pooled, Args.wsum, show (512 + j2.val) / 256 = 2 by omega]
    rfl

theorem v95 : val_main_v95 (F := Ideal) (a0 D) (a3 D) = L3 fun _ p c => D.pooled p (768 + c) := by
  unfold val_main_v95 val_main_v94 val_main_v93 val_main_v92 val_main_v91 val_main_v90 val_main_v82 val_main_v81 val_main_v79 val_main_v78
  rw [v21, v22, v89]
  funext j
  idx_vars j
  have hj := j2.isLt
  pointwise [val_main_v80, val_main_cst_14]
  refine (pooled_of (fun n => D.hn n (256 * 3 + j2.val)) 16 j1.val (by norm_num) _ ?_).trans ?_
  · split_ifs <;> rfl
  · simp only [L3_apply, Args.pooled, Args.wsum, show (768 + j2.val) / 256 = 3 by omega]
    rfl

theorem v100 : val_main_v100 (F := Ideal) (a0 D) (a3 D) = L4 fun _ p g c => D.pooled p (256 * g + c) := by
  unfold val_main_v100 val_main_v99 val_main_v98 val_main_v97 val_main_v96
  rw [v41, v59, v77, v95]
  funext j
  idx_vars j
  have hj := j2.isLt
  pointwise []
  split_ifs with h1 h2 h3
  · have : j2.val = 0 := by omega
    simp only [L3_apply, L4_apply, this, Nat.mul_zero, Nat.zero_add]
  · have : j2.val = 1 := by omega
    simp only [L3_apply, L4_apply, this, Nat.mul_one]
  · have : j2.val = 2 := by omega
    simp only [L3_apply, L4_apply, this]
  · have : j2.val = 3 := by omega
    simp only [L3_apply, L4_apply, this]

theorem v103 : val_main_v103 (F := Ideal) (a0 D) (a3 D) (a4 D) = L3 fun _ p c => D.y p c := by
  unfold val_main_v103 val_main_v102 val_main_v101
  rw [v100]
  funext j
  idx_vars j
  pointwise []
  simp only [L3_apply, L4_apply, ← EReal.coe_mul, coe_sum]
  exact congrArg (fun x : ℝ => (x : EReal)) (Finset.sum_congr rfl fun k _ => mul_comm _ _)

theorem v106 : val_main_v106 (F := Ideal) (a0 D) (a3 D) (a4 D) (a5 D) = L3 fun _ p c => D.m p c := by
  unfold val_main_v106
  rw [v103]
  funext j
  idx_vars j
  pointwise [val_main_v105, val_main_v104, val_main_v2]
  simp only [L2_apply, L3_apply, ← EReal.coe_mul]
  rfl

theorem v114 : val_main_v114 (F := Ideal) (a0 D) (a3 D) (a4 D) (a5 D) = L3 fun _ p _ => rms D.m p := by
  unfold val_main_v114 val_main_v113 val_main_v111 val_main_v109 val_main_v108 val_main_v107
  rw [v106]
  funext j
  idx_vars j
  pointwise [val_main_v110, val_main_v112, val_main_cst_18, val_main_cst_19, val_main_cst_20]
  simp only [L3_apply, ← EReal.coe_mul, coe_sum, lit_1024, lit_eps, div_1024, ← EReal.coe_add, rsqrt_msq, rms]

theorem v123 : val_main_v123 (F := Ideal) (a0 D) (a3 D) (a4 D) (a5 D) (a6 D) = L3 fun _ p c => D.h1 p c := by
  unfold val_main_v123 val_main_v122 val_main_v119 val_main_v118
  rw [v106, v114, v0]
  funext j
  idx_vars j
  pointwise [val_main_v121, val_main_v120, val_main_v3]
  simp only [L2_apply, L3_apply, ← EReal.coe_mul, ← EReal.coe_add]
  rfl

theorem v131 : val_main_v131 (F := Ideal) (a0 D) (a3 D) (a4 D) (a5 D) (a6 D) = L3 fun _ p _ => rms D.h1 p := by
  unfold val_main_v131 val_main_v130 val_main_v128 val_main_v126 val_main_v125 val_main_v124
  rw [v123]
  funext j
  idx_vars j
  pointwise [val_main_v127, val_main_v129, val_main_cst_22, val_main_cst_23, val_main_cst_24]
  simp only [L3_apply, ← EReal.coe_mul, coe_sum, lit_1024, lit_eps, div_1024, ← EReal.coe_add, rsqrt_msq, rms]

/-- A sum over the first and last axes, each of one index. -/
theorem reduce02 (h : S1x16384x1.ReducesTo [0, 2] S16384) (v : S1x16384x1.Idx → EReal) (init : EReal) (j : S16384.Idx) :
    Ideal.hostReduceAdd h v init j = init + v (ix3 0 ⟨(j 0).val, (j 0).isLt⟩ 0) := by
  refine congrArg (init + ·) ?_
  refine Finset.sum_eq_single_of_mem (ix3 0 ⟨(j 0).val, (j 0).isLt⟩ 0 : S1x16384x1.Idx) ?_ ?_
  · refine Finset.mem_filter.2 ⟨Finset.mem_univ _, ?_⟩
    funext b
    match b with
    | ⟨0, _⟩ => rfl
  · intro i hi hne
    refine absurd ?_ hne
    have e := congrFun (Finset.mem_filter.1 hi).2 0
    funext a
    apply Fin.ext
    match a with
    | ⟨0, _⟩ => exact Nat.lt_one_iff.1 (i 0).isLt
    | ⟨1, _⟩ => exact congrArg Fin.val e
    | ⟨2, _⟩ => exact Nat.lt_one_iff.1 (i 2).isLt

/-- A sum over the first two axes, each of one index. -/
theorem reduce01 (h : S1x1x1024.ReducesTo [0, 1] S1024) (v : S1x1x1024.Idx → EReal) (init : EReal) (j : S1024.Idx) :
    Ideal.hostReduceAdd h v init j = init + v (ix3 0 0 ⟨(j 0).val, (j 0).isLt⟩) := by
  refine congrArg (init + ·) ?_
  refine Finset.sum_eq_single_of_mem (ix3 0 0 ⟨(j 0).val, (j 0).isLt⟩ : S1x1x1024.Idx) ?_ ?_
  · refine Finset.mem_filter.2 ⟨Finset.mem_univ _, ?_⟩
    funext b
    match b with
    | ⟨0, _⟩ => rfl
  · intro i hi hne
    refine absurd ?_ hne
    have e := congrFun (Finset.mem_filter.1 hi).2 0
    funext a
    apply Fin.ext
    match a with
    | ⟨0, _⟩ => exact Nat.lt_one_iff.1 (i 0).isLt
    | ⟨1, _⟩ => exact Nat.lt_one_iff.1 (i 1).isLt
    | ⟨2, _⟩ => exact congrArg Fin.val e

/-- The reciprocal root of a mean of squares divided by the mean of squares is the root's cube. -/
theorem rsqrt_cube (f : Fin 1024 → ℝ) :
    Ideal.div (((Real.sqrt ((∑ k : Fin 1024, f k * f k) / 1024 + eps))⁻¹ : ℝ) : EReal) (((∑ k : Fin 1024, f k * f k) / 1024 + eps : ℝ) : EReal)
      = (((Real.sqrt ((∑ k : Fin 1024, f k * f k) / 1024 + eps))⁻¹ * (Real.sqrt ((∑ k : Fin 1024, f k * f k) / 1024 + eps))⁻¹ *
          (Real.sqrt ((∑ k : Fin 1024, f k * f k) / 1024 + eps))⁻¹ : ℝ) : EReal) := by
  have hp := msq_pos f
  rw [div_real _ _ hp.ne']
  refine congrArg (fun x : ℝ => (x : EReal)) ?_
  rw [mul_assoc, ← mul_inv, Real.mul_self_sqrt hp.le, div_eq_mul_inv]

theorem v15 : val_main_v15 (F := Ideal) (a0 D) = L3 fun _ p _ => -(1 / 2) * (rms D.X p * rms D.X p * rms D.X p) := by
  unfold val_main_v15 val_main_v13
  rw [v12]
  funext j
  idx_vars j
  pointwise [val_main_v14, val_main_cst_2, val_main_v11, val_main_v10, val_main_v9, val_main_v8, val_main_v7, val_main_v6, val_main_v5, val_main_v0,
    val_main_cst, val_main_cst_0, val_main_cst_1]
  simp only [L2_apply, L3_apply, ← EReal.coe_mul, coe_sum, lit_1024, lit_eps, lit_neg_half, div_1024, ← EReal.coe_add, rsqrt_cube, rms]

theorem v117 : val_main_v117 (F := Ideal) (a0 D) (a3 D) (a4 D) (a5 D) = L3 fun _ p _ => -(1 / 2) * (rms D.m p * rms D.m p * rms D.m p) := by
  unfold val_main_v117 val_main_v115 val_main_v113 val_main_v111 val_main_v109 val_main_v108 val_main_v107
  rw [v114, v106]
  funext j
  idx_vars j
  pointwise [val_main_v116, val_main_cst_21, val_main_v110, val_main_v112, val_main_cst_18, val_main_cst_19, val_main_cst_20]
  simp only [L3_apply, ← EReal.coe_mul, coe_sum, lit_1024, lit_eps, lit_neg_half, div_1024, ← EReal.coe_add, rsqrt_cube, rms]

theorem v134 : val_main_v134 (F := Ideal) (a0 D) (a3 D) (a4 D) (a5 D) (a6 D) = L3 fun _ p _ => -(1 / 2) * (rms D.h1 p * rms D.h1 p * rms D.h1 p) := by
  unfold val_main_v134 val_main_v132 val_main_v130 val_main_v128 val_main_v126 val_main_v125 val_main_v124
  rw [v131, v123]
  funext j
  idx_vars j
  pointwise [val_main_v133, val_main_cst_25, val_main_v127, val_main_v129, val_main_cst_22, val_main_cst_23, val_main_cst_24]
  simp only [L3_apply, ← EReal.coe_mul, coe_sum, lit_1024, lit_eps, lit_neg_half, div_1024, ← EReal.coe_add, rsqrt_cube, rms]

/-- The normalised rows of the mixer's result. -/
theorem v119 : val_main_v119 (F := Ideal) (a0 D) (a3 D) (a4 D) (a5 D) = L3 fun _ p c => D.m p c * rms D.m p := by
  unfold val_main_v119 val_main_v118
  rw [v106, v114]
  funext j
  idx_vars j
  pointwise []
  simp only [L3_apply, ← EReal.coe_mul]

theorem v136 : val_main_v136 (F := Ideal) (a0 D) (a3 D) (a4 D) (a5 D) (a6 D) = L3 fun _ p c => D.h1 p c * rms D.h1 p := by
  unfold val_main_v136 val_main_v135
  rw [v123, v131]
  funext j
  idx_vars j
  pointwise []
  simp only [L3_apply, ← EReal.coe_mul]

theorem v142 : val_main_v142 (F := Ideal) (a2 D) = L3 fun _ p c => D.DA p c := by
  funext j
  idx_vars j
  pointwise [val_main_v142, val_main_v141]
  rfl

theorem v147 : val_main_v147 (F := Ideal) (a2 D) (a7 D) = L3 fun _ p c => D.DA p c * D.gf 0 c := by
  unfold val_main_v147
  rw [v142]
  funext j
  idx_vars j
  pointwise [val_main_v146, val_main_v137, val_main_v4]
  simp only [L2_apply, L3_apply, ← EReal.coe_mul]
  rfl

theorem v148 : val_main_v148 (F := Ideal) (a0 D) (a2 D) (a3 D) (a4 D) (a5 D) (a6 D) = fun j => ((D.dgffn (j 0).val : ℝ) : EReal) := by
  unfold val_main_v148 val_main_v145 val_main_v144 val_main_v143
  rw [v136, v142]
  funext j
  idx_vars j
  pointwise [val_main_cst_26, val_main_cst_27, reduce01]
  simp only [L3_apply, ← EReal.coe_mul, coe_sum]
  exact congrArg (fun x : ℝ => (x : EReal)) (Finset.sum_congr rfl fun k _ => mul_comm _ _)

/-- The row factor of a normalisation's backward pass. -/
theorem v160 : val_main_v160 (F := Ideal) (a0 D) (a2 D) (a3 D) (a4 D) (a5 D) (a6 D) (a7 D) =
    L3 fun _ p _ => (∑ k : Fin 1024, D.h1 p k * (D.DA p k * D.gf 0 k)) * (-(1 / 2) * (rms D.h1 p * rms D.h1 p * rms D.h1 p)) / 1024 := by
  unfold val_main_v160 val_main_v159 val_main_v158 val_main_v157 val_main_v155 val_main_v151 val_main_v150 val_main_v149
  rw [v123, v147, v134]
  funext j
  idx_vars j
  pointwise [val_main_v156, val_main_cst_28, val_main_cst_29, val_main_cst_30, reduce02]
  simp only [L3_apply, ← EReal.coe_mul, coe_sum, lit_1024, div_1024]

/-- The backward pass of a normalisation, as the reference writes it, is the one with the cube of the root. -/
theorem back_of (x gy : ℕ → ℕ → ℝ) (p c : ℕ) (r : ℕ → ℝ) :
    gy p c * r p + x p c * ((∑ k : Fin 1024, x p k * gy p k) * (-(1 / 2) * (r p * r p * r p)) / 1024) +
      (∑ k : Fin 1024, x p k * gy p k) * (-(1 / 2) * (r p * r p * r p)) / 1024 * x p c = rmsBack x r gy p c := by
  have e : (∑ k : Fin 1024, x p k * gy p k) = ∑ k : Fin 1024, gy p k * x p k := Finset.sum_congr rfl fun k _ => mul_comm _ _
  unfold rmsBack
  rw [e]
  ring

theorem v164 : val_main_v164 (F := Ideal) (a0 D) (a1 D) (a2 D) (a3 D) (a4 D) (a5 D) (a6 D) (a7 D) = L3 fun _ p c => D.dh1 p c := by
  unfold val_main_v164 val_main_v163 val_main_v162 val_main_v161 val_main_v154 val_main_v153 val_main_v152
  rw [v160, v123, v147, v131]
  funext j
  idx_vars j
  pointwise [val_main_v140]
  simp only [L3_apply, L2_apply, ← EReal.coe_mul, ← EReal.coe_add]
  refine congrArg (fun x : ℝ => (x : EReal)) ?_
  unfold Args.dh1
  rw [← back_of, add_assoc, add_assoc, add_assoc]

theorem v169 : val_main_v169 (F := Ideal) (a0 D) (a1 D) (a2 D) (a3 D) (a4 D) (a5 D) (a6 D) (a7 D) = L3 fun _ p c => D.dh1 p c * D.go 0 c := by
  unfold val_main_v169
  rw [v164]
  funext j
  idx_vars j
  pointwise [val_main_v168, val_main_v120, val_main_v3]
  simp only [L2_apply, L3_apply, ← EReal.coe_mul]
  rfl

theorem v170 : val_main_v170 (F := Ideal) (a0 D) (a1 D) (a2 D) (a3 D) (a4 D) (a5 D) (a6 D) (a7 D) = fun j => ((D.dgpost (j 0).val : ℝ) : EReal) := by
  unfold val_main_v170 val_main_v167 val_main_v166 val_main_v165
  rw [v119, v164]
  funext j
  idx_vars j
  pointwise [val_main_cst_31, val_main_cst_32, reduce01]
  simp only [L3_apply, ← EReal.coe_mul, coe_sum]
  exact congrArg (fun x : ℝ => (x : EReal)) (Finset.sum_congr rfl fun k _ => mul_comm _ _)

theorem v181 : val_main_v181 (F := Ideal) (a0 D) (a1 D) (a2 D) (a3 D) (a4 D) (a5 D) (a6 D) (a7 D) =
    L3 fun _ p _ => (∑ k : Fin 1024, D.m p k * (D.dh1 p k * D.go 0 k)) * (-(1 / 2) * (rms D.m p * rms D.m p * rms D.m p)) / 1024 := by
  unfold val_main_v181 val_main_v180 val_main_v179 val_main_v178 val_main_v176 val_main_v173 val_main_v172 val_main_v171
  rw [v106, v169, v117]
  funext j
  idx_vars j
  pointwise [val_main_v177, val_main_cst_33, val_main_cst_34, val_main_cst_35, reduce02]
  simp only [L3_apply, ← EReal.coe_mul, coe_sum, lit_1024, div_1024]

theorem v185 : val_main_v185 (F := Ideal) (a0 D) (a1 D) (a2 D) (a3 D) (a4 D) (a5 D) (a6 D) (a7 D) = L3 fun _ p c => D.dm p c := by
  unfold val_main_v185 val_main_v184 val_main_v183 val_main_v182 val_main_v175 val_main_v174
  rw [v181, v106, v169, v114]
  funext j
  idx_vars j
  pointwise []
  simp only [L3_apply, L2_apply, ← EReal.coe_mul, ← EReal.coe_add]
  refine congrArg (fun x : ℝ => (x : EReal)) ?_
  unfold Args.dm
  rw [← back_of]

theorem v191 : val_main_v191 (F := Ideal) (a0 D) (a1 D) (a2 D) (a3 D) (a4 D) (a5 D) (a6 D) (a7 D) = fun j => ((D.dscale (j 0).val : ℝ) : EReal) := by
  unfold val_main_v191 val_main_v188 val_main_v187 val_main_v186
  rw [v103, v185]
  funext j
  idx_vars j
  pointwise [val_main_cst_36, val_main_cst_37, reduce01]
  simp only [L3_apply, ← EReal.coe_mul, coe_sum]
  exact congrArg (fun x : ℝ => (x : EReal)) (Finset.sum_congr rfl fun k _ => mul_comm _ _)

theorem v190 : val_main_v190 (F := Ideal) (a0 D) (a1 D) (a2 D) (a3 D) (a4 D) (a5 D) (a6 D) (a7 D) = L3 fun _ p c => D.dy p c := by
  unfold val_main_v190
  rw [v185]
  funext j
  idx_vars j
  pointwise [val_main_v189, val_main_v104, val_main_v2]
  simp only [L2_apply, L3_apply, ← EReal.coe_mul]
  rfl

theorem v193 : val_main_v193 (F := Ideal) (a0 D) (a1 D) (a2 D) (a3 D) (a4 D) (a5 D) (a6 D) (a7 D) = L4 fun g c _ p => D.dy p (256 * g + c) := by
  unfold val_main_v193 val_main_v192
  rw [v190]
  funext j
  idx_vars j
  pointwise []
  simp only [L3_apply, L4_apply, Nat.mul_comm j0.val]

theorem v195 : val_main_v195 (F := Ideal) (a0 D) (a1 D) (a2 D) (a3 D) (a4 D) (a5 D) (a6 D) (a7 D) = L4 fun _ p g c => D.dpooled p (256 * g + c) := by
  unfold val_main_v195 val_main_v194
  rw [v193]
  funext j
  idx_vars j
  have hj := j3.isLt
  pointwise []
  simp only [L3_apply, L4_apply, ← EReal.coe_mul, coe_sum]
  simp only [Args.dpooled, show (256 * j2.val + j3.val) / 256 = j2.val by omega, show (256 * j2.val + j3.val) % 256 = j3.val by omega]

theorem v197 : val_main_v197 (F := Ideal) (a0 D) (a1 D) (a2 D) (a3 D) (a4 D) (a5 D) (a6 D) (a7 D) = L3 fun g a b => D.dpw g a b := by
  unfold val_main_v197 val_main_v196
  rw [v193, v100]
  funext j
  idx_vars j
  pointwise []
  rw [Fin.sum_univ_one]
  simp only [L3_apply, L4_apply, ← EReal.coe_mul, coe_sum]
  exact congrArg (fun x : ℝ => (x : EReal)) (Finset.sum_congr rfl fun k _ => mul_comm _ _)

/-- A row's share of the window sums' gradient less the share of the row `w` on, none past the last row. -/
theorem share (f : ℕ → ℝ) (w p : ℕ) (hw : 0 < w) (s : EReal)
    (hs : s = (((if p + w < 16384 then -(f (p + w) / Args.cnt w (p + w)) else 0) : ℝ) : EReal)) :
    Ideal.div ((f p : ℝ) : EReal) ((Args.cnt w p : ℝ) : EReal) + s =
      ((f p / Args.cnt w p - (if p + w < 16384 then f (p + w) / Args.cnt w (p + w) else 0) : ℝ) : EReal) := by
  rw [hs, div_real _ _ (cnt_pos w p hw).ne', ← EReal.coe_add]
  refine congrArg (fun x : ℝ => (x : EReal)) ?_
  split_ifs <;> ring

theorem v199 : val_main_v199 (F := Ideal) (a0 D) (a1 D) (a2 D) (a3 D) (a4 D) (a5 D) (a6 D) (a7 D) = L3 fun _ p c => D.dpooled p c := by
  unfold val_main_v199 val_main_v198
  rw [v195]
  funext j
  idx_vars j
  pointwise []
  simp [L3_apply, L4_apply]

theorem v256 : val_main_v256 (F := Ideal) (a0 D) (a1 D) (a2 D) (a3 D) (a4 D) (a5 D) (a6 D) (a7 D) =
    L3 fun _ p c => D.dpc p c - (if p + 2 < 16384 then D.dpc (p + 2) c else 0) := by
  unfold val_main_v256 val_main_v255 val_main_v254 val_main_v252 val_main_v251 val_main_v250
  rw [v199, v35]
  funext j
  idx_vars j
  have hj := j2.isLt
  pointwise [val_main_cst_48]
  refine (share (fun n => D.dpooled n j2.val) 2 j1.val (by norm_num) _ ?_).trans ?_
  · simp only [L3_apply, Nat.add_comm 2 j1.val]
    rw [div_real _ _ (cnt_pos 2 _ (by norm_num)).ne']
    split_ifs with h1 h2 h2
    · exact (EReal.coe_neg _).symm
    · omega
    · omega
    · rfl
  · simp only [L3_apply, Args.dpc, show j2.val / 256 = 0 by omega]
    rfl

theorem v201 : val_main_v201 (F := Ideal) (a0 D) (a1 D) (a2 D) (a3 D) (a4 D) (a5 D) (a6 D) (a7 D) = L3 fun _ p c => D.dpooled p (256 * 1 + c) := by
  unfold val_main_v201 val_main_v200
  rw [v195]
  funext j
  idx_vars j
  pointwise []
  rfl

theorem v242 : val_main_v242 (F := Ideal) (a0 D) (a1 D) (a2 D) (a3 D) (a4 D) (a5 D) (a6 D) (a7 D) =
    L3 fun _ p c => D.dpc p (256 * 1 + c) - (if p + 4 < 16384 then D.dpc (p + 4) (256 * 1 + c) else 0) := by
  unfold val_main_v242 val_main_v241 val_main_v240 val_main_v238 val_main_v237 val_main_v236
  rw [v201, v53]
  funext j
  idx_vars j
  have hj := j2.isLt
  pointwise [val_main_cst_45]
  refine (share (fun n => D.dpooled n (256 * 1 + j2.val)) 4 j1.val (by norm_num) _ ?_).trans ?_
  · simp only [L3_apply, Nat.add_comm 4 j1.val]
    rw [div_real _ _ (cnt_pos 4 _ (by norm_num)).ne']
    split_ifs with h1 h2 h2
    · exact (EReal.coe_neg _).symm
    · omega
    · omega
    · rfl
  · simp only [L3_apply, Args.dpc, show (256 * 1 + j2.val) / 256 = 1 by omega]
    rfl

theorem v203 : val_main_v203 (F := Ideal) (a0 D) (a1 D) (a2 D) (a3 D) (a4 D) (a5 D) (a6 D) (a7 D) = L3 fun _ p c => D.dpooled p (256 * 2 + c) := by
  unfold val_main_v203 val_main_v202
  rw [v195]
  funext j
  idx_vars j
  pointwise []
  rfl

theorem v228 : val_main_v228 (F := Ideal) (a0 D) (a1 D) (a2 D) (a3 D) (a4 D) (a5 D) (a6 D) (a7 D) =
    L3 fun _ p c => D.dpc p (256 * 2 + c) - (if p + 8 < 16384 then D.dpc (p + 8) (256 * 2 + c) else 0) := by
  unfold val_main_v228 val_main_v227 val_main_v226 val_main_v224 val_main_v223 val_main_v222
  rw [v203, v71]
  funext j
  idx_vars j
  have hj := j2.isLt
  pointwise [val_main_cst_42]
  refine (share (fun n => D.dpooled n (256 * 2 + j2.val)) 8 j1.val (by norm_num) _ ?_).trans ?_
  · simp only [L3_apply, Nat.add_comm 8 j1.val]
    rw [div_real _ _ (cnt_pos 8 _ (by norm_num)).ne']
    split_ifs with h1 h2 h2
    · exact (EReal.coe_neg _).symm
    · omega
    · omega
    · rfl
  · simp only [L3_apply, Args.dpc, show (256 * 2 + j2.val) / 256 = 2 by omega]
    rfl

theorem v205 : val_main_v205 (F := Ideal) (a0 D) (a1 D) (a2 D) (a3 D) (a4 D) (a5 D) (a6 D) (a7 D) = L3 fun _ p c => D.dpooled p (256 * 3 + c) := by
  unfold val_main_v205 val_main_v204
  rw [v195]
  funext j
  idx_vars j
  pointwise []
  rfl

theorem v215 : val_main_v215 (F := Ideal) (a0 D) (a1 D) (a2 D) (a3 D) (a4 D) (a5 D) (a6 D) (a7 D) =
    L3 fun _ p c => D.dpc p (256 * 3 + c) - (if p + 16 < 16384 then D.dpc (p + 16) (256 * 3 + c) else 0) := by
  unfold val_main_v215 val_main_v214 val_main_v213 val_main_v211 val_main_v210 val_main_v209
  rw [v205, v89]
  funext j
  idx_vars j
  have hj := j2.isLt
  pointwise [val_main_cst_39]
  refine (share (fun n => D.dpooled n (256 * 3 + j2.val)) 16 j1.val (by norm_num) _ ?_).trans ?_
  · simp only [L3_apply, Nat.add_comm 16 j1.val]
    rw [div_real _ _ (cnt_pos 16 _ (by norm_num)).ne']
    split_ifs with h1 h2 h2
    · exact (EReal.coe_neg _).symm
    · omega
    · omega
    · rfl
  · simp only [L3_apply, Args.dpc, show (256 * 3 + j2.val) / 256 = 3 by omega]
    rfl

/-- The part of the gradient that the row itself takes, over all four groups. -/
theorem v249 : val_main_v249 (F := Ideal) (a0 D) (a1 D) (a2 D) (a3 D) (a4 D) (a5 D) (a6 D) (a7 D) = L4 fun _ p g c => -D.dpooled p (256 * g + c) := by
  unfold val_main_v249 val_main_v248 val_main_v247 val_main_v246 val_main_v235 val_main_v234 val_main_v233 val_main_v232
    val_main_v221 val_main_v220 val_main_v219 val_main_v218 val_main_v208 val_main_v207 val_main_v206
  rw [v199, v201, v203, v205]
  funext j
  idx_vars j
  have hj := j2.isLt
  pointwise [val_main_cst_38, val_main_cst_41, val_main_cst_44, val_main_cst_47]
  have h : j2.val = 0 ∨ j2.val = 1 ∨ j2.val = 2 ∨ j2.val = 3 := by omega
  rcases h with h | h | h | h <;> simp [h, L3_apply, L4_apply]

theorem v259 : val_main_v259 (F := Ideal) (a0 D) (a1 D) (a2 D) (a3 D) (a4 D) (a5 D) (a6 D) (a7 D) =
    L4 fun _ p g c => D.dpc p (256 * g + c) - (if p + 2 ^ (g + 1) < 16384 then D.dpc (p + 2 ^ (g + 1)) (256 * g + c) else 0) := by
  unfold val_main_v259 val_main_v258 val_main_v257 val_main_v245 val_main_v244 val_main_v243
    val_main_v231 val_main_v230 val_main_v229 val_main_v217 val_main_v216
  rw [v215, v228, v242, v256]
  funext j
  idx_vars j
  have hj := j2.isLt
  pointwise [val_main_cst_40, val_main_cst_43, val_main_cst_46, val_main_cst_49]
  have h : j2.val = 0 ∨ j2.val = 1 ∨ j2.val = 2 ∨ j2.val = 3 := by omega
  rcases h with h | h | h | h <;> simp [h, L3_apply, L4_apply, -EReal.coe_sub]

theorem v260 : val_main_v260 (F := Ideal) (a0 D) (a1 D) (a2 D) (a3 D) (a4 D) (a5 D) (a6 D) (a7 D) = L4 fun _ p g c => ∑ n ∈ Finset.Ico p 16384,
    (D.dpc n (256 * g + c) - (if n + 2 ^ (g + 1) < 16384 then D.dpc (n + 2 ^ (g + 1)) (256 * g + c) else 0)) := by
  have e : val_main_call1_call0_v0 (F := Ideal) (Shape.Idx.first h_S_) = 0 := by
    pointwise [val_main_call1_call0_v0, val_main_call1_call0_cst]
  unfold val_main_v260 Host.reduceWindowAdd
  rw [v259, e, Ideal.hostReduceWindowAdd_def, window_sum]
  funext j
  exact congrArg (fun x : ℝ => (x : EReal)) (window_ahead (fun n => D.dpc n (256 * (j 2).val + (j 3).val) -
    (if n + 2 ^ ((j 2).val + 1) < 16384 then D.dpc (n + 2 ^ ((j 2).val + 1)) (256 * (j 2).val + (j 3).val) else 0)) _ (j 1).isLt)

/-- The sum from a row on of the shares' differences is the sum of the windows that the row lies in. -/
theorem ahead_diff (q : ℕ → ℝ) (w p : ℕ) (hp : p < 16384) :
    (∑ n ∈ Finset.Ico p 16384, (q n - (if n + w < 16384 then q (n + w) else 0))) = ∑ k ∈ Finset.range w, if p + k < 16384 then q (p + k) else 0 := by
  rw [Finset.sum_sub_distrib, ← Finset.sum_filter, ← Finset.sum_filter]
  have e : (∑ n ∈ (Finset.Ico p 16384).filter (fun n => n + w < 16384), q (n + w)) = ∑ n ∈ Finset.Ico (p + w) (max 16384 (p + w)), q n := by
    refine Finset.sum_nbij' (fun n => n + w) (fun n => n - w) ?_ ?_ ?_ ?_ ?_ <;>
      simp only [Finset.mem_filter, Finset.mem_Ico] <;> intro n hn <;> first | omega | rfl | trivial
  have e2 : (∑ k ∈ (Finset.range w).filter (fun k => p + k < 16384), q (p + k)) = ∑ n ∈ Finset.Ico p (min 16384 (p + w)), q n := by
    refine Finset.sum_nbij' (fun n => p + n) (fun n => n - p) ?_ ?_ ?_ ?_ ?_ <;>
      simp only [Finset.mem_filter, Finset.mem_range, Finset.mem_Ico] <;> intro n hn <;> first | omega | rfl | trivial
  rw [e, e2, sub_eq_iff_eq_add]
  rcases Nat.lt_or_ge 16384 (p + w) with h | h
  · rw [max_eq_right h.le, min_eq_left h.le, Finset.Ico_self, Finset.sum_empty, add_zero]
  · rw [max_eq_left h, min_eq_right h, Finset.sum_Ico_consecutive _ (by omega) h]

theorem v262 : val_main_v262 (F := Ideal) (a0 D) (a1 D) (a2 D) (a3 D) (a4 D) (a5 D) (a6 D) (a7 D) = L3 fun _ p c => D.dhn p c := by
  unfold val_main_v262 val_main_v261
  rw [v249, v260]
  funext j
  idx_vars j
  have hj := j2.isLt
  pointwise []
  simp only [L3_apply, L4_apply, ← EReal.coe_add]
  refine congrArg (fun x : ℝ => (x : EReal)) ?_
  rw [ahead_diff (fun n => D.dpc n (256 * (j2.val / 256) + j2.val % 256)) _ _ j1.isLt, Nat.div_add_mod]
  unfold Args.dhn Args.asum
  ring

theorem v267 : val_main_v267 (F := Ideal) (a0 D) (a1 D) (a2 D) (a3 D) (a4 D) (a5 D) (a6 D) (a7 D) = L3 fun _ p c => D.dhn p c * D.gp 0 c := by
  unfold val_main_v267
  rw [v262]
  funext j
  idx_vars j
  pointwise [val_main_v266, val_main_v18, val_main_v1]
  simp only [L2_apply, L3_apply, ← EReal.coe_mul]
  rfl

theorem v268 : val_main_v268 (F := Ideal) (a0 D) (a1 D) (a2 D) (a3 D) (a4 D) (a5 D) (a6 D) (a7 D) = fun j => ((D.dgpre (j 0).val : ℝ) : EReal) := by
  unfold val_main_v268 val_main_v265 val_main_v264 val_main_v263
  rw [v17, v262]
  funext j
  idx_vars j
  pointwise [val_main_cst_50, val_main_cst_51, reduce01]
  simp only [L3_apply, ← EReal.coe_mul, coe_sum]
  exact congrArg (fun x : ℝ => (x : EReal)) (Finset.sum_congr rfl fun k _ => mul_comm _ _)

theorem v280 : val_main_v280 (F := Ideal) (a0 D) (a1 D) (a2 D) (a3 D) (a4 D) (a5 D) (a6 D) (a7 D) =
    L3 fun _ p _ => (∑ k : Fin 1024, D.X p k * (D.dhn p k * D.gp 0 k)) * (-(1 / 2) * (rms D.X p * rms D.X p * rms D.X p)) / 1024 := by
  unfold val_main_v280 val_main_v279 val_main_v278 val_main_v277 val_main_v275 val_main_v271 val_main_v270 val_main_v269
  rw [v0, v267, v15]
  funext j
  idx_vars j
  pointwise [val_main_v276, val_main_cst_52, val_main_cst_53, val_main_cst_54, reduce02]
  simp only [L3_apply, ← EReal.coe_mul, coe_sum, lit_1024, div_1024]

/-- The reference's gradient of the input. -/
theorem v286 : val_main_v286 (F := Ideal) (a0 D) (a1 D) (a2 D) (a3 D) (a4 D) (a5 D) (a6 D) (a7 D) = L2 fun p c => D.dh0 p c := by
  unfold val_main_v286 val_main_v284 val_main_v283 val_main_v282 val_main_v281 val_main_v274 val_main_v273 val_main_v272
  rw [v280, v0, v267, v164, v12]
  funext j
  idx_vars j
  pointwise []
  simp only [L3_apply, L2_apply, ← EReal.coe_mul, ← EReal.coe_add]
  refine congrArg (fun x : ℝ => (x : EReal)) ?_
  unfold Args.dh0
  rw [← back_of, add_assoc, add_assoc, add_assoc]

/-- The reference's rows of gradients of the four vectors. -/
theorem v291 : val_main_v291 (F := Ideal) (a0 D) (a1 D) (a2 D) (a3 D) (a4 D) (a5 D) (a6 D) (a7 D) = L2 fun j c => D.gacc j c := by
  unfold val_main_v291 val_main_v290 val_main_v289 val_main_v288 val_main_v287
  rw [v268, v170, v148, v191]
  funext j
  idx_vars j
  have hj := j0.isLt
  pointwise [val_main_v285, val_main_cst_55]
  have h : j0.val = 0 ∨ j0.val = 1 ∨ j0.val = 2 ∨ j0.val = 3 ∨ ∃ n, j0.val = n + 4 := by
    rcases Nat.lt_or_ge j0.val 4 with h | h
    · omega
    · exact .inr (.inr (.inr (.inr ⟨j0.val - 4, by omega⟩)))
  rcases h with h | h | h | h | ⟨n, h⟩ <;> simp [h, L2_apply, Args.gacc]

end Cert.ReferenceIdeal.Pool

end
-- ==== Proof.FfnTile.lean ====
module

public import proofs.«01_k».proof.Proof.Lift
public import proofs.«01_k».proof.Proof.Gen.Kernel2Ideal.Skeleton

@[expose] public section

set_option maxRecDepth 16384

noncomputable section

/-! The feed-forward kernels' arithmetic over the reals, one lemma for each stored or named value:
    the forward call works on four groups of hidden columns, the backward call on the same four. -/

namespace Cert.Kernel2Ideal.Ffn

open Idealize.ShloMosaic Idealize.ShloMosaic.TcCoe Cert.Lift Cert.Kernel2Ideal Cert.Kernel2Ideal.Gen

/-- The product of `A` with the transpose of `B`, over `K` columns. -/
def nt (K : ℕ) (A B : ℕ → ℕ → ℝ) (p q : ℕ) : ℝ := ∑ k ∈ Finset.range K, A p k * B q k

/-- The product of `A` with `B`, over `K` columns of `A`. -/
def nn (K : ℕ) (A B : ℕ → ℕ → ℝ) (p q : ℕ) : ℝ := ∑ k ∈ Finset.range K, A p k * B k q

/-- The logistic function. -/
def sg (x : ℝ) : ℝ := (1 + Real.exp (-x))⁻¹

/-- The gated value of a gate `g` and an up value `u`. -/
def act (g u : ℝ) : ℝ := g * sg g * u

/-- The gate's gradient, from the hidden value's gradient `d`. -/
def dgate (d g u : ℝ) : ℝ := d * u * (sg g * (1 + g * (1 - sg g)))

/-- The up value's gradient, from the hidden value's gradient `d`. -/
def dup (d g : ℝ) : ℝ := d * (g * sg g)

/-- A gate or up value: the rows times a group of weight rows. -/
theorem f1_eq (A W : ℕ → ℕ → ℝ) : k0_pay1 (F := Ideal) (L2 A) (L2 W)
    = L2 (nt 1024 A W) := by
  funext j
  idx_vars j
  pointwise [k0_pay1]
  simp only [L2_apply, Ideal.logistic_coe, ← EReal.coe_mul, ← EReal.coe_add, ← EReal.coe_sub, coe_sum, lit_one, lit_zero, nt, nn, sg, act, dgate, dup, Finset.sum_range, zero_add, EReal.coe_zero]

/-- A gate or up value: the rows times a group of weight rows. -/
theorem f2_eq (A W : ℕ → ℕ → ℝ) : k0_pay2 (F := Ideal) (L2 A) (L2 W)
    = L2 (nt 1024 A W) := by
  funext j
  idx_vars j
  pointwise [k0_pay2]
  simp only [L2_apply, Ideal.logistic_coe, ← EReal.coe_mul, ← EReal.coe_add, ← EReal.coe_sub, coe_sum, lit_one, lit_zero, nt, nn, sg, act, dgate, dup, Finset.sum_range, zero_add, EReal.coe_zero]

/-- A gate or up value: the rows times a group of weight rows. -/
theorem f7_eq (A W : ℕ → ℕ → ℝ) : k0_pay7 (F := Ideal) (L2 A) (L2 W)
    = L2 (nt 1024 A W) := by
  funext j
  idx_vars j
  pointwise [k0_pay7]
  simp only [L2_apply, Ideal.logistic_coe, ← EReal.coe_mul, ← EReal.coe_add, ← EReal.coe_sub, coe_sum, lit_one, lit_zero, nt, nn, sg, act, dgate, dup, Finset.sum_range, zero_add, EReal.coe_zero]

/-- A gate or up value: the rows times a group of weight rows. -/
theorem f8_eq (A W : ℕ → ℕ → ℝ) : k0_pay8 (F := Ideal) (L2 A) (L2 W)
    = L2 (nt 1024 A W) := by
  funext j
  idx_vars j
  pointwise [k0_pay8]
  simp only [L2_apply, Ideal.logistic_coe, ← EReal.coe_mul, ← EReal.coe_add, ← EReal.coe_sub, coe_sum, lit_one, lit_zero, nt, nn, sg, act, dgate, dup, Finset.sum_range, zero_add, EReal.coe_zero]

/-- A gate or up value: the rows times a group of weight rows. -/
theorem f13_eq (A W : ℕ → ℕ → ℝ) : k0_pay13 (F := Ideal) (L2 A) (L2 W)
    = L2 (nt 1024 A W) := by
  funext j
  idx_vars j
  pointwise [k0_pay13]
  simp only [L2_apply, Ideal.logistic_coe, ← EReal.coe_mul, ← EReal.coe_add, ← EReal.coe_sub, coe_sum, lit_one, lit_zero, nt, nn, sg, act, dgate, dup, Finset.sum_range, zero_add, EReal.coe_zero]

/-- A gate or up value: the rows times a group of weight rows. -/
theorem f14_eq (A W : ℕ → ℕ → ℝ) : k0_pay14 (F := Ideal) (L2 A) (L2 W)
    = L2 (nt 1024 A W) := by
  funext j
  idx_vars j
  pointwise [k0_pay14]
  simp only [L2_apply, Ideal.logistic_coe, ← EReal.coe_mul, ← EReal.coe_add, ← EReal.coe_sub, coe_sum, lit_one, lit_zero, nt, nn, sg, act, dgate, dup, Finset.sum_range, zero_add, EReal.coe_zero]

/-- A gate or up value: the rows times a group of weight rows. -/
theorem f18_eq (A W : ℕ → ℕ → ℝ) : k0_pay18 (F := Ideal) (L2 A) (L2 W)
    = L2 (nt 1024 A W) := by
  funext j
  idx_vars j
  pointwise [k0_pay18]
  simp only [L2_apply, Ideal.logistic_coe, ← EReal.coe_mul, ← EReal.coe_add, ← EReal.coe_sub, coe_sum, lit_one, lit_zero, nt, nn, sg, act, dgate, dup, Finset.sum_range, zero_add, EReal.coe_zero]

/-- A gate or up value: the rows times a group of weight rows. -/
theorem f19_eq (A W : ℕ → ℕ → ℝ) : k0_pay19 (F := Ideal) (L2 A) (L2 W)
    = L2 (nt 1024 A W) := by
  funext j
  idx_vars j
  pointwise [k0_pay19]
  simp only [L2_apply, Ideal.logistic_coe, ← EReal.coe_mul, ← EReal.coe_add, ← EReal.coe_sub, coe_sum, lit_one, lit_zero, nt, nn, sg, act, dgate, dup, Finset.sum_range, zero_add, EReal.coe_zero]

/-- The same value as it is stored. -/
theorem f3_eq (A W : ℕ → ℕ → ℝ) : k0_pay3 (F := Ideal) (L2 A) (L2 W)
    = L2 (nt 1024 A W) := by
  funext j
  idx_vars j
  pointwise [k0_pay3, f1_eq]

/-- The same value as it is stored. -/
theorem f4_eq (A W : ℕ → ℕ → ℝ) : k0_pay4 (F := Ideal) (L2 A) (L2 W)
    = L2 (nt 1024 A W) := by
  funext j
  idx_vars j
  pointwise [k0_pay4, f2_eq]

/-- The same value as it is stored. -/
theorem f9_eq (A W : ℕ → ℕ → ℝ) : k0_pay9 (F := Ideal) (L2 A) (L2 W)
    = L2 (nt 1024 A W) := by
  funext j
  idx_vars j
  pointwise [k0_pay9, f7_eq]

/-- The same value as it is stored. -/
theorem f10_eq (A W : ℕ → ℕ → ℝ) : k0_pay10 (F := Ideal) (L2 A) (L2 W)
    = L2 (nt 1024 A W) := by
  funext j
  idx_vars j
  pointwise [k0_pay10, f8_eq]

/-- The same value as it is stored. -/
theorem f15_eq (A W : ℕ → ℕ → ℝ) : k0_pay15 (F := Ideal) (L2 A) (L2 W)
    = L2 (nt 1024 A W) := by
  funext j
  idx_vars j
  pointwise [k0_pay15, f13_eq]

/-- The same value as it is stored. -/
theorem f20_eq (A W : ℕ → ℕ → ℝ) : k0_pay20 (F := Ideal) (L2 A) (L2 W)
    = L2 (nt 1024 A W) := by
  funext j
  idx_vars j
  pointwise [k0_pay20, f18_eq]

/-- The same value as it is stored. -/
theorem f21_eq (A W : ℕ → ℕ → ℝ) : k0_pay21 (F := Ideal) (L2 A) (L2 W)
    = L2 (nt 1024 A W) := by
  funext j
  idx_vars j
  pointwise [k0_pay21, f19_eq]

/-- The up value as it is stored. -/
theorem f16_eq (A : ℕ → ℕ → ℝ) : k0_pay16 (F := Ideal) (L2 A)
    = L2 A := by
  funext j
  idx_vars j
  pointwise [k0_pay16]

/-- The hidden values of a group. -/
theorem f5_eq (A W U : ℕ → ℕ → ℝ) : k0_pay5 (F := Ideal) (L2 A) (L2 W) (L2 U)
    = L2 fun p q => act (nt 1024 A W p q) (nt 1024 A U p q) := by
  funext j
  idx_vars j
  pointwise [k0_pay5, f1_eq, f2_eq]
  simp only [L2_apply, Ideal.logistic_coe, ← EReal.coe_mul, ← EReal.coe_add, ← EReal.coe_sub, coe_sum, lit_one, lit_zero, nt, nn, sg, act, dgate, dup, Finset.sum_range, zero_add, EReal.coe_zero]

/-- The hidden values of a group. -/
theorem f11_eq (A W U : ℕ → ℕ → ℝ) : k0_pay11 (F := Ideal) (L2 A) (L2 W) (L2 U)
    = L2 fun p q => act (nt 1024 A W p q) (nt 1024 A U p q) := by
  funext j
  idx_vars j
  pointwise [k0_pay11, f7_eq, f8_eq]
  simp only [L2_apply, Ideal.logistic_coe, ← EReal.coe_mul, ← EReal.coe_add, ← EReal.coe_sub, coe_sum, lit_one, lit_zero, nt, nn, sg, act, dgate, dup, Finset.sum_range, zero_add, EReal.coe_zero]

/-- The hidden values of a group. -/
theorem f22_eq (A W U : ℕ → ℕ → ℝ) : k0_pay22 (F := Ideal) (L2 A) (L2 W) (L2 U)
    = L2 fun p q => act (nt 1024 A W p q) (nt 1024 A U p q) := by
  funext j
  idx_vars j
  pointwise [k0_pay22, f18_eq, f19_eq]
  simp only [L2_apply, Ideal.logistic_coe, ← EReal.coe_mul, ← EReal.coe_add, ← EReal.coe_sub, coe_sum, lit_one, lit_zero, nt, nn, sg, act, dgate, dup, Finset.sum_range, zero_add, EReal.coe_zero]

/-- The hidden values of the second group. -/
theorem f17_eq (G U : ℕ → ℕ → ℝ) : k0_pay17 (F := Ideal) (L2 G) (L2 U)
    = L2 fun p q => act (G p q) (U p q) := by
  funext j
  idx_vars j
  pointwise [k0_pay17]
  simp only [L2_apply, Ideal.logistic_coe, ← EReal.coe_mul, ← EReal.coe_add, ← EReal.coe_sub, coe_sum, lit_one, lit_zero, nt, nn, sg, act, dgate, dup, Finset.sum_range, zero_add, EReal.coe_zero]

/-- The first group's part of the output. -/
theorem f12_eq (A W U D : ℕ → ℕ → ℝ) : k0_pay12 (F := Ideal) (L2 A) (L2 W) (L2 U) (L2 D)
    = L2 (nn 768 (fun p q => act (nt 1024 A W p q) (nt 1024 A U p q)) D) := by
  funext j
  idx_vars j
  pointwise [k0_pay12, f11_eq]
  simp only [L2_apply, Ideal.logistic_coe, ← EReal.coe_mul, ← EReal.coe_add, ← EReal.coe_sub, coe_sum, lit_one, lit_zero, nt, nn, sg, act, dgate, dup, Finset.sum_range, zero_add, EReal.coe_zero]

/-- The output with the second and third groups added. -/
theorem f23_eq (A F0 G1 U1 D1 W2 U2 D2 : ℕ → ℕ → ℝ) : k0_pay23 (F := Ideal) (L2 A) (L2 F0) (L2 G1) (L2 U1) (L2 D1) (L2 W2) (L2 U2) (L2 D2)
    = L2 fun p q => F0 p q + nn 768 (fun p q => act (G1 p q) (U1 p q)) D1 p q + nn 768 (fun p q => act (nt 1024 A W2 p q) (nt 1024 A U2 p q)) D2 p q := by
  funext j
  idx_vars j
  pointwise [k0_pay23, f17_eq, f22_eq]
  simp only [L2_apply, Ideal.logistic_coe, ← EReal.coe_mul, ← EReal.coe_add, ← EReal.coe_sub, coe_sum, lit_one, lit_zero, nt, nn, sg, act, dgate, dup, Finset.sum_range, zero_add, EReal.coe_zero]

/-- The output with the last group added. -/
theorem f6_eq (A F0 W U D : ℕ → ℕ → ℝ) : k0_pay6 (F := Ideal) (L2 A) (L2 F0) (L2 W) (L2 U) (L2 D)
    = L2 fun p q => F0 p q + nn 512 (fun p q => act (nt 1024 A W p q) (nt 1024 A U p q)) D p q := by
  funext j
  idx_vars j
  pointwise [k0_pay6, f5_eq]
  simp only [L2_apply, Ideal.logistic_coe, ← EReal.coe_mul, ← EReal.coe_add, ← EReal.coe_sub, coe_sum, lit_one, lit_zero, nt, nn, sg, act, dgate, dup, Finset.sum_range, zero_add, EReal.coe_zero]

/-- A loaded block. -/
theorem b2_eq (A : ℕ → ℕ → ℝ) : k1_pay2 (F := Ideal) (L2 A)
    = L2 A := by
  funext j
  idx_vars j
  pointwise [k1_pay2]

/-- A loaded block. -/
theorem b7_eq (A : ℕ → ℕ → ℝ) : k1_pay7 (F := Ideal) (L2 A)
    = L2 A := by
  funext j
  idx_vars j
  pointwise [k1_pay7]

/-- A loaded block. -/
theorem b8_eq (A : ℕ → ℕ → ℝ) : k1_pay8 (F := Ideal) (L2 A)
    = L2 A := by
  funext j
  idx_vars j
  pointwise [k1_pay8]

/-- A loaded block. -/
theorem b16_eq (A : ℕ → ℕ → ℝ) : k1_pay16 (F := Ideal) (L2 A)
    = L2 A := by
  funext j
  idx_vars j
  pointwise [k1_pay16]

/-- A loaded block. -/
theorem b17_eq (A : ℕ → ℕ → ℝ) : k1_pay17 (F := Ideal) (L2 A)
    = L2 A := by
  funext j
  idx_vars j
  pointwise [k1_pay17]

/-- A loaded block. -/
theorem b24_eq (A : ℕ → ℕ → ℝ) : k1_pay24 (F := Ideal) (L2 A)
    = L2 A := by
  funext j
  idx_vars j
  pointwise [k1_pay24]

/-- A loaded block. -/
theorem b11_eq (A : ℕ → ℕ → ℝ) : k1_pay11 (F := Ideal) (L2 A)
    = L2 A := by
  funext j
  idx_vars j
  pointwise [k1_pay11]

/-- A loaded block. -/
theorem b20_eq (A : ℕ → ℕ → ℝ) : k1_pay20 (F := Ideal) (L2 A)
    = L2 A := by
  funext j
  idx_vars j
  pointwise [k1_pay20]

/-- The logistic of a gate block. -/
theorem b3_eq (A : ℕ → ℕ → ℝ) : k1_pay3 (F := Ideal) (L2 A)
    = L2 fun p q => sg (A p q) := by
  funext j
  idx_vars j
  pointwise [k1_pay3, b2_eq]
  simp only [L2_apply, Ideal.logistic_coe, ← EReal.coe_mul, ← EReal.coe_add, ← EReal.coe_sub, coe_sum, lit_one, lit_zero, nt, nn, sg, act, dgate, dup, Finset.sum_range, zero_add, EReal.coe_zero]

/-- The logistic of a gate block. -/
theorem b9_eq (A : ℕ → ℕ → ℝ) : k1_pay9 (F := Ideal) (L2 A)
    = L2 fun p q => sg (A p q) := by
  funext j
  idx_vars j
  pointwise [k1_pay9, b7_eq]
  simp only [L2_apply, Ideal.logistic_coe, ← EReal.coe_mul, ← EReal.coe_add, ← EReal.coe_sub, coe_sum, lit_one, lit_zero, nt, nn, sg, act, dgate, dup, Finset.sum_range, zero_add, EReal.coe_zero]

/-- The logistic of a gate block. -/
theorem b18_eq (A : ℕ → ℕ → ℝ) : k1_pay18 (F := Ideal) (L2 A)
    = L2 fun p q => sg (A p q) := by
  funext j
  idx_vars j
  pointwise [k1_pay18, b16_eq]
  simp only [L2_apply, Ideal.logistic_coe, ← EReal.coe_mul, ← EReal.coe_add, ← EReal.coe_sub, coe_sum, lit_one, lit_zero, nt, nn, sg, act, dgate, dup, Finset.sum_range, zero_add, EReal.coe_zero]

/-- The logistic of a gate block. -/
theorem b25_eq (A : ℕ → ℕ → ℝ) : k1_pay25 (F := Ideal) (L2 A)
    = L2 fun p q => sg (A p q) := by
  funext j
  idx_vars j
  pointwise [k1_pay25, b24_eq]
  simp only [L2_apply, Ideal.logistic_coe, ← EReal.coe_mul, ← EReal.coe_add, ← EReal.coe_sub, coe_sum, lit_one, lit_zero, nt, nn, sg, act, dgate, dup, Finset.sum_range, zero_add, EReal.coe_zero]

/-- A gate block times its logistic. -/
theorem b10_eq (A : ℕ → ℕ → ℝ) : k1_pay10 (F := Ideal) (L2 A)
    = L2 fun p q => A p q * sg (A p q) := by
  funext j
  idx_vars j
  pointwise [k1_pay10, b7_eq, b9_eq]
  simp only [L2_apply, Ideal.logistic_coe, ← EReal.coe_mul, ← EReal.coe_add, ← EReal.coe_sub, coe_sum, lit_one, lit_zero, nt, nn, sg, act, dgate, dup, Finset.sum_range, zero_add, EReal.coe_zero]

/-- A gate block times its logistic. -/
theorem b19_eq (A : ℕ → ℕ → ℝ) : k1_pay19 (F := Ideal) (L2 A)
    = L2 fun p q => A p q * sg (A p q) := by
  funext j
  idx_vars j
  pointwise [k1_pay19, b16_eq, b18_eq]
  simp only [L2_apply, Ideal.logistic_coe, ← EReal.coe_mul, ← EReal.coe_add, ← EReal.coe_sub, coe_sum, lit_one, lit_zero, nt, nn, sg, act, dgate, dup, Finset.sum_range, zero_add, EReal.coe_zero]

/-- The hidden gradients of a group. -/
theorem b4_eq (A W : ℕ → ℕ → ℝ) : k1_pay4 (F := Ideal) (L2 A) (L2 W)
    = L2 (nt 1024 A W) := by
  funext j
  idx_vars j
  pointwise [k1_pay4]
  simp only [L2_apply, Ideal.logistic_coe, ← EReal.coe_mul, ← EReal.coe_add, ← EReal.coe_sub, coe_sum, lit_one, lit_zero, nt, nn, sg, act, dgate, dup, Finset.sum_range, zero_add, EReal.coe_zero]

/-- The hidden gradients of a group. -/
theorem b26_eq (A W : ℕ → ℕ → ℝ) : k1_pay26 (F := Ideal) (L2 A) (L2 W)
    = L2 (nt 1024 A W) := by
  funext j
  idx_vars j
  pointwise [k1_pay26]
  simp only [L2_apply, Ideal.logistic_coe, ← EReal.coe_mul, ← EReal.coe_add, ← EReal.coe_sub, coe_sum, lit_one, lit_zero, nt, nn, sg, act, dgate, dup, Finset.sum_range, zero_add, EReal.coe_zero]

/-- The hidden gradients of a group. -/
theorem b12_eq (A W : ℕ → ℕ → ℝ) : k1_pay12 (F := Ideal) (L2 A) (L2 W) (constant S512x768 .f32 0x00000000#32)
    = L2 (nt 1024 A W) := by
  funext j
  idx_vars j
  pointwise [k1_pay12]
  simp only [L2_apply, Ideal.logistic_coe, ← EReal.coe_mul, ← EReal.coe_add, ← EReal.coe_sub, coe_sum, lit_one, lit_zero, nt, nn, sg, act, dgate, dup, Finset.sum_range, zero_add, EReal.coe_zero]

/-- The hidden gradients of a group. -/
theorem b21_eq (A W : ℕ → ℕ → ℝ) : k1_pay21 (F := Ideal) (L2 A) (L2 W) (constant S512x768 .f32 0x00000000#32)
    = L2 (nt 1024 A W) := by
  funext j
  idx_vars j
  pointwise [k1_pay21]
  simp only [L2_apply, Ideal.logistic_coe, ← EReal.coe_mul, ← EReal.coe_add, ← EReal.coe_sub, coe_sum, lit_one, lit_zero, nt, nn, sg, act, dgate, dup, Finset.sum_range, zero_add, EReal.coe_zero]

/-- The up gradients of the first group. -/
theorem b5_eq (A G W : ℕ → ℕ → ℝ) : k1_pay5 (F := Ideal) (L2 A) (L2 G) (L2 W)
    = L2 fun p q => dup (nt 1024 A W p q) (G p q) := by
  funext j
  idx_vars j
  pointwise [k1_pay5, b2_eq, b3_eq, b4_eq]
  simp only [L2_apply, Ideal.logistic_coe, ← EReal.coe_mul, ← EReal.coe_add, ← EReal.coe_sub, coe_sum, lit_one, lit_zero, nt, nn, sg, act, dgate, dup, Finset.sum_range, zero_add, EReal.coe_zero]

/-- The up gradients of the last group. -/
theorem b27_eq (A G W : ℕ → ℕ → ℝ) : k1_pay27 (F := Ideal) (L2 A) (L2 G) (L2 W)
    = L2 fun p q => dup (nt 1024 A W p q) (G p q) := by
  funext j
  idx_vars j
  pointwise [k1_pay27, b24_eq, b25_eq, b26_eq]
  simp only [L2_apply, Ideal.logistic_coe, ← EReal.coe_mul, ← EReal.coe_add, ← EReal.coe_sub, coe_sum, lit_one, lit_zero, nt, nn, sg, act, dgate, dup, Finset.sum_range, zero_add, EReal.coe_zero]

/-- The up gradients of a middle group. -/
theorem b13_eq (A S W : ℕ → ℕ → ℝ) : k1_pay13 (F := Ideal) (L2 A) (L2 S) (L2 W) (constant S512x768 .f32 0x00000000#32)
    = L2 fun p q => nt 1024 A W p q * S p q := by
  funext j
  idx_vars j
  pointwise [k1_pay13, b12_eq]
  simp only [L2_apply, Ideal.logistic_coe, ← EReal.coe_mul, ← EReal.coe_add, ← EReal.coe_sub, coe_sum, lit_one, lit_zero, nt, nn, sg, act, dgate, dup, Finset.sum_range, zero_add, EReal.coe_zero]

/-- The up gradients of a middle group. -/
theorem b22_eq (A S W : ℕ → ℕ → ℝ) : k1_pay22 (F := Ideal) (L2 A) (L2 S) (L2 W) (constant S512x768 .f32 0x00000000#32)
    = L2 fun p q => nt 1024 A W p q * S p q := by
  funext j
  idx_vars j
  pointwise [k1_pay22, b21_eq]
  simp only [L2_apply, Ideal.logistic_coe, ← EReal.coe_mul, ← EReal.coe_add, ← EReal.coe_sub, coe_sum, lit_one, lit_zero, nt, nn, sg, act, dgate, dup, Finset.sum_range, zero_add, EReal.coe_zero]

/-- The gate gradients of the first group. -/
theorem b6_eq (A G U W : ℕ → ℕ → ℝ) : k1_pay6 (F := Ideal) (L2 A) (L2 G) (L2 U) (L2 W)
    = L2 fun p q => dgate (nt 1024 A W p q) (G p q) (U p q) := by
  funext j
  idx_vars j
  pointwise [k1_pay6, b2_eq, b3_eq, b4_eq]
  simp only [L2_apply, ← EReal.coe_one, Ideal.logistic_coe, ← EReal.coe_mul, ← EReal.coe_add, ← EReal.coe_sub, coe_sum, lit_one, lit_zero, nt, nn, sg, act, dgate, dup, Finset.sum_range, zero_add, EReal.coe_zero]

/-- The gate gradients of the last group. -/
theorem b28_eq (A G U W : ℕ → ℕ → ℝ) : k1_pay28 (F := Ideal) (L2 A) (L2 G) (L2 U) (L2 W)
    = L2 fun p q => dgate (nt 1024 A W p q) (G p q) (U p q) := by
  funext j
  idx_vars j
  pointwise [k1_pay28, b24_eq, b25_eq, b26_eq]
  simp only [L2_apply, ← EReal.coe_one, Ideal.logistic_coe, ← EReal.coe_mul, ← EReal.coe_add, ← EReal.coe_sub, coe_sum, lit_one, lit_zero, nt, nn, sg, act, dgate, dup, Finset.sum_range, zero_add, EReal.coe_zero]

/-- The gate gradients of a middle group. -/
theorem b14_eq (A G U S W : ℕ → ℕ → ℝ) : k1_pay14 (F := Ideal) (L2 A) (L2 G) (L2 U) (L2 S) (L2 W) (constant S512x768 .f32 0x00000000#32)
    = L2 fun p q => nt 1024 A W p q * U p q * (S p q * (1 + G p q * (1 - S p q))) := by
  funext j
  idx_vars j
  pointwise [k1_pay14, b12_eq]
  simp only [L2_apply, ← EReal.coe_one, Ideal.logistic_coe, ← EReal.coe_mul, ← EReal.coe_add, ← EReal.coe_sub, coe_sum, lit_one, lit_zero, nt, nn, sg, act, dgate, dup, Finset.sum_range, zero_add, EReal.coe_zero]

/-- The gate gradients of a middle group. -/
theorem b23_eq (A G U S W : ℕ → ℕ → ℝ) : k1_pay23 (F := Ideal) (L2 A) (L2 G) (L2 U) (L2 S) (L2 W) (constant S512x768 .f32 0x00000000#32)
    = L2 fun p q => nt 1024 A W p q * U p q * (S p q * (1 + G p q * (1 - S p q))) := by
  funext j
  idx_vars j
  pointwise [k1_pay23, b21_eq]
  simp only [L2_apply, ← EReal.coe_one, Ideal.logistic_coe, ← EReal.coe_mul, ← EReal.coe_add, ← EReal.coe_sub, coe_sum, lit_one, lit_zero, nt, nn, sg, act, dgate, dup, Finset.sum_range, zero_add, EReal.coe_zero]

/-- The first half of the input gradient. -/
theorem b15_eq (A W B V : ℕ → ℕ → ℝ) : k1_pay15 (F := Ideal) (L2 A) (L2 W) (L2 B) (L2 V)
    = L2 fun p q => nn 1536 A W p q + nn 1536 B V p q := by
  funext j
  idx_vars j
  pointwise [k1_pay15]
  simp only [L2_apply, Ideal.logistic_coe, ← EReal.coe_mul, ← EReal.coe_add, ← EReal.coe_sub, coe_sum, lit_one, lit_zero, nt, nn, sg, act, dgate, dup, Finset.sum_range, zero_add, EReal.coe_zero]

/-- The input gradient with the second half added. -/
theorem b1_eq (S A W B V : ℕ → ℕ → ℝ) : k1_pay1 (F := Ideal) (L2 S) (L2 A) (L2 W) (L2 B) (L2 V)
    = L2 fun p q => S p q + nn 1280 A W p q + nn 1280 B V p q := by
  funext j
  idx_vars j
  pointwise [k1_pay1]
  simp only [L2_apply, Ideal.logistic_coe, ← EReal.coe_mul, ← EReal.coe_add, ← EReal.coe_sub, coe_sum, lit_one, lit_zero, nt, nn, sg, act, dgate, dup, Finset.sum_range, zero_add, EReal.coe_zero]

end Cert.Kernel2Ideal.Ffn

end
-- ==== Proof.FfnRun.lean ====
module

public import proofs.«01_k».proof.Proof.FfnTile
public import proofs.«01_k».proof.Proof.Gen.Kernel2Ideal.Frame
public import Idealize.ShloMosaic.Lib.Pipeline.ValueKit
public import Idealize.ShloMosaic.Lib.Pipeline.ReadBack

@[expose] public section

set_option maxRecDepth 16384

noncomputable section

/-! What each grid point of the feed-forward calls leaves in its output windows. -/

namespace Cert.Kernel2Ideal.Ffn

open Idealize.ShloMosaic Idealize.ShloMosaic.TcCoe Cert.Lift Cert.Kernel2Ideal Cert.Kernel2Ideal.Gen
open Idealize.ShloMosaic.Pipeline (Dat)

variable (V : (c : Dev nD) → (b : Ref sig .tc) → Buf (Elt Ideal) ((c : Thread nD τ).loc b)) (c : Dev nD)

/-- What a grid point of the forward call finds: its rows and the three weights. -/
structure Finds0 (X Wg Wu Wd : ℕ → ℕ → ℝ) (t : Fin cfg0.N) : Prop where
  x : iblk0 V c 0 t = (L2 X : FVec Ideal S512x1024 .bf16)
  g : iblk0 V c 1 t = (L2 Wg : FVec Ideal S2816x1024 .bf16)
  u : iblk0 V c 2 t = (L2 Wu : FVec Ideal S2816x1024 .bf16)
  d : iblk0 V c 3 t = (L2 Wd : FVec Ideal S2816x1024 .bf16)

/-- A rectangle of an array of real numbers is the array of the shifted function. -/
theorem ldL {a b n k : ℕ} (r s : ℕ) (W : ℕ → ℕ → ℝ)
    (h : ∀ i, (![r, s] : Fin 2 → ℕ) i + (![n, k] : Fin 2 → ℕ) i ≤ (⟨2, ![a, b]⟩ : Shape).size i) :
    View.ld (Val := Elt Ideal) (e' := .bf16) (L2 W : FVec Ideal ⟨2, ![a, b]⟩ .bf16) (Rect.unit (s := ⟨2, ![a, b]⟩) ![r, s] ![n, k] h)
    = (show (Rect.unit (s := ⟨2, ![a, b]⟩) ![r, s] ![n, k] h).shape.Idx → EReal from L2 fun p q => W (r + p) (s + q)) := by
  funext y
  show ((W (r + 1 * (y 0).val) (s + 1 * (y 1).val) : ℝ) : EReal) = ((W (r + (y 0).val) (s + (y 1).val) : ℝ) : EReal)
  rw [Nat.one_mul, Nat.one_mul]

/-- One more group of columns stored to the right of columns that hold `G`. -/
theorem col_cons (G : ℕ → ℕ → ℝ) (s n : ℕ) (i) (w : (Rect.unit (s := S512x2816) ![0, s] ![512, n] i).shape.Idx → Elt Ideal .bf16)
    (L : List (View.Piece (Elt Ideal) S512x2816 .bf16))
    (hw : w = (L2 fun p q => G p (s + q) : FVec Ideal ⟨2, ![512, n]⟩ .bf16))
    (hL : ∀ z : S512x2816.Idx, (z 1).val < s → View.canon L z = (L2 G : FVec Ideal S512x2816 .bf16) z)
    (z : S512x2816.Idx) (hz : (z 1).val < s + n) :
    View.canon (⟨Rect.unit (s := S512x2816) ![0, s] ![512, n] i, w⟩ :: L) z = (L2 G : FVec Ideal S512x2816 .bf16) z := by
  have hm : z ∈ (Rect.unit (s := S512x2816) ![0, s] ![512, n] i).set ↔ s ≤ (z 1).val := by
    rw [Rect.mem_set_unit]
    constructor
    · intro h
      exact (h 1).1
    · intro h a
      fin_cases a
      · refine ⟨Nat.zero_le _, ?_⟩
        have h0 : (z 0).val < 512 := (z 0).isLt
        show (z 0).val < 0 + 512
        omega
      · exact ⟨h, hz⟩
  by_cases h : s ≤ (z 1).val
  · obtain ⟨x, rfl⟩ := (Rect.unit (s := S512x2816) ![0, s] ![512, n] i).exists_idx_of_mem (hm.mpr h)
    refine (View.canon_cons_emb (Val := Elt Ideal) (Rect.unit (s := S512x2816) ![0, s] ![512, n] i) w L x).trans ?_
    rw [hw]
    show ((G (x 0).val (s + (x 1).val) : ℝ) : EReal) = ((G (0 + 1 * (x 0).val) (s + 1 * (x 1).val) : ℝ) : EReal)
    rw [Nat.one_mul, Nat.one_mul, Nat.zero_add]
  · have hn : z ∉ (Rect.unit (s := S512x2816) ![0, s] ![512, n] i).set := fun hz' => h (hm.mp hz')
    exact (View.canon_cons_of_not_mem (⟨Rect.unit (s := S512x2816) ![0, s] ![512, n] i, w⟩ : View.Piece (Elt Ideal) S512x2816 .bf16) L hn).trans
      (hL z (Nat.lt_of_not_le h))

/-- Four groups of columns stored side by side are the whole array. -/
theorem cols4 (G : ℕ → ℕ → ℝ) (p0 p1 p2 : FVec Ideal S512x768 .bf16) (p3 : FVec Ideal S512x512 .bf16)
    (h0 : p0 = L2 fun p q => G p (0 + q)) (h1 : p1 = L2 fun p q => G p (768 + q))
    (h2 : p2 = L2 fun p q => G p (1536 + q)) (h3 : p3 = L2 fun p q => G p (2304 + q)) (i0) (i1) (i2) (i3) :
    View.canon ([⟨Rect.unit (s := S512x2816) ![0, 2304] ![512, 512] i3, p3⟩, ⟨Rect.unit (s := S512x2816) ![0, 1536] ![512, 768] i2, p2⟩,
      ⟨Rect.unit (s := S512x2816) ![0, 768] ![512, 768] i1, p1⟩, ⟨Rect.unit (s := S512x2816) ![0, 0] ![512, 768] i0, p0⟩] :
      List (View.Piece (Elt Ideal) S512x2816 .bf16)) = (L2 G : FVec Ideal S512x2816 .bf16) := by
  have e0 := col_cons G 0 768 i0 p0 [] h0 fun z hz => absurd hz (Nat.not_lt_zero _)
  have e1 := col_cons G 768 768 i1 p1 _ h1 fun z hz => e0 z (by omega)
  have e2 := col_cons G 1536 768 i2 p2 _ h2 fun z hz => e1 z (by omega)
  funext y
  have hy : (y 1).val < 2816 := (y 1).isLt
  exact col_cons G 2304 512 i3 p3 _ h3 (fun z hz => e2 z (by omega)) y (by omega)

/-- Arrays of equal functions are equal. -/
theorem L2_congr {a b : ℕ} {f g : ℕ → ℕ → ℝ} (h : ∀ p q, f p q = g p q) : (L2 f : (⟨2, ![a, b]⟩ : Shape).Idx → EReal) = L2 g := by
  rw [show f = g from funext fun p => funext fun q => h p q]

/-- A product over all the hidden columns is the sum of the products over the four groups. -/
theorem nn_split (A W : ℕ → ℕ → ℝ) (p q : ℕ) : nn 2816 A W p q
    = nn 768 (fun p k => A p (0 + k)) (fun k q => W (0 + k) (0 + q)) p q + nn 768 (fun p k => A p (768 + k)) (fun k q => W (768 + k) (0 + q)) p q
      + nn 768 (fun p k => A p (1536 + k)) (fun k q => W (1536 + k) (0 + q)) p q + nn 512 (fun p k => A p (2304 + k)) (fun k q => W (2304 + k) (0 + q)) p q := by
  unfold nn
  simp only [Nat.zero_add]
  rw [show (2816 : ℕ) = 768 + 768 + 768 + 512 from rfl]
  generalize A p = a
  simp only [Finset.sum_range_add]

/-- The forward call's four results of a row block. -/
theorem outs0 {X Wg Wu Wd : ℕ → ℕ → ℝ} {t : Fin cfg0.N} (H : Finds0 V c X Wg Wu Wd t) :
    (outsAt0 V c t).1 = (L2 (nn 2816 (fun p j => act (nt 1024 X Wg p j) (nt 1024 X Wu p j)) Wd) : FVec Ideal S512x1024 .bf16) ∧
    (outsAt0 V c t).2.1 = (L2 (nt 1024 X Wg) : FVec Ideal S512x2816 .bf16) ∧
    (outsAt0 V c t).2.2.1 = (L2 (nt 1024 X Wu) : FVec Ideal S512x2816 .bf16) ∧
    (outsAt0 V c t).2.2.2 = (L2 (fun p j => act (nt 1024 X Wg p j) (nt 1024 X Wu p j)) : FVec Ideal S512x2816 .bf16) := by
  have e : ∀ (W : ℕ → ℕ → ℝ) (s p q : ℕ), nt 1024 X (fun p q => W (s + p) (0 + q)) p q = nt 1024 X W p (s + q) := by
    intro W s p q
    unfold nt
    simp only [Nat.zero_add]
  unfold outsAt0
  dsimp only
  refine ⟨?_, ?_, ?_, ?_⟩
  all_goals frame_out
  all_goals simp only [H.x, H.g, H.u, H.d]
  all_goals simp only [ldL]
  · simp only [f7_eq, f8_eq, f12_eq, f13_eq, f14_eq, f23_eq, f6_eq]
    refine L2_congr fun p q => ?_
    rw [nn_split]
    simp only [e]
  · exact cols4 _ _ _ _ _ ((f9_eq _ _).trans (L2_congr (e _ _))) ((f15_eq _ _).trans (L2_congr (e _ _)))
      ((f20_eq _ _).trans (L2_congr (e _ _))) ((f3_eq _ _).trans (L2_congr (e _ _))) _ _ _ _
  · simp only [f14_eq]
    exact cols4 _ _ _ _ _ ((f10_eq _ _).trans (L2_congr (e _ _))) ((f16_eq _).trans (L2_congr (e _ _)))
      ((f21_eq _ _).trans (L2_congr (e _ _))) ((f4_eq _ _).trans (L2_congr (e _ _))) _ _ _ _
  · simp only [f13_eq, f14_eq]
    exact cols4 _ _ _ _ _ ((f11_eq _ _ _).trans (L2_congr fun p q => by rw [e, e])) ((f17_eq _ _).trans (L2_congr fun p q => by rw [e, e]))
      ((f22_eq _ _ _).trans (L2_congr fun p q => by rw [e, e])) ((f5_eq _ _ _).trans (L2_congr fun p q => by rw [e, e])) _ _ _ _

/-- What a grid point of the backward call finds: the output's gradient rows, the gate and up rows, and the three weights. -/
structure Finds1 (D G U Wg Wu Wd : ℕ → ℕ → ℝ) (t : Fin cfg1.N) : Prop where
  d : iblk1 V c 0 t = (L2 D : FVec Ideal S512x1024 .bf16)
  g : iblk1 V c 1 t = (L2 G : FVec Ideal S512x2816 .bf16)
  u : iblk1 V c 2 t = (L2 U : FVec Ideal S512x2816 .bf16)
  wg : iblk1 V c 3 t = (L2 Wg : FVec Ideal S2816x1024 .bf16)
  wu : iblk1 V c 4 t = (L2 Wu : FVec Ideal S2816x1024 .bf16)
  wd : iblk1 V c 5 t = (L2 Wd : FVec Ideal S2816x1024 .bf16)

/-- Reading a group of columns of four stored groups reads the whole array's columns there. -/
theorem read4 {κ sp} (v : View sig κ sp S512x2816 .bf16) (G : ℕ → ℕ → ℝ) (p0 p1 p2 : FVec Ideal S512x768 .bf16) (p3 : FVec Ideal S512x512 .bf16)
    (h0 : p0 = L2 fun p q => G p (0 + q)) (h1 : p1 = L2 fun p q => G p (768 + q))
    (h2 : p2 = L2 fun p q => G p (1536 + q)) (h3 : p3 = L2 fun p q => G p (2304 + q)) (i0) (i1) (i2) (i3) (j) :
    v.readCov (Val := Elt Ideal) [⟨Rect.unit (s := S512x2816) ![0, 2304] ![512, 512] i3, p3⟩, ⟨Rect.unit (s := S512x2816) ![0, 1536] ![512, 768] i2, p2⟩,
      ⟨Rect.unit (s := S512x2816) ![0, 768] ![512, 768] i1, p1⟩, ⟨Rect.unit (s := S512x2816) ![0, 0] ![512, 768] i0, p0⟩]
      (Rect.unit (s := S512x2816) ![0, 1536] ![512, 1280] j).toLoadRect
    = (L2 fun p q => G p (1536 + q) : FVec Ideal S512x1280 .bf16) := by
  rw [View.readCov_eq_canon', cols4 G p0 p1 p2 p3 h0 h1 h2 h3 i0 i1 i2 i3]
  funext y
  show ((G (0 + 1 * (y 0).val) (1536 + 1 * (y 1).val) : ℝ) : EReal) = ((G (y 0).val (1536 + (y 1).val) : ℝ) : EReal)
  rw [Nat.one_mul, Nat.one_mul, Nat.zero_add]

/-- Reading the columns of two stored groups reads the whole array's columns there. -/
theorem read2 {κ sp} (v : View sig κ sp S512x2816 .bf16) (G : ℕ → ℕ → ℝ) (p0 p1 : FVec Ideal S512x768 .bf16)
    (h0 : p0 = L2 fun p q => G p (0 + q)) (h1 : p1 = L2 fun p q => G p (768 + q)) (i0) (i1) (j) :
    v.readCov (Val := Elt Ideal) [⟨Rect.unit (s := S512x2816) ![0, 768] ![512, 768] i1, p1⟩, ⟨Rect.unit (s := S512x2816) ![0, 0] ![512, 768] i0, p0⟩]
      (Rect.unit (s := S512x2816) ![0, 0] ![512, 1536] j).toLoadRect
    = (L2 G : FVec Ideal S512x1536 .bf16) := by
  rw [View.readCov_eq_canon']
  funext y
  have hy : (y 1).val < 1536 := (y 1).isLt
  have z0 : ((Rect.unit (s := S512x2816) ![0, 0] ![512, 1536] j).toLoadRect.idx y 0).val = (y 0).val := by
    show 0 + 1 * (y 0).val = _
    omega
  have z1 : ((Rect.unit (s := S512x2816) ![0, 0] ![512, 1536] j).toLoadRect.idx y 1).val = (y 1).val := by
    show 0 + 1 * (y 1).val = _
    omega
  refine (col_cons G 768 768 i1 p1 _ h1 (fun z hz => col_cons G 0 768 i0 p0 _ h0 (fun z hz => absurd hz (Nat.not_lt_zero _)) z (by omega)) _ (by omega)).trans ?_
  show ((G ((Rect.unit (s := S512x2816) ![0, 0] ![512, 1536] j).toLoadRect.idx y 0).val ((Rect.unit (s := S512x2816) ![0, 0] ![512, 1536] j).toLoadRect.idx y 1).val : ℝ) : EReal)
    = ((G (y 0).val (y 1).val : ℝ) : EReal)
  rw [z0, z1]

/-- A product over all the hidden columns is the sum of the products over the first 1536 and the other 1280. -/
theorem nn_split2 (A W : ℕ → ℕ → ℝ) (p q : ℕ) : nn 2816 A W p q
    = nn 1536 A (fun k q => W (0 + k) (0 + q)) p q + nn 1280 (fun p k => A p (1536 + k)) (fun k q => W (1536 + k) (0 + q)) p q := by
  unfold nn
  simp only [Nat.zero_add]
  rw [show (2816 : ℕ) = 1536 + 1280 from rfl]
  generalize A p = a
  simp only [Finset.sum_range_add]

/-- The backward call's three results of a row block. -/
theorem outs1 {D G U Wg Wu Wd : ℕ → ℕ → ℝ} {t : Fin cfg1.N} (H : Finds1 V c D G U Wg Wu Wd t) :
    (outsAt1 V c t).1 = (L2 (fun p q => nn 2816 (fun p j => dgate (nt 1024 D Wd p j) (G p j) (U p j)) Wg p q
      + nn 2816 (fun p j => dup (nt 1024 D Wd p j) (G p j)) Wu p q) : FVec Ideal S512x1024 .bf16) ∧
    (outsAt1 V c t).2.1 = (L2 (fun p j => dgate (nt 1024 D Wd p j) (G p j) (U p j)) : FVec Ideal S512x2816 .bf16) ∧
    (outsAt1 V c t).2.2 = (L2 (fun p j => dup (nt 1024 D Wd p j) (G p j)) : FVec Ideal S512x2816 .bf16) := by
  have e : ∀ (s p q : ℕ), nt 1024 D (fun p q => Wd (s + p) q) p q = nt 1024 D Wd p (s + q) := by
    intro s p q
    rfl
  have d0 : k1_pay6 (F := Ideal) (L2 D) (L2 fun p q => G (0 + p) (0 + q)) (L2 fun p q => U (0 + p) (0 + q)) (L2 fun p q => Wd (0 + p) (0 + q))
      = L2 fun p q => (fun p j => dgate (nt 1024 D Wd p j) (G p j) (U p j)) p (0 + q) :=
    (b6_eq _ _ _ _).trans (L2_congr fun p q => by simp only [e, Nat.zero_add])
  have d1 : k1_pay14 (F := Ideal) (L2 D) (L2 fun p q => G (0 + p) (768 + q)) (L2 fun p q => U (0 + p) (768 + q))
      (L2 fun p q => sg (G (0 + p) (768 + q))) (L2 fun p q => Wd (768 + p) (0 + q)) (constant S512x768 .f32 0x00000000#32)
      = L2 fun p q => (fun p j => dgate (nt 1024 D Wd p j) (G p j) (U p j)) p (768 + q) :=
    (b14_eq _ _ _ _ _).trans (L2_congr fun p q => by simp only [e, Nat.zero_add, dgate])
  have d2 : k1_pay23 (F := Ideal) (L2 D) (L2 fun p q => G (0 + p) (1536 + q)) (L2 fun p q => U (0 + p) (1536 + q))
      (L2 fun p q => sg (G (0 + p) (1536 + q))) (L2 fun p q => Wd (1536 + p) (0 + q)) (constant S512x768 .f32 0x00000000#32)
      = L2 fun p q => (fun p j => dgate (nt 1024 D Wd p j) (G p j) (U p j)) p (1536 + q) :=
    (b23_eq _ _ _ _ _).trans (L2_congr fun p q => by simp only [e, Nat.zero_add, dgate])
  have d3 : k1_pay28 (F := Ideal) (L2 D) (L2 fun p q => G (0 + p) (2304 + q)) (L2 fun p q => U (0 + p) (2304 + q)) (L2 fun p q => Wd (2304 + p) (0 + q))
      = L2 fun p q => (fun p j => dgate (nt 1024 D Wd p j) (G p j) (U p j)) p (2304 + q) :=
    (b28_eq _ _ _ _).trans (L2_congr fun p q => by simp only [e, Nat.zero_add])
  have u0 : k1_pay5 (F := Ideal) (L2 D) (L2 fun p q => G (0 + p) (0 + q)) (L2 fun p q => Wd (0 + p) (0 + q))
      = L2 fun p q => (fun p j => dup (nt 1024 D Wd p j) (G p j)) p (0 + q) :=
    (b5_eq _ _ _).trans (L2_congr fun p q => by simp only [e, Nat.zero_add])
  have u1 : k1_pay13 (F := Ideal) (L2 D) (L2 fun p q => G (0 + p) (768 + q) * sg (G (0 + p) (768 + q))) (L2 fun p q => Wd (768 + p) (0 + q)) (constant S512x768 .f32 0x00000000#32)
      = L2 fun p q => (fun p j => dup (nt 1024 D Wd p j) (G p j)) p (768 + q) :=
    (b13_eq _ _ _).trans (L2_congr fun p q => by simp only [e, Nat.zero_add, dup])
  have u2 : k1_pay22 (F := Ideal) (L2 D) (L2 fun p q => G (0 + p) (1536 + q) * sg (G (0 + p) (1536 + q))) (L2 fun p q => Wd (1536 + p) (0 + q)) (constant S512x768 .f32 0x00000000#32)
      = L2 fun p q => (fun p j => dup (nt 1024 D Wd p j) (G p j)) p (1536 + q) :=
    (b22_eq _ _ _).trans (L2_congr fun p q => by simp only [e, Nat.zero_add, dup])
  have u3 : k1_pay27 (F := Ideal) (L2 D) (L2 fun p q => G (0 + p) (2304 + q)) (L2 fun p q => Wd (2304 + p) (0 + q))
      = L2 fun p q => (fun p j => dup (nt 1024 D Wd p j) (G p j)) p (2304 + q) :=
    (b27_eq _ _ _).trans (L2_congr fun p q => by simp only [e, Nat.zero_add])
  unfold outsAt1
  dsimp only
  refine ⟨?_, ?_, ?_⟩
  all_goals frame_out
  all_goals simp only [H.d, H.g, H.u, H.wg, H.wu, H.wd]
  all_goals simp only [ldL]
  all_goals simp only [b7_eq, b8_eq, b9_eq, b10_eq, b11_eq, b16_eq, b17_eq, b18_eq, b19_eq, b20_eq]
  · have r1 := read2 (ms1_7 t).view (fun p j => dgate (nt 1024 D Wd p j) (G p j) (U p j)) _ _ d0 d1 inb_S512x2816_S512x768_0_0 inb_S512x2816_S512x768_0_768 inb_S512x2816_S512x1536_0_0
    have r2 := read2 (ms1_8 t).view (fun p j => dup (nt 1024 D Wd p j) (G p j)) _ _ u0 u1 inb_S512x2816_S512x768_0_0 inb_S512x2816_S512x768_0_768 inb_S512x2816_S512x1536_0_0
    have r3 := read4 (ms1_7 t).view (fun p j => dgate (nt 1024 D Wd p j) (G p j) (U p j)) _ _ _ _ d0 d1 d2 d3 inb_S512x2816_S512x768_0_0 inb_S512x2816_S512x768_0_768
      inb_S512x2816_S512x768_0_1536 inb_S512x2816_S512x512_0_2304 inb_S512x2816_S512x1280_0_1536
    have r4 := read4 (ms1_8 t).view (fun p j => dup (nt 1024 D Wd p j) (G p j)) _ _ _ _ u0 u1 u2 u3 inb_S512x2816_S512x768_0_0 inb_S512x2816_S512x768_0_768
      inb_S512x2816_S512x768_0_1536 inb_S512x2816_S512x512_0_2304 inb_S512x2816_S512x1280_0_1536
    rw [r1, r2, r3, r4, b15_eq, b1_eq]
    refine L2_congr fun p q => ?_
    rw [nn_split2, nn_split2]
    ring
  · exact cols4 (fun p j => dgate (nt 1024 D Wd p j) (G p j) (U p j)) _ _ _ _ d0 d1 d2 d3 _ _ _ _
  · exact cols4 (fun p j => dup (nt 1024 D Wd p j) (G p j)) _ _ _ _ u0 u1 u2 u3 _ _ _ _

end Cert.Kernel2Ideal.Ffn

end
-- ==== Proof.FfnGlob.lean ====
module

public import proofs.«01_k».proof.Proof.FfnRun

@[expose] public section

set_option maxRecDepth 16384

noncomputable section

/-! The arrays the two feed-forward calls leave: each row block is its grid point's. -/

namespace Cert.Kernel2Ideal.Ffn

open Idealize.ShloMosaic Idealize.ShloMosaic.TcCoe Cert.Lift Cert.Kernel2Ideal Cert.Kernel2Ideal.Gen
open Idealize.ShloMosaic.Pipeline (Dat)

section Calls

variable (V : (c : Dev nD) → (b : Ref sig .tc) → Buf (Elt Ideal) ((c : Thread nD τ).loc b)) (c : Dev nD)

/-- The arrays the forward call is given. -/
structure In0 (X Wg Wu Wd : ℕ → ℕ → ℝ) : Prop where
  x : V c main_arg0 = (L2 X : FVec Ideal S16384x1024 .bf16)
  g : V c main_v1 = (L2 Wg : FVec Ideal S2816x1024 .bf16)
  u : V c main_v3 = (L2 Wu : FVec Ideal S2816x1024 .bf16)
  d : V c main_v4 = (L2 Wd : FVec Ideal S2816x1024 .bf16)

/-- The arrays the backward call is given. -/
structure In1 (D G U Wg Wu Wd : ℕ → ℕ → ℝ) : Prop where
  d : V c main_arg1 = (L2 D : FVec Ideal S16384x1024 .bf16)
  g : V c main_v5_1 = (L2 G : FVec Ideal S16384x2816 .bf16)
  u : V c main_v5_2 = (L2 U : FVec Ideal S16384x2816 .bf16)
  wg : V c main_v1 = (L2 Wg : FVec Ideal S2816x1024 .bf16)
  wu : V c main_v3 = (L2 Wu : FVec Ideal S2816x1024 .bf16)
  wd : V c main_v4 = (L2 Wd : FVec Ideal S2816x1024 .bf16)

/-- The forward call's row arrays move one block per point. -/
theorem row0 : ∀ t : Fin cfg0.N, win0_0.index t 0 = t.val ∧ win0_0.index t 1 = 0 ∧ win0_4.index t 0 = t.val ∧ win0_4.index t 1 = 0 ∧
    win0_5.index t 0 = t.val ∧ win0_5.index t 1 = 0 ∧ win0_6.index t 0 = t.val ∧ win0_6.index t 1 = 0 ∧
    win0_7.index t 0 = t.val ∧ win0_7.index t 1 = 0 :=
  (by decide +kernel : ∀ t : Fin grid0.N, _)

/-- The forward call's weights stay. -/
theorem stay0 : ∀ t : Fin cfg0.N, win0_1.index t 0 = 0 ∧ win0_1.index t 1 = 0 ∧ win0_2.index t 0 = 0 ∧ win0_2.index t 1 = 0 ∧
    win0_3.index t 0 = 0 ∧ win0_3.index t 1 = 0 :=
  (by decide +kernel : ∀ t : Fin grid0.N, _)

/-- The backward call's row arrays move one block per point. -/
theorem row1 : ∀ t : Fin cfg1.N, win1_0.index t 0 = t.val ∧ win1_0.index t 1 = 0 ∧ win1_1.index t 0 = t.val ∧ win1_1.index t 1 = 0 ∧
    win1_2.index t 0 = t.val ∧ win1_2.index t 1 = 0 ∧ win1_6.index t 0 = t.val ∧ win1_6.index t 1 = 0 ∧
    win1_7.index t 0 = t.val ∧ win1_7.index t 1 = 0 ∧ win1_8.index t 0 = t.val ∧ win1_8.index t 1 = 0 :=
  (by decide +kernel : ∀ t : Fin grid1.N, _)

/-- The backward call's weights stay. -/
theorem stay1 : ∀ t : Fin cfg1.N, win1_3.index t 0 = 0 ∧ win1_3.index t 1 = 0 ∧ win1_4.index t 0 = 0 ∧ win1_4.index t 1 = 0 ∧
    win1_5.index t 0 = 0 ∧ win1_5.index t 1 = 0 :=
  (by decide +kernel : ∀ t : Fin grid1.N, _)

/-- What a point of the forward call finds. -/
theorem finds0 {X Wg Wu Wd : ℕ → ℕ → ℝ} (H : In0 V c X Wg Wu Wd) (t : Fin cfg0.N) :
    Finds0 V c (fun p q => X (t.val * 512 + p) q) Wg Wu Wd t := by
  obtain ⟨e0, e0', -⟩ := row0 t
  obtain ⟨f1, f1', f2, f2', f3, f3'⟩ := stay0 t
  constructor
  · funext y
    show V c main_arg0 (((cfg0.win 0).blk t).view.emb y) = _
    rw [H.x]
    show ((X (((cfg0.win 0).blk t).view.emb y 0).val (((cfg0.win 0).blk t).view.emb y 1).val : ℝ) : EReal) = _
    blk_simp
    rw [e0, e0']
    simp only [Nat.zero_mul, Nat.zero_add]
    rfl
  · funext y
    show V c main_v1 (((cfg0.win 1).blk t).view.emb y) = _
    rw [H.g]
    show ((Wg (((cfg0.win 1).blk t).view.emb y 0).val (((cfg0.win 1).blk t).view.emb y 1).val : ℝ) : EReal) = _
    blk_simp
    rw [f1, f1']
    simp only [Nat.zero_mul, Nat.zero_add]
    rfl
  · funext y
    show V c main_v3 (((cfg0.win 2).blk t).view.emb y) = _
    rw [H.u]
    show ((Wu (((cfg0.win 2).blk t).view.emb y 0).val (((cfg0.win 2).blk t).view.emb y 1).val : ℝ) : EReal) = _
    blk_simp
    rw [f2, f2']
    simp only [Nat.zero_mul, Nat.zero_add]
    rfl
  · funext y
    show V c main_v4 (((cfg0.win 3).blk t).view.emb y) = _
    rw [H.d]
    show ((Wd (((cfg0.win 3).blk t).view.emb y 0).val (((cfg0.win 3).blk t).view.emb y 1).val : ℝ) : EReal) = _
    blk_simp
    rw [f3, f3']
    simp only [Nat.zero_mul, Nat.zero_add]
    rfl

/-- What a point of the backward call finds. -/
theorem finds1 {D G U Wg Wu Wd : ℕ → ℕ → ℝ} (H : In1 V c D G U Wg Wu Wd) (t : Fin cfg1.N) :
    Finds1 V c (fun p q => D (t.val * 512 + p) q) (fun p q => G (t.val * 512 + p) q) (fun p q => U (t.val * 512 + p) q) Wg Wu Wd t := by
  obtain ⟨e0, e0', e1, e1', e2, e2', -⟩ := row1 t
  obtain ⟨f3, f3', f4, f4', f5, f5'⟩ := stay1 t
  constructor
  · funext y
    show V c main_arg1 (((cfg1.win 0).blk t).view.emb y) = _
    rw [H.d]
    show ((D (((cfg1.win 0).blk t).view.emb y 0).val (((cfg1.win 0).blk t).view.emb y 1).val : ℝ) : EReal) = _
    blk_simp
    rw [e0, e0']
    simp only [Nat.zero_mul, Nat.zero_add]
    rfl
  · funext y
    show V c main_v5_1 (((cfg1.win 1).blk t).view.emb y) = _
    rw [H.g]
    show ((G (((cfg1.win 1).blk t).view.emb y 0).val (((cfg1.win 1).blk t).view.emb y 1).val : ℝ) : EReal) = _
    blk_simp
    rw [e1, e1']
    simp only [Nat.zero_mul, Nat.zero_add]
    rfl
  · funext y
    show V c main_v5_2 (((cfg1.win 2).blk t).view.emb y) = _
    rw [H.u]
    show ((U (((cfg1.win 2).blk t).view.emb y 0).val (((cfg1.win 2).blk t).view.emb y 1).val : ℝ) : EReal) = _
    blk_simp
    rw [e2, e2']
    simp only [Nat.zero_mul, Nat.zero_add]
    rfl
  · funext y
    show V c main_v1 (((cfg1.win 3).blk t).view.emb y) = _
    rw [H.wg]
    show ((Wg (((cfg1.win 3).blk t).view.emb y 0).val (((cfg1.win 3).blk t).view.emb y 1).val : ℝ) : EReal) = _
    blk_simp
    rw [f3, f3']
    simp only [Nat.zero_mul, Nat.zero_add]
    rfl
  · funext y
    show V c main_v3 (((cfg1.win 4).blk t).view.emb y) = _
    rw [H.wu]
    show ((Wu (((cfg1.win 4).blk t).view.emb y 0).val (((cfg1.win 4).blk t).view.emb y 1).val : ℝ) : EReal) = _
    blk_simp
    rw [f4, f4']
    simp only [Nat.zero_mul, Nat.zero_add]
    rfl
  · funext y
    show V c main_v4 (((cfg1.win 5).blk t).view.emb y) = _
    rw [H.wd]
    show ((Wd (((cfg1.win 5).blk t).view.emb y 0).val (((cfg1.win 5).blk t).view.emb y 1).val : ℝ) : EReal) = _
    blk_simp
    rw [f5, f5']
    simp only [Nat.zero_mul, Nat.zero_add]
    rfl

/-- The feed-forward output. -/
theorem final0_4 {X Wg Wu Wd : ℕ → ℕ → ℝ} (H : In0 V c X Wg Wu Wd) : (dat0 V c).arrAt 4 cfg0.N =
    (L2 (nn 2816 (fun p j => act (nt 1024 X Wg p j) (nt 1024 X Wu p j)) Wd) : FVec Ideal S16384x1024 .bf16) := by
  refine (dat0 V c).arrAt_eq_of_covers 4 _ (by decide +kernel) fun t hf y => ?_
  blk_simp
  rw [after0_4, (outs0 V c (finds0 V c H t)).1]
  obtain ⟨-, -, e, e', -⟩ := row0 t
  show (((nn 2816 (fun p j => act (nt 1024 X Wg p j) (nt 1024 X Wu p j)) Wd) (t.val * 512 + (y 0).val) (y 1).val : ℝ) : EReal) =
    (((nn 2816 (fun p j => act (nt 1024 X Wg p j) (nt 1024 X Wu p j)) Wd) (((cfg0.win 4).blk t).view.emb y 0).val (((cfg0.win 4).blk t).view.emb y 1).val : ℝ) : EReal)
  blk_simp
  rw [e, e', Nat.zero_mul, Nat.zero_add]

/-- The gate values. -/
theorem final0_5 {X Wg Wu Wd : ℕ → ℕ → ℝ} (H : In0 V c X Wg Wu Wd) : (dat0 V c).arrAt 5 cfg0.N =
    (L2 (nt 1024 X Wg) : FVec Ideal S16384x2816 .bf16) := by
  refine (dat0 V c).arrAt_eq_of_covers 5 _ (by decide +kernel) fun t hf y => ?_
  blk_simp
  rw [after0_5, (outs0 V c (finds0 V c H t)).2.1]
  obtain ⟨-, -, -, -, e, e', -⟩ := row0 t
  show (((nt 1024 X Wg) (t.val * 512 + (y 0).val) (y 1).val : ℝ) : EReal) =
    (((nt 1024 X Wg) (((cfg0.win 5).blk t).view.emb y 0).val (((cfg0.win 5).blk t).view.emb y 1).val : ℝ) : EReal)
  blk_simp
  rw [e, e', Nat.zero_mul, Nat.zero_add]

/-- The up values. -/
theorem final0_6 {X Wg Wu Wd : ℕ → ℕ → ℝ} (H : In0 V c X Wg Wu Wd) : (dat0 V c).arrAt 6 cfg0.N =
    (L2 (nt 1024 X Wu) : FVec Ideal S16384x2816 .bf16) := by
  refine (dat0 V c).arrAt_eq_of_covers 6 _ (by decide +kernel) fun t hf y => ?_
  blk_simp
  rw [after0_6, (outs0 V c (finds0 V c H t)).2.2.1]
  obtain ⟨-, -, -, -, -, -, e, e', -⟩ := row0 t
  show (((nt 1024 X Wu) (t.val * 512 + (y 0).val) (y 1).val : ℝ) : EReal) =
    (((nt 1024 X Wu) (((cfg0.win 6).blk t).view.emb y 0).val (((cfg0.win 6).blk t).view.emb y 1).val : ℝ) : EReal)
  blk_simp
  rw [e, e', Nat.zero_mul, Nat.zero_add]

/-- The hidden values. -/
theorem final0_7 {X Wg Wu Wd : ℕ → ℕ → ℝ} (H : In0 V c X Wg Wu Wd) : (dat0 V c).arrAt 7 cfg0.N =
    (L2 (fun p j => act (nt 1024 X Wg p j) (nt 1024 X Wu p j)) : FVec Ideal S16384x2816 .bf16) := by
  refine (dat0 V c).arrAt_eq_of_covers 7 _ (by decide +kernel) fun t hf y => ?_
  blk_simp
  rw [after0_7, (outs0 V c (finds0 V c H t)).2.2.2]
  obtain ⟨-, -, -, -, -, -, -, -, e, e'⟩ := row0 t
  show (((fun p j => act (nt 1024 X Wg p j) (nt 1024 X Wu p j)) (t.val * 512 + (y 0).val) (y 1).val : ℝ) : EReal) =
    (((fun p j => act (nt 1024 X Wg p j) (nt 1024 X Wu p j)) (((cfg0.win 7).blk t).view.emb y 0).val (((cfg0.win 7).blk t).view.emb y 1).val : ℝ) : EReal)
  blk_simp
  rw [e, e', Nat.zero_mul, Nat.zero_add]

/-- The input's gradient. -/
theorem final1_6 {D G U Wg Wu Wd : ℕ → ℕ → ℝ} (H : In1 V c D G U Wg Wu Wd) : (dat1 V c).arrAt 6 cfg1.N =
    (L2 (fun p q => nn 2816 (fun p j => dgate (nt 1024 D Wd p j) (G p j) (U p j)) Wg p q + nn 2816 (fun p j => dup (nt 1024 D Wd p j) (G p j)) Wu p q) : FVec Ideal S16384x1024 .bf16) := by
  refine (dat1 V c).arrAt_eq_of_covers 6 _ (by decide +kernel) fun t hf y => ?_
  blk_simp
  rw [after1_6, (outs1 V c (finds1 V c H t)).1]
  obtain ⟨-, -, -, -, -, -, e, e', -⟩ := row1 t
  show (((fun p q => nn 2816 (fun p j => dgate (nt 1024 D Wd p j) (G p j) (U p j)) Wg p q + nn 2816 (fun p j => dup (nt 1024 D Wd p j) (G p j)) Wu p q) (t.val * 512 + (y 0).val) (y 1).val : ℝ) : EReal) =
    (((fun p q => nn 2816 (fun p j => dgate (nt 1024 D Wd p j) (G p j) (U p j)) Wg p q + nn 2816 (fun p j => dup (nt 1024 D Wd p j) (G p j)) Wu p q) (((cfg1.win 6).blk t).view.emb y 0).val (((cfg1.win 6).blk t).view.emb y 1).val : ℝ) : EReal)
  blk_simp
  rw [e, e', Nat.zero_mul, Nat.zero_add]

/-- The gate values' gradient. -/
theorem final1_7 {D G U Wg Wu Wd : ℕ → ℕ → ℝ} (H : In1 V c D G U Wg Wu Wd) : (dat1 V c).arrAt 7 cfg1.N =
    (L2 (fun p j => dgate (nt 1024 D Wd p j) (G p j) (U p j)) : FVec Ideal S16384x2816 .bf16) := by
  refine (dat1 V c).arrAt_eq_of_covers 7 _ (by decide +kernel) fun t hf y => ?_
  blk_simp
  rw [after1_7, (outs1 V c (finds1 V c H t)).2.1]
  obtain ⟨-, -, -, -, -, -, -, -, e, e', -⟩ := row1 t
  show (((fun p j => dgate (nt 1024 D Wd p j) (G p j) (U p j)) (t.val * 512 + (y 0).val) (y 1).val : ℝ) : EReal) =
    (((fun p j => dgate (nt 1024 D Wd p j) (G p j) (U p j)) (((cfg1.win 7).blk t).view.emb y 0).val (((cfg1.win 7).blk t).view.emb y 1).val : ℝ) : EReal)
  blk_simp
  rw [e, e', Nat.zero_mul, Nat.zero_add]

/-- The up values' gradient. -/
theorem final1_8 {D G U Wg Wu Wd : ℕ → ℕ → ℝ} (H : In1 V c D G U Wg Wu Wd) : (dat1 V c).arrAt 8 cfg1.N =
    (L2 (fun p j => dup (nt 1024 D Wd p j) (G p j)) : FVec Ideal S16384x2816 .bf16) := by
  refine (dat1 V c).arrAt_eq_of_covers 8 _ (by decide +kernel) fun t hf y => ?_
  blk_simp
  rw [after1_8, (outs1 V c (finds1 V c H t)).2.2]
  obtain ⟨-, -, -, -, -, -, -, -, -, -, e, e'⟩ := row1 t
  show (((fun p j => dup (nt 1024 D Wd p j) (G p j)) (t.val * 512 + (y 0).val) (y 1).val : ℝ) : EReal) =
    (((fun p j => dup (nt 1024 D Wd p j) (G p j)) (((cfg1.win 8).blk t).view.emb y 0).val (((cfg1.win 8).blk t).view.emb y 1).val : ℝ) : EReal)
  blk_simp
  rw [e, e', Nat.zero_mul, Nat.zero_add]

end Calls

end Cert.Kernel2Ideal.Ffn

end
-- ==== Proof.FfnWhole.lean ====
module

public import proofs.«01_k».proof.Proof.FfnGlob

@[expose] public section

set_option maxRecDepth 16384

noncomputable section

/-! The feed-forward program's run: the two calls in order, and the arrays it returns. -/

namespace Cert.Kernel2Ideal.Ffn

open Idealize.ShloMosaic Idealize.ShloMosaic.TcCoe Idealize.ShloMosaic.Tactic Cert.Lift Cert.Kernel2Ideal Cert.Kernel2Ideal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-- The arguments in memory are real arrays: the rows, the output's gradient, and the three weights. -/
structure Holds (c : Dev nD) (X D Wg Wu Wd : ℕ → ℕ → ℝ) : Prop where
  x : m ((c : Thread nD τ).loc main_arg0) = (L2 X : FVec Ideal S16384x1024 .bf16)
  d : m ((c : Thread nD τ).loc main_arg1) = (L2 D : FVec Ideal S16384x1024 .bf16)
  wg : m ((c : Thread nD τ).loc main_arg2) = (L2 Wg : FVec Ideal S1024x2816 .f32)
  wu : m ((c : Thread nD τ).loc main_arg3) = (L2 Wu : FVec Ideal S1024x2816 .f32)
  wd : m ((c : Thread nD τ).loc main_arg4) = (L2 Wd : FVec Ideal S2816x1024 .f32)

/-- A transposed weight. -/
theorem transposed (W : ℕ → ℕ → ℝ) : truncf (F := Ideal) .bf16 (transpose S2816x1024 [1, 0] (L2 W : FVec Ideal S1024x2816 .f32)
    transposes_S1024x2816_S2816x1024_1_0) bitsLt_bf16_f32 = (L2 fun p q => W q p : FVec Ideal S2816x1024 .bf16) := by
  funext j
  idx_vars j
  pointwise []
  rfl

/-- What the forward call is given. -/
theorem in0 {c : Dev nD} {X D Wg Wu Wd : ℕ → ℕ → ℝ} (H : Holds m c X D Wg Wu Wd) :
    In0 (V1 m ρ) c X (fun p q => Wg q p) (fun p q => Wu q p) Wd where
  x := (W1_args m ρ c main_arg0 (by decide)).trans H.x
  g := by
    have e : V1 m ρ c main_v1 = truncf (F := Ideal) .bf16 (transpose S2816x1024 [1, 0] (m ((c : Thread nD τ).loc main_arg2))
      transposes_S1024x2816_S2816x1024_1_0) bitsLt_bf16_f32 := by rfl
    rw [e, H.wg, transposed]
  u := by
    have e : V1 m ρ c main_v3 = truncf (F := Ideal) .bf16 (transpose S2816x1024 [1, 0] (m ((c : Thread nD τ).loc main_arg3))
      transposes_S1024x2816_S2816x1024_1_0) bitsLt_bf16_f32 := by rfl
    rw [e, H.wu, transposed]
  d := by
    have e : V1 m ρ c main_v4 = truncf (F := Ideal) .bf16 (m ((c : Thread nD τ).loc main_arg4)) bitsLt_bf16_f32 := by rfl
    rw [e, H.wd]
    rfl

/-- What the backward call is given: the gate and up values are those the forward call left. -/
theorem in1 {c : Dev nD} {X D Wg Wu Wd : ℕ → ℕ → ℝ} (H : Holds m c X D Wg Wu Wd) :
    In1 (V2 m ρ) c D (nt 1024 X fun p q => Wg q p) (nt 1024 X fun p q => Wu q p) (fun p q => Wg q p) (fun p q => Wu q p) Wd where
  d := (W2_args m ρ c main_arg1 (by decide)).trans H.d
  g := (W2_arr m ρ c 5).trans (final0_5 (V1 m ρ) c (in0 m ρ H))
  u := (W2_arr m ρ c 6).trans (final0_6 (V1 m ρ) c (in0 m ρ H))
  wg := (W2_of m ρ c main_v1 (by decide)).trans (in0 m ρ H).g
  wu := (W2_of m ρ c main_v3 (by decide)).trans (in0 m ρ H).u
  wd := (W2_of m ρ c main_v4 (by decide)).trans (in0 m ρ H).d

-- the run is found by unifying a conclusion with this one, which takes unfolding plain definitions
set_option backward.isDefEq.respectTransparency.types false in
/-- The program runs, leaves its results as the last boundary's contents, and keeps its arguments. -/
theorem run : θ_run defs (onTc (τ := τ) (main (F := Ideal))) ⟨m, fun _ => 0, ρ⟩ (fun r => ∀ c : Dev nD,
      r.2.mem ((c.tc : Thread nD τ).loc main_v5_0) = W3 m ρ c main_v5_0
      ∧ r.2.mem ((c.tc : Thread nD τ).loc main_v5_3) = W3 m ρ c main_v5_3
      ∧ r.2.mem ((c.tc : Thread nD τ).loc main_v6_0) = W3 m ρ c main_v6_0
      ∧ r.2.mem ((c.tc : Thread nD τ).loc main_v6_1) = W3 m ρ c main_v6_1
      ∧ r.2.mem ((c.tc : Thread nD τ).loc main_v6_2) = W3 m ρ c main_v6_2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => fun c =>
      ⟨h c _ (mem_uc main_v5_0 (by decide)),
       h c _ (mem_uc main_v5_3 (by decide)),
       h c _ (mem_uc main_v6_0 (by decide)),
       h c _ (mem_uc main_v6_1 (by decide)),
       h c _ (mem_uc main_v6_2 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c)⟩)

/-- The feed-forward output. -/
theorem res0 {c : Dev nD} {X D Wg Wu Wd : ℕ → ℕ → ℝ} (H : Holds m c X D Wg Wu Wd) : W3 m ρ c main_v5_0 =
    (L2 (nn 2816 (fun p j => act (nt 1024 X (fun p q => Wg q p) p j) (nt 1024 X (fun p q => Wu q p) p j)) Wd) : FVec Ideal S16384x1024 .bf16) :=
  (W3_of m ρ c main_v5_0 (by decide)).trans ((W2_arr m ρ c 4).trans (final0_4 (V1 m ρ) c (in0 m ρ H)))

/-- The hidden values. -/
theorem res1 {c : Dev nD} {X D Wg Wu Wd : ℕ → ℕ → ℝ} (H : Holds m c X D Wg Wu Wd) : W3 m ρ c main_v5_3 =
    (L2 (fun p j => act (nt 1024 X (fun p q => Wg q p) p j) (nt 1024 X (fun p q => Wu q p) p j)) : FVec Ideal S16384x2816 .bf16) :=
  (W3_of m ρ c main_v5_3 (by decide)).trans ((W2_arr m ρ c 7).trans (final0_7 (V1 m ρ) c (in0 m ρ H)))

/-- The input's gradient. -/
theorem res2 {c : Dev nD} {X D Wg Wu Wd : ℕ → ℕ → ℝ} (H : Holds m c X D Wg Wu Wd) : W3 m ρ c main_v6_0 =
    (L2 (fun p q => nn 2816 (fun p j => dgate (nt 1024 D Wd p j) (nt 1024 X (fun p q => Wg q p) p j) (nt 1024 X (fun p q => Wu q p) p j)) (fun p q => Wg q p) p q
      + nn 2816 (fun p j => dup (nt 1024 D Wd p j) (nt 1024 X (fun p q => Wg q p) p j)) (fun p q => Wu q p) p q) : FVec Ideal S16384x1024 .bf16) :=
  (W3_arr m ρ c 6).trans (final1_6 (V2 m ρ) c (in1 m ρ H))

/-- The gate values' gradient. -/
theorem res3 {c : Dev nD} {X D Wg Wu Wd : ℕ → ℕ → ℝ} (H : Holds m c X D Wg Wu Wd) : W3 m ρ c main_v6_1 =
    (L2 (fun p j => dgate (nt 1024 D Wd p j) (nt 1024 X (fun p q => Wg q p) p j) (nt 1024 X (fun p q => Wu q p) p j)) : FVec Ideal S16384x2816 .bf16) :=
  (W3_arr m ρ c 7).trans (final1_7 (V2 m ρ) c (in1 m ρ H))

/-- The up values' gradient. -/
theorem res4 {c : Dev nD} {X D Wg Wu Wd : ℕ → ℕ → ℝ} (H : Holds m c X D Wg Wu Wd) : W3 m ρ c main_v6_2 =
    (L2 (fun p j => dup (nt 1024 D Wd p j) (nt 1024 X (fun p q => Wg q p) p j)) : FVec Ideal S16384x2816 .bf16) :=
  (W3_arr m ρ c 8).trans (final1_8 (V2 m ρ) c (in1 m ρ H))

end Cert.Kernel2Ideal.Ffn

end
-- ==== Proof.FfnRef.lean ====
module

public import proofs.«01_k».proof.Proof.FfnWhole
public import proofs.«01_k».proof.Proof.Gen.Reference2Ideal.Read

@[expose] public section

set_option maxRecDepth 16384

noncomputable section

/-! The feed-forward reference's values on real arrays, stage by stage, and their equality with the kernel's. -/

namespace Cert.Reference2Ideal.Ffn

open Idealize.ShloMosaic Cert.Lift Cert.Reference2Ideal Cert.Reference2Ideal.Gen Cert.Reference2Ideal.Read
open Cert.Kernel2Ideal.Ffn (nn nt sg act dgate dup L2_congr)

/-- One divided by one plus the exponential of the negation is the logistic function. -/
theorem sg_real (x : ℝ) : Ideal.div ((1 : ℝ) : EReal) (((1 : ℝ) : EReal) + Ideal.exp (-(x : EReal))) = ((sg x : ℝ) : EReal) := by
  have h := Ideal.logistic_coe x
  unfold Ideal.logistic at h
  rw [EReal.coe_one]
  exact h

variable (X D Wg Wu Wd : ℕ → ℕ → ℝ)

/-- The gate values. -/
theorem v2_eq : val_main_v2 (F := Ideal) (L2 X) (L2 Wg) = L2 (nn 1024 X Wg) := by
  unfold val_main_v2 val_main_v0
  funext j
  idx_vars j
  pointwise []
  simp only [L2_apply, ← EReal.coe_one, ← EReal.coe_mul, ← EReal.coe_add, ← EReal.coe_sub, ← EReal.coe_neg, coe_sum, lit_one, lit_zero, nn, nt, Finset.sum_range, zero_add, EReal.coe_zero]

/-- The up values. -/
theorem v4_eq : val_main_v4 (F := Ideal) (L2 X) (L2 Wu) = L2 (nn 1024 X Wu) := by
  unfold val_main_v4 val_main_v0
  funext j
  idx_vars j
  pointwise []
  simp only [L2_apply, ← EReal.coe_one, ← EReal.coe_mul, ← EReal.coe_add, ← EReal.coe_sub, ← EReal.coe_neg, coe_sum, lit_one, lit_zero, nn, nt, Finset.sum_range, zero_add, EReal.coe_zero]

/-- The logistic function of the gate values. -/
theorem v3_2_eq : val_main_v3_2 (F := Ideal) (L2 X) (L2 Wg) = L2 (fun p q => sg (nn 1024 X Wg p q)) := by
  unfold val_main_v3_2 val_main_call0_v4 val_main_call0_cst_0 val_main_call0_v3 val_main_call0_v2 val_main_call0_cst val_main_call0_v1 val_main_call0_v0
  rw [v2_eq]
  funext j
  idx_vars j
  pointwise []
  simp only [L2_apply, ← EReal.coe_one, lit_one, sg_real]

/-- The derivative of the logistic function at the gate values. -/
theorem v3_1_eq : val_main_v3_1 (F := Ideal) (L2 X) (L2 Wg) = L2 (fun p q => sg (nn 1024 X Wg p q) * (1 - sg (nn 1024 X Wg p q))) := by
  unfold val_main_v3_1 val_main_call0_v7 val_main_call0_v6 val_main_call0_cst_1
  rw [v3_2_eq]
  funext j
  idx_vars j
  pointwise []
  simp only [L2_apply, ← EReal.coe_one, ← EReal.coe_mul, ← EReal.coe_add, ← EReal.coe_sub, ← EReal.coe_neg, coe_sum, lit_one, lit_zero, zero_add, EReal.coe_zero]

/-- The activated gate values. -/
theorem v3_0_eq : val_main_v3_0 (F := Ideal) (L2 X) (L2 Wg) = L2 (fun p q => nn 1024 X Wg p q * sg (nn 1024 X Wg p q)) := by
  unfold val_main_v3_0
  rw [v2_eq, v3_2_eq]
  funext j
  idx_vars j
  pointwise []
  simp only [L2_apply, ← EReal.coe_one, ← EReal.coe_mul, ← EReal.coe_add, ← EReal.coe_sub, ← EReal.coe_neg, coe_sum, lit_one, lit_zero, zero_add, EReal.coe_zero]

/-- The gate values. -/
theorem v7_eq : val_main_v7 (F := Ideal) (L2 X) (L2 Wg) = L2 (nn 1024 X Wg) := by
  unfold val_main_v7 val_main_v0
  funext j
  idx_vars j
  pointwise []
  simp only [L2_apply, ← EReal.coe_one, ← EReal.coe_mul, ← EReal.coe_add, ← EReal.coe_sub, ← EReal.coe_neg, coe_sum, lit_one, lit_zero, nn, nt, Finset.sum_range, zero_add, EReal.coe_zero]

/-- The up values. -/
theorem v8_eq : val_main_v8 (F := Ideal) (L2 X) (L2 Wu) = L2 (nn 1024 X Wu) := by
  unfold val_main_v8 val_main_v0
  funext j
  idx_vars j
  pointwise []
  simp only [L2_apply, ← EReal.coe_one, ← EReal.coe_mul, ← EReal.coe_add, ← EReal.coe_sub, ← EReal.coe_neg, coe_sum, lit_one, lit_zero, nn, nt, Finset.sum_range, zero_add, EReal.coe_zero]

/-- The logistic function of the gate values. -/
theorem v9_2_eq : val_main_v9_2 (F := Ideal) (L2 X) (L2 Wg) = L2 (fun p q => sg (nn 1024 X Wg p q)) := by
  unfold val_main_v9_2 val_main_call1_v4 val_main_call1_cst_0 val_main_call1_v3 val_main_call1_v2 val_main_call1_cst val_main_call1_v1 val_main_call1_v0
  rw [v7_eq]
  funext j
  idx_vars j
  pointwise []
  simp only [L2_apply, ← EReal.coe_one, lit_one, sg_real]

/-- The derivative of the logistic function at the gate values. -/
theorem v9_1_eq : val_main_v9_1 (F := Ideal) (L2 X) (L2 Wg) = L2 (fun p q => sg (nn 1024 X Wg p q) * (1 - sg (nn 1024 X Wg p q))) := by
  unfold val_main_v9_1 val_main_call1_v7 val_main_call1_v6 val_main_call1_cst_1
  rw [v9_2_eq]
  funext j
  idx_vars j
  pointwise []
  simp only [L2_apply, ← EReal.coe_one, ← EReal.coe_mul, ← EReal.coe_add, ← EReal.coe_sub, ← EReal.coe_neg, coe_sum, lit_one, lit_zero, zero_add, EReal.coe_zero]

/-- The activated gate values. -/
theorem v9_0_eq : val_main_v9_0 (F := Ideal) (L2 X) (L2 Wg) = L2 (fun p q => nn 1024 X Wg p q * sg (nn 1024 X Wg p q)) := by
  unfold val_main_v9_0
  rw [v7_eq, v9_2_eq]
  funext j
  idx_vars j
  pointwise []
  simp only [L2_apply, ← EReal.coe_one, ← EReal.coe_mul, ← EReal.coe_add, ← EReal.coe_sub, ← EReal.coe_neg, coe_sum, lit_one, lit_zero, zero_add, EReal.coe_zero]

/-- The hidden values. -/
theorem v5_eq : val_main_v5 (F := Ideal) (L2 X) (L2 Wg) (L2 Wu) = L2 (fun p q => act (nn 1024 X Wg p q) (nn 1024 X Wu p q)) := by
  unfold val_main_v5
  rw [v3_0_eq, v4_eq]
  funext j
  idx_vars j
  pointwise []
  simp only [L2_apply, ← EReal.coe_one, ← EReal.coe_mul, ← EReal.coe_add, ← EReal.coe_sub, ← EReal.coe_neg, coe_sum, lit_one, lit_zero, zero_add, EReal.coe_zero]
  rfl

/-- The hidden values again. -/
theorem v10_eq : val_main_v10 (F := Ideal) (L2 X) (L2 Wg) (L2 Wu) = L2 (fun p q => act (nn 1024 X Wg p q) (nn 1024 X Wu p q)) := by
  unfold val_main_v10
  rw [v9_0_eq, v8_eq]
  funext j
  idx_vars j
  pointwise []
  simp only [L2_apply, ← EReal.coe_one, ← EReal.coe_mul, ← EReal.coe_add, ← EReal.coe_sub, ← EReal.coe_neg, coe_sum, lit_one, lit_zero, zero_add, EReal.coe_zero]
  rfl

/-- The output. -/
theorem v6_eq : val_main_v6 (F := Ideal) (L2 X) (L2 Wg) (L2 Wu) (L2 Wd) = L2 (nn 2816 (fun p q => act (nn 1024 X Wg p q) (nn 1024 X Wu p q)) Wd) := by
  unfold val_main_v6
  rw [v5_eq]
  funext j
  idx_vars j
  pointwise []
  simp only [L2_apply, ← EReal.coe_one, ← EReal.coe_mul, ← EReal.coe_add, ← EReal.coe_sub, ← EReal.coe_neg, coe_sum, lit_one, lit_zero, nn, nt, Finset.sum_range, zero_add, EReal.coe_zero]

/-- The hidden values' gradient. -/
theorem v12_eq : val_main_v12 (F := Ideal) (L2 D) (L2 Wd) = L2 (nt 1024 D Wd) := by
  unfold val_main_v12 val_main_v11 val_main_v1
  funext j
  idx_vars j
  pointwise []
  simp only [L2_apply, ← EReal.coe_one, ← EReal.coe_mul, ← EReal.coe_add, ← EReal.coe_sub, ← EReal.coe_neg, coe_sum, lit_one, lit_zero, nn, nt, Finset.sum_range, zero_add, EReal.coe_zero]

/-- The hidden values' gradient again. -/
theorem v16_eq : val_main_v16 (F := Ideal) (L2 D) (L2 Wd) = L2 (nt 1024 D Wd) := by
  unfold val_main_v16 val_main_v1
  funext j
  idx_vars j
  pointwise []
  simp only [L2_apply, ← EReal.coe_one, ← EReal.coe_mul, ← EReal.coe_add, ← EReal.coe_sub, ← EReal.coe_neg, coe_sum, lit_one, lit_zero, nn, nt, Finset.sum_range, zero_add, EReal.coe_zero]

/-- The up values' gradient. -/
theorem v13_eq : val_main_v13 (F := Ideal) (L2 X) (L2 D) (L2 Wg) (L2 Wd) = L2 (fun p q => dup (nt 1024 D Wd p q) (nn 1024 X Wg p q)) := by
  unfold val_main_v13
  rw [v9_0_eq, v12_eq]
  funext j
  idx_vars j
  pointwise []
  simp only [L2_apply, ← EReal.coe_one, ← EReal.coe_mul, ← EReal.coe_add, ← EReal.coe_sub, ← EReal.coe_neg, coe_sum, lit_one, lit_zero, zero_add, EReal.coe_zero]
  exact congrArg _ (mul_comm _ _)

/-- The up values' gradient again. -/
theorem v17_eq : val_main_v17 (F := Ideal) (L2 X) (L2 D) (L2 Wg) (L2 Wd) = L2 (fun p q => dup (nt 1024 D Wd p q) (nn 1024 X Wg p q)) := by
  unfold val_main_v17
  rw [v3_0_eq, v16_eq]
  funext j
  idx_vars j
  pointwise []
  simp only [L2_apply, ← EReal.coe_one, ← EReal.coe_mul, ← EReal.coe_add, ← EReal.coe_sub, ← EReal.coe_neg, coe_sum, lit_one, lit_zero, zero_add, EReal.coe_zero]
  exact congrArg _ (mul_comm _ _)

/-- The activated gate values' gradient. -/
theorem v14_eq : val_main_v14 (F := Ideal) (L2 X) (L2 D) (L2 Wu) (L2 Wd) = L2 (fun p q => nt 1024 D Wd p q * nn 1024 X Wu p q) := by
  unfold val_main_v14
  rw [v12_eq, v8_eq]
  funext j
  idx_vars j
  pointwise []
  simp only [L2_apply, ← EReal.coe_one, ← EReal.coe_mul, ← EReal.coe_add, ← EReal.coe_sub, ← EReal.coe_neg, coe_sum, lit_one, lit_zero, zero_add, EReal.coe_zero]

/-- The activated gate values' gradient again. -/
theorem v18_eq : val_main_v18 (F := Ideal) (L2 X) (L2 D) (L2 Wu) (L2 Wd) = L2 (fun p q => nt 1024 D Wd p q * nn 1024 X Wu p q) := by
  unfold val_main_v18
  rw [v16_eq, v4_eq]
  funext j
  idx_vars j
  pointwise []
  simp only [L2_apply, ← EReal.coe_one, ← EReal.coe_mul, ← EReal.coe_add, ← EReal.coe_sub, ← EReal.coe_neg, coe_sum, lit_one, lit_zero, zero_add, EReal.coe_zero]

/-- The gate values' gradient. -/
theorem v15_eq : val_main_v15 (F := Ideal) (L2 X) (L2 D) (L2 Wg) (L2 Wu) (L2 Wd) = L2 (fun p q => dgate (nt 1024 D Wd p q) (nn 1024 X Wg p q) (nn 1024 X Wu p q)) := by
  unfold val_main_v15 val_main_call2_v1 val_main_call2_v2 val_main_call2_v0
  rw [v14_eq, v9_2_eq, v9_1_eq, v7_eq]
  funext j
  idx_vars j
  pointwise []
  simp only [L2_apply, ← EReal.coe_mul, ← EReal.coe_add]
  refine congrArg _ ?_
  unfold dgate
  ring

/-- The gate values' gradient again. -/
theorem v20_eq : val_main_v20 (F := Ideal) (L2 X) (L2 D) (L2 Wg) (L2 Wu) (L2 Wd) = L2 (fun p q => dgate (nt 1024 D Wd p q) (nn 1024 X Wg p q) (nn 1024 X Wu p q)) := by
  unfold val_main_v20 val_main_call3_v1 val_main_call3_v2 val_main_call3_v0
  rw [v18_eq, v3_2_eq, v3_1_eq, v2_eq]
  funext j
  idx_vars j
  pointwise []
  simp only [L2_apply, ← EReal.coe_mul, ← EReal.coe_add]
  refine congrArg _ ?_
  unfold dgate
  ring

/-- The input's gradient through the up values. -/
theorem v19_eq : val_main_v19 (F := Ideal) (L2 X) (L2 D) (L2 Wg) (L2 Wu) (L2 Wd) = L2 (nt 2816 (fun p q => dup (nt 1024 D Wd p q) (nn 1024 X Wg p q)) Wu) := by
  unfold val_main_v19
  rw [v17_eq]
  funext j
  idx_vars j
  pointwise []
  simp only [L2_apply, ← EReal.coe_one, ← EReal.coe_mul, ← EReal.coe_add, ← EReal.coe_sub, ← EReal.coe_neg, coe_sum, lit_one, lit_zero, nn, nt, Finset.sum_range, zero_add, EReal.coe_zero]

/-- The input's gradient through the gate values. -/
theorem v21_eq : val_main_v21 (F := Ideal) (L2 X) (L2 D) (L2 Wg) (L2 Wu) (L2 Wd) = L2 (nt 2816 (fun p q => dgate (nt 1024 D Wd p q) (nn 1024 X Wg p q) (nn 1024 X Wu p q)) Wg) := by
  unfold val_main_v21
  rw [v20_eq]
  funext j
  idx_vars j
  pointwise []
  simp only [L2_apply, ← EReal.coe_one, ← EReal.coe_mul, ← EReal.coe_add, ← EReal.coe_sub, ← EReal.coe_neg, coe_sum, lit_one, lit_zero, nn, nt, Finset.sum_range, zero_add, EReal.coe_zero]

/-- The input's gradient. -/
theorem v22_eq : val_main_v22 (F := Ideal) (L2 X) (L2 D) (L2 Wg) (L2 Wu) (L2 Wd) = L2 (fun p q => nt 2816 (fun p q => dup (nt 1024 D Wd p q) (nn 1024 X Wg p q)) Wu p q + nt 2816 (fun p q => dgate (nt 1024 D Wd p q) (nn 1024 X Wg p q) (nn 1024 X Wu p q)) Wg p q) := by
  unfold val_main_v22
  rw [v19_eq, v21_eq]
  funext j
  idx_vars j
  pointwise []
  simp only [L2_apply, ← EReal.coe_add]

end Cert.Reference2Ideal.Ffn

end
-- ==== Proof.FfnEq.lean ====
module

public import proofs.«01_k».proof.Proof.FfnRef
public import proofs.«01_k».proof.Proof.Finite
public import proofs.«01_k».proof.Proof.Gen.Reference2Ideal.Run
public import proofs.«01_k».proof.Defs

@[expose] public section

set_option maxRecDepth 16384

noncomputable section

/-! The feed-forward calls' results are the reference's. -/

namespace Cert.Proof.Ffn

open Idealize.ShloMosaic Idealize.SL.Sem Idealize.ShloMosaic.TcCoe Cert.Lift
open Cert.Reference2Ideal Cert.Reference2Ideal.Read Cert.Reference2Ideal.Ffn
open Cert.Kernel2Ideal.Ffn (Holds nn nt sg act dgate dup L2_congr res0 res1 res2 res3 res4)

/-- The precondition's shape relations. -/
theorem facts : Cert.Pre_finite2.Facts where
  bcast_S_S16384x1024 := by decide
  bcast_S_S1024x2816 := by decide
  bcast_S_S2816x1024 := by decide

attribute [local instance] Cert.Kernel2Ideal.Gen.facts Cert.Reference2Ideal.Gen.facts facts

/-- Under the precondition the arguments in memory are real arrays. -/
theorem holds (m : (ℓ : Loc Cert.Kernel2Ideal.nD Cert.Kernel2Ideal.τ Cert.Kernel2Ideal.sig) → Buf (Elt Ideal) ℓ)
    (h : Cert.Pre_Kernel2Ideal_finite2 m) (c : Dev Cert.Kernel2Ideal.nD) : ∃ X D Wg Wu Wd : ℕ → ℕ → ℝ, Holds m c X D Wg Wu Wd := by
  obtain ⟨h0, h1, h2, h3, h4⟩ := h c
  obtain ⟨X, e0⟩ := exists_L2 _ (Cert.Finite.real_bf16 facts.bcast_S_S16384x1024 _ h0)
  obtain ⟨D, e1⟩ := exists_L2 _ (Cert.Finite.real_bf16 facts.bcast_S_S16384x1024 _ h1)
  obtain ⟨Wg, e2⟩ := exists_L2 _ (Cert.Finite.real_f32 facts.bcast_S_S1024x2816 _ h2)
  obtain ⟨Wu, e3⟩ := exists_L2 _ (Cert.Finite.real_f32 facts.bcast_S_S1024x2816 _ h3)
  obtain ⟨Wd, e4⟩ := exists_L2 _ (Cert.Finite.real_f32 facts.bcast_S_S2816x1024 _ h4)
  exact ⟨X, D, Wg, Wu, Wd, ⟨e0, e1, e2, e3, e4⟩⟩

/-- The reference runs and keeps its arguments; it has no semaphores. -/
theorem frame_reference : Cert.quiescent_Reference2Ideal := fun m g _ =>
  (θ_run Cert.Reference2Ideal.defs _ _).mono (fun r h => ⟨fun c => (h c).2.2.2.2.2, sem_eq_zero_of_no_sems (by decide) r.2⟩)
    (Cert.Reference2Ideal.Value.run (F := Ideal) m g)

/-- The kernel's five results are the reference's. -/
theorem algebraic : Cert.algebraic_Kernel2Ideal_Reference2Ideal_pre_finite2 := by
  intro m g m' g' hpre hargs
  refine ⟨_, _, _, _, _, Cert.Kernel2Ideal.Ffn.run m g, ?_⟩
  refine (θ_run Cert.Reference2Ideal.defs _ _).mono (fun r h c => ?_) (Cert.Reference2Ideal.Value.run (F := Ideal) m' g')
  obtain ⟨X, D, Wg, Wu, Wd, H⟩ := holds m hpre c
  obtain ⟨a0, a1, a2, a3, a4⟩ := hargs c
  obtain ⟨r0, r1, r2, r3, r4, rest⟩ := h c
  have b0 := a0.trans H.x
  have b1 := a1.trans H.d
  have b2 := a2.trans H.wg
  have b3 := a3.trans H.wu
  have b4 := a4.trans H.wd
  refine ⟨r0.trans ((val_main_v23_eq _ _ _ _).trans ?_), r1.trans ((val_main_v24_eq _ _ _).trans ?_), r2.trans ((val_main_v25_eq _ _ _ _ _).trans ?_),
    r3.trans ((val_main_v26_eq _ _ _ _ _).trans ?_), r4.trans ((val_main_v27_eq _ _ _ _).trans ?_), rest⟩
  · rw [b0, b2, b3, b4, res0 m g H]
    exact v6_eq X Wg Wu Wd
  · rw [b0, b2, b3, res1 m g H]
    exact v10_eq X Wg Wu
  · rw [b0, b1, b2, b3, b4, res2 m g H]
    exact (v22_eq X D Wg Wu Wd).trans (L2_congr fun p q => add_comm _ _)
  · rw [b0, b1, b2, b3, b4, res3 m g H]
    exact v15_eq X D Wg Wu Wd
  · rw [b0, b1, b2, b4, res4 m g H]
    exact v13_eq X D Wg Wd

end Cert.Proof.Ffn

end
-- ==== Proof.Xty.lean ====
module

public import proofs.«01_k».proof.Proof.Lift2
public import proofs.«01_k».proof.Proof.Gen.Kernel3Ideal.Value
public import Idealize.ShloMosaic.Lib.Pipeline.ValueKit
public import Idealize.ShloMosaic.Lib.Pipeline.ReadBack

@[expose] public section

set_option maxRecDepth 16384

noncomputable section

/-! The weight gradient's kernel: the product of one matrix's transpose with another, accumulated over eight
    blocks of rows for each half of the columns. -/

namespace Cert.Kernel3Ideal.Xty

open Idealize.ShloMosaic Idealize.ShloMosaic.TcCoe Cert.Lift Cert.Kernel3Ideal Cert.Kernel3Ideal.Gen
open Idealize.ShloMosaic.Pipeline (Dat)

/-- The accumulator starts from zeros. -/
theorem pay1_eq : k0_pay1 (F := Ideal) = E2 fun _ _ => 0 := by
  funext j
  idx_vars j
  pointwise [k0_pay1]
  rfl

/-- One point adds the product of its two blocks, the first transposed. -/
theorem pay2_eq (A X Y : ℕ → ℕ → EReal) : k0_pay2 (F := Ideal) (E2 A) (E2 X) (E2 Y)
    = E2 fun i j => A i j + ∑ l ∈ Finset.range 2048, X l i * Y l j := by
  funext j
  idx_vars j
  pointwise [k0_pay2]
  simp only [E2_apply, Finset.sum_range]

/-- The last point writes the accumulator out. -/
theorem pay3_eq (A : ℕ → ℕ → EReal) : k0_pay3 (F := Ideal) (E2 A) = E2 A := by
  funext j
  idx_vars j
  pointwise [k0_pay3]

variable (m : (ℓ : Loc nD τ sig) → Buf (Elt Ideal) ℓ) (c : Dev nD)

/-- The two arguments in memory. -/
structure Holds (X Y : ℕ → ℕ → EReal) : Prop where
  X : m ((c : Thread nD τ).loc main_arg0) = (E2 X : FVec Ideal S16384x2816 .bf16)
  Y : m ((c : Thread nD τ).loc main_arg1) = (E2 Y : FVec Ideal S16384x1024 .bf16)

/-- What the accumulator holds in half `b` after blocks `0` to `k`. -/
def acc (X Y : ℕ → ℕ → EReal) (b k i j : ℕ) : EReal :=
  ∑ s ∈ Finset.range (k + 1), ∑ l ∈ Finset.range 2048, X (2048 * s + l) (1408 * b + i) * Y (2048 * s + l) j

/-- The blocks each point reads. -/
theorem idx0 : ∀ t : Fin cfg0.N, win0_0.index t 0 = t.val % 8 ∧ win0_0.index t 1 = t.val / 8 ∧
    win0_1.index t 0 = t.val % 8 ∧ win0_1.index t 1 = 0 :=
  (by decide +kernel : ∀ t : Fin grid0.N, _)

/-- The first operand's block. -/
theorem blkX {X Y : ℕ → ℕ → EReal} (H : Holds m c X Y) (t : Fin cfg0.N) :
    iblk m c 0 t = (E2 fun l i => X (2048 * (t.val % 8) + l) (1408 * (t.val / 8) + i) : FVec Ideal S2048x1408 .bf16) := by
  obtain ⟨e0, e1, -⟩ := idx0 t
  funext y
  show V m c main_arg0 (((cfg0.win 0).blk t).view.emb y) = _
  rw [(V_main_arg0 m c).trans H.X]
  show X (((cfg0.win 0).blk t).view.emb y 0).val (((cfg0.win 0).blk t).view.emb y 1).val = _
  blk_simp
  rw [e0, e1, Nat.mul_comm _ 2048, Nat.mul_comm _ 1408]
  rfl

/-- The second operand's block. -/
theorem blkY {X Y : ℕ → ℕ → EReal} (H : Holds m c X Y) (t : Fin cfg0.N) :
    iblk m c 1 t = (E2 fun l j => Y (2048 * (t.val % 8) + l) j : FVec Ideal S2048x1024 .bf16) := by
  obtain ⟨-, -, e0, e1⟩ := idx0 t
  funext y
  show V m c main_arg1 (((cfg0.win 1).blk t).view.emb y) = _
  rw [(V_main_arg1 m c).trans H.Y]
  show Y (((cfg0.win 1).blk t).view.emb y 0).val (((cfg0.win 1).blk t).view.emb y 1).val = _
  blk_simp
  rw [e0, e1, Nat.mul_comm _ 2048, Nat.zero_mul, Nat.zero_add]
  rfl

/-- The first point of a half leaves its own product in the accumulator. -/
theorem caseA {X Y : ℕ → ℕ → EReal} (H : Holds m c X Y) (t : Fin cfg0.N) (h0 : t.val % 8 = 0) :
    (outsAt0 m c t.val t.isLt).2 = E2 (acc X Y (t.val / 8) (t.val % 8)) := by
  rw [outsAt0_A m c t h0 (by omega)]
  dsimp only
  frame_out
  try simp (disch := first | rfl | decide) only [↓View.readCov_skip, ↓View.readCov_fill, pay1_eq]
  simp only [blkX m c H, blkY m c H, pay2_eq]
  rw [h0]
  exact congrArg E2 (by funext i j; unfold acc; simp)

/-- A later point adds its product. -/
theorem caseB {X Y : ℕ → ℕ → EReal} (H : Holds m c X Y) (t : Fin cfg0.N) (h0 : ¬ t.val % 8 = 0)
    (ha : (outsAt0 m c (t.val - 1) (Nat.lt_of_le_of_lt (Nat.sub_le _ _) t.isLt)).2 = E2 (acc X Y (t.val / 8) (t.val % 8 - 1))) :
    (outsAt0 m c t.val t.isLt).2 = E2 (acc X Y (t.val / 8) (t.val % 8)) ∧
    (t.val % 8 = 7 → (outsAt0 m c t.val t.isLt).1 = E2 (acc X Y (t.val / 8) (t.val % 8))) := by
  have step : (fun i j => acc X Y (t.val / 8) (t.val % 8 - 1) i j + ∑ l ∈ Finset.range 2048,
      X (2048 * (t.val % 8) + l) (1408 * (t.val / 8) + i) * Y (2048 * (t.val % 8) + l) j) = acc X Y (t.val / 8) (t.val % 8) := by
    funext i j
    unfold acc
    rw [show t.val % 8 - 1 + 1 = t.val % 8 by omega]
    exact (Finset.sum_range_succ _ _).symm
  by_cases h1 : t.val % 8 = 7
  · rw [outsAt0_C m c t h0 h1]
    dsimp only
    refine ⟨?_, fun _ => ?_⟩
    all_goals frame_out
    all_goals try simp (disch := first | rfl | decide) only [↓View.readCov_skip, ↓View.readCov_fill]
    all_goals try simp only [read_unread_whole]
    all_goals simp only [ha, blkX m c H, blkY m c H, pay2_eq, pay3_eq, step]
  · rw [outsAt0_B m c t h0 h1]
    dsimp only
    refine ⟨?_, fun h => absurd h h1⟩
    frame_out
    try simp only [read_unread_whole]
    simp only [ha, blkX m c H, blkY m c H, pay2_eq, step]

/-- What the accumulator holds after every point. -/
theorem accs {X Y : ℕ → ℕ → EReal} (H : Holds m c X Y) (n : ℕ) : ∀ hn : n < cfg0.N,
    (outsAt0 m c n hn).2 = E2 (acc X Y (n / 8) (n % 8)) := by
  induction n with
  | zero => intro hn; exact caseA m c H ⟨0, hn⟩ rfl
  | succ n ih =>
    intro hn
    by_cases h0 : (n + 1) % 8 = 0
    · exact caseA m c H ⟨n + 1, hn⟩ h0
    · refine (caseB m c H ⟨n + 1, hn⟩ h0 ?_).1
      have := ih (Nat.lt_of_succ_lt hn)
      show (outsAt0 m c n _).2 = E2 (acc X Y ((n + 1) / 8) ((n + 1) % 8 - 1))
      rw [this, show (n + 1) / 8 = n / 8 by omega, show (n + 1) % 8 - 1 = n % 8 by omega]

/-- What the last point of a half writes out. -/
theorem outs {X Y : ℕ → ℕ → EReal} (H : Holds m c X Y) (n : ℕ) (hn : n < cfg0.N) (h : n % 8 = 7) :
    (outsAt0 m c n hn).1 = E2 (acc X Y (n / 8) 7) := by
  have := (caseB m c H ⟨n, hn⟩ (by show ¬ n % 8 = 0; omega) (by
    show (outsAt0 m c (n - 1) _).2 = E2 (acc X Y (n / 8) (n % 8 - 1))
    rw [accs m c H (n - 1), show (n - 1) / 8 = n / 8 by omega, show (n - 1) % 8 = n % 8 - 1 by omega])).2 h
  rw [this]
  show E2 (acc X Y (n / 8) (n % 8)) = _
  rw [h]

/-- The result: the product of the first argument's transpose with the second. -/
theorem final {X Y : ℕ → ℕ → EReal} (H : Holds m c X Y) :
    Value.G2 m c = (E2 fun i j => ∑ k ∈ Finset.range 16384, X k i * Y k j : FVec Ideal S2816x1024 .bf16) := by
  funext y
  have h0 : (y 0).val < 2816 := (y 0).isLt
  have h1 : (y 1).val < 1024 := (y 1).isLt
  have hr : Value.run2Of y = (y 0).val / 1408 := by
    show 1 * ((y 0).val / 1408 - 0) + 1 * ((y 1).val / 1024 - 0) = _
    omega
  have hp : Value.pt2Of y = 8 * ((y 0).val / 1408) + 7 := by
    show 8 * Value.run2Of y + 7 = _
    rw [hr]
  have hN : Value.pt2Of y < cfg0.N := by rw [hp, show cfg0.N = 16 from N_0]; omega
  unfold Value.G2
  rw [dif_pos hN, ← Value.outsAt0_sweep m c _ hN, outs m c H _ hN (by rw [hp]; omega), hp]
  show acc X Y ((8 * ((y 0).val / 1408) + 7) / 8) 7 ((y 0).val % 1408) ((y 1).val % 1024) = ∑ k ∈ Finset.range 16384, X k (y 0).val * Y k (y 1).val
  rw [show (8 * ((y 0).val / 1408) + 7) / 8 = (y 0).val / 1408 by omega, Nat.mod_eq_of_lt h1]
  unfold acc
  rw [show 1408 * ((y 0).val / 1408) + (y 0).val % 1408 = (y 0).val by omega]
  exact sum_blocks 2048 8 fun k => X k (y 0).val * Y k (y 1).val

end Cert.Kernel3Ideal.Xty

end
-- ==== Proof.XtyEq.lean ====
module

public import proofs.«01_k».proof.Proof.Xty
public import proofs.«01_k».proof.Proof.Gen.Reference3Ideal.Run
public import proofs.«01_k».proof.Proof.Gen.Reference3Ideal.Read
public import proofs.«01_k».proof.Defs

@[expose] public section

set_option maxRecDepth 16384

noncomputable section

/-! The weight gradient's reference, and its equality with what the kernel leaves. -/

namespace Cert.Proof.Xty

open Idealize.ShloMosaic Idealize.SL.Sem Idealize.ShloMosaic.TcCoe Cert.Lift
open Cert.Reference3Ideal Cert.Reference3Ideal.Read
open Cert.Kernel3Ideal.Xty (Holds)

attribute [local instance] Cert.Kernel3Ideal.Gen.facts Cert.Reference3Ideal.Gen.facts

/-- The reference's result: the product of the first argument's transpose with the second. -/
theorem value (X Y : ℕ → ℕ → EReal) : val_main_v6 (F := Ideal) (E2 X) (E2 Y)
    = (E2 fun i j => ∑ k ∈ Finset.range 16384, X k i * Y k j : FVec Ideal S2816x1024 .bf16) := by
  unfold val_main_v6 val_main_v5 val_main_v4 val_main_v3 val_main_v1
  funext j
  idx_vars j
  pointwise []
  simp only [E2_apply, Finset.sum_range]
  exact Finset.sum_congr rfl fun k _ => mul_comm _ _

/-- The reference runs and keeps its arguments; it has no semaphores. -/
theorem frame_reference : Cert.quiescent_Reference3Ideal := fun m g _ =>
  (θ_run Cert.Reference3Ideal.defs _ _).mono (fun r h => ⟨fun c => (h c).2, sem_eq_zero_of_no_sems (by decide) r.2⟩)
    (Cert.Reference3Ideal.Value.run (F := Ideal) m g)

/-- The kernel's result is the reference's, whatever the arguments. -/
theorem algebraic : Cert.algebraic_Kernel3Ideal_Reference3Ideal := by
  intro m g m' g' hpre hargs
  refine ⟨fun c => Cert.Kernel3Ideal.Value.G2 m c, Cert.Kernel3Ideal.Value.run m g, ?_⟩
  refine (θ_run Cert.Reference3Ideal.defs _ _).mono (fun r h c => ?_) (Cert.Reference3Ideal.Value.run (F := Ideal) m' g')
  obtain ⟨X, hX⟩ := exists_E2 (a := 16384) (b := 2816) (m ((c : Thread Cert.Kernel3Ideal.nD Cert.Kernel3Ideal.τ).loc Cert.Kernel3Ideal.main_arg0))
  obtain ⟨Y, hY⟩ := exists_E2 (a := 16384) (b := 1024) (m ((c : Thread Cert.Kernel3Ideal.nD Cert.Kernel3Ideal.τ).loc Cert.Kernel3Ideal.main_arg1))
  have H : Holds m c X Y := ⟨hX, hY⟩
  obtain ⟨a0, a1⟩ := hargs c
  obtain ⟨r0, rest⟩ := h c
  have b0 := a0.trans H.X
  have b1 := a1.trans H.Y
  refine ⟨r0.trans ((val_main_v6_eq _ _).trans (Eq.trans ?_ ((value X Y).trans (Cert.Kernel3Ideal.Xty.final m c H).symm))), rest⟩
  exact congrArg₂ (val_main_v6 (F := Ideal)) b0 b1

end Cert.Proof.Xty

end
-- ==== Proof.Square.lean ====
module

public import proofs.«01_k».proof.Proof.Lift2
public import proofs.«01_k».proof.Proof.Gen.Kernel4Ideal.Value
public import Idealize.ShloMosaic.Lib.Pipeline.ValueKit
public import Idealize.ShloMosaic.Lib.Pipeline.ReadBack

@[expose] public section

set_option maxRecDepth 16384

noncomputable section

/-! The weight gradient's kernel for a square weight: the product of one matrix's transpose with another, accumulated
    over eight blocks of rows. -/

namespace Cert.Kernel4Ideal.Square

open Idealize.ShloMosaic Idealize.ShloMosaic.TcCoe Cert.Lift Cert.Kernel4Ideal Cert.Kernel4Ideal.Gen
open Idealize.ShloMosaic.Pipeline (Dat)

/-- The accumulator starts from zeros. -/
theorem pay1_eq : k0_pay1 (F := Ideal) = E2 fun _ _ => 0 := by
  funext j
  idx_vars j
  pointwise [k0_pay1]
  rfl

/-- One point adds the product of its two blocks, the first transposed. -/
theorem pay2_eq (A X Y : ℕ → ℕ → EReal) : k0_pay2 (F := Ideal) (E2 A) (E2 X) (E2 Y)
    = E2 fun i j => A i j + ∑ l ∈ Finset.range 2048, X l i * Y l j := by
  funext j
  idx_vars j
  pointwise [k0_pay2]
  simp only [E2_apply, Finset.sum_range]

/-- The last point writes the accumulator out. -/
theorem pay3_eq (A : ℕ → ℕ → EReal) : k0_pay3 (F := Ideal) (E2 A) = E2 A := by
  funext j
  idx_vars j
  pointwise [k0_pay3]

variable (m : (ℓ : Loc nD τ sig) → Buf (Elt Ideal) ℓ) (c : Dev nD)

/-- The two arguments in memory. -/
structure Holds (X Y : ℕ → ℕ → EReal) : Prop where
  X : m ((c : Thread nD τ).loc main_arg0) = (E2 X : FVec Ideal S16384x1024 .bf16)
  Y : m ((c : Thread nD τ).loc main_arg1) = (E2 Y : FVec Ideal S16384x1024 .bf16)

/-- What the accumulator holds after blocks `0` to `k`. -/
def acc (X Y : ℕ → ℕ → EReal) (k i j : ℕ) : EReal :=
  ∑ s ∈ Finset.range (k + 1), ∑ l ∈ Finset.range 2048, X (2048 * s + l) i * Y (2048 * s + l) j

/-- The blocks each point reads. -/
theorem idx0 : ∀ t : Fin cfg0.N, win0_0.index t 0 = t.val % 8 ∧ win0_0.index t 1 = 0 ∧
    win0_1.index t 0 = t.val % 8 ∧ win0_1.index t 1 = 0 :=
  (by decide +kernel : ∀ t : Fin grid0.N, _)

/-- The first operand's block. -/
theorem blkX {X Y : ℕ → ℕ → EReal} (H : Holds m c X Y) (t : Fin cfg0.N) :
    iblk m c 0 t = (E2 fun l i => X (2048 * (t.val % 8) + l) i : FVec Ideal S2048x1024 .bf16) := by
  obtain ⟨e0, e1, -⟩ := idx0 t
  funext y
  show V m c main_arg0 (((cfg0.win 0).blk t).view.emb y) = _
  rw [(V_main_arg0 m c).trans H.X]
  show X (((cfg0.win 0).blk t).view.emb y 0).val (((cfg0.win 0).blk t).view.emb y 1).val = _
  blk_simp
  rw [e0, e1, Nat.mul_comm _ 2048, Nat.zero_mul, Nat.zero_add]
  rfl

/-- The second operand's block. -/
theorem blkY {X Y : ℕ → ℕ → EReal} (H : Holds m c X Y) (t : Fin cfg0.N) :
    iblk m c 1 t = (E2 fun l j => Y (2048 * (t.val % 8) + l) j : FVec Ideal S2048x1024 .bf16) := by
  obtain ⟨-, -, e0, e1⟩ := idx0 t
  funext y
  show V m c main_arg1 (((cfg0.win 1).blk t).view.emb y) = _
  rw [(V_main_arg1 m c).trans H.Y]
  show Y (((cfg0.win 1).blk t).view.emb y 0).val (((cfg0.win 1).blk t).view.emb y 1).val = _
  blk_simp
  rw [e0, e1, Nat.mul_comm _ 2048, Nat.zero_mul, Nat.zero_add]
  rfl

/-- The first point leaves its own product in the accumulator. -/
theorem caseA {X Y : ℕ → ℕ → EReal} (H : Holds m c X Y) (t : Fin cfg0.N) (h0 : t.val % 8 = 0) :
    (outsAt0 m c t.val t.isLt).2 = E2 (acc X Y (t.val % 8)) := by
  rw [outsAt0_A m c t h0 (by omega)]
  dsimp only
  frame_out
  try simp (disch := first | rfl | decide) only [↓View.readCov_skip, ↓View.readCov_fill, pay1_eq]
  simp only [blkX m c H, blkY m c H, pay2_eq]
  rw [h0]
  exact congrArg E2 (by funext i j; unfold acc; simp)

/-- A later point adds its product. -/
theorem caseB {X Y : ℕ → ℕ → EReal} (H : Holds m c X Y) (t : Fin cfg0.N) (h0 : ¬ t.val % 8 = 0)
    (ha : (outsAt0 m c (t.val - 1) (Nat.lt_of_le_of_lt (Nat.sub_le _ _) t.isLt)).2 = E2 (acc X Y (t.val % 8 - 1))) :
    (outsAt0 m c t.val t.isLt).2 = E2 (acc X Y (t.val % 8)) ∧
    (t.val % 8 = 7 → (outsAt0 m c t.val t.isLt).1 = E2 (acc X Y (t.val % 8))) := by
  have step : (fun i j => acc X Y (t.val % 8 - 1) i j + ∑ l ∈ Finset.range 2048,
      X (2048 * (t.val % 8) + l) i * Y (2048 * (t.val % 8) + l) j) = acc X Y (t.val % 8) := by
    funext i j
    unfold acc
    rw [show t.val % 8 - 1 + 1 = t.val % 8 by omega]
    exact (Finset.sum_range_succ _ _).symm
  by_cases h1 : t.val % 8 = 7
  · rw [outsAt0_C m c t h0 h1]
    dsimp only
    refine ⟨?_, fun _ => ?_⟩
    all_goals frame_out
    all_goals try simp (disch := first | rfl | decide) only [↓View.readCov_skip, ↓View.readCov_fill]
    all_goals try simp only [read_unread_whole]
    all_goals simp only [ha, blkX m c H, blkY m c H, pay2_eq, pay3_eq, step]
  · rw [outsAt0_B m c t h0 h1]
    dsimp only
    refine ⟨?_, fun h => absurd h h1⟩
    frame_out
    try simp only [read_unread_whole]
    simp only [ha, blkX m c H, blkY m c H, pay2_eq, step]

/-- What the accumulator holds after every point. -/
theorem accs {X Y : ℕ → ℕ → EReal} (H : Holds m c X Y) (n : ℕ) : ∀ hn : n < cfg0.N,
    (outsAt0 m c n hn).2 = E2 (acc X Y (n % 8)) := by
  induction n with
  | zero => intro hn; exact caseA m c H ⟨0, hn⟩ rfl
  | succ n ih =>
    intro hn
    by_cases h0 : (n + 1) % 8 = 0
    · exact caseA m c H ⟨n + 1, hn⟩ h0
    · refine (caseB m c H ⟨n + 1, hn⟩ h0 ?_).1
      have := ih (Nat.lt_of_succ_lt hn)
      show (outsAt0 m c n _).2 = E2 (acc X Y ((n + 1) % 8 - 1))
      rw [this, show (n + 1) % 8 - 1 = n % 8 by omega]

/-- What the last point writes out. -/
theorem outs {X Y : ℕ → ℕ → EReal} (H : Holds m c X Y) (n : ℕ) (hn : n < cfg0.N) (h : n % 8 = 7) :
    (outsAt0 m c n hn).1 = E2 (acc X Y 7) := by
  have := (caseB m c H ⟨n, hn⟩ (by show ¬ n % 8 = 0; omega) (by
    show (outsAt0 m c (n - 1) _).2 = E2 (acc X Y (n % 8 - 1))
    rw [accs m c H (n - 1), show (n - 1) % 8 = n % 8 - 1 by omega])).2 h
  rw [this]
  show E2 (acc X Y (n % 8)) = _
  rw [h]

/-- The result: the product of the first argument's transpose with the second. -/
theorem final {X Y : ℕ → ℕ → EReal} (H : Holds m c X Y) :
    Value.G2 m c = (E2 fun i j => ∑ k ∈ Finset.range 16384, X k i * Y k j : FVec Ideal S1024x1024 .bf16) := by
  funext y
  have h0 : (y 0).val < 1024 := (y 0).isLt
  have h1 : (y 1).val < 1024 := (y 1).isLt
  have hp : Value.pt2Of y = 7 := by
    show 8 * (1 * ((y 0).val / 1024 - 0) + 1 * ((y 1).val / 1024 - 0)) + 7 = _
    omega
  have hN : Value.pt2Of y < cfg0.N := by rw [hp, show cfg0.N = 8 from N_0]; omega
  unfold Value.G2
  rw [dif_pos hN, ← Value.outsAt0_sweep m c _ hN, outs m c H _ hN (by rw [hp])]
  show acc X Y 7 ((y 0).val % 1024) ((y 1).val % 1024) = ∑ k ∈ Finset.range 16384, X k (y 0).val * Y k (y 1).val
  rw [Nat.mod_eq_of_lt h0, Nat.mod_eq_of_lt h1]
  exact sum_blocks 2048 8 fun k => X k (y 0).val * Y k (y 1).val

end Cert.Kernel4Ideal.Square

end
-- ==== Proof.SquareEq.lean ====
module

public import proofs.«01_k».proof.Proof.Square
public import proofs.«01_k».proof.Proof.Gen.Reference4Ideal.Run
public import proofs.«01_k».proof.Proof.Gen.Reference4Ideal.Read
public import proofs.«01_k».proof.Defs

@[expose] public section

set_option maxRecDepth 16384

noncomputable section

/-! The square weight gradient's reference, and its equality with what the kernel leaves. -/

namespace Cert.Proof.Square

open Idealize.ShloMosaic Idealize.SL.Sem Idealize.ShloMosaic.TcCoe Cert.Lift
open Cert.Reference4Ideal Cert.Reference4Ideal.Read
open Cert.Kernel4Ideal.Square (Holds)

attribute [local instance] Cert.Kernel4Ideal.Gen.facts Cert.Reference4Ideal.Gen.facts

/-- The reference's result: the product of the first argument's transpose with the second. -/
theorem value (X Y : ℕ → ℕ → EReal) : val_main_v6 (F := Ideal) (E2 X) (E2 Y)
    = (E2 fun i j => ∑ k ∈ Finset.range 16384, X k i * Y k j : FVec Ideal S1024x1024 .bf16) := by
  unfold val_main_v6 val_main_v5 val_main_v4 val_main_v3 val_main_v1
  funext j
  idx_vars j
  pointwise []
  simp only [E2_apply, Finset.sum_range]
  exact Finset.sum_congr rfl fun k _ => mul_comm _ _

/-- The reference runs and keeps its arguments; it has no semaphores. -/
theorem frame_reference : Cert.quiescent_Reference4Ideal := fun m g _ =>
  (θ_run Cert.Reference4Ideal.defs _ _).mono (fun r h => ⟨fun c => (h c).2, sem_eq_zero_of_no_sems (by decide) r.2⟩)
    (Cert.Reference4Ideal.Value.run (F := Ideal) m g)

/-- The kernel's result is the reference's, whatever the arguments. -/
theorem algebraic : Cert.algebraic_Kernel4Ideal_Reference4Ideal := by
  intro m g m' g' hpre hargs
  refine ⟨fun c => Cert.Kernel4Ideal.Value.G2 m c, Cert.Kernel4Ideal.Value.run m g, ?_⟩
  refine (θ_run Cert.Reference4Ideal.defs _ _).mono (fun r h c => ?_) (Cert.Reference4Ideal.Value.run (F := Ideal) m' g')
  obtain ⟨X, hX⟩ := exists_E2 (a := 16384) (b := 1024) (m ((c : Thread Cert.Kernel4Ideal.nD Cert.Kernel4Ideal.τ).loc Cert.Kernel4Ideal.main_arg0))
  obtain ⟨Y, hY⟩ := exists_E2 (a := 16384) (b := 1024) (m ((c : Thread Cert.Kernel4Ideal.nD Cert.Kernel4Ideal.τ).loc Cert.Kernel4Ideal.main_arg1))
  have H : Holds m c X Y := ⟨hX, hY⟩
  obtain ⟨a0, a1⟩ := hargs c
  obtain ⟨r0, rest⟩ := h c
  have b0 := a0.trans H.X
  have b1 := a1.trans H.Y
  refine ⟨r0.trans ((val_main_v6_eq _ _).trans (Eq.trans ?_ ((value X Y).trans (Cert.Kernel4Ideal.Square.final m c H).symm))), rest⟩
  exact congrArg₂ (val_main_v6 (F := Ideal)) b0 b1

end Cert.Proof.Square

end
-- ==== Proof.PleRef.lean ====
module

public import proofs.«01_k».proof.Proof.PleTile
public import proofs.«01_k».proof.Proof.Gen.Reference5Ideal.Read

@[expose] public section

set_option maxRecDepth 16384

noncomputable section

/-! The per-layer-embedding reference's values, stage by stage. -/

namespace Cert.Reference5Ideal.Ple

open Idealize.ShloMosaic Cert.Lift Cert.Reference5Ideal Cert.Reference5Ideal.Gen Cert.Reference5Ideal.Read
open Cert.Ext
open Cert.Kernel5Ideal.Ple (Args Weights)

/-- The one-axis array holding `f` of the coordinate, infinities allowed. -/
def E1 {a : ℕ} (f : ℕ → EReal) : (⟨1, ![a]⟩ : Shape).Idx → EReal := fun i => f (i 0).val

/-- `E1` at an index. -/
theorem E1_apply {a : ℕ} (f : ℕ → EReal) (i : Fin a) : E1 f (ix1 i) = f i.val := rfl

variable (T : Args) (K : Weights) (PA : ℕ → ℕ → EReal)

/-- The feed-forward output, widened. -/
theorem v0_eq : val_main_v0 (F := Ideal) (E2 T.F) = E2 T.F := by
  funext j
  idx_vars j
  pointwise [val_main_v0]

/-- Its reciprocal root mean square. -/
theorem v11_eq : val_main_v11 (F := Ideal) (E2 T.F) = (E2 fun p _ => rms T.F p) := by
  unfold val_main_v11 val_main_v10 val_main_v8 val_main_v6 val_main_v5 val_main_v4
  rw [v0_eq]
  funext j
  idx_vars j
  pointwise [val_main_cst, val_main_cst_0, val_main_cst_1, val_main_v7, val_main_v9]
  simp only [E2_apply, E1_apply, lit_one, lit_zero, lit_neg_half, lit_1024, lit_eps, zero_add, EReal.coe_zero, EReal.coe_one, Fin.sum_univ_one, Finset.univ_unique, Finset.sum_singleton]
  rfl

/-- The derivative of that root. -/
theorem v14_eq : val_main_v14 (F := Ideal) (E2 T.F) = (E2 fun p _ => ((-(1 / 2) : ℝ) : EReal) * (rms T.F p * rms T.F p * rms T.F p)) := by
  unfold val_main_v14 val_main_v12 val_main_v10 val_main_v8 val_main_v6 val_main_v5 val_main_v4
  rw [v11_eq, v0_eq]
  funext j
  idx_vars j
  pointwise [val_main_v13, val_main_cst_2, val_main_v7, val_main_v9, val_main_cst, val_main_cst_0, val_main_cst_1]
  simp only [E2_apply, E1_apply, lit_one, lit_zero, lit_neg_half, lit_1024, lit_eps, zero_add, EReal.coe_zero, EReal.coe_one, Fin.sum_univ_one, Finset.univ_unique, Finset.sum_singleton]
  exact congrArg _ (rms_cube T.F j0.val)

/-- The normalised feed-forward output. -/
theorem v16_eq : val_main_v16 (F := Ideal) (E2 T.F) = (E2 fun p c => T.F p c * rms T.F p) := by
  unfold val_main_v16 val_main_v15
  rw [v0_eq, v11_eq]
  funext j
  idx_vars j
  pointwise []
  simp only [E2_apply, E1_apply, lit_one, lit_zero, lit_neg_half, lit_1024, lit_eps, zero_add, EReal.coe_zero, EReal.coe_one, Fin.sum_univ_one, Finset.univ_unique, Finset.sum_singleton]

/-- The middle value. -/
theorem v20_eq : val_main_v20 (F := Ideal) (E2 T.H) (E2 T.F) (E2 K.go) = (E2 (T.h2 K)) := by
  unfold val_main_v20 val_main_v19
  rw [v16_eq]
  funext j
  idx_vars j
  pointwise [val_main_v18, val_main_v17, val_main_v2]
  simp only [E2_apply, E1_apply, lit_one, lit_zero, lit_neg_half, lit_1024, lit_eps, zero_add, EReal.coe_zero, EReal.coe_one, Fin.sum_univ_one, Finset.univ_unique, Finset.sum_singleton]
  rfl

/-- Its reciprocal root mean square. -/
theorem v28_eq : val_main_v28 (F := Ideal) (E2 T.H) (E2 T.F) (E2 K.go) = (E2 fun p _ => rms (T.h2 K) p) := by
  unfold val_main_v28 val_main_v27 val_main_v25 val_main_v23 val_main_v22 val_main_v21
  rw [v20_eq]
  funext j
  idx_vars j
  pointwise [val_main_cst_3, val_main_cst_4, val_main_cst_5, val_main_v24, val_main_v26]
  simp only [E2_apply, E1_apply, lit_one, lit_zero, lit_neg_half, lit_1024, lit_eps, zero_add, EReal.coe_zero, EReal.coe_one, Fin.sum_univ_one, Finset.univ_unique, Finset.sum_singleton]
  rfl

/-- The derivative of that root. -/
theorem v31_eq : val_main_v31 (F := Ideal) (E2 T.H) (E2 T.F) (E2 K.go) = (E2 fun p _ => ((-(1 / 2) : ℝ) : EReal) * (rms (T.h2 K) p * rms (T.h2 K) p * rms (T.h2 K) p)) := by
  unfold val_main_v31 val_main_v29 val_main_v27 val_main_v25 val_main_v23 val_main_v22 val_main_v21
  rw [v28_eq, v20_eq]
  funext j
  idx_vars j
  pointwise [val_main_v30, val_main_cst_6, val_main_v24, val_main_v26, val_main_cst_3, val_main_cst_4, val_main_cst_5]
  simp only [E2_apply, E1_apply, lit_one, lit_zero, lit_neg_half, lit_1024, lit_eps, zero_add, EReal.coe_zero, EReal.coe_one, Fin.sum_univ_one, Finset.univ_unique, Finset.sum_singleton]
  exact congrArg _ (rms_cube (T.h2 K) j0.val)

/-- The normalised middle value. -/
theorem v33_eq : val_main_v33 (F := Ideal) (E2 T.H) (E2 T.F) (E2 K.go) = (E2 fun p c => T.h2 K p c * rms (T.h2 K) p) := by
  unfold val_main_v33 val_main_v32
  rw [v20_eq, v28_eq]
  funext j
  idx_vars j
  pointwise []
  simp only [E2_apply, E1_apply, lit_one, lit_zero, lit_neg_half, lit_1024, lit_eps, zero_add, EReal.coe_zero, EReal.coe_one, Fin.sum_univ_one, Finset.univ_unique, Finset.sum_singleton]

/-- The gate's input rows. -/
theorem v36_eq : val_main_v36 (F := Ideal) (E2 T.H) (E2 T.F) (E2 K.go) (E2 K.gl) = (E2 (T.u K)) := by
  unfold val_main_v36
  rw [v33_eq]
  funext j
  idx_vars j
  pointwise [val_main_v35, val_main_v34, val_main_v3]
  simp only [E2_apply, E1_apply, lit_one, lit_zero, lit_neg_half, lit_1024, lit_eps, zero_add, EReal.coe_zero, EReal.coe_one, Fin.sum_univ_one, Finset.univ_unique, Finset.sum_singleton]
  rfl

/-- The gate. -/
theorem v43_eq : val_main_v43 (F := Ideal) (E2 T.H) (E2 T.F) (E2 K.go) (E2 K.gl) (E2 K.W) = (E2 (T.gate K)) := by
  unfold val_main_v43 val_main_v41 val_main_v39 val_main_v38 val_main_v37
  rw [v36_eq]
  funext j
  idx_vars j
  pointwise [val_main_v42, val_main_v40, val_main_cst_7, val_main_cst_8]
  simp only [E2_apply, lit_one, EReal.coe_one]
  rfl

/-- The gate's derivative. -/
theorem v46_eq : val_main_v46 (F := Ideal) (E2 T.H) (E2 T.F) (E2 K.go) (E2 K.gl) (E2 K.W) = (E2 fun p c => T.gate K p c * (1 - T.gate K p c)) := by
  unfold val_main_v46 val_main_v45
  rw [v43_eq]
  funext j
  idx_vars j
  pointwise [val_main_v44, val_main_cst_9]
  simp only [E2_apply, E1_apply, lit_one, lit_zero, lit_neg_half, lit_1024, lit_eps, zero_add, EReal.coe_zero, EReal.coe_one, Fin.sum_univ_one, Finset.univ_unique, Finset.sum_singleton]

/-- The projected embeddings. -/
theorem v47_eq (hP : T.P = fun p k => PA (16384 + p) k) : val_main_v47 (F := Ideal) (E2 PA) (E2 K.Q) = (E2 (T.pp K)) := by
  unfold val_main_v47
  funext j
  idx_vars j
  pointwise [val_main_v1]
  simp only [E2_apply, Args.pp, hP]

/-- The gradient of the gate's argument. -/
theorem v53_eq (hP : T.P = fun p k => PA (16384 + p) k) : val_main_v53 (F := Ideal) (E2 T.D) (E2 T.H) (E2 T.F) (E2 PA) (E2 K.go) (E2 K.gl) (E2 K.W) (E2 K.Q) = (E2 (T.dz K)) := by
  unfold val_main_v53 val_main_v52
  rw [v47_eq T K PA hP, v46_eq]
  funext j
  idx_vars j
  pointwise [val_main_v51]
  simp only [E2_apply, E1_apply, lit_one, lit_zero, lit_neg_half, lit_1024, lit_eps, zero_add, EReal.coe_zero, EReal.coe_one, Fin.sum_univ_one, Finset.univ_unique, Finset.sum_singleton]
  unfold Args.dz Args.dzc
  rw [← mul_assoc, mul_comm (T.pp K _ _)]

/-- The gradient of the gate's input rows. -/
theorem v54_eq (hP : T.P = fun p k => PA (16384 + p) k) : val_main_v54 (F := Ideal) (E2 T.D) (E2 T.H) (E2 T.F) (E2 PA) (E2 K.go) (E2 K.gl) (E2 K.W) (E2 K.Q) = (E2 (T.du K)) := by
  unfold val_main_v54
  rw [v53_eq T K PA hP]
  funext j
  idx_vars j
  pointwise []
  simp only [E2_apply, E1_apply, lit_one, lit_zero, lit_neg_half, lit_1024, lit_eps, zero_add, EReal.coe_zero, EReal.coe_one, Fin.sum_univ_one, Finset.univ_unique, Finset.sum_singleton]
  rfl

/-- The gradient of the gate's gain. -/
theorem v56_eq (hP : T.P = fun p k => PA (16384 + p) k) : val_main_v56 (F := Ideal) (E2 T.D) (E2 T.H) (E2 T.F) (E2 PA) (E2 K.go) (E2 K.gl) (E2 K.W) (E2 K.Q) = (E1 fun c => ∑ p ∈ Finset.range 16384, T.tgl K p c) := by
  unfold val_main_v56 val_main_v55
  rw [v33_eq, v54_eq T K PA hP]
  funext j
  idx_vars j
  pointwise [val_main_cst_10]
  simp only [E2_apply, E1_apply, lit_one, lit_zero, lit_neg_half, lit_1024, lit_eps, zero_add, EReal.coe_zero, EReal.coe_one, Fin.sum_univ_one, Finset.univ_unique, Finset.sum_singleton]
  rw [Finset.sum_range]
  exact Finset.sum_congr rfl fun k _ => mul_comm _ _

/-- The gradient of the gate's gain, summed over one row. -/
theorem v60_eq (hP : T.P = fun p k => PA (16384 + p) k) : val_main_v60 (F := Ideal) (E2 T.D) (E2 T.H) (E2 T.F) (E2 PA) (E2 K.go) (E2 K.gl) (E2 K.W) (E2 K.Q) = (E1 fun c => ∑ p ∈ Finset.range 16384, T.tgl K p c) := by
  unfold val_main_v60 val_main_v57
  rw [v56_eq T K PA hP]
  funext j
  idx_vars j
  pointwise [val_main_cst_11]
  simp only [E2_apply, E1_apply, lit_one, lit_zero, lit_neg_half, lit_1024, lit_eps, zero_add, EReal.coe_zero, EReal.coe_one, Fin.sum_univ_one, Finset.univ_unique, Finset.sum_singleton]

/-- The gradient of the normalised middle value. -/
theorem v59_eq (hP : T.P = fun p k => PA (16384 + p) k) : val_main_v59 (F := Ideal) (E2 T.D) (E2 T.H) (E2 T.F) (E2 PA) (E2 K.go) (E2 K.gl) (E2 K.W) (E2 K.Q) = (E2 fun p c => T.du K p c * K.gl 0 c) := by
  unfold val_main_v59
  rw [v54_eq T K PA hP]
  funext j
  idx_vars j
  pointwise [val_main_v58, val_main_v34, val_main_v3]
  simp only [E2_apply, E1_apply, lit_one, lit_zero, lit_neg_half, lit_1024, lit_eps, zero_add, EReal.coe_zero, EReal.coe_one, Fin.sum_univ_one, Finset.univ_unique, Finset.sum_singleton]
  rfl

/-- The row factor of the middle value's normalisation. -/
theorem v71_eq (hP : T.P = fun p k => PA (16384 + p) k) : val_main_v71 (F := Ideal) (E2 T.D) (E2 T.H) (E2 T.F) (E2 PA) (E2 K.go) (E2 K.gl) (E2 K.W) (E2 K.Q) = (E2 fun p _ => Ideal.div ((∑ k : Fin 1024, T.h2 K p k * (T.du K p k * K.gl 0 k)) * (((-(1 / 2) : ℝ) : EReal) * (rms (T.h2 K) p * rms (T.h2 K) p * rms (T.h2 K) p))) ((1024 : ℝ) : EReal)) := by
  unfold val_main_v71 val_main_v70 val_main_v69 val_main_v67 val_main_v63 val_main_v62 val_main_v61
  rw [v20_eq, v59_eq T K PA hP, v31_eq]
  funext j
  idx_vars j
  pointwise [val_main_v68, val_main_cst_12, val_main_cst_13, val_main_cst_14]
  simp only [E2_apply, E1_apply, lit_one, lit_zero, lit_neg_half, lit_1024, lit_eps, zero_add, EReal.coe_zero, EReal.coe_one, Fin.sum_univ_one, Finset.univ_unique, Finset.sum_singleton]

/-- The gradient of the middle value. -/
theorem v75_eq (hP : T.P = fun p k => PA (16384 + p) k) : val_main_v75 (F := Ideal) (E2 T.D) (E2 T.H) (E2 T.F) (E2 PA) (E2 K.go) (E2 K.gl) (E2 K.W) (E2 K.Q) = (E2 (T.dh2 K)) := by
  unfold val_main_v75 val_main_v74 val_main_v73 val_main_v72 val_main_v66 val_main_v65 val_main_v64
  rw [v20_eq, v59_eq T K PA hP, v71_eq T K PA hP, v28_eq]
  funext j
  idx_vars j
  pointwise [val_main_v50]
  simp only [E2_apply, E1_apply, lit_one, lit_zero, lit_neg_half, lit_1024, lit_eps, zero_add, EReal.coe_zero, EReal.coe_one, Fin.sum_univ_one, Finset.univ_unique, Finset.sum_singleton]
  unfold Args.dh2 Args.dn
  rw [← back_of, add_assoc, add_assoc, add_assoc]

/-- The gradient of the feed-forward output's gain. -/
theorem v77_eq (hP : T.P = fun p k => PA (16384 + p) k) : val_main_v77 (F := Ideal) (E2 T.D) (E2 T.H) (E2 T.F) (E2 PA) (E2 K.go) (E2 K.gl) (E2 K.W) (E2 K.Q) = (E1 fun c => ∑ p ∈ Finset.range 16384, T.tgo K p c) := by
  unfold val_main_v77 val_main_v76
  rw [v16_eq, v75_eq T K PA hP]
  funext j
  idx_vars j
  pointwise [val_main_cst_15]
  simp only [E2_apply, E1_apply, lit_one, lit_zero, lit_neg_half, lit_1024, lit_eps, zero_add, EReal.coe_zero, EReal.coe_one, Fin.sum_univ_one, Finset.univ_unique, Finset.sum_singleton]
  rw [Finset.sum_range]
  exact Finset.sum_congr rfl fun k _ => mul_comm _ _

/-- The gradient of the feed-forward output's gain, summed over one row. -/
theorem v81_eq (hP : T.P = fun p k => PA (16384 + p) k) : val_main_v81 (F := Ideal) (E2 T.D) (E2 T.H) (E2 T.F) (E2 PA) (E2 K.go) (E2 K.gl) (E2 K.W) (E2 K.Q) = (E1 fun c => ∑ p ∈ Finset.range 16384, T.tgo K p c) := by
  unfold val_main_v81 val_main_v78
  rw [v77_eq T K PA hP]
  funext j
  idx_vars j
  pointwise [val_main_cst_16]
  simp only [E2_apply, E1_apply, lit_one, lit_zero, lit_neg_half, lit_1024, lit_eps, zero_add, EReal.coe_zero, EReal.coe_one, Fin.sum_univ_one, Finset.univ_unique, Finset.sum_singleton]

/-- The gradient of the normalised feed-forward output. -/
theorem v80_eq (hP : T.P = fun p k => PA (16384 + p) k) : val_main_v80 (F := Ideal) (E2 T.D) (E2 T.H) (E2 T.F) (E2 PA) (E2 K.go) (E2 K.gl) (E2 K.W) (E2 K.Q) = (E2 fun p c => T.dh2 K p c * K.go 0 c) := by
  unfold val_main_v80
  rw [v75_eq T K PA hP]
  funext j
  idx_vars j
  pointwise [val_main_v79, val_main_v17, val_main_v2]
  simp only [E2_apply, E1_apply, lit_one, lit_zero, lit_neg_half, lit_1024, lit_eps, zero_add, EReal.coe_zero, EReal.coe_one, Fin.sum_univ_one, Finset.univ_unique, Finset.sum_singleton]
  rfl

/-- The row factor of the feed-forward output's normalisation. -/
theorem v91_eq (hP : T.P = fun p k => PA (16384 + p) k) : val_main_v91 (F := Ideal) (E2 T.D) (E2 T.H) (E2 T.F) (E2 PA) (E2 K.go) (E2 K.gl) (E2 K.W) (E2 K.Q) = (E2 fun p _ => Ideal.div ((∑ k : Fin 1024, T.F p k * (T.dh2 K p k * K.go 0 k)) * (((-(1 / 2) : ℝ) : EReal) * (rms T.F p * rms T.F p * rms T.F p))) ((1024 : ℝ) : EReal)) := by
  unfold val_main_v91 val_main_v90 val_main_v89 val_main_v87 val_main_v84 val_main_v83 val_main_v82
  rw [v0_eq, v80_eq T K PA hP, v14_eq]
  funext j
  idx_vars j
  pointwise [val_main_v88, val_main_cst_17, val_main_cst_18, val_main_cst_19]
  simp only [E2_apply, E1_apply, lit_one, lit_zero, lit_neg_half, lit_1024, lit_eps, zero_add, EReal.coe_zero, EReal.coe_one, Fin.sum_univ_one, Finset.univ_unique, Finset.sum_singleton]

/-- The gradient of the feed-forward output. -/
theorem v141_eq (hP : T.P = fun p k => PA (16384 + p) k) : val_main_v141 (F := Ideal) (E2 T.D) (E2 T.H) (E2 T.F) (E2 PA) (E2 K.go) (E2 K.gl) (E2 K.W) (E2 K.Q) = (E2 (T.df K)) := by
  unfold val_main_v141 val_main_v95 val_main_v94 val_main_v93 val_main_v92 val_main_v86 val_main_v85
  rw [v0_eq, v80_eq T K PA hP, v91_eq T K PA hP, v11_eq]
  funext j
  idx_vars j
  pointwise []
  simp only [E2_apply, E1_apply, lit_one, lit_zero, lit_neg_half, lit_1024, lit_eps, zero_add, EReal.coe_zero, EReal.coe_one, Fin.sum_univ_one, Finset.univ_unique, Finset.sum_singleton]
  unfold Args.df
  rw [← back_of]

/-- The gate's input rows, computed again. -/
theorem v124_eq : val_main_v124 (F := Ideal) (E2 T.H) (E2 T.F) (E2 K.go) (E2 K.gl) = E2 (T.u K) :=
  (show _ = val_main_v36 (F := Ideal) (E2 T.H) (E2 T.F) (E2 K.go) (E2 K.gl) from rfl).trans (v36_eq T K)

/-- The gate, computed again. -/
theorem v132_eq : val_main_v132 (F := Ideal) (E2 T.H) (E2 T.F) (E2 K.go) (E2 K.gl) (E2 K.W) = E2 (T.gate K) :=
  (show _ = val_main_v43 (F := Ideal) (E2 T.H) (E2 T.F) (E2 K.go) (E2 K.gl) (E2 K.W) from rfl).trans (v43_eq T K)

/-- The projected embeddings, computed again. -/
theorem v126_eq (hP : T.P = fun p k => PA (16384 + p) k) : val_main_v126 (F := Ideal) (E2 PA) (E2 K.Q) = E2 (T.pp K) :=
  (show _ = val_main_v47 (F := Ideal) (E2 PA) (E2 K.Q) from rfl).trans (v47_eq T K PA hP)

/-- The gate's input rows, as returned. -/
theorem v142_eq : val_main_v142 (F := Ideal) (E2 T.H) (E2 T.F) (E2 K.go) (E2 K.gl) = (E2 (T.u K)) := by
  unfold val_main_v142
  rw [v124_eq]
  funext j
  idx_vars j
  pointwise []

/-- The gradient of the gate's argument, as returned. -/
theorem v143_eq (hP : T.P = fun p k => PA (16384 + p) k) : val_main_v143 (F := Ideal) (E2 T.D) (E2 T.H) (E2 T.F) (E2 PA) (E2 K.go) (E2 K.gl) (E2 K.W) (E2 K.Q) = (E2 (T.dz K)) := by
  unfold val_main_v143 val_main_v139 val_main_v137 val_main_v135 val_main_v134
  rw [v126_eq T K PA hP, v132_eq]
  funext j
  idx_vars j
  pointwise [val_main_v133, val_main_cst_28]
  simp only [E2_apply, E1_apply, lit_one, lit_zero, lit_neg_half, lit_1024, lit_eps, zero_add, EReal.coe_zero, EReal.coe_one, Fin.sum_univ_one, Finset.univ_unique, Finset.sum_singleton]
  unfold Args.dz Args.dzc
  rw [← mul_assoc, mul_comm (T.pp K _ _)]

/-- The gradient of the projected embeddings. -/
theorem v144_eq : val_main_v144 (F := Ideal) (E2 T.D) (E2 T.H) (E2 T.F) (E2 K.go) (E2 K.gl) (E2 K.W) = (E2 (T.dpp K)) := by
  unfold val_main_v144 val_main_v138
  rw [v132_eq]
  funext j
  idx_vars j
  pointwise []
  simp only [E2_apply, E1_apply, lit_one, lit_zero, lit_neg_half, lit_1024, lit_eps, zero_add, EReal.coe_zero, EReal.coe_one, Fin.sum_univ_one, Finset.univ_unique, Finset.sum_singleton]
  rfl

/-- The two gains' gradients as rows, and six rows of zeros. -/
theorem v147_eq (hP : T.P = fun p k => PA (16384 + p) k) : val_main_v147 (F := Ideal) (E2 T.D) (E2 T.H) (E2 T.F) (E2 PA) (E2 K.go) (E2 K.gl) (E2 K.W) (E2 K.Q) = E2 (T.gacc K 16384) := by
  unfold val_main_v147 val_main_v146 val_main_v145
  rw [v60_eq T K PA hP, v81_eq T K PA hP]
  funext j
  idx_vars j
  have hj := j0.isLt
  pointwise [val_main_v140, val_main_cst_29]
  have h : j0.val = 0 ∨ j0.val = 1 ∨ ∃ n, j0.val = n + 2 := by
    rcases Nat.lt_or_ge j0.val 2 with h | h
    · omega
    · exact .inr (.inr ⟨j0.val - 2, by omega⟩)
  rcases h with h | h | ⟨n, h⟩ <;> simp [h, E2_apply, E1_apply, Args.gacc, lit_zero]

end Cert.Reference5Ideal.Ple

end
-- ==== Proof.PleRun.lean ====
module

public import proofs.«01_k».proof.Proof.PleTile
public import proofs.«01_k».proof.Proof.Gen.Kernel5Ideal.Value
public import Idealize.ShloMosaic.Lib.Pipeline.ValueKit
public import Idealize.ShloMosaic.Lib.Pipeline.ReadBack

@[expose] public section

set_option maxRecDepth 16384

noncomputable section

/-! The kernel's run over the extended reals: what each grid point leaves in the five output tiles and in the rows it adds to. -/

namespace Cert.Kernel5Ideal.Ple

open Idealize.ShloMosaic Idealize.ShloMosaic.TcCoe Cert.Lift Cert.Kernel5Ideal Cert.Kernel5Ideal.Gen
open Idealize.ShloMosaic.Pipeline (Dat)
open Cert.Ext

variable (m : (ℓ : Loc nD τ sig) → Buf (Elt Ideal) ℓ) (c : Dev nD)

/-- What grid point `t` finds, over the extended reals. -/
structure Finds (T : Args) (K : Weights) (t : Fin cfg0.N) : Prop where
  D : iblk m c 0 t = (E2 T.D : FVec Ideal S512x1024 .f32)
  H : iblk m c 1 t = (E2 T.H : FVec Ideal S512x1024 .f32)
  F : iblk m c 2 t = (E2 T.F : FVec Ideal S512x1024 .bf16)
  P : iblk m c 3 t = (E2 T.P : FVec Ideal S512x256 .f32)
  go : iblk m c 4 t = (E2 K.go : FVec Ideal S1x1024 .f32)
  gl : iblk m c 5 t = (E2 K.gl : FVec Ideal S1x1024 .f32)
  W : iblk m c 6 t = (E2 K.W : FVec Ideal S1024x1024 .bf16)
  Q : iblk m c 7 t = (E2 fun a b => K.Q b a : FVec Ideal S1024x256 .bf16)

/-- Rows from `s` on, read from a tile's rows of the output's gradient. -/
theorem ldD (T : Args) (s : ℕ) (i : ∀ a, (![s, 0] : Fin 2 → ℕ) a + (![256, 1024] : Fin 2 → ℕ) a ≤ S512x1024.size a) :
    View.ld (Val := Elt Ideal) (e' := .f32) (E2 T.D : FVec Ideal S512x1024 .f32) (Rect.unit (s := S512x1024) ![s, 0] ![256, 1024] i)
    = (show (Rect.unit (s := S512x1024) ![s, 0] ![256, 1024] i).shape.Idx → EReal from E2 (T.shift s).D) := by
  funext j
  show T.D (s + 1 * (j 0).val) (0 + 1 * (j 1).val) = T.D (s + (j 0).val) (j 1).val
  rw [Nat.one_mul, Nat.one_mul, Nat.zero_add]

/-- Rows from `s` on, read from a tile's input rows. -/
theorem ldH (T : Args) (s : ℕ) (i : ∀ a, (![s, 0] : Fin 2 → ℕ) a + (![256, 1024] : Fin 2 → ℕ) a ≤ S512x1024.size a) :
    View.ld (Val := Elt Ideal) (e' := .f32) (E2 T.H : FVec Ideal S512x1024 .f32) (Rect.unit (s := S512x1024) ![s, 0] ![256, 1024] i)
    = (show (Rect.unit (s := S512x1024) ![s, 0] ![256, 1024] i).shape.Idx → EReal from E2 (T.shift s).H) := by
  funext j
  show T.H (s + 1 * (j 0).val) (0 + 1 * (j 1).val) = T.H (s + (j 0).val) (j 1).val
  rw [Nat.one_mul, Nat.one_mul, Nat.zero_add]

/-- Rows from `s` on, read from a tile's feed-forward output rows. -/
theorem ldF (T : Args) (s : ℕ) (i : ∀ a, (![s, 0] : Fin 2 → ℕ) a + (![256, 1024] : Fin 2 → ℕ) a ≤ S512x1024.size a) :
    View.ld (Val := Elt Ideal) (e' := .bf16) (E2 T.F : FVec Ideal S512x1024 .bf16) (Rect.unit (s := S512x1024) ![s, 0] ![256, 1024] i)
    = (show (Rect.unit (s := S512x1024) ![s, 0] ![256, 1024] i).shape.Idx → EReal from E2 (T.shift s).F) := by
  funext j
  show T.F (s + 1 * (j 0).val) (0 + 1 * (j 1).val) = T.F (s + (j 0).val) (j 1).val
  rw [Nat.one_mul, Nat.one_mul, Nat.zero_add]

/-- Rows from `s` on, read from a tile's embedding rows. -/
theorem ldP (T : Args) (s : ℕ) (i : ∀ a, (![s, 0] : Fin 2 → ℕ) a + (![256, 256] : Fin 2 → ℕ) a ≤ S512x256.size a) :
    View.ld (Val := Elt Ideal) (e' := .f32) (E2 T.P : FVec Ideal S512x256 .f32) (Rect.unit (s := S512x256) ![s, 0] ![256, 256] i)
    = (show (Rect.unit (s := S512x256) ![s, 0] ![256, 256] i).shape.Idx → EReal from E2 (T.shift s).P) := by
  funext j
  show T.P (s + 1 * (j 0).val) (0 + 1 * (j 1).val) = T.P (s + (j 0).val) (j 1).val
  rw [Nat.one_mul, Nat.one_mul, Nat.zero_add]

/-- Two halves of rows stored one after the other are the whole tile. -/
theorem halves_f32 (G : ℕ → ℕ → EReal) (p0 p1 : FVec Ideal S256x1024 .f32) (h0 : p0 = E2 fun p c => G (0 + p) c)
    (h1 : p1 = E2 fun p c => G (256 + p) c) (i0) (i1) :
    View.canon ([⟨Rect.unit (s := S512x1024) ![256, 0] ![256, 1024] i1, p1⟩, ⟨Rect.unit (s := S512x1024) ![0, 0] ![256, 1024] i0, p0⟩] :
      List (View.Piece (Elt Ideal) S512x1024 .f32)) = (E2 G : FVec Ideal S512x1024 .f32) := by
  have key : ∀ (s : ℕ) (i : _) (x : (Rect.unit (s := S512x1024) ![s, 0] ![256, 1024] i).shape.Idx),
      (show EReal from (E2 fun p c => G (s + p) c : FVec Ideal S256x1024 .f32) x) = (E2 G : FVec Ideal S512x1024 .f32) ((Rect.unit (s := S512x1024) ![s, 0] ![256, 1024] i).emb x) := by
    intro s i x
    show G (s + (x 0).val) (x 1).val = G (s + 1 * (x 0).val) (0 + 1 * (x 1).val)
    rw [Nat.one_mul, Nat.one_mul, Nat.zero_add]
  subst h0 h1
  funext y
  refine View.canon_append_of_piecesOf (Val := Elt Ideal) (E2 G : FVec Ideal S512x1024 .f32) []
    ([⟨Rect.unit (s := S512x1024) ![256, 0] ![256, 1024] i1, (E2 fun p c => G (256 + p) c : FVec Ideal S256x1024 .f32)⟩,
      ⟨Rect.unit (s := S512x1024) ![0, 0] ![256, 1024] i0, (E2 fun p c => G (0 + p) c : FVec Ideal S256x1024 .f32)⟩] : List (View.Piece (Elt Ideal) S512x1024 .f32)) ⟨key 256 i1, key 0 i0, trivial⟩ y ?_
  have h0 : (y 0).val < 512 := (y 0).isLt
  have h1 : (y 1).val < 1024 := (y 1).isLt
  have mem : ∀ (s : ℕ) (i : _), s ≤ (y 0).val → (y 0).val < s + 256 → y ∈ (Rect.unit (s := S512x1024) ![s, 0] ![256, 1024] i).set := by
    intro s i e e'
    rw [Rect.mem_set_unit]
    intro a
    fin_cases a
    · exact ⟨e, e'⟩
    · exact ⟨Nat.zero_le _, by show (y 1).val < 0 + 1024; omega⟩
  rcases (by omega : 256 ≤ (y 0).val ∨ (y 0).val < 256) with e | e
  · exact ⟨_, .head _, mem 256 i1 e (by omega)⟩
  · exact ⟨_, .tail _ (.head _), mem 0 i0 (Nat.zero_le _) (by omega)⟩

/-- Two halves of rows stored one after the other are the whole tile. -/
theorem halves_bf16 (G : ℕ → ℕ → EReal) (p0 p1 : FVec Ideal S256x1024 .bf16) (h0 : p0 = E2 fun p c => G (0 + p) c)
    (h1 : p1 = E2 fun p c => G (256 + p) c) (i0) (i1) :
    View.canon ([⟨Rect.unit (s := S512x1024) ![256, 0] ![256, 1024] i1, p1⟩, ⟨Rect.unit (s := S512x1024) ![0, 0] ![256, 1024] i0, p0⟩] :
      List (View.Piece (Elt Ideal) S512x1024 .bf16)) = (E2 G : FVec Ideal S512x1024 .bf16) := by
  have key : ∀ (s : ℕ) (i : _) (x : (Rect.unit (s := S512x1024) ![s, 0] ![256, 1024] i).shape.Idx),
      (show EReal from (E2 fun p c => G (s + p) c : FVec Ideal S256x1024 .bf16) x) = (E2 G : FVec Ideal S512x1024 .bf16) ((Rect.unit (s := S512x1024) ![s, 0] ![256, 1024] i).emb x) := by
    intro s i x
    show G (s + (x 0).val) (x 1).val = G (s + 1 * (x 0).val) (0 + 1 * (x 1).val)
    rw [Nat.one_mul, Nat.one_mul, Nat.zero_add]
  subst h0 h1
  funext y
  refine View.canon_append_of_piecesOf (Val := Elt Ideal) (E2 G : FVec Ideal S512x1024 .bf16) []
    ([⟨Rect.unit (s := S512x1024) ![256, 0] ![256, 1024] i1, (E2 fun p c => G (256 + p) c : FVec Ideal S256x1024 .bf16)⟩,
      ⟨Rect.unit (s := S512x1024) ![0, 0] ![256, 1024] i0, (E2 fun p c => G (0 + p) c : FVec Ideal S256x1024 .bf16)⟩] : List (View.Piece (Elt Ideal) S512x1024 .bf16)) ⟨key 256 i1, key 0 i0, trivial⟩ y ?_
  have h0 : (y 0).val < 512 := (y 0).isLt
  have h1 : (y 1).val < 1024 := (y 1).isLt
  have mem : ∀ (s : ℕ) (i : _), s ≤ (y 0).val → (y 0).val < s + 256 → y ∈ (Rect.unit (s := S512x1024) ![s, 0] ![256, 1024] i).set := by
    intro s i e e'
    rw [Rect.mem_set_unit]
    intro a
    fin_cases a
    · exact ⟨e, e'⟩
    · exact ⟨Nat.zero_le _, by show (y 1).val < 0 + 1024; omega⟩
  rcases (by omega : 256 ≤ (y 0).val ∨ (y 0).val < 256) with e | e
  · exact ⟨_, .head _, mem 256 i1 e (by omega)⟩
  · exact ⟨_, .tail _ (.head _), mem 0 i0 (Nat.zero_le _) (by omega)⟩

/-- The place in a stored row that holds an index of the whole. -/
def inRow (k : ℕ) (i : ∀ a, (![k, 0] : Fin 2 → ℕ) a + (![1, 1024] : Fin 2 → ℕ) a ≤ S8x1024.size a) (y : S8x1024.Idx) :
    (Rect.unit (s := S8x1024) ![k, 0] ![1, 1024] i).shape.Idx := fun a => ⟨if a = 0 then 0 else (y 1).val, by
  have h1 : (y 1).val < 1024 := (y 1).isLt
  fin_cases a
  · exact Nat.one_pos
  · exact h1⟩

/-- Its coordinates in the whole. -/
theorem inRow_coords (k : ℕ) (i) (y : S8x1024.Idx) (e : (y 0).val = k) (a : Fin 2) :
    (y a).val = (Rect.unit (s := S8x1024) ![k, 0] ![1, 1024] i).off a + (Rect.unit (s := S8x1024) ![k, 0] ![1, 1024] i).stride a * (inRow k i y a).val := by
  fin_cases a
  · show (y 0).val = k + 1 * 0
    omega
  · show (y 1).val = 0 + 1 * (y 1).val
    omega

/-- A row stored over earlier stores, read at an index: the row there, the earlier stores elsewhere. -/
theorem canon_row (k : ℕ) (i) (f : ℕ → ℕ → EReal) (L : List (View.Piece (Elt Ideal) S8x1024 .f32)) (y : S8x1024.Idx) :
    View.canon (⟨Rect.unit (s := S8x1024) ![k, 0] ![1, 1024] i, (E2 f : FVec Ideal S1x1024 .f32)⟩ :: L) y =
    if (y 0).val = k then f 0 (y 1).val else View.canon L y := by
  split_ifs with e
  · have hy := Rect.emb_eq_of_coords _ (inRow k i y) y (inRow_coords k i y e)
    conv_lhs => rw [← hy]
    rw [View.canon_cons_emb]
    rfl
  · refine View.canon_cons_of_not_mem _ L fun hm => e ?_
    have h2 : k ≤ (y 0).val ∧ (y 0).val < k + 1 := (Rect.mem_set_unit (inb := i)).mp hm 0
    omega

/-- The same of a buffer that held something before. -/
theorem read_row {κ sp} (v : View sig κ sp S8x1024 .f32) (g) (k : ℕ) (i) (f : ℕ → ℕ → EReal) (L : List (View.Piece (Elt Ideal) S8x1024 .f32)) (y : S8x1024.Idx) :
    v.read (Elt Ideal) (v.writes (Elt Ideal) g (⟨Rect.unit (s := S8x1024) ![k, 0] ![1, 1024] i, (E2 f : FVec Ideal S1x1024 .f32)⟩ :: L)) y =
    if (y 0).val = k then f 0 (y 1).val else v.read (Elt Ideal) (v.writes (Elt Ideal) g L) y := by
  split_ifs with e
  · exact View.read_writes_cons_hit_of_coords v g _ _ L (inRow k i y) y (inRow_coords k i y e)
  · exact View.read_writes_cons_miss_of_axis v g _ L y 0 k 1 rfl rfl rfl (by omega)

/-- A row read from eight. -/
theorem ldR (g : ℕ) (W : ℕ → ℕ → EReal) (h : ∀ a, (![g, 0] : Fin 2 → ℕ) a + (![1, 1024] : Fin 2 → ℕ) a ≤ S8x1024.size a) :
    View.ld (Val := Elt Ideal) (e' := .f32) (E2 W : FVec Ideal S8x1024 .f32) (Rect.unit (s := S8x1024) ![g, 0] ![1, 1024] h)
    = (show (Rect.unit (s := S8x1024) ![g, 0] ![1, 1024] h).shape.Idx → EReal from E2 fun _ b => W g b) := by
  funext j
  idx_vars j
  have : j0 = 0 := by omega
  subst this
  pointwise []
  simp [E2_apply]

/-- The two rows of gradients after both halves' stores, and the rows after them, read at an index. -/
theorem row_cases (G r : ℕ → ℕ → EReal) (f0 f1 g0 g1 : ℕ → EReal) (y : S8x1024.Idx) (h0 : ∀ k, f0 k = G 0 k) (h1 : ∀ k, f1 k = G 1 k)
    (h2 : ∀ j k, G (j + 2) k = r (j + 2) k) :
    (if (y 0).val = 1 then f1 (y 1).val else if (y 0).val = 0 then f0 (y 1).val
      else if (y 0).val = 1 then g1 (y 1).val else if (y 0).val = 0 then g0 (y 1).val
      else (E2 r : FVec Ideal S8x1024 .f32) y) = (E2 G : FVec Ideal S8x1024 .f32) y := by
  show _ = G (y 0).val (y 1).val
  split_ifs with e1 e0
  · rw [e1, h1]
  · rw [e0, h0]
  · show r (y 0).val (y 1).val = _
    obtain ⟨j, hj⟩ : ∃ j, (y 0).val = j + 2 := ⟨(y 0).val - 2, by omega⟩
    rw [hj, h2]

/-- The first grid point: it starts the added rows at zero. -/
theorem caseA (T : Args) (K : Weights) (t : Fin cfg0.N) (h0 : t.val % 32 = 0) (H : Finds m c T K t) :
    (outsAt0 m c t.val t.isLt).1 = E2 (T.dh2 K) ∧ (outsAt0 m c t.val t.isLt).2.1 = E2 (T.df K) ∧
    (outsAt0 m c t.val t.isLt).2.2.1 = E2 (T.u K) ∧ (outsAt0 m c t.val t.isLt).2.2.2.1 = E2 (T.dz K) ∧
    (outsAt0 m c t.val t.isLt).2.2.2.2.1 = E2 (T.dpp K) ∧
    (outsAt0 m c t.val t.isLt).2.2.2.2.2 = E2 fun j k => (T.shift 0).gacc K 256 j k + (T.shift 256).gacc K 256 j k := by
  rw [outsAt0_A m c t h0]
  refine ⟨?_, ?_, ?_, ?_, ?_, ?_⟩
  all_goals frame_out
  all_goals try simp (disch := first | rfl | decide) only [↓View.readCov_skip, ↓View.readCov_fill, ↓View.readCov_cons_toLoadRect, pay4_eq]
  all_goals simp only [H.D, H.H, H.F, H.P, H.go, H.gl, H.W, H.Q]
  all_goals simp only [ldD, ldH, ldF, ldP, ldR, pay5_eq, pay6_eq, pay7_eq, pay8_eq, pay9_eq, pay10_eq, pay11_eq, pay12_eq, pay13_eq, pay14_eq, pay15_eq, pay16_eq, pay17_eq, pay18_eq, pay19_eq, pay20_eq, pay21_eq, pay22_eq, pay23_eq, pay24_eq, pay25_eq, pay26_eq, pay27_eq, pay28_eq, pay29_eq, pay30_eq, pay31_eq, pay32_eq, pay33_eq, pay1_eq, pay2_eq, pay3_eq]
  · exact halves_f32 (T.dh2 K) _ _ rfl rfl _ _
  · exact halves_bf16 (T.df K) _ _ rfl rfl _ _
  · exact halves_bf16 (T.u K) _ _ rfl rfl _ _
  · exact halves_bf16 (T.dz K) _ _ rfl rfl _ _
  · exact halves_bf16 (T.dpp K) _ _ rfl rfl _ _
  · funext y
    rw [canon_row, canon_row, canon_row, canon_row, View.canon_cons_unit_lit _ _ _ (by decide)]
    exact row_cases (fun j k => (T.shift 0).gacc K 256 j k + (T.shift 256).gacc K 256 j k) (fun _ _ => 0)
      (fun k => 0 + (T.shift 0).gacc K 256 0 k + (T.shift 256).gacc K 256 0 k) (fun k => 0 + (T.shift 0).gacc K 256 1 k + (T.shift 256).gacc K 256 1 k)
      (fun k => 0 + (T.shift 0).gacc K 256 0 k) (fun k => 0 + (T.shift 0).gacc K 256 1 k) y
      (fun _ => by rw [zero_add]) (fun _ => by rw [zero_add]) (fun _ _ => add_zero _)

/-- A later grid point: it adds to the rows the point before left. -/
theorem caseB (T : Args) (K : Weights) (t : Fin cfg0.N) (h0 : ¬ t.val % 32 = 0) (H : Finds m c T K t) (r : ℕ → ℕ → EReal)
    (hr : (outsAt0 m c (t.val - 1) (Nat.lt_of_le_of_lt (Nat.sub_le _ _) t.isLt)).2.2.2.2.2 = (E2 r : FVec Ideal S8x1024 .f32)) :
    (outsAt0 m c t.val t.isLt).1 = E2 (T.dh2 K) ∧ (outsAt0 m c t.val t.isLt).2.1 = E2 (T.df K) ∧
    (outsAt0 m c t.val t.isLt).2.2.1 = E2 (T.u K) ∧ (outsAt0 m c t.val t.isLt).2.2.2.1 = E2 (T.dz K) ∧
    (outsAt0 m c t.val t.isLt).2.2.2.2.1 = E2 (T.dpp K) ∧
    (outsAt0 m c t.val t.isLt).2.2.2.2.2 = E2 fun j k => r j k + (T.shift 0).gacc K 256 j k + (T.shift 256).gacc K 256 j k := by
  rw [outsAt0_B m c t h0]
  refine ⟨?_, ?_, ?_, ?_, ?_, ?_⟩
  all_goals frame_out
  all_goals try simp (disch := first | rfl | decide) only [↓View.readCov_skip, ↓View.readCov_cons_toLoadRect, read_unread_whole, hr]
  all_goals simp only [H.D, H.H, H.F, H.P, H.go, H.gl, H.W, H.Q]
  all_goals simp only [ldD, ldH, ldF, ldP, ldR, pay5_eq, pay6_eq, pay7_eq, pay8_eq, pay9_eq, pay10_eq, pay11_eq, pay12_eq, pay13_eq, pay14_eq, pay15_eq, pay16_eq, pay17_eq, pay18_eq, pay19_eq, pay20_eq, pay21_eq, pay22_eq, pay23_eq, pay24_eq, pay25_eq, pay26_eq, pay27_eq, pay28_eq, pay29_eq, pay30_eq, pay31_eq, pay32_eq, pay33_eq, pay1_eq, pay2_eq, pay3_eq]
  · exact halves_f32 (T.dh2 K) _ _ rfl rfl _ _
  · exact halves_bf16 (T.df K) _ _ rfl rfl _ _
  · exact halves_bf16 (T.u K) _ _ rfl rfl _ _
  · exact halves_bf16 (T.dz K) _ _ rfl rfl _ _
  · exact halves_bf16 (T.dpp K) _ _ rfl rfl _ _
  · funext y
    rw [read_row, read_row, read_row, read_row, View.writes_nil, Memref.IsWhole.read_unread]
    exact row_cases (fun j k => r j k + (T.shift 0).gacc K 256 j k + (T.shift 256).gacc K 256 j k) r
      _ _ (fun k => r 0 k + (T.shift 0).gacc K 256 0 k) (fun k => r 1 k + (T.shift 0).gacc K 256 1 k) y
      (fun _ => rfl) (fun _ => rfl) (fun _ _ => by show _ + 0 + 0 = _; rw [add_zero, add_zero])

end Cert.Kernel5Ideal.Ple

end
-- ==== Proof.PleGlob.lean ====
module

public import proofs.«01_k».proof.Proof.PleRun

@[expose] public section

set_option maxRecDepth 16384

noncomputable section

/-! The whole run: the tiles the grid walks in order, and the six arrays they leave. -/

namespace Cert.Kernel5Ideal.Ple

open Idealize.ShloMosaic Idealize.ShloMosaic.TcCoe Cert.Lift Cert.Ext Cert.Kernel5Ideal Cert.Kernel5Ideal.Gen
open Idealize.ShloMosaic.Pipeline (Dat)

variable (m : (ℓ : Loc nD τ sig) → Buf (Elt Ideal) ℓ) (c : Dev nD)

/-- The arguments in memory are the arrays `D` and `K`; the embeddings are the second quarter of `PA`. -/
structure Holds (D : Args) (K : Weights) (PA : ℕ → ℕ → EReal) : Prop where
  hD : m ((c : Thread nD τ).loc main_arg0) = (E2 D.D : FVec Ideal S16384x1024 .f32)
  hH : m ((c : Thread nD τ).loc main_arg1) = (E2 D.H : FVec Ideal S16384x1024 .f32)
  hF : m ((c : Thread nD τ).loc main_arg2) = (E2 D.F : FVec Ideal S16384x1024 .bf16)
  hP : m ((c : Thread nD τ).loc main_arg3) = (E2 PA : FVec Ideal S65536x256 .f32)
  hgo : m ((c : Thread nD τ).loc main_arg4) = (E2 K.go : FVec Ideal S1x1024 .f32)
  hgl : m ((c : Thread nD τ).loc main_arg5) = (E2 K.gl : FVec Ideal S1x1024 .f32)
  hW : m ((c : Thread nD τ).loc main_arg6) = (E2 K.W : FVec Ideal S1024x1024 .f32)
  hQ : m ((c : Thread nD τ).loc main_arg7) = (E2 K.Q : FVec Ideal S256x1024 .f32)
  part : D.P = fun p k => PA (16384 + p) k

/-- The blocks of rows: the `t`-th of each array, and the 32 + `t`-th of the embeddings. -/
theorem idxR : ∀ t : Fin cfg0.N, win0_0.index t 0 = t.val ∧ win0_0.index t 1 = 0 ∧ win0_1.index t 0 = t.val ∧ win0_1.index t 1 = 0 ∧
    win0_2.index t 0 = t.val ∧ win0_2.index t 1 = 0 ∧ win0_3.index t 0 = 32 + t.val ∧ win0_3.index t 1 = 0 :=
  (by decide +kernel : ∀ t : Fin grid0.N, _)

/-- The blocks that stay. -/
theorem idxC : ∀ t : Fin cfg0.N, win0_4.index t 0 = 0 ∧ win0_4.index t 1 = 0 ∧ win0_5.index t 0 = 0 ∧ win0_5.index t 1 = 0 ∧
    win0_6.index t 0 = 0 ∧ win0_6.index t 1 = 0 ∧ win0_7.index t 0 = 0 ∧ win0_7.index t 1 = 0 :=
  (by decide +kernel : ∀ t : Fin grid0.N, _)

/-- The blocks of rows written. -/
theorem idxO : ∀ t : Fin cfg0.N, win0_8.index t 0 = t.val ∧ win0_8.index t 1 = 0 ∧ win0_9.index t 0 = t.val ∧ win0_9.index t 1 = 0 ∧
    win0_10.index t 0 = t.val ∧ win0_10.index t 1 = 0 ∧ win0_11.index t 0 = t.val ∧ win0_11.index t 1 = 0 ∧
    win0_12.index t 0 = t.val ∧ win0_12.index t 1 = 0 :=
  (by decide +kernel : ∀ t : Fin grid0.N, _)

variable (D : Args) (K : Weights) (PA : ℕ → ℕ → EReal)

/-- The gate's weights, cast before the call. -/
theorem V_W (H : Holds m c D K PA) : V m c main_v0 = (E2 K.W : FVec Ideal S1024x1024 .bf16) := by
  have e : V m c main_v0 = truncf (F := Ideal) .bf16 (m ((c : Thread nD τ).loc main_arg6)) bitsLt_bf16_f32 := by
    rfl
  rw [e, H.hW]
  rfl

/-- The projection's weights, transposed and cast before the call. -/
theorem V_Q (H : Holds m c D K PA) : V m c main_v2 = (E2 fun a b => K.Q b a : FVec Ideal S1024x256 .bf16) := by
  have e : V m c main_v2 = truncf (F := Ideal) .bf16 (transpose S1024x256 [1, 0] (m ((c : Thread nD τ).loc main_arg7)) transposes_S256x1024_S1024x256_1_0) bitsLt_bf16_f32 := by
    rfl
  rw [e, H.hQ]
  funext j
  idx_vars j
  pointwise []
  rfl

/-- What each grid point finds. -/
theorem finds (H : Holds m c D K PA) (t : Fin cfg0.N) : Finds m c (D.shift (512 * t.val)) K t := by
  obtain ⟨e0, e0', e1, e1', e2, e2', e3, e3'⟩ := idxR t
  obtain ⟨f4, f4', f5, f5', f6, f6', f7, f7'⟩ := idxC t
  have h0 := (V_main_arg0 m c).trans H.hD
  have h1 := (V_main_arg1 m c).trans H.hH
  have h2 := (V_main_arg2 m c).trans H.hF
  have h3 := (V_main_arg3 m c).trans H.hP
  have h4 := (V_main_arg4 m c).trans H.hgo
  have h5 := (V_main_arg5 m c).trans H.hgl
  have h6 := V_W m c D K PA H
  have h7 := V_Q m c D K PA H
  constructor
  · funext y
    show V m c main_arg0 (((cfg0.win 0).blk t).view.emb y) = _
    rw [h0]
    show D.D (((cfg0.win 0).blk t).view.emb y 0).val (((cfg0.win 0).blk t).view.emb y 1).val = D.D (512 * t.val + (y 0).val) (y 1).val
    blk_simp
    rw [e0, e0', Nat.zero_mul, Nat.zero_add, Nat.mul_comm]
  · funext y
    show V m c main_arg1 (((cfg0.win 1).blk t).view.emb y) = _
    rw [h1]
    show D.H (((cfg0.win 1).blk t).view.emb y 0).val (((cfg0.win 1).blk t).view.emb y 1).val = D.H (512 * t.val + (y 0).val) (y 1).val
    blk_simp
    rw [e1, e1', Nat.zero_mul, Nat.zero_add, Nat.mul_comm]
  · funext y
    show V m c main_arg2 (((cfg0.win 2).blk t).view.emb y) = _
    rw [h2]
    show D.F (((cfg0.win 2).blk t).view.emb y 0).val (((cfg0.win 2).blk t).view.emb y 1).val = D.F (512 * t.val + (y 0).val) (y 1).val
    blk_simp
    rw [e2, e2', Nat.zero_mul, Nat.zero_add, Nat.mul_comm]
  · funext y
    show V m c main_arg3 (((cfg0.win 3).blk t).view.emb y) = _
    rw [h3]
    show PA (((cfg0.win 3).blk t).view.emb y 0).val (((cfg0.win 3).blk t).view.emb y 1).val = D.P (512 * t.val + (y 0).val) (y 1).val
    blk_simp
    rw [H.part, e3, e3', Nat.zero_mul, Nat.zero_add, show (32 + t.val) * 512 + (y 0).val = 16384 + (512 * t.val + (y 0).val) by omega]
  · funext y
    show V m c main_arg4 (((cfg0.win 4).blk t).view.emb y) = _
    rw [h4]
    show K.go (((cfg0.win 4).blk t).view.emb y 0).val (((cfg0.win 4).blk t).view.emb y 1).val = _
    blk_simp
    have hy : (y 0).val < 1 := (y 0).isLt
    show _ = K.go (y 0).val (y 1).val
    simp only [f4, f4', Nat.zero_mul, Nat.zero_add, show (y 0).val = 0 by omega]
  · funext y
    show V m c main_arg5 (((cfg0.win 5).blk t).view.emb y) = _
    rw [h5]
    show K.gl (((cfg0.win 5).blk t).view.emb y 0).val (((cfg0.win 5).blk t).view.emb y 1).val = _
    blk_simp
    have hy : (y 0).val < 1 := (y 0).isLt
    show _ = K.gl (y 0).val (y 1).val
    simp only [f5, f5', Nat.zero_mul, Nat.zero_add, show (y 0).val = 0 by omega]
  · funext y
    show V m c main_v0 (((cfg0.win 6).blk t).view.emb y) = _
    rw [h6]
    show K.W (((cfg0.win 6).blk t).view.emb y 0).val (((cfg0.win 6).blk t).view.emb y 1).val = K.W (y 0).val (y 1).val
    blk_simp
    simp only [f6, f6', Nat.zero_mul, Nat.zero_add]
  · funext y
    show V m c main_v2 (((cfg0.win 7).blk t).view.emb y) = _
    rw [h7]
    show K.Q (((cfg0.win 7).blk t).view.emb y 1).val (((cfg0.win 7).blk t).view.emb y 0).val = K.Q (y 1).val (y 0).val
    blk_simp
    simp only [f7, f7', Nat.zero_mul, Nat.zero_add]

/-- The gains' gradients of 512 more rows, added half by half. -/
theorem gacc_add (n j k : ℕ) : D.gacc K (512 * n) j k + ((D.shift (512 * n)).shift 0).gacc K 256 j k + ((D.shift (512 * n)).shift 256).gacc K 256 j k
    = D.gacc K (512 * (n + 1)) j k := by
  have e : 512 * (n + 1) = 512 * n + 256 + 256 := by omega
  match j with
  | 0 =>
    show (∑ p ∈ Finset.range (512 * n), D.tgl K p k) + (∑ p ∈ Finset.range 256, D.tgl K (512 * n + (0 + p)) k) + (∑ p ∈ Finset.range 256, D.tgl K (512 * n + (256 + p)) k)
      = ∑ p ∈ Finset.range (512 * (n + 1)), D.tgl K p k
    rw [e, Finset.sum_range_add, Finset.sum_range_add]
    simp only [Nat.zero_add, Nat.add_assoc]
  | 1 =>
    show (∑ p ∈ Finset.range (512 * n), D.tgo K p k) + (∑ p ∈ Finset.range 256, D.tgo K (512 * n + (0 + p)) k) + (∑ p ∈ Finset.range 256, D.tgo K (512 * n + (256 + p)) k)
      = ∑ p ∈ Finset.range (512 * (n + 1)), D.tgo K p k
    rw [e, Finset.sum_range_add, Finset.sum_range_add]
    simp only [Nat.zero_add, Nat.add_assoc]
  | _ + 2 => exact (add_zero _).trans (add_zero _)

/-- What grid point `n` leaves: its rows of the five results by row, and the gains' gradients of the rows so far. -/
theorem outs (H : Holds m c D K PA) (n : ℕ) (hn : n < cfg0.N) :
    (outsAt0 m c n hn).1 = (E2 ((D.shift (512 * n)).dh2 K) : FVec Ideal S512x1024 .f32) ∧
    (outsAt0 m c n hn).2.1 = (E2 ((D.shift (512 * n)).df K) : FVec Ideal S512x1024 .bf16) ∧
    (outsAt0 m c n hn).2.2.1 = (E2 ((D.shift (512 * n)).u K) : FVec Ideal S512x1024 .bf16) ∧
    (outsAt0 m c n hn).2.2.2.1 = (E2 ((D.shift (512 * n)).dz K) : FVec Ideal S512x1024 .bf16) ∧
    (outsAt0 m c n hn).2.2.2.2.1 = (E2 ((D.shift (512 * n)).dpp K) : FVec Ideal S512x1024 .bf16) ∧
    (outsAt0 m c n hn).2.2.2.2.2 = (E2 (D.gacc K (512 * (n + 1))) : FVec Ideal S8x1024 .f32) := by
  have h32 : n < 32 := hn
  induction n with
  | zero =>
    obtain ⟨a1, a2, a3, a4, a5, a6⟩ := caseA m c (D.shift (512 * 0)) K ⟨0, hn⟩ rfl (finds m c D K PA H ⟨0, hn⟩)
    refine ⟨a1, a2, a3, a4, a5, a6.trans (E2_congr fun j _ k _ => ?_)⟩
    rw [← gacc_add D K 0 j k]
    have z : D.gacc K (512 * 0) j k = 0 := by
      match j with
      | 0 => exact Finset.sum_range_zero _
      | 1 => exact Finset.sum_range_zero _
      | _ + 2 => rfl
    rw [z, zero_add]
  | succ n ih =>
    obtain ⟨-, -, -, -, -, i6⟩ := ih (by omega) (by omega)
    have hd : ¬ (n + 1) % 32 = 0 := by omega
    obtain ⟨a1, a2, a3, a4, a5, a6⟩ := caseB m c (D.shift (512 * (n + 1))) K ⟨n + 1, hn⟩ hd (finds m c D K PA H ⟨n + 1, hn⟩) _ i6
    exact ⟨a1, a2, a3, a4, a5, a6.trans (E2_congr fun j _ k _ => gacc_add D K (n + 1) j k)⟩

/-- The middle value's gradient, all rows. -/
theorem final8 (H : Holds m c D K PA) : (dats m 0 c).arrAt 8 cfg0.N = (E2 (D.dh2 K) : FVec Ideal S16384x1024 .f32) := by
  refine (dats m 0 c).arrAt_eq_of_covers 8 _ (by decide +kernel) fun t hf y => ?_
  blk_simp
  rw [after0_8, (outs m c D K PA H t.val t.isLt).1]
  obtain ⟨e, e', -⟩ := idxO t
  show D.dh2 K (512 * t.val + (y 0).val) (y 1).val =
    D.dh2 K (((cfg0.win 8).blk t).view.emb y 0).val (((cfg0.win 8).blk t).view.emb y 1).val
  blk_simp
  rw [e, e', Nat.mul_comm 512, Nat.zero_mul, Nat.zero_add]

/-- The feed-forward output's gradient, all rows. -/
theorem final9 (H : Holds m c D K PA) : (dats m 0 c).arrAt 9 cfg0.N = (E2 (D.df K) : FVec Ideal S16384x1024 .bf16) := by
  refine (dats m 0 c).arrAt_eq_of_covers 9 _ (by decide +kernel) fun t hf y => ?_
  blk_simp
  rw [after0_9, (outs m c D K PA H t.val t.isLt).2.1]
  obtain ⟨-, -, e, e', -⟩ := idxO t
  show D.df K (512 * t.val + (y 0).val) (y 1).val =
    D.df K (((cfg0.win 9).blk t).view.emb y 0).val (((cfg0.win 9).blk t).view.emb y 1).val
  blk_simp
  rw [e, e', Nat.mul_comm 512, Nat.zero_mul, Nat.zero_add]

/-- The gate's input rows, all rows. -/
theorem final10 (H : Holds m c D K PA) : (dats m 0 c).arrAt 10 cfg0.N = (E2 (D.u K) : FVec Ideal S16384x1024 .bf16) := by
  refine (dats m 0 c).arrAt_eq_of_covers 10 _ (by decide +kernel) fun t hf y => ?_
  blk_simp
  rw [after0_10, (outs m c D K PA H t.val t.isLt).2.2.1]
  obtain ⟨-, -, -, -, e, e', -⟩ := idxO t
  show D.u K (512 * t.val + (y 0).val) (y 1).val =
    D.u K (((cfg0.win 10).blk t).view.emb y 0).val (((cfg0.win 10).blk t).view.emb y 1).val
  blk_simp
  rw [e, e', Nat.mul_comm 512, Nat.zero_mul, Nat.zero_add]

/-- The gate's argument's gradient, all rows. -/
theorem final11 (H : Holds m c D K PA) : (dats m 0 c).arrAt 11 cfg0.N = (E2 (D.dz K) : FVec Ideal S16384x1024 .bf16) := by
  refine (dats m 0 c).arrAt_eq_of_covers 11 _ (by decide +kernel) fun t hf y => ?_
  blk_simp
  rw [after0_11, (outs m c D K PA H t.val t.isLt).2.2.2.1]
  obtain ⟨-, -, -, -, -, -, e, e', -⟩ := idxO t
  show D.dz K (512 * t.val + (y 0).val) (y 1).val =
    D.dz K (((cfg0.win 11).blk t).view.emb y 0).val (((cfg0.win 11).blk t).view.emb y 1).val
  blk_simp
  rw [e, e', Nat.mul_comm 512, Nat.zero_mul, Nat.zero_add]

/-- The projected embeddings' gradient, all rows. -/
theorem final12 (H : Holds m c D K PA) : (dats m 0 c).arrAt 12 cfg0.N = (E2 (D.dpp K) : FVec Ideal S16384x1024 .bf16) := by
  refine (dats m 0 c).arrAt_eq_of_covers 12 _ (by decide +kernel) fun t hf y => ?_
  blk_simp
  rw [after0_12, (outs m c D K PA H t.val t.isLt).2.2.2.2.1]
  obtain ⟨-, -, -, -, -, -, -, -, e, e'⟩ := idxO t
  show D.dpp K (512 * t.val + (y 0).val) (y 1).val =
    D.dpp K (((cfg0.win 12).blk t).view.emb y 0).val (((cfg0.win 12).blk t).view.emb y 1).val
  blk_simp
  rw [e, e', Nat.mul_comm 512, Nat.zero_mul, Nat.zero_add]

/-- The gains' gradients: the sums over all rows. -/
theorem final13 (H : Holds m c D K PA) : (dats m 0 c).arrAt 13 cfg0.N = (E2 (D.gacc K 16384) : FVec Ideal S8x1024 .f32) := by
  refine (dats m 0 c).arrAt_eq_of_after_last 13 ⟨31, by decide⟩ (by decide +kernel) _ fun y => ?_
  exact (congrFun (after0_13 m c _) _).trans (congrFun (outs m c D K PA H 31 (by decide)).2.2.2.2.2 _)

end Cert.Kernel5Ideal.Ple

end
-- ==== Proof.PleEq.lean ====
module

public import proofs.«01_k».proof.Proof.PleRef
public import proofs.«01_k».proof.Proof.PleGlob
public import proofs.«01_k».proof.Proof.Gen.Kernel5Ideal.Value
public import proofs.«01_k».proof.Proof.Gen.Reference5Ideal.Run
public import proofs.«01_k».proof.Defs

@[expose] public section

set_option maxRecDepth 16384

noncomputable section

/-! The per-layer-embedding call's six results are the reference's. -/

namespace Cert.Proof.Ple

open Idealize.ShloMosaic Idealize.SL.Sem Idealize.ShloMosaic.TcCoe Cert.Lift
open Cert.Reference5Ideal Cert.Reference5Ideal.Read Cert.Reference5Ideal.Ple
open Cert.Kernel5Ideal.Ple (Holds Args Weights final8 final9 final10 final11 final12 final13)

attribute [local instance] Cert.Kernel5Ideal.Gen.facts Cert.Reference5Ideal.Gen.facts

/-- Two-axis arguments in memory are always such arrays. -/
theorem holds (m : (ℓ : Loc Cert.Kernel5Ideal.nD Cert.Kernel5Ideal.τ Cert.Kernel5Ideal.sig) → Buf (Elt Ideal) ℓ)
    (c : Dev Cert.Kernel5Ideal.nD) : ∃ (T : Args) (K : Weights) (PA : ℕ → ℕ → EReal), Holds m c T K PA := by
  obtain ⟨D, e0⟩ := exists_E2 (a := 16384) (b := 1024) (m ((c : Thread Cert.Kernel5Ideal.nD Cert.Kernel5Ideal.τ).loc Cert.Kernel5Ideal.main_arg0))
  obtain ⟨H, e1⟩ := exists_E2 (a := 16384) (b := 1024) (m ((c : Thread Cert.Kernel5Ideal.nD Cert.Kernel5Ideal.τ).loc Cert.Kernel5Ideal.main_arg1))
  obtain ⟨X, e2⟩ := exists_E2 (a := 16384) (b := 1024) (m ((c : Thread Cert.Kernel5Ideal.nD Cert.Kernel5Ideal.τ).loc Cert.Kernel5Ideal.main_arg2))
  obtain ⟨PA, e3⟩ := exists_E2 (a := 65536) (b := 256) (m ((c : Thread Cert.Kernel5Ideal.nD Cert.Kernel5Ideal.τ).loc Cert.Kernel5Ideal.main_arg3))
  obtain ⟨go, e4⟩ := exists_E2 (a := 1) (b := 1024) (m ((c : Thread Cert.Kernel5Ideal.nD Cert.Kernel5Ideal.τ).loc Cert.Kernel5Ideal.main_arg4))
  obtain ⟨gl, e5⟩ := exists_E2 (a := 1) (b := 1024) (m ((c : Thread Cert.Kernel5Ideal.nD Cert.Kernel5Ideal.τ).loc Cert.Kernel5Ideal.main_arg5))
  obtain ⟨W, e6⟩ := exists_E2 (a := 1024) (b := 1024) (m ((c : Thread Cert.Kernel5Ideal.nD Cert.Kernel5Ideal.τ).loc Cert.Kernel5Ideal.main_arg6))
  obtain ⟨Q, e7⟩ := exists_E2 (a := 256) (b := 1024) (m ((c : Thread Cert.Kernel5Ideal.nD Cert.Kernel5Ideal.τ).loc Cert.Kernel5Ideal.main_arg7))
  exact ⟨⟨D, H, X, fun p k => PA (16384 + p) k⟩, ⟨go, gl, W, Q⟩, PA, ⟨e0, e1, e2, e3, e4, e5, e6, e7, rfl⟩⟩

/-- The reference runs and keeps its arguments; it has no semaphores. -/
theorem frame_reference : Cert.quiescent_Reference5Ideal := fun m g _ =>
  (θ_run Cert.Reference5Ideal.defs _ _).mono (fun r h => ⟨fun c => (h c).2.2.2.2.2.2, sem_eq_zero_of_no_sems (by decide) r.2⟩)
    (Cert.Reference5Ideal.Value.run (F := Ideal) m g)

/-- The kernel's six results are the reference's, whatever the arguments. -/
theorem algebraic : Cert.algebraic_Kernel5Ideal_Reference5Ideal := by
  intro m g m' g' hpre hargs
  refine ⟨fun c => (Cert.Kernel5Ideal.Gen.dats m 0 c).arrAt 8 Cert.Kernel5Ideal.cfg0.N,
    fun c => (Cert.Kernel5Ideal.Gen.dats m 0 c).arrAt 9 Cert.Kernel5Ideal.cfg0.N,
    fun c => (Cert.Kernel5Ideal.Gen.dats m 0 c).arrAt 10 Cert.Kernel5Ideal.cfg0.N,
    fun c => (Cert.Kernel5Ideal.Gen.dats m 0 c).arrAt 11 Cert.Kernel5Ideal.cfg0.N,
    fun c => (Cert.Kernel5Ideal.Gen.dats m 0 c).arrAt 12 Cert.Kernel5Ideal.cfg0.N,
    fun c => (Cert.Kernel5Ideal.Gen.dats m 0 c).arrAt 13 Cert.Kernel5Ideal.cfg0.N,
    Cert.Kernel5Ideal.Value.run_blocks m g, ?_⟩
  refine (θ_run Cert.Reference5Ideal.defs _ _).mono (fun r h c => ?_) (Cert.Reference5Ideal.Value.run (F := Ideal) m' g')
  obtain ⟨T, K, PA, H⟩ := holds m c
  obtain ⟨a0, a1, a2, a3, a4, a5, a6, a7⟩ := hargs c
  obtain ⟨r0, r1, r2, r3, r4, r5, rest⟩ := h c
  have b0 := a0.trans H.hD
  have b1 := a1.trans H.hH
  have b2 := a2.trans H.hF
  have b3 := a3.trans H.hP
  have b4 := a4.trans H.hgo
  have b5 := a5.trans H.hgl
  have b6 := a6.trans H.hW
  have b7 := a7.trans H.hQ
  refine ⟨r0.trans ((val_main_v75_eq _).trans (Eq.trans ?_ ((v75_eq T K PA H.part).trans (final8 m c T K PA H).symm))),
    r1.trans ((val_main_v141_eq _).trans (Eq.trans ?_ ((v141_eq T K PA H.part).trans (final9 m c T K PA H).symm))),
    r2.trans ((val_main_v142_eq _).trans (Eq.trans ?_ ((v142_eq T K).trans (final10 m c T K PA H).symm))),
    r3.trans ((val_main_v143_eq _).trans (Eq.trans ?_ ((v143_eq T K PA H.part).trans (final11 m c T K PA H).symm))),
    r4.trans ((val_main_v144_eq _).trans (Eq.trans ?_ ((v144_eq T K).trans (final12 m c T K PA H).symm))),
    r5.trans ((val_main_v147_eq _).trans (Eq.trans ?_ ((v147_eq T K PA H.part).trans (final13 m c T K PA H).symm))), rest⟩
  · exact congr (congr (congr (congr (congr (congr (congr (congrArg (val_main_v75 (F := Ideal)) b0) b1) b2) b3) b4) b5) b6) b7
  · exact congr (congr (congr (congr (congr (congr (congr (congrArg (val_main_v141 (F := Ideal)) b0) b1) b2) b3) b4) b5) b6) b7
  · exact congr (congr (congr (congrArg (val_main_v142 (F := Ideal)) b1) b2) b4) b5
  · exact congr (congr (congr (congr (congr (congr (congr (congrArg (val_main_v143 (F := Ideal)) b0) b1) b2) b3) b4) b5) b6) b7
  · exact congr (congr (congr (congr (congr (congrArg (val_main_v144 (F := Ideal)) b0) b1) b2) b4) b5) b6
  · exact congr (congr (congr (congr (congr (congr (congr (congrArg (val_main_v147 (F := Ideal)) b0) b1) b2) b3) b4) b5) b6) b7

end Cert.Proof.Ple

end
-- ==== Proof.OprojTile.lean ====
module

public import proofs.«01_k».proof.Proof.Ext
public import proofs.«01_k».proof.Proof.Gen.Kernel6Ideal.Skeleton

@[expose] public section

set_option maxRecDepth 16384

noncomputable section

/-! The attention output's gradient, over the extended reals: what each named value of the kernel's body is in terms of the values it
    is computed from. -/

namespace Cert.Kernel6Ideal.Oproj

open Idealize.ShloMosaic Cert.Lift Cert.Kernel6Ideal Cert.Kernel6Ideal.Gen
open Cert.Ext

/-- What every row is computed with, over the extended reals: the two gains and the projection's weights. -/
structure Weights where
  (gp gf W : ℕ → ℕ → EReal)

/-- What the block reads by row, over the extended reals: the gradient that reaches its output directly, the gradient that reaches the
    normalised output, its output and the projected attention. -/
structure Args where
  (D Y H M : ℕ → ℕ → EReal)

namespace Args

variable (T : Args) (K : Weights)

/-- The output's gradient through its normalisation. -/
def dn (p c : ℕ) : EReal := rmsBack T.H (rms T.H) (fun p c => T.Y p c * K.gf 0 c) p c
/-- The output's gradient. -/
def dh1 (p c : ℕ) : EReal := T.D p c + T.dn K p c
/-- The projected attention's gradient. -/
def dm (p c : ℕ) : EReal := rmsBack T.M (rms T.M) (fun p c => T.dh1 K p c * K.gp 0 c) p c
/-- The attention's gradient. -/
def dattn (p c : ℕ) : EReal := ∑ k : Fin 1024, T.dm K p k * K.W c k
/-- A row's part of the first gain's gradient. -/
def tgp (p c : ℕ) : EReal := T.dh1 K p c * (T.M p c * rms T.M p)
/-- A row's part of the second gain's gradient. -/
def tgf (p c : ℕ) : EReal := T.Y p c * (T.H p c * rms T.H p)
/-- The two gains' gradients from the first `n` rows, and six rows of zeros. -/
def gacc (n j c : ℕ) : EReal :=
  match j with
  | 0 => ∑ p ∈ Finset.range n, T.tgp K p c
  | 1 => ∑ p ∈ Finset.range n, T.tgf p c
  | _ => 0
/-- The rows from row `s` on. -/
def shift (s : ℕ) : Args where
  D p c := T.D (s + p) c
  Y p c := T.Y (s + p) c
  H p c := T.H (s + p) c
  M p c := T.M (s + p) c

end Args

variable (T : Args) (K : Weights)

/-- The output, as read. -/
theorem pay4_eq : k0_pay4 (F := Ideal) (E2 T.H)
    = (E2 T.H) := by
  funext j
  idx_vars j
  pointwise [k0_pay4]

/-- The projected attention, widened. -/
theorem pay5_eq : k0_pay5 (F := Ideal) (E2 T.M)
    = (E2 T.M) := by
  funext j
  idx_vars j
  pointwise [k0_pay5]

/-- The output's reciprocal root mean square. -/
theorem pay6_eq : k0_pay6 (F := Ideal) (E2 T.H)
    = (E2 fun p _ => rms T.H p) := by
  unfold k0_pay6
  rw [pay4_eq]
  funext j
  idx_vars j
  pointwise []
  simp only [E2_apply, lit_one, lit_zero, lit_1024, lit_eps, zero_add, EReal.coe_zero, EReal.coe_one]
  rfl

/-- The normalised output's gradient, widened. -/
theorem pay7_eq : k0_pay7 (F := Ideal) (E2 T.Y)
    = (E2 T.Y) := by
  funext j
  idx_vars j
  pointwise [k0_pay7]

/-- The output's gradient through its normalisation. -/
theorem pay8_eq : k0_pay8 (F := Ideal) (E2 T.H) (E2 K.gf) (E2 T.Y)
    = (E2 (T.dn K)) := by
  unfold k0_pay8
  rw [pay4_eq, pay6_eq, pay7_eq]
  funext j
  idx_vars j
  pointwise []
  simp only [E2_apply, lit_one, lit_zero, lit_1024, lit_eps, zero_add, EReal.coe_zero, EReal.coe_one]
  rfl

/-- The second gain's gradient from these rows. -/
theorem pay9_eq : k0_pay9 (F := Ideal) (E2 T.H) (E2 T.Y)
    = (E2 fun _ c => T.gacc K 512 1 c) := by
  unfold k0_pay9
  rw [pay4_eq, pay6_eq, pay7_eq]
  funext j
  idx_vars j
  pointwise []
  simp only [E2_apply, lit_one, lit_zero, lit_1024, lit_eps, zero_add, EReal.coe_zero, EReal.coe_one]
  simp only [Args.gacc, Finset.sum_range]
  rfl

/-- The output's gradient. -/
theorem pay10_eq : k0_pay10 (F := Ideal) (E2 (T.dn K)) (E2 T.D)
    = (E2 (T.dh1 K)) := by
  funext j
  idx_vars j
  pointwise [k0_pay10]
  rfl

/-- The projected attention's reciprocal root mean square. -/
theorem pay11_eq : k0_pay11 (F := Ideal) (E2 T.M)
    = (E2 fun p _ => rms T.M p) := by
  funext j
  idx_vars j
  pointwise [k0_pay11]
  simp only [E2_apply, lit_one, lit_zero, lit_1024, lit_eps, zero_add, EReal.coe_zero, EReal.coe_one]
  rfl

/-- The first gain's gradient from these rows. -/
theorem pay12_eq : k0_pay12 (F := Ideal) (E2 T.M) (E2 (T.dn K)) (E2 T.D)
    = (E2 fun _ c => T.gacc K 512 0 c) := by
  unfold k0_pay12
  rw [pay10_eq, pay11_eq]
  funext j
  idx_vars j
  pointwise []
  simp only [E2_apply, lit_one, lit_zero, lit_1024, lit_eps, zero_add, EReal.coe_zero, EReal.coe_one]
  simp only [Args.gacc, Finset.sum_range]
  rfl

/-- The projected attention's gradient. -/
theorem pay13_eq : k0_pay13 (F := Ideal) (E2 T.M) (E2 (T.dn K)) (E2 T.D) (E2 K.gp)
    = (E2 (T.dm K)) := by
  unfold k0_pay13
  rw [pay10_eq, pay11_eq]
  funext j
  idx_vars j
  pointwise []
  simp only [E2_apply, lit_one, lit_zero, lit_1024, lit_eps, zero_add, EReal.coe_zero, EReal.coe_one]
  rfl

/-- The attention's gradient. -/
theorem pay14_eq : k0_pay14 (F := Ideal) (E2 T.M) (E2 (T.dn K)) (E2 T.D) (E2 K.gp) (E2 K.W)
    = (E2 (T.dattn K)) := by
  unfold k0_pay14
  rw [pay13_eq]
  funext j
  idx_vars j
  pointwise []
  simp only [E2_apply, lit_one, lit_zero, lit_1024, lit_eps, zero_add, EReal.coe_zero, EReal.coe_one]
  rfl

/-- The first gain's gradient, added to. -/
theorem pay1_eq (r : ℕ → EReal) : k0_pay1 (F := Ideal) (E2 fun _ c => T.gacc K 512 0 c) (E2 fun _ c => r c)
    = (E2 fun _ c => r c + T.gacc K 512 0 c) := by
  funext j
  idx_vars j
  pointwise [k0_pay1]
  simp only [E2_apply, lit_one, lit_zero, lit_1024, lit_eps, zero_add, EReal.coe_zero, EReal.coe_one]

/-- The second gain's gradient, added to. -/
theorem pay2_eq (r : ℕ → EReal) : k0_pay2 (F := Ideal) (E2 fun _ c => T.gacc K 512 1 c) (E2 fun _ c => r c)
    = (E2 fun _ c => r c + T.gacc K 512 1 c) := by
  funext j
  idx_vars j
  pointwise [k0_pay2]
  simp only [E2_apply, lit_one, lit_zero, lit_1024, lit_eps, zero_add, EReal.coe_zero, EReal.coe_one]

/-- The accumulated rows start at zero. -/
theorem pay3_eq : k0_pay3 (F := Ideal) = E2 fun _ _ => 0 := by
  funext j
  idx_vars j
  pointwise [k0_pay3]
  rfl

end Cert.Kernel6Ideal.Oproj

end
-- ==== Proof.OprojRef.lean ====
module

public import proofs.«01_k».proof.Proof.OprojTile
public import proofs.«01_k».proof.Proof.Gen.Reference6Ideal.Read

@[expose] public section

set_option maxRecDepth 16384

noncomputable section

/-! The attention-output reference's values, stage by stage. -/

namespace Cert.Reference6Ideal.Oproj

open Idealize.ShloMosaic Cert.Lift Cert.Reference6Ideal Cert.Reference6Ideal.Gen Cert.Reference6Ideal.Read
open Cert.Ext
open Cert.Kernel6Ideal.Oproj (Args Weights)

/-- The one-axis array holding `f` of the coordinate, infinities allowed. -/
def E1 {a : ℕ} (f : ℕ → EReal) : (⟨1, ![a]⟩ : Shape).Idx → EReal := fun i => f (i 0).val

/-- `E1` at an index. -/
theorem E1_apply {a : ℕ} (f : ℕ → EReal) (i : Fin a) : E1 f (ix1 i) = f i.val := rfl

/-- The block's saved values are those of the forward pass: the projected attention, and the input with its normalisation added. -/
structure Saved (T : Args) (K : Weights) (X I : ℕ → ℕ → EReal) : Prop where
  M : T.M = fun p c => ∑ k : Fin 1024, X p k * K.W k c
  H : T.H = fun p c => I p c + T.M p c * rms T.M p * K.gp 0 c

variable (T : Args) (K : Weights) (X I : ℕ → ℕ → EReal)

/-- The projected attention. -/
theorem v1_eq (S : Saved T K X I) : val_main_v1 (F := Ideal) (E2 X) (E2 K.W) = (E2 T.M) := by
  unfold val_main_v1 val_main_v0
  funext j
  idx_vars j
  pointwise []
  simp only [E2_apply, E1_apply, lit_one, lit_zero, lit_neg_half, lit_1024, lit_eps, zero_add, EReal.coe_zero, EReal.coe_one, Fin.sum_univ_one, Finset.univ_unique, Finset.sum_singleton]
  rw [S.M]

/-- Its reciprocal root mean square. -/
theorem v11_eq (S : Saved T K X I) : val_main_v11 (F := Ideal) (E2 X) (E2 K.W) = (E2 fun p _ => rms T.M p) := by
  unfold val_main_v11 val_main_v10 val_main_v8 val_main_v6 val_main_v5 val_main_v4
  rw [v1_eq T K X I S]
  funext j
  idx_vars j
  pointwise [val_main_cst, val_main_cst_0, val_main_cst_1, val_main_v7, val_main_v9]
  simp only [E2_apply, E1_apply, lit_one, lit_zero, lit_neg_half, lit_1024, lit_eps, zero_add, EReal.coe_zero, EReal.coe_one, Fin.sum_univ_one, Finset.univ_unique, Finset.sum_singleton]
  rfl

/-- The derivative of that root. -/
theorem v14_eq (S : Saved T K X I) : val_main_v14 (F := Ideal) (E2 X) (E2 K.W) = (E2 fun p _ => ((-(1 / 2) : ℝ) : EReal) * (rms T.M p * rms T.M p * rms T.M p)) := by
  unfold val_main_v14 val_main_v12 val_main_v10 val_main_v8 val_main_v6 val_main_v5 val_main_v4
  rw [v11_eq T K X I S, v1_eq T K X I S]
  funext j
  idx_vars j
  pointwise [val_main_v13, val_main_cst_2, val_main_v7, val_main_v9, val_main_cst, val_main_cst_0, val_main_cst_1]
  simp only [E2_apply, E1_apply, lit_one, lit_zero, lit_neg_half, lit_1024, lit_eps, zero_add, EReal.coe_zero, EReal.coe_one, Fin.sum_univ_one, Finset.univ_unique, Finset.sum_singleton]
  exact congrArg _ (rms_cube T.M j0.val)

/-- The normalised projected attention. -/
theorem v16_eq (S : Saved T K X I) : val_main_v16 (F := Ideal) (E2 X) (E2 K.W) = (E2 fun p c => T.M p c * rms T.M p) := by
  unfold val_main_v16 val_main_v15
  rw [v1_eq T K X I S, v11_eq T K X I S]
  funext j
  idx_vars j
  pointwise []
  simp only [E2_apply, E1_apply, lit_one, lit_zero, lit_neg_half, lit_1024, lit_eps, zero_add, EReal.coe_zero, EReal.coe_one, Fin.sum_univ_one, Finset.univ_unique, Finset.sum_singleton]

/-- The block's output. -/
theorem v20_eq (S : Saved T K X I) : val_main_v20 (F := Ideal) (E2 I) (E2 X) (E2 K.W) (E2 K.gp) = (E2 T.H) := by
  unfold val_main_v20 val_main_v19
  rw [v16_eq T K X I S]
  funext j
  idx_vars j
  pointwise [val_main_v18, val_main_v17, val_main_v2]
  simp only [E2_apply, E1_apply, lit_one, lit_zero, lit_neg_half, lit_1024, lit_eps, zero_add, EReal.coe_zero, EReal.coe_one, Fin.sum_univ_one, Finset.univ_unique, Finset.sum_singleton]
  rw [S.H]
  rfl

/-- Its reciprocal root mean square. -/
theorem v28_eq (S : Saved T K X I) : val_main_v28 (F := Ideal) (E2 I) (E2 X) (E2 K.W) (E2 K.gp) = (E2 fun p _ => rms T.H p) := by
  unfold val_main_v28 val_main_v27 val_main_v25 val_main_v23 val_main_v22 val_main_v21
  rw [v20_eq T K X I S]
  funext j
  idx_vars j
  pointwise [val_main_cst_3, val_main_cst_4, val_main_cst_5, val_main_v24, val_main_v26]
  simp only [E2_apply, E1_apply, lit_one, lit_zero, lit_neg_half, lit_1024, lit_eps, zero_add, EReal.coe_zero, EReal.coe_one, Fin.sum_univ_one, Finset.univ_unique, Finset.sum_singleton]
  rfl

/-- The derivative of that root. -/
theorem v31_eq (S : Saved T K X I) : val_main_v31 (F := Ideal) (E2 I) (E2 X) (E2 K.W) (E2 K.gp) = (E2 fun p _ => ((-(1 / 2) : ℝ) : EReal) * (rms T.H p * rms T.H p * rms T.H p)) := by
  unfold val_main_v31 val_main_v29 val_main_v27 val_main_v25 val_main_v23 val_main_v22 val_main_v21
  rw [v28_eq T K X I S, v20_eq T K X I S]
  funext j
  idx_vars j
  pointwise [val_main_v30, val_main_cst_6, val_main_v24, val_main_v26, val_main_cst_3, val_main_cst_4, val_main_cst_5]
  simp only [E2_apply, E1_apply, lit_one, lit_zero, lit_neg_half, lit_1024, lit_eps, zero_add, EReal.coe_zero, EReal.coe_one, Fin.sum_univ_one, Finset.univ_unique, Finset.sum_singleton]
  exact congrArg _ (rms_cube T.H j0.val)

/-- The normalised output. -/
theorem v33_eq (S : Saved T K X I) : val_main_v33 (F := Ideal) (E2 I) (E2 X) (E2 K.W) (E2 K.gp) = (E2 fun p c => T.H p c * rms T.H p) := by
  unfold val_main_v33 val_main_v32
  rw [v20_eq T K X I S, v28_eq T K X I S]
  funext j
  idx_vars j
  pointwise []
  simp only [E2_apply, E1_apply, lit_one, lit_zero, lit_neg_half, lit_1024, lit_eps, zero_add, EReal.coe_zero, EReal.coe_one, Fin.sum_univ_one, Finset.univ_unique, Finset.sum_singleton]

/-- The second gain's gradient. -/
theorem v39_eq (S : Saved T K X I) : val_main_v39 (F := Ideal) (E2 I) (E2 X) (E2 T.Y) (E2 K.W) (E2 K.gp) = (E1 fun c => ∑ p ∈ Finset.range 16384, T.tgf p c) := by
  unfold val_main_v39 val_main_v38
  rw [v33_eq T K X I S]
  funext j
  idx_vars j
  pointwise [val_main_v37, val_main_cst_7]
  simp only [E2_apply, E1_apply, lit_one, lit_zero, lit_neg_half, lit_1024, lit_eps, zero_add, EReal.coe_zero, EReal.coe_one, Fin.sum_univ_one, Finset.univ_unique, Finset.sum_singleton]
  rw [Finset.sum_range]
  exact Finset.sum_congr rfl fun k _ => mul_comm _ _

/-- The second gain's gradient, summed over one row. -/
theorem v43_eq (S : Saved T K X I) : val_main_v43 (F := Ideal) (E2 I) (E2 X) (E2 T.Y) (E2 K.W) (E2 K.gp) = (E1 fun c => ∑ p ∈ Finset.range 16384, T.tgf p c) := by
  unfold val_main_v43 val_main_v40
  rw [v39_eq T K X I S]
  funext j
  idx_vars j
  pointwise [val_main_cst_8]
  simp only [E2_apply, E1_apply, lit_one, lit_zero, lit_neg_half, lit_1024, lit_eps, zero_add, EReal.coe_zero, EReal.coe_one, Fin.sum_univ_one, Finset.univ_unique, Finset.sum_singleton]

/-- The gradient that reaches the normalised output, times the gain. -/
theorem v42_eq : val_main_v42 (F := Ideal) (E2 T.Y) (E2 K.gf) = (E2 fun p c => T.Y p c * K.gf 0 c) := by
  unfold val_main_v42
  funext j
  idx_vars j
  pointwise [val_main_v37, val_main_v41, val_main_v34, val_main_v3]
  simp only [E2_apply, E1_apply, lit_one, lit_zero, lit_neg_half, lit_1024, lit_eps, zero_add, EReal.coe_zero, EReal.coe_one, Fin.sum_univ_one, Finset.univ_unique, Finset.sum_singleton]
  rfl

/-- The row factor of the output's normalisation. -/
theorem v54_eq (S : Saved T K X I) : val_main_v54 (F := Ideal) (E2 I) (E2 X) (E2 T.Y) (E2 K.W) (E2 K.gp) (E2 K.gf) = (E2 fun p _ => Ideal.div ((∑ k : Fin 1024, T.H p k * (T.Y p k * K.gf 0 k)) * (((-(1 / 2) : ℝ) : EReal) * (rms T.H p * rms T.H p * rms T.H p))) ((1024 : ℝ) : EReal)) := by
  unfold val_main_v54 val_main_v53 val_main_v52 val_main_v50 val_main_v46 val_main_v45 val_main_v44
  rw [v20_eq T K X I S, v42_eq, v31_eq T K X I S]
  funext j
  idx_vars j
  pointwise [val_main_v51, val_main_cst_9, val_main_cst_10, val_main_cst_11]
  simp only [E2_apply, E1_apply, lit_one, lit_zero, lit_neg_half, lit_1024, lit_eps, zero_add, EReal.coe_zero, EReal.coe_one, Fin.sum_univ_one, Finset.univ_unique, Finset.sum_singleton]

/-- The output's gradient. -/
theorem v58_eq (S : Saved T K X I) : val_main_v58 (F := Ideal) (E2 I) (E2 X) (E2 T.D) (E2 T.Y) (E2 K.W) (E2 K.gp) (E2 K.gf) = (E2 (T.dh1 K)) := by
  unfold val_main_v58 val_main_v57 val_main_v56 val_main_v55 val_main_v49 val_main_v48 val_main_v47
  rw [v20_eq T K X I S, v42_eq, v54_eq T K X I S, v28_eq T K X I S]
  funext j
  idx_vars j
  pointwise []
  simp only [E2_apply, E1_apply, lit_one, lit_zero, lit_neg_half, lit_1024, lit_eps, zero_add, EReal.coe_zero, EReal.coe_one, Fin.sum_univ_one, Finset.univ_unique, Finset.sum_singleton]
  unfold Args.dh1 Args.dn
  rw [← back_of, add_assoc, add_assoc, add_assoc]

/-- The output's gradient, as the projection's backward pass reads it. -/
theorem v59_eq (S : Saved T K X I) : val_main_v59 (F := Ideal) (E2 I) (E2 X) (E2 T.D) (E2 T.Y) (E2 K.W) (E2 K.gp) (E2 K.gf) = E2 (T.dh1 K) := by
  unfold val_main_v59
  rw [v58_eq T K X I S]
  funext j
  idx_vars j
  pointwise []

/-- The first gain's gradient. -/
theorem v61_eq (S : Saved T K X I) : val_main_v61 (F := Ideal) (E2 I) (E2 X) (E2 T.D) (E2 T.Y) (E2 K.W) (E2 K.gp) (E2 K.gf) = (E1 fun c => ∑ p ∈ Finset.range 16384, T.tgp K p c) := by
  unfold val_main_v61 val_main_v60
  rw [v16_eq T K X I S, v59_eq T K X I S]
  funext j
  idx_vars j
  pointwise [val_main_cst_12]
  simp only [E2_apply, E1_apply, lit_one, lit_zero, lit_neg_half, lit_1024, lit_eps, zero_add, EReal.coe_zero, EReal.coe_one, Fin.sum_univ_one, Finset.univ_unique, Finset.sum_singleton]
  rw [Finset.sum_range]
  exact Finset.sum_congr rfl fun k _ => mul_comm _ _

/-- The first gain's gradient, summed over one row. -/
theorem v65_eq (S : Saved T K X I) : val_main_v65 (F := Ideal) (E2 I) (E2 X) (E2 T.D) (E2 T.Y) (E2 K.W) (E2 K.gp) (E2 K.gf) = (E1 fun c => ∑ p ∈ Finset.range 16384, T.tgp K p c) := by
  unfold val_main_v65 val_main_v62
  rw [v61_eq T K X I S]
  funext j
  idx_vars j
  pointwise [val_main_cst_13]
  simp only [E2_apply, E1_apply, lit_one, lit_zero, lit_neg_half, lit_1024, lit_eps, zero_add, EReal.coe_zero, EReal.coe_one, Fin.sum_univ_one, Finset.univ_unique, Finset.sum_singleton]

/-- The gradient of the normalised projected attention. -/
theorem v64_eq (S : Saved T K X I) : val_main_v64 (F := Ideal) (E2 I) (E2 X) (E2 T.D) (E2 T.Y) (E2 K.W) (E2 K.gp) (E2 K.gf) = (E2 fun p c => T.dh1 K p c * K.gp 0 c) := by
  unfold val_main_v64
  rw [v59_eq T K X I S]
  funext j
  idx_vars j
  pointwise [val_main_v63, val_main_v17, val_main_v2]
  simp only [E2_apply, E1_apply, lit_one, lit_zero, lit_neg_half, lit_1024, lit_eps, zero_add, EReal.coe_zero, EReal.coe_one, Fin.sum_univ_one, Finset.univ_unique, Finset.sum_singleton]
  rfl

/-- The row factor of the projected attention's normalisation. -/
theorem v75_eq (S : Saved T K X I) : val_main_v75 (F := Ideal) (E2 I) (E2 X) (E2 T.D) (E2 T.Y) (E2 K.W) (E2 K.gp) (E2 K.gf) = (E2 fun p _ => Ideal.div ((∑ k : Fin 1024, T.M p k * (T.dh1 K p k * K.gp 0 k)) * (((-(1 / 2) : ℝ) : EReal) * (rms T.M p * rms T.M p * rms T.M p))) ((1024 : ℝ) : EReal)) := by
  unfold val_main_v75 val_main_v74 val_main_v73 val_main_v71 val_main_v68 val_main_v67 val_main_v66
  rw [v1_eq T K X I S, v64_eq T K X I S, v14_eq T K X I S]
  funext j
  idx_vars j
  pointwise [val_main_v72, val_main_cst_14, val_main_cst_15, val_main_cst_16]
  simp only [E2_apply, E1_apply, lit_one, lit_zero, lit_neg_half, lit_1024, lit_eps, zero_add, EReal.coe_zero, EReal.coe_one, Fin.sum_univ_one, Finset.univ_unique, Finset.sum_singleton]

/-- The projected attention's gradient. -/
theorem v79_eq (S : Saved T K X I) : val_main_v79 (F := Ideal) (E2 I) (E2 X) (E2 T.D) (E2 T.Y) (E2 K.W) (E2 K.gp) (E2 K.gf) = (E2 (T.dm K)) := by
  unfold val_main_v79 val_main_v78 val_main_v77 val_main_v76 val_main_v70 val_main_v69
  rw [v1_eq T K X I S, v64_eq T K X I S, v75_eq T K X I S, v11_eq T K X I S]
  funext j
  idx_vars j
  pointwise []
  simp only [E2_apply, E1_apply, lit_one, lit_zero, lit_neg_half, lit_1024, lit_eps, zero_add, EReal.coe_zero, EReal.coe_one, Fin.sum_univ_one, Finset.univ_unique, Finset.sum_singleton]
  unfold Args.dm
  rw [← back_of]

/-- The attention's gradient. -/
theorem v80_eq (S : Saved T K X I) : val_main_v80 (F := Ideal) (E2 I) (E2 X) (E2 T.D) (E2 T.Y) (E2 K.W) (E2 K.gp) (E2 K.gf) = (E2 (T.dattn K)) := by
  unfold val_main_v80
  rw [v79_eq T K X I S]
  funext j
  idx_vars j
  pointwise []
  simp only [E2_apply, E1_apply, lit_one, lit_zero, lit_neg_half, lit_1024, lit_eps, zero_add, EReal.coe_zero, EReal.coe_one, Fin.sum_univ_one, Finset.univ_unique, Finset.sum_singleton]
  rfl

/-- The projected attention's gradient, as returned. -/
theorem v82_eq (S : Saved T K X I) : val_main_v82 (F := Ideal) (E2 I) (E2 X) (E2 T.D) (E2 T.Y) (E2 K.W) (E2 K.gp) (E2 K.gf) = E2 (T.dm K) := by
  unfold val_main_v82
  rw [v79_eq T K X I S]
  funext j
  idx_vars j
  pointwise []

/-- The attention's gradient, as returned. -/
theorem v83_eq (S : Saved T K X I) : val_main_v83 (F := Ideal) (E2 I) (E2 X) (E2 T.D) (E2 T.Y) (E2 K.W) (E2 K.gp) (E2 K.gf) = E2 (T.dattn K) := by
  unfold val_main_v83
  rw [v80_eq T K X I S]
  funext j
  idx_vars j
  pointwise []

/-- The two gains' gradients as rows, and six rows of zeros. -/
theorem v86_eq (S : Saved T K X I) : val_main_v86 (F := Ideal) (E2 I) (E2 X) (E2 T.D) (E2 T.Y) (E2 K.W) (E2 K.gp) (E2 K.gf) = E2 (T.gacc K 16384) := by
  unfold val_main_v86 val_main_v85 val_main_v84
  rw [v43_eq T K X I S, v65_eq T K X I S]
  funext j
  idx_vars j
  have hj := j0.isLt
  pointwise [val_main_v81, val_main_cst_17]
  have h : j0.val = 0 ∨ j0.val = 1 ∨ ∃ n, j0.val = n + 2 := by
    rcases Nat.lt_or_ge j0.val 2 with h | h
    · omega
    · exact .inr (.inr ⟨j0.val - 2, by omega⟩)
  rcases h with h | h | ⟨n, h⟩ <;> simp [h, E2_apply, E1_apply, Args.gacc, lit_zero]

end Cert.Reference6Ideal.Oproj

end
-- ==== Proof.OprojRun.lean ====
module

public import proofs.«01_k».proof.Proof.OprojTile
public import proofs.«01_k».proof.Proof.Gen.Kernel6Ideal.Value
public import Idealize.ShloMosaic.Lib.Pipeline.ValueKit
public import Idealize.ShloMosaic.Lib.Pipeline.ReadBack

@[expose] public section

set_option maxRecDepth 16384

noncomputable section

/-! The kernel's run over the extended reals: what each grid point leaves in the three output tiles and in the rows it adds to. -/

namespace Cert.Kernel6Ideal.Oproj

open Idealize.ShloMosaic Idealize.ShloMosaic.TcCoe Cert.Lift Cert.Kernel6Ideal Cert.Kernel6Ideal.Gen
open Idealize.ShloMosaic.Pipeline (Dat)
open Cert.Ext

variable (m : (ℓ : Loc nD τ sig) → Buf (Elt Ideal) ℓ) (c : Dev nD)

/-- What grid point `t` finds, over the extended reals. -/
structure Finds (T : Args) (K : Weights) (t : Fin cfg0.N) : Prop where
  D : iblk m c 0 t = (E2 T.D : FVec Ideal S512x1024 .f32)
  Y : iblk m c 1 t = (E2 T.Y : FVec Ideal S512x1024 .bf16)
  H : iblk m c 2 t = (E2 T.H : FVec Ideal S512x1024 .f32)
  M : iblk m c 3 t = (E2 T.M : FVec Ideal S512x1024 .bf16)
  W : iblk m c 4 t = (E2 K.W : FVec Ideal S1024x1024 .bf16)
  gp : iblk m c 5 t = (E2 K.gp : FVec Ideal S1x1024 .f32)
  gf : iblk m c 6 t = (E2 K.gf : FVec Ideal S1x1024 .f32)

/-- The place in a stored row that holds an index of the whole. -/
def inRow (k : ℕ) (i : ∀ a, (![k, 0] : Fin 2 → ℕ) a + (![1, 1024] : Fin 2 → ℕ) a ≤ S8x1024.size a) (y : S8x1024.Idx) :
    (Rect.unit (s := S8x1024) ![k, 0] ![1, 1024] i).shape.Idx := fun a => ⟨if a = 0 then 0 else (y 1).val, by
  have h1 : (y 1).val < 1024 := (y 1).isLt
  fin_cases a
  · exact Nat.one_pos
  · exact h1⟩

/-- Its coordinates in the whole. -/
theorem inRow_coords (k : ℕ) (i) (y : S8x1024.Idx) (e : (y 0).val = k) (a : Fin 2) :
    (y a).val = (Rect.unit (s := S8x1024) ![k, 0] ![1, 1024] i).off a + (Rect.unit (s := S8x1024) ![k, 0] ![1, 1024] i).stride a * (inRow k i y a).val := by
  fin_cases a
  · show (y 0).val = k + 1 * 0
    omega
  · show (y 1).val = 0 + 1 * (y 1).val
    omega

/-- A row stored over earlier stores, read at an index: the row there, the earlier stores elsewhere. -/
theorem canon_row (k : ℕ) (i) (f : ℕ → ℕ → EReal) (L : List (View.Piece (Elt Ideal) S8x1024 .f32)) (y : S8x1024.Idx) :
    View.canon (⟨Rect.unit (s := S8x1024) ![k, 0] ![1, 1024] i, (E2 f : FVec Ideal S1x1024 .f32)⟩ :: L) y =
    if (y 0).val = k then f 0 (y 1).val else View.canon L y := by
  split_ifs with e
  · have hy := Rect.emb_eq_of_coords _ (inRow k i y) y (inRow_coords k i y e)
    conv_lhs => rw [← hy]
    rw [View.canon_cons_emb]
    rfl
  · refine View.canon_cons_of_not_mem _ L fun hm => e ?_
    have h2 : k ≤ (y 0).val ∧ (y 0).val < k + 1 := (Rect.mem_set_unit (inb := i)).mp hm 0
    omega

/-- The same of a buffer that held something before. -/
theorem read_row {κ sp} (v : View sig κ sp S8x1024 .f32) (g) (k : ℕ) (i) (f : ℕ → ℕ → EReal) (L : List (View.Piece (Elt Ideal) S8x1024 .f32)) (y : S8x1024.Idx) :
    v.read (Elt Ideal) (v.writes (Elt Ideal) g (⟨Rect.unit (s := S8x1024) ![k, 0] ![1, 1024] i, (E2 f : FVec Ideal S1x1024 .f32)⟩ :: L)) y =
    if (y 0).val = k then f 0 (y 1).val else v.read (Elt Ideal) (v.writes (Elt Ideal) g L) y := by
  split_ifs with e
  · exact View.read_writes_cons_hit_of_coords v g _ _ L (inRow k i y) y (inRow_coords k i y e)
  · exact View.read_writes_cons_miss_of_axis v g _ L y 0 k 1 rfl rfl rfl (by omega)

/-- A row read from eight. -/
theorem ldR (g : ℕ) (W : ℕ → ℕ → EReal) (h : ∀ a, (![g, 0] : Fin 2 → ℕ) a + (![1, 1024] : Fin 2 → ℕ) a ≤ S8x1024.size a) :
    View.ld (Val := Elt Ideal) (e' := .f32) (E2 W : FVec Ideal S8x1024 .f32) (Rect.unit (s := S8x1024) ![g, 0] ![1, 1024] h)
    = (show (Rect.unit (s := S8x1024) ![g, 0] ![1, 1024] h).shape.Idx → EReal from E2 fun _ b => W g b) := by
  funext j
  idx_vars j
  have : j0 = 0 := by omega
  subst this
  pointwise []
  simp [E2_apply]

/-- The two rows of gradients after the stores, and the rows after them, read at an index. -/
theorem row_cases (G r : ℕ → ℕ → EReal) (f0 f1 : ℕ → EReal) (y : S8x1024.Idx) (h0 : ∀ k, f0 k = G 0 k) (h1 : ∀ k, f1 k = G 1 k)
    (h2 : ∀ j k, G (j + 2) k = r (j + 2) k) :
    (if (y 0).val = 1 then f1 (y 1).val else if (y 0).val = 0 then f0 (y 1).val
      else (E2 r : FVec Ideal S8x1024 .f32) y) = (E2 G : FVec Ideal S8x1024 .f32) y := by
  show _ = G (y 0).val (y 1).val
  split_ifs with e1 e0
  · rw [e1, h1]
  · rw [e0, h0]
  · show r (y 0).val (y 1).val = _
    obtain ⟨j, hj⟩ : ∃ j, (y 0).val = j + 2 := ⟨(y 0).val - 2, by omega⟩
    rw [hj, h2]

/-- The first grid point: it starts the added rows at zero. -/
theorem caseA (T : Args) (K : Weights) (t : Fin cfg0.N) (h0 : t.val % 32 = 0) (H : Finds m c T K t) :
    (outsAt0 m c t.val t.isLt).1 = E2 (T.dh1 K) ∧ (outsAt0 m c t.val t.isLt).2.1 = E2 (T.dm K) ∧
    (outsAt0 m c t.val t.isLt).2.2.1 = E2 (T.dattn K) ∧
    (outsAt0 m c t.val t.isLt).2.2.2 = E2 (T.gacc K 512) := by
  rw [outsAt0_A m c t h0]
  refine ⟨?_, ?_, ?_, ?_⟩
  all_goals frame_out
  all_goals try simp (disch := first | rfl | decide) only [↓View.readCov_skip, ↓View.readCov_fill, ↓View.readCov_cons_toLoadRect, pay3_eq]
  all_goals simp only [H.D, H.Y, H.H, H.M, H.W, H.gp, H.gf]
  all_goals simp only [ldR, pay4_eq, pay5_eq, pay6_eq, pay7_eq, pay8_eq, pay9_eq T K, pay10_eq, pay11_eq, pay12_eq, pay13_eq, pay14_eq, pay1_eq, pay2_eq, pay3_eq]
  · funext y
    rw [canon_row, canon_row, View.canon_cons_unit_lit _ _ _ (by decide)]
    exact row_cases (T.gacc K 512) (fun _ _ => 0) (fun k => 0 + T.gacc K 512 0 k) (fun k => 0 + T.gacc K 512 1 k) y
      (fun _ => by rw [zero_add]) (fun _ => by rw [zero_add]) (fun _ _ => rfl)

/-- A later grid point: it adds to the rows the point before left. -/
theorem caseB (T : Args) (K : Weights) (t : Fin cfg0.N) (h0 : ¬ t.val % 32 = 0) (H : Finds m c T K t) (r : ℕ → ℕ → EReal)
    (hr : (outsAt0 m c (t.val - 1) (Nat.lt_of_le_of_lt (Nat.sub_le _ _) t.isLt)).2.2.2 = (E2 r : FVec Ideal S8x1024 .f32)) :
    (outsAt0 m c t.val t.isLt).1 = E2 (T.dh1 K) ∧ (outsAt0 m c t.val t.isLt).2.1 = E2 (T.dm K) ∧
    (outsAt0 m c t.val t.isLt).2.2.1 = E2 (T.dattn K) ∧
    (outsAt0 m c t.val t.isLt).2.2.2 = E2 fun j k => r j k + T.gacc K 512 j k := by
  rw [outsAt0_B m c t h0]
  refine ⟨?_, ?_, ?_, ?_⟩
  all_goals frame_out
  all_goals try simp (disch := first | rfl | decide) only [↓View.readCov_skip, ↓View.readCov_cons_toLoadRect, read_unread_whole, hr]
  all_goals simp only [H.D, H.Y, H.H, H.M, H.W, H.gp, H.gf]
  all_goals simp only [ldR, pay4_eq, pay5_eq, pay6_eq, pay7_eq, pay8_eq, pay9_eq T K, pay10_eq, pay11_eq, pay12_eq, pay13_eq, pay14_eq, pay1_eq, pay2_eq, pay3_eq]
  · funext y
    rw [read_row, read_row, View.writes_nil, Memref.IsWhole.read_unread]
    exact row_cases (fun j k => r j k + T.gacc K 512 j k) r _ _ y (fun _ => rfl) (fun _ => rfl) (fun _ _ => add_zero _)

end Cert.Kernel6Ideal.Oproj

end
-- ==== Proof.OprojGlob.lean ====
module

public import proofs.«01_k».proof.Proof.OprojRun
public import proofs.«01_k».proof.Proof.OprojRef

@[expose] public section

set_option maxRecDepth 16384

noncomputable section

/-! The whole run: the tiles the grid walks in order, and the four arrays they leave. -/

namespace Cert.Kernel6Ideal.Oproj

open Idealize.ShloMosaic Idealize.ShloMosaic.TcCoe Cert.Lift Cert.Ext Cert.Kernel6Ideal Cert.Kernel6Ideal.Gen
open Idealize.ShloMosaic.Pipeline (Dat)
open Cert.Reference6Ideal.Oproj (Saved)
open Cert.Reference6Ideal.Read (val_main_v1 val_main_v20)

variable (m : (ℓ : Loc nD τ sig) → Buf (Elt Ideal) ℓ) (c : Dev nD)

/-- The arguments in memory are the gradients of `D`, the arrays of `K`, the attention `X` and the input `I`; the block's output and the
    projected attention in `D` are those of the forward pass. -/
structure Holds (D : Args) (K : Weights) (X I : ℕ → ℕ → EReal) : Prop where
  hI : m ((c : Thread nD τ).loc main_arg0) = (E2 I : FVec Ideal S16384x1024 .f32)
  hX : m ((c : Thread nD τ).loc main_arg1) = (E2 X : FVec Ideal S16384x1024 .bf16)
  hD : m ((c : Thread nD τ).loc main_arg2) = (E2 D.D : FVec Ideal S16384x1024 .f32)
  hY : m ((c : Thread nD τ).loc main_arg3) = (E2 D.Y : FVec Ideal S16384x1024 .bf16)
  hW : m ((c : Thread nD τ).loc main_arg4) = (E2 K.W : FVec Ideal S1024x1024 .f32)
  hgp : m ((c : Thread nD τ).loc main_arg5) = (E2 K.gp : FVec Ideal S1x1024 .f32)
  hgf : m ((c : Thread nD τ).loc main_arg6) = (E2 K.gf : FVec Ideal S1x1024 .f32)
  saved : Saved D K X I

/-- The blocks of rows: the `t`-th of each array. -/
theorem idxR : ∀ t : Fin cfg0.N, win0_0.index t 0 = t.val ∧ win0_0.index t 1 = 0 ∧ win0_1.index t 0 = t.val ∧ win0_1.index t 1 = 0 ∧
    win0_2.index t 0 = t.val ∧ win0_2.index t 1 = 0 ∧ win0_3.index t 0 = t.val ∧ win0_3.index t 1 = 0 :=
  (by decide +kernel : ∀ t : Fin grid0.N, _)

/-- The blocks that stay. -/
theorem idxC : ∀ t : Fin cfg0.N, win0_4.index t 0 = 0 ∧ win0_4.index t 1 = 0 ∧ win0_5.index t 0 = 0 ∧ win0_5.index t 1 = 0 ∧
    win0_6.index t 0 = 0 ∧ win0_6.index t 1 = 0 :=
  (by decide +kernel : ∀ t : Fin grid0.N, _)

/-- The blocks of rows written. -/
theorem idxO : ∀ t : Fin cfg0.N, win0_7.index t 0 = t.val ∧ win0_7.index t 1 = 0 ∧ win0_8.index t 0 = t.val ∧ win0_8.index t 1 = 0 ∧
    win0_9.index t 0 = t.val ∧ win0_9.index t 1 = 0 :=
  (by decide +kernel : ∀ t : Fin grid0.N, _)

variable (D : Args) (K : Weights) (X I : ℕ → ℕ → EReal)

/-- The block's output, computed before the call. -/
theorem V_H (H : Holds m c D K X I) : V m c main_v16 = (E2 D.H : FVec Ideal S16384x1024 .f32) := by
  have e : V m c main_v16 = val_main_v20 (F := Ideal) (m ((c : Thread nD τ).loc main_arg0)) (m ((c : Thread nD τ).loc main_arg1))
      (m ((c : Thread nD τ).loc main_arg4)) (m ((c : Thread nD τ).loc main_arg5)) := by
    rfl
  rw [e, H.hI, H.hX, H.hW, H.hgp]
  exact Cert.Reference6Ideal.Oproj.v20_eq D K X I H.saved

/-- The projected attention, computed and cast before the call. -/
theorem V_M (H : Holds m c D K X I) : V m c main_v17 = (E2 D.M : FVec Ideal S16384x1024 .bf16) := by
  have e : V m c main_v17 = truncf (F := Ideal) .bf16 (val_main_v1 (F := Ideal) (m ((c : Thread nD τ).loc main_arg1))
      (m ((c : Thread nD τ).loc main_arg4))) bitsLt_bf16_f32 := by
    rfl
  rw [e, H.hX, H.hW]
  exact Cert.Reference6Ideal.Oproj.v1_eq D K X I H.saved

/-- The projection's weights, cast before the call. -/
theorem V_W (H : Holds m c D K X I) : V m c main_v18 = (E2 K.W : FVec Ideal S1024x1024 .bf16) := by
  have e : V m c main_v18 = truncf (F := Ideal) .bf16 (m ((c : Thread nD τ).loc main_arg4)) bitsLt_bf16_f32 := by
    rfl
  rw [e, H.hW]
  rfl

/-- What each grid point finds. -/
theorem finds (H : Holds m c D K X I) (t : Fin cfg0.N) : Finds m c (D.shift (512 * t.val)) K t := by
  obtain ⟨e0, e0', e1, e1', e2, e2', e3, e3'⟩ := idxR t
  obtain ⟨f4, f4', f5, f5', f6, f6'⟩ := idxC t
  have h0 := (V_main_arg2 m c).trans H.hD
  have h1 := (V_main_arg3 m c).trans H.hY
  have h2 := V_H m c D K X I H
  have h3 := V_M m c D K X I H
  have h4 := V_W m c D K X I H
  have h5 := (V_main_arg5 m c).trans H.hgp
  have h6 := (V_main_arg6 m c).trans H.hgf
  constructor
  · funext y
    show V m c main_arg2 (((cfg0.win 0).blk t).view.emb y) = _
    rw [h0]
    show D.D (((cfg0.win 0).blk t).view.emb y 0).val (((cfg0.win 0).blk t).view.emb y 1).val = D.D (512 * t.val + (y 0).val) (y 1).val
    blk_simp
    rw [e0, e0', Nat.zero_mul, Nat.zero_add, Nat.mul_comm]
  · funext y
    show V m c main_arg3 (((cfg0.win 1).blk t).view.emb y) = _
    rw [h1]
    show D.Y (((cfg0.win 1).blk t).view.emb y 0).val (((cfg0.win 1).blk t).view.emb y 1).val = D.Y (512 * t.val + (y 0).val) (y 1).val
    blk_simp
    rw [e1, e1', Nat.zero_mul, Nat.zero_add, Nat.mul_comm]
  · funext y
    show V m c main_v16 (((cfg0.win 2).blk t).view.emb y) = _
    rw [h2]
    show D.H (((cfg0.win 2).blk t).view.emb y 0).val (((cfg0.win 2).blk t).view.emb y 1).val = D.H (512 * t.val + (y 0).val) (y 1).val
    blk_simp
    rw [e2, e2', Nat.zero_mul, Nat.zero_add, Nat.mul_comm]
  · funext y
    show V m c main_v17 (((cfg0.win 3).blk t).view.emb y) = _
    rw [h3]
    show D.M (((cfg0.win 3).blk t).view.emb y 0).val (((cfg0.win 3).blk t).view.emb y 1).val = D.M (512 * t.val + (y 0).val) (y 1).val
    blk_simp
    rw [e3, e3', Nat.zero_mul, Nat.zero_add, Nat.mul_comm]
  · funext y
    show V m c main_v18 (((cfg0.win 4).blk t).view.emb y) = _
    rw [h4]
    show K.W (((cfg0.win 4).blk t).view.emb y 0).val (((cfg0.win 4).blk t).view.emb y 1).val = K.W (y 0).val (y 1).val
    blk_simp
    simp only [f4, f4', Nat.zero_mul, Nat.zero_add]
  · funext y
    show V m c main_arg5 (((cfg0.win 5).blk t).view.emb y) = _
    rw [h5]
    show K.gp (((cfg0.win 5).blk t).view.emb y 0).val (((cfg0.win 5).blk t).view.emb y 1).val = _
    blk_simp
    have hy : (y 0).val < 1 := (y 0).isLt
    show _ = K.gp (y 0).val (y 1).val
    simp only [f5, f5', Nat.zero_mul, Nat.zero_add, show (y 0).val = 0 by omega]
  · funext y
    show V m c main_arg6 (((cfg0.win 6).blk t).view.emb y) = _
    rw [h6]
    show K.gf (((cfg0.win 6).blk t).view.emb y 0).val (((cfg0.win 6).blk t).view.emb y 1).val = _
    blk_simp
    have hy : (y 0).val < 1 := (y 0).isLt
    show _ = K.gf (y 0).val (y 1).val
    simp only [f6, f6', Nat.zero_mul, Nat.zero_add, show (y 0).val = 0 by omega]

/-- The gains' gradients of 512 more rows. -/
theorem gacc_add (n j k : ℕ) : D.gacc K (512 * n) j k + (D.shift (512 * n)).gacc K 512 j k = D.gacc K (512 * (n + 1)) j k := by
  have e : 512 * (n + 1) = 512 * n + 512 := by omega
  match j with
  | 0 =>
    show (∑ p ∈ Finset.range (512 * n), D.tgp K p k) + (∑ p ∈ Finset.range 512, D.tgp K (512 * n + p) k) = ∑ p ∈ Finset.range (512 * (n + 1)), D.tgp K p k
    rw [e, Finset.sum_range_add]
  | 1 =>
    show (∑ p ∈ Finset.range (512 * n), D.tgf p k) + (∑ p ∈ Finset.range 512, D.tgf (512 * n + p) k) = ∑ p ∈ Finset.range (512 * (n + 1)), D.tgf p k
    rw [e, Finset.sum_range_add]
  | _ + 2 => exact add_zero _

/-- What grid point `n` leaves: its rows of the three results by row, and the gains' gradients of the rows so far. -/
theorem outs (H : Holds m c D K X I) (n : ℕ) (hn : n < cfg0.N) :
    (outsAt0 m c n hn).1 = (E2 ((D.shift (512 * n)).dh1 K) : FVec Ideal S512x1024 .f32) ∧
    (outsAt0 m c n hn).2.1 = (E2 ((D.shift (512 * n)).dm K) : FVec Ideal S512x1024 .bf16) ∧
    (outsAt0 m c n hn).2.2.1 = (E2 ((D.shift (512 * n)).dattn K) : FVec Ideal S512x1024 .bf16) ∧
    (outsAt0 m c n hn).2.2.2 = (E2 (D.gacc K (512 * (n + 1))) : FVec Ideal S8x1024 .f32) := by
  have h32 : n < 32 := hn
  induction n with
  | zero =>
    obtain ⟨a1, a2, a3, a4⟩ := caseA m c (D.shift (512 * 0)) K ⟨0, hn⟩ rfl (finds m c D K X I H ⟨0, hn⟩)
    refine ⟨a1, a2, a3, a4.trans (E2_congr fun j _ k _ => ?_)⟩
    rw [← gacc_add D K 0 j k]
    have z : D.gacc K (512 * 0) j k = 0 := by
      match j with
      | 0 => exact Finset.sum_range_zero _
      | 1 => exact Finset.sum_range_zero _
      | _ + 2 => rfl
    rw [z, zero_add]
  | succ n ih =>
    obtain ⟨-, -, -, i4⟩ := ih (by omega) (by omega)
    have hd : ¬ (n + 1) % 32 = 0 := by omega
    obtain ⟨a1, a2, a3, a4⟩ := caseB m c (D.shift (512 * (n + 1))) K ⟨n + 1, hn⟩ hd (finds m c D K X I H ⟨n + 1, hn⟩) _ i4
    exact ⟨a1, a2, a3, a4.trans (E2_congr fun j _ k _ => gacc_add D K (n + 1) j k)⟩

/-- The output's gradient, all rows. -/
theorem final7 (H : Holds m c D K X I) : (dats m 0 c).arrAt 7 cfg0.N = (E2 (D.dh1 K) : FVec Ideal S16384x1024 .f32) := by
  refine (dats m 0 c).arrAt_eq_of_covers 7 _ (by decide +kernel) fun t hf y => ?_
  blk_simp
  rw [after0_7, (outs m c D K X I H t.val t.isLt).1]
  obtain ⟨e, e', -⟩ := idxO t
  show D.dh1 K (512 * t.val + (y 0).val) (y 1).val =
    D.dh1 K (((cfg0.win 7).blk t).view.emb y 0).val (((cfg0.win 7).blk t).view.emb y 1).val
  blk_simp
  rw [e, e', Nat.mul_comm 512, Nat.zero_mul, Nat.zero_add]

/-- The projected attention's gradient, all rows. -/
theorem final8 (H : Holds m c D K X I) : (dats m 0 c).arrAt 8 cfg0.N = (E2 (D.dm K) : FVec Ideal S16384x1024 .bf16) := by
  refine (dats m 0 c).arrAt_eq_of_covers 8 _ (by decide +kernel) fun t hf y => ?_
  blk_simp
  rw [after0_8, (outs m c D K X I H t.val t.isLt).2.1]
  obtain ⟨-, -, e, e', -⟩ := idxO t
  show D.dm K (512 * t.val + (y 0).val) (y 1).val =
    D.dm K (((cfg0.win 8).blk t).view.emb y 0).val (((cfg0.win 8).blk t).view.emb y 1).val
  blk_simp
  rw [e, e', Nat.mul_comm 512, Nat.zero_mul, Nat.zero_add]

/-- The attention's gradient, all rows. -/
theorem final9 (H : Holds m c D K X I) : (dats m 0 c).arrAt 9 cfg0.N = (E2 (D.dattn K) : FVec Ideal S16384x1024 .bf16) := by
  refine (dats m 0 c).arrAt_eq_of_covers 9 _ (by decide +kernel) fun t hf y => ?_
  blk_simp
  rw [after0_9, (outs m c D K X I H t.val t.isLt).2.2.1]
  obtain ⟨-, -, -, -, e, e'⟩ := idxO t
  show D.dattn K (512 * t.val + (y 0).val) (y 1).val =
    D.dattn K (((cfg0.win 9).blk t).view.emb y 0).val (((cfg0.win 9).blk t).view.emb y 1).val
  blk_simp
  rw [e, e', Nat.mul_comm 512, Nat.zero_mul, Nat.zero_add]

/-- The gains' gradients: the sums over all rows. -/
theorem final10 (H : Holds m c D K X I) : (dats m 0 c).arrAt 10 cfg0.N = (E2 (D.gacc K 16384) : FVec Ideal S8x1024 .f32) := by
  refine (dats m 0 c).arrAt_eq_of_after_last 10 ⟨31, by decide⟩ (by decide +kernel) _ fun y => ?_
  exact (congrFun (after0_10 m c _) _).trans (congrFun (outs m c D K X I H 31 (by decide)).2.2.2 _)

end Cert.Kernel6Ideal.Oproj

end
-- ==== Proof.OprojEq.lean ====
module

public import proofs.«01_k».proof.Proof.OprojRef
public import proofs.«01_k».proof.Proof.OprojGlob
public import proofs.«01_k».proof.Proof.Gen.Kernel6Ideal.Value
public import proofs.«01_k».proof.Proof.Gen.Reference6Ideal.Run
public import proofs.«01_k».proof.Defs

@[expose] public section

set_option maxRecDepth 16384

noncomputable section

/-! The attention-output call's four results are the reference's. -/

namespace Cert.Proof.Oproj

open Idealize.ShloMosaic Idealize.SL.Sem Idealize.ShloMosaic.TcCoe Cert.Lift Cert.Ext
open Cert.Reference6Ideal Cert.Reference6Ideal.Read Cert.Reference6Ideal.Oproj
open Cert.Kernel6Ideal.Oproj (Holds Args Weights final7 final8 final9 final10)

attribute [local instance] Cert.Kernel6Ideal.Gen.facts Cert.Reference6Ideal.Gen.facts

/-- The reference's arguments in memory, over the extended reals. -/
structure RefHolds (m : (ℓ : Loc nD τ sig) → Buf (Elt Ideal) ℓ) (c : Dev nD) (T : Args) (K : Weights) (X I : ℕ → ℕ → EReal) : Prop where
  b0 : m ((c.tc : Thread nD τ).loc main_arg0) = (E2 I : FVec Ideal S16384x1024 .f32)
  b1 : m ((c.tc : Thread nD τ).loc main_arg1) = (E2 X : FVec Ideal S16384x1024 .bf16)
  b2 : m ((c.tc : Thread nD τ).loc main_arg2) = (E2 T.D : FVec Ideal S16384x1024 .f32)
  b3 : m ((c.tc : Thread nD τ).loc main_arg3) = (E2 T.Y : FVec Ideal S16384x1024 .bf16)
  b4 : m ((c.tc : Thread nD τ).loc main_arg4) = (E2 K.W : FVec Ideal S1024x1024 .f32)
  b5 : m ((c.tc : Thread nD τ).loc main_arg5) = (E2 K.gp : FVec Ideal S1x1024 .f32)
  b6 : m ((c.tc : Thread nD τ).loc main_arg6) = (E2 K.gf : FVec Ideal S1x1024 .f32)
  saved : Saved T K X I

variable (m : (ℓ : Loc nD τ sig) → Buf (Elt Ideal) ℓ) (c : Dev nD) (T : Args) (K : Weights) (X I : ℕ → ℕ → EReal)

/-- The reference's gradient of the block's output. -/
theorem res58 (H : RefHolds m c T K X I) : Value.res_main_v58 m c = (E2 (T.dh1 K) : FVec Ideal S16384x1024 .f32) := by
  rw [val_main_v58_eq, H.b0, H.b1, H.b2, H.b3, H.b4, H.b5, H.b6]
  exact v58_eq T K X I H.saved

/-- The reference's gradient of the projected attention. -/
theorem res82 (H : RefHolds m c T K X I) : Value.res_main_v82 m c = (E2 (T.dm K) : FVec Ideal S16384x1024 .bf16) := by
  rw [val_main_v82_eq, H.b0, H.b1, H.b2, H.b3, H.b4, H.b5, H.b6]
  exact v82_eq T K X I H.saved

/-- The reference's gradient of the attention. -/
theorem res83 (H : RefHolds m c T K X I) : Value.res_main_v83 m c = (E2 (T.dattn K) : FVec Ideal S16384x1024 .bf16) := by
  rw [val_main_v83_eq, H.b0, H.b1, H.b2, H.b3, H.b4, H.b5, H.b6]
  exact v83_eq T K X I H.saved

/-- The reference's gradients of the two gains. -/
theorem res86 (H : RefHolds m c T K X I) : Value.res_main_v86 m c = (E2 (T.gacc K 16384) : FVec Ideal S8x1024 .f32) := by
  rw [val_main_v86_eq, H.b0, H.b1, H.b2, H.b3, H.b4, H.b5, H.b6]
  exact v86_eq T K X I H.saved

/-- Two-axis arguments in memory are always such arrays. -/
theorem holds (m : (ℓ : Loc Cert.Kernel6Ideal.nD Cert.Kernel6Ideal.τ Cert.Kernel6Ideal.sig) → Buf (Elt Ideal) ℓ)
    (c : Dev Cert.Kernel6Ideal.nD) : ∃ (T : Args) (K : Weights) (X I : ℕ → ℕ → EReal), Holds m c T K X I := by
  obtain ⟨I, e0⟩ := exists_E2 (a := 16384) (b := 1024) (m ((c : Thread Cert.Kernel6Ideal.nD Cert.Kernel6Ideal.τ).loc Cert.Kernel6Ideal.main_arg0))
  obtain ⟨X, e1⟩ := exists_E2 (a := 16384) (b := 1024) (m ((c : Thread Cert.Kernel6Ideal.nD Cert.Kernel6Ideal.τ).loc Cert.Kernel6Ideal.main_arg1))
  obtain ⟨D, e2⟩ := exists_E2 (a := 16384) (b := 1024) (m ((c : Thread Cert.Kernel6Ideal.nD Cert.Kernel6Ideal.τ).loc Cert.Kernel6Ideal.main_arg2))
  obtain ⟨Y, e3⟩ := exists_E2 (a := 16384) (b := 1024) (m ((c : Thread Cert.Kernel6Ideal.nD Cert.Kernel6Ideal.τ).loc Cert.Kernel6Ideal.main_arg3))
  obtain ⟨W, e4⟩ := exists_E2 (a := 1024) (b := 1024) (m ((c : Thread Cert.Kernel6Ideal.nD Cert.Kernel6Ideal.τ).loc Cert.Kernel6Ideal.main_arg4))
  obtain ⟨gp, e5⟩ := exists_E2 (a := 1) (b := 1024) (m ((c : Thread Cert.Kernel6Ideal.nD Cert.Kernel6Ideal.τ).loc Cert.Kernel6Ideal.main_arg5))
  obtain ⟨gf, e6⟩ := exists_E2 (a := 1) (b := 1024) (m ((c : Thread Cert.Kernel6Ideal.nD Cert.Kernel6Ideal.τ).loc Cert.Kernel6Ideal.main_arg6))
  let M : ℕ → ℕ → EReal := fun p c => ∑ k : Fin 1024, X p k * W k c
  exact ⟨⟨D, Y, fun p c => I p c + M p c * rms M p * gp 0 c, M⟩, ⟨gp, gf, W⟩, X, I, ⟨e0, e1, e2, e3, e4, e5, e6, ⟨rfl, rfl⟩⟩⟩

/-- The reference runs and keeps its arguments; it has no semaphores. -/
theorem frame_reference : Cert.quiescent_Reference6Ideal := fun m g _ =>
  (θ_run Cert.Reference6Ideal.defs _ _).mono (fun r h => ⟨fun c => (h c).2.2.2.2, sem_eq_zero_of_no_sems (by decide) r.2⟩)
    (Cert.Reference6Ideal.Value.run (F := Ideal) m g)

/-- The kernel's four results are the reference's, whatever the arguments. -/
theorem algebraic : Cert.algebraic_Kernel6Ideal_Reference6Ideal := by
  intro m g m' g' hpre hargs
  refine ⟨fun c => (Cert.Kernel6Ideal.Gen.dats m 0 c).arrAt 7 Cert.Kernel6Ideal.cfg0.N,
    fun c => (Cert.Kernel6Ideal.Gen.dats m 0 c).arrAt 8 Cert.Kernel6Ideal.cfg0.N,
    fun c => (Cert.Kernel6Ideal.Gen.dats m 0 c).arrAt 9 Cert.Kernel6Ideal.cfg0.N,
    fun c => (Cert.Kernel6Ideal.Gen.dats m 0 c).arrAt 10 Cert.Kernel6Ideal.cfg0.N,
    Cert.Kernel6Ideal.Value.run_blocks m g, ?_⟩
  refine (θ_run Cert.Reference6Ideal.defs _ _).mono (fun r h c => ?_) (Cert.Reference6Ideal.Value.run (F := Ideal) m' g')
  obtain ⟨T, K, X, I, H⟩ := holds m c
  obtain ⟨a0, a1, a2, a3, a4, a5, a6⟩ := hargs c
  obtain ⟨r0, r1, r2, r3, rest⟩ := h c
  have R : RefHolds m' c T K X I := ⟨a0.trans H.hI, a1.trans H.hX, a2.trans H.hD, a3.trans H.hY, a4.trans H.hW, a5.trans H.hgp, a6.trans H.hgf, H.saved⟩
  exact ⟨r0.trans ((res58 m' c T K X I R).trans (final7 m c T K X I H).symm),
    r1.trans ((res82 m' c T K X I R).trans (final8 m c T K X I H).symm),
    r2.trans ((res83 m' c T K X I R).trans (final9 m c T K X I H).symm),
    r3.trans ((res86 m' c T K X I R).trans (final10 m c T K X I H).symm), rest⟩

end Cert.Proof.Oproj

end
-- ==== Proof.lean ====
module

public import proofs.«01_k».proof.Proof.Gen.Reference2Ideal.Run
public import proofs.«01_k».proof.Proof.Gen.Reference2Ideal.Read
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel.Frame
public import proofs.«01_k».proof.Proof.Gen.Kernel2.Frame
public import proofs.«01_k».proof.Proof.Gen.Kernel2Ideal.Frame
public import proofs.«01_k».proof.Proof.Gen.Kernel3.Frame
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.XtyEmbEq
public import proofs.«01_k».proof.Proof.XtyKvEq
public import proofs.«01_k».proof.Proof.PleFwdEq
public import proofs.«01_k».proof.Proof.PleQkvEq
public import proofs.«01_k».proof.Proof.PleQEq
public import proofs.«01_k».proof.Proof.Finite
public import proofs.«01_k».proof.Proof.PoolEq
public import proofs.«01_k».proof.Proof.PoolRef
public import proofs.«01_k».proof.Proof.FfnEq
public import proofs.«01_k».proof.Proof.XtyEq
public import proofs.«01_k».proof.Proof.SquareEq
public import proofs.«01_k».proof.Proof.PleEq
public import proofs.«01_k».proof.Proof.OprojEq

@[expose] public section

noncomputable section

/-! The claims: the frames, and the kernels' results equal to the references'. -/

namespace Cert.Proof

open Idealize.ShloMosaic Idealize.SL.Sem Idealize.ShloMosaic.TcCoe Cert.Lift
open Cert.KernelIdeal.Pool (Args Holds)

attribute [local instance] Cert.Kernel.Gen.facts Cert.KernelIdeal.Gen.facts Cert.ReferenceIdeal.Gen.facts Cert.Finite.facts

/-- The reference runs and keeps its arguments; it has no semaphores. -/
theorem frame_reference : Cert.quiescent_ReferenceIdeal := fun m g _ =>
  (θ_run Cert.ReferenceIdeal.defs _ _).mono (fun r h => ⟨fun c => (h c).2.2.2, sem_eq_zero_of_no_sems (by decide) r.2⟩)
    (Cert.ReferenceIdeal.Value.run (F := Ideal) m g)

/-- The gradients that the kernel leaves are those asked of all rows. -/
theorem kernel_values (D : Args) (m : (ℓ : Loc Cert.KernelIdeal.nD Cert.KernelIdeal.τ Cert.KernelIdeal.sig) → Buf (Elt Ideal) ℓ)
    (c : Dev Cert.KernelIdeal.nD) (H : Holds m c D) :
    (Cert.KernelIdeal.Gen.dats m 0 c).arrAt 9 Cert.KernelIdeal.cfg0.N = (L2 D.dh0 : FVec Ideal Cert.KernelIdeal.S16384x1024 .f32) ∧
    (Cert.KernelIdeal.Gen.dats m 0 c).arrAt 10 Cert.KernelIdeal.cfg0.N = (L3 D.dpw : FVec Ideal Cert.KernelIdeal.S4x256x256 .f32) ∧
    (Cert.KernelIdeal.Gen.dats m 0 c).arrAt 11 Cert.KernelIdeal.cfg0.N = (L2 D.gacc : FVec Ideal Cert.KernelIdeal.S8x1024 .f32) := by
  refine ⟨(Cert.KernelIdeal.Pool.final9 m c D H).trans ?_, (Cert.KernelIdeal.Pool.final10 m c D H).trans ?_,
    (Cert.KernelIdeal.Pool.final11 m c D H).trans ?_⟩
  · funext j
    idx_vars j
    have h0 := j0.isLt
    rw [L2_apply, L2_apply, Cert.KernelIdeal.Pool.dh0_eq D _ (by omega) _ _ (by omega) j1.isLt]
    rw [show (31 - (31 - j0.val / 512)) * 512 + j0.val % 512 = j0.val by omega]
  · funext j
    idx_vars j
    rw [L3_apply, L3_apply, Cert.KernelIdeal.Pool.dpw_eq D _ _ _ j0.isLt j1.isLt j2.isLt]
  · funext j
    idx_vars j
    rw [L2_apply, L2_apply, Cert.KernelIdeal.Pool.gacc_eq D _ _ j1.isLt]

/-- A function of eight arguments at equal arguments. -/
theorem congr8 {A0 A1 A2 A3 A4 A5 A6 A7 B : Type} (f : A0 → A1 → A2 → A3 → A4 → A5 → A6 → A7 → B) {x0 y0 : A0} {x1 y1 : A1} {x2 y2 : A2}
    {x3 y3 : A3} {x4 y4 : A4} {x5 y5 : A5} {x6 y6 : A6} {x7 y7 : A7} (h0 : x0 = y0) (h1 : x1 = y1) (h2 : x2 = y2) (h3 : x3 = y3)
    (h4 : x4 = y4) (h5 : x5 = y5) (h6 : x6 = y6) (h7 : x7 = y7) : f x0 x1 x2 x3 x4 x5 x6 x7 = f y0 y1 y2 y3 y4 y5 y6 y7 := by
  rw [h0, h1, h2, h3, h4, h5, h6, h7]

/-- On real arguments the kernel's three results are the reference's. -/
theorem algebraic : Cert.algebraic_KernelIdeal_ReferenceIdeal_pre_finite := by
  intro m g m' g' hpre hargs
  refine ⟨fun c => (Cert.KernelIdeal.Gen.dats m 0 c).arrAt 9 Cert.KernelIdeal.cfg0.N,
    fun c => (Cert.KernelIdeal.Gen.dats m 0 c).arrAt 10 Cert.KernelIdeal.cfg0.N,
    fun c => (Cert.KernelIdeal.Gen.dats m 0 c).arrAt 11 Cert.KernelIdeal.cfg0.N,
    Cert.KernelIdeal.Value.run_blocks m g, ?_⟩
  refine (θ_run Cert.ReferenceIdeal.defs _ _).mono (fun r h c => ?_) (Cert.ReferenceIdeal.Value.run (F := Ideal) m' g')
  obtain ⟨D, H⟩ := Cert.Finite.holds m hpre c
  obtain ⟨e9, e10, e11⟩ := kernel_values D m c H
  obtain ⟨a0, a1, a2, a3, a4, a5, a6, a7⟩ := hargs c
  obtain ⟨r0, r1, r2, rest⟩ := h c
  have b0 := a0.trans H.X
  have b1 := a1.trans H.D2
  have b2 := a2.trans H.DA
  have b3 := a3.trans H.gp
  have b4 := a4.trans H.W
  have b5 := a5.trans H.sc
  have b6 := a6.trans H.go
  have b7 := a7.trans H.gf
  refine ⟨r0.trans ((Cert.ReferenceIdeal.Read.val_main_v286_eq _).trans (Eq.trans ?_ ((Cert.ReferenceIdeal.Pool.v286 D).trans e9.symm))),
    r1.trans ((Cert.ReferenceIdeal.Read.val_main_v197_eq _).trans (Eq.trans ?_ ((Cert.ReferenceIdeal.Pool.v197 D).trans e10.symm))),
    r2.trans ((Cert.ReferenceIdeal.Read.val_main_v291_eq _).trans (Eq.trans ?_ ((Cert.ReferenceIdeal.Pool.v291 D).trans e11.symm))), rest⟩
  · exact congr8 (Cert.ReferenceIdeal.Read.val_main_v286 (F := Ideal)) b0 b1 b2 b3 b4 b5 b6 b7
  · exact congr8 (Cert.ReferenceIdeal.Read.val_main_v197 (F := Ideal)) b0 b1 b2 b3 b4 b5 b6 b7
  · exact congr8 (Cert.ReferenceIdeal.Read.val_main_v291 (F := Ideal)) b0 b1 b2 b3 b4 b5 b6 b7

/-- All the claims. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Finite.facts, Cert.Proof.Ffn.facts,
    fun m g _ => Cert.Kernel.Gen.frame m g, fun m g _ => Cert.KernelIdeal.Gen.frame m g, fun m g _ => Cert.KernelIdeal.Gen.frame m g,
    frame_reference, fun m g _ => frame_reference m g trivial,
    fun m g _ => Cert.Kernel2.Gen.frame m g, fun m g _ => Cert.Kernel2Ideal.Gen.frame m g, fun m g _ => Cert.Kernel2Ideal.Gen.frame m g,
    Cert.Proof.Ffn.frame_reference, fun m g _ => Cert.Proof.Ffn.frame_reference m g trivial,
    fun m g _ => Cert.Kernel3.Gen.frame m g, fun m g _ => Cert.Kernel3Ideal.Gen.frame m g, Cert.Proof.Xty.frame_reference,
    fun m g _ => Cert.Kernel4.Gen.frame m g, fun m g _ => Cert.Kernel4Ideal.Gen.frame m g, Cert.Proof.Square.frame_reference,
    fun m g _ => Cert.Kernel5.Gen.frame m g, fun m g _ => Cert.Kernel5Ideal.Gen.frame m g, Cert.Proof.Ple.frame_reference,
    fun m g _ => Cert.Kernel6.Gen.frame m g, fun m g _ => Cert.Kernel6Ideal.Gen.frame m g, Cert.Proof.Oproj.frame_reference,
    fun m g _ => Cert.Kernel7.Gen.frame m g, fun m g _ => Cert.Kernel7Ideal.Gen.frame m g, Cert.Proof.Emb.frame_reference,
    fun m g _ => Cert.Kernel8.Gen.frame m g, fun m g _ => Cert.Kernel8Ideal.Gen.frame m g, Cert.Proof.Kv.frame_reference,
    fun m g _ => Cert.Kernel9.Gen.frame m g, fun m g _ => Cert.Kernel9Ideal.Gen.frame m g, Cert.Proof.PleFwd.frame_reference,
    fun m g _ => Cert.Kernel10.Gen.frame m g, fun m g _ => Cert.Kernel10Ideal.Gen.frame m g, Cert.Proof.PleQkv.frame_reference,
    fun m g _ => Cert.Kernel11.Gen.frame m g, fun m g _ => Cert.Kernel11Ideal.Gen.frame m g, Cert.Proof.PleQ.frame_reference,
    trivial, algebraic, trivial, Cert.Proof.Ffn.algebraic, trivial, Cert.Proof.Xty.algebraic,
    trivial, Cert.Proof.Square.algebraic, trivial, Cert.Proof.Ple.algebraic,
    trivial, Cert.Proof.Oproj.algebraic,
    trivial, Cert.Proof.Emb.algebraic,
    trivial, Cert.Proof.Kv.algebraic,
    trivial, Cert.Proof.PleFwd.algebraic,
    trivial, Cert.Proof.PleQkv.algebraic,
    trivial, Cert.Proof.PleQ.algebraic⟩

end Cert.Proof

end
